-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v98_0)) (v1 : (c : Dev Cert.KernelIdeal.nD) → Buf (Elt Ideal) ((c.tc : Thread Cert.KernelIdeal.nD Cert.KernelIdeal.τ).loc Cert.KernelIdeal.main_v98_4)) (v2 : (c : Dev Cert.KernelIdeal.nD) → Buf (Elt Ideal) ((c.tc : Thread Cert.KernelIdeal.nD Cert.KernelIdeal.τ).loc Cert.KernelIdeal.main_v98_1)) (v3 : (c : Dev Cert.KernelIdeal.nD) → Buf (Elt Ideal) ((c.tc : Thread Cert.KernelIdeal.nD Cert.KernelIdeal.τ).loc Cert.KernelIdeal.main_v98_5)) (v4 : (c : Dev Cert.KernelIdeal.nD) → Buf (Elt Ideal) ((c.tc : Thread Cert.KernelIdeal.nD Cert.KernelIdeal.τ).loc Cert.KernelIdeal.main_v98_2)) (v5 : (c : Dev Cert.KernelIdeal.nD) → Buf (Elt Ideal) ((c.tc : Thread Cert.KernelIdeal.nD Cert.KernelIdeal.τ).loc Cert.KernelIdeal.main_v98_6)) (v6 : (c : Dev Cert.KernelIdeal.nD) → Buf (Elt Ideal) ((c.tc : Thread Cert.KernelIdeal.nD Cert.KernelIdeal.τ).loc Cert.KernelIdeal.main_v98_3)) (v7 : (c : Dev Cert.KernelIdeal.nD) → Buf (Elt Ideal) ((c.tc : Thread Cert.KernelIdeal.nD Cert.KernelIdeal.τ).loc Cert.KernelIdeal.main_v98_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_0) = v0 c
          ∧ r.2.mem ((c.tc : Thread Cert.KernelIdeal.nD Cert.KernelIdeal.τ).loc Cert.KernelIdeal.main_v98_4) = v1 c
          ∧ r.2.mem ((c.tc : Thread Cert.KernelIdeal.nD Cert.KernelIdeal.τ).loc Cert.KernelIdeal.main_v98_1) = v2 c
          ∧ r.2.mem ((c.tc : Thread Cert.KernelIdeal.nD Cert.KernelIdeal.τ).loc Cert.KernelIdeal.main_v98_5) = v3 c
          ∧ r.2.mem ((c.tc : Thread Cert.KernelIdeal.nD Cert.KernelIdeal.τ).loc Cert.KernelIdeal.main_v98_2) = v4 c
          ∧ r.2.mem ((c.tc : Thread Cert.KernelIdeal.nD Cert.KernelIdeal.τ).loc Cert.KernelIdeal.main_v98_6) = v5 c
          ∧ r.2.mem ((c.tc : Thread Cert.KernelIdeal.nD Cert.KernelIdeal.τ).loc Cert.KernelIdeal.main_v98_3) = v6 c
          ∧ r.2.mem ((c.tc : Thread Cert.KernelIdeal.nD Cert.KernelIdeal.τ).loc Cert.KernelIdeal.main_v98_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v240) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_v235) = v5 c
          ∧ r.2.mem ((c.tc : Thread Cert.ReferenceIdeal.nD Cert.ReferenceIdeal.τ).loc Cert.ReferenceIdeal.main_v105) = v6 c
          ∧ r.2.mem ((c.tc : Thread Cert.ReferenceIdeal.nD Cert.ReferenceIdeal.τ).loc Cert.ReferenceIdeal.main_v230) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v14_0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4608x3200 : Shape := ⟨2, ![4608, 3200]⟩
abbrev S4608x1024 : Shape := ⟨2, ![4608, 1024]⟩
abbrev S4096x1024 : Shape := ⟨2, ![4096, 1024]⟩
abbrev S8x128 : Shape := ⟨2, ![8, 128]⟩
abbrev S4608x2048 : Shape := ⟨2, ![4608, 2048]⟩
abbrev S_ : Shape := ⟨0, ![]⟩

class Facts : Prop where
  slices_S4608x3200_S4608x2048_0_0 : S4608x3200.Slices ![0, 0] S4608x2048
  bcast_S_S4608x2048 : S_.BroadcastsInDim S4608x2048 (![] : Fin 0 → Fin S4608x2048.rank)
  reducesTo_S4608x2048_S_d0_1 : S4608x2048.ReducesTo [0, 1] S_
  h_S_ : 0 < S_.numel
  bcast_S_S4608x1024 : S_.BroadcastsInDim S4608x1024 (![] : Fin 0 → Fin S4608x1024.rank)
  reducesTo_S4608x1024_S_d0_1 : S4608x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4608x3200 .f32) (main_arg1 : FVec F S4608x1024 .f32) (main_arg2 : FVec F S4096x1024 .f32) (main_arg3 : FVec F S8x128 .f32) : IVec S_ 1 :=
  let main_v0 : FVec F S4608x2048 .f32 := (extractStridedSlice S4608x2048 ![0, 0] · slices_S4608x3200_S4608x2048_0_0) main_arg0
  let main_v1 : FVec F S4608x2048 .f32 := subf main_v0 main_v0
  let main_cst : FVec F S_ .f32 := constant S_ .f32 0x00000000#32
  let main_v2 : FVec F S4608x2048 .f32 := broadcastInDim S4608x2048 ![] bcast_S_S4608x2048 main_cst
  let main_v3 : IVec S4608x2048 1 := cmpf .oeq main_v1 main_v2
  let main_c : IVec S_ 1 := constantI S_ 1 1#1
  let main_v4 : IVec S_ 1 := (fun x v => Host.reduce IntOp.andi x v reducesTo_S4608x2048_S_d0_1 h_S_) main_v3 main_c
  let main_v5 : FVec F S4608x1024 .f32 := subf main_arg1 main_arg1
  let main_cst_0 : FVec F S_ .f32 := constant S_ .f32 0x00000000#32
  let main_v6 : FVec F S4608x1024 .f32 := broadcastInDim S4608x1024 ![] bcast_S_S4608x1024 main_cst_0
  let main_v7 : IVec S4608x1024 1 := cmpf .oeq main_v5 main_v6
  let main_c_1 : IVec S_ 1 := constantI S_ 1 1#1
  let main_v8 : IVec S_ 1 := (fun x v => Host.reduce IntOp.andi x v reducesTo_S4608x1024_S_d0_1 h_S_) main_v7 main_c_1
  let main_v9 : IVec S_ 1 := andi main_v4 main_v8
  let main_v10 : FVec F S4096x1024 .f32 := subf main_arg2 main_arg2
  let main_cst_2 : FVec F S_ .f32 := constant S_ .f32 0x00000000#32
  let main_v11 : FVec F S4096x1024 .f32 := broadcastInDim S4096x1024 ![] bcast_S_S4096x1024 main_cst_2
  let main_v12 : IVec S4096x1024 1 := cmpf .oeq main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  main_v14
-- ==== Kernel.lean ====
abbrev S4608x3200 : Shape := ⟨2, ![4608, 3200]⟩
abbrev S4608x1024 : Shape := ⟨2, ![4608, 1024]⟩
abbrev S4096x1024 : Shape := ⟨2, ![4096, 1024]⟩
abbrev S8x128 : Shape := ⟨2, ![8, 128]⟩
abbrev S4608x512 : Shape := ⟨2, ![4608, 512]⟩
abbrev S512x512 : Shape := ⟨2, ![512, 512]⟩
abbrev S2x256x512 : Shape := ⟨3, ![2, 256, 512]⟩
abbrev S4096x512 : Shape := ⟨2, ![4096, 512]⟩
abbrev S2x2048x512 : Shape := ⟨3, ![2, 2048, 512]⟩
abbrev S2x2304x512 : Shape := ⟨3, ![2, 2304, 512]⟩
abbrev S2x2304x4x128 : Shape := ⟨4, ![2, 2304, 4, 128]⟩
abbrev S512x1024 : Shape := ⟨2, ![512, 1024]⟩
abbrev S2x256x1024 : Shape := ⟨3, ![2, 256, 1024]⟩
abbrev S2x2048x1024 : Shape := ⟨3, ![2, 2048, 1024]⟩
abbrev S2x2304x1024 : Shape := ⟨3, ![2, 2304, 1024]⟩
abbrev S2x2304x4x256 : Shape := ⟨4, ![2, 2304, 4, 256]⟩
abbrev S2304 : Shape := ⟨1, ![2304]⟩
abbrev S1x2304x1x1 : Shape := ⟨4, ![1, 2304, 1, 1]⟩
abbrev S36 : Shape := ⟨1, ![36]⟩
abbrev S_ : Shape := ⟨0, ![]⟩
abbrev S1x1x2304x1x1 : Shape := ⟨5, ![1, 1, 2304, 1, 1]⟩
abbrev S36x1x1x1x1 : Shape := ⟨5, ![36, 1, 1, 1, 1]⟩
abbrev S36x1x2304x1x1 : Shape := ⟨5, ![36, 1, 2304, 1, 1]⟩
abbrev S36x2x2304x4x128 : Shape := ⟨5, ![36, 2, 2304, 4, 128]⟩
abbrev S36x2x1x4x128 : Shape := ⟨5, ![36, 2, 1, 4, 128]⟩
abbrev S2x4x36x128x256 : Shape := ⟨5, ![2, 4, 36, 128, 256]⟩
abbrev S36x2x4x128x256 : Shape := ⟨5, ![36, 2, 4, 128, 256]⟩
abbrev S2x36x4x256x128 : Shape := ⟨5, ![2, 36, 4, 256, 128]⟩
abbrev S64x512 : Shape := ⟨2, ![64, 512]⟩
abbrev S64x1024 : Shape := ⟨2, ![64, 1024]⟩
abbrev S1x1x4x256x128 : Shape := ⟨5, ![1, 1, 4, 256, 128]⟩
abbrev S8x256x128 : Shape := ⟨3, ![8, 256, 128]⟩
abbrev S1x1x1x256x128 : Shape := ⟨5, ![1, 1, 1, 256, 128]⟩
abbrev S256x128 : Shape := ⟨2, ![256, 128]⟩
abbrev S1x256x128 : Shape := ⟨3, ![1, 256, 128]⟩
abbrev S64x64 : Shape := ⟨2, ![64, 64]⟩
abbrev S64x1536 : Shape := ⟨2, ![64, 1536]⟩
abbrev S64x128 : Shape := ⟨2, ![64, 128]⟩
abbrev S128 : Shape := ⟨1, ![128]⟩
abbrev S1x128 : Shape := ⟨2, ![1, 128]⟩
abbrev S64x256 : Shape := ⟨2, ![64, 256]⟩
abbrev S1x512 : Shape := ⟨2, ![1, 512]⟩

abbrev nBuf : Space → Nat
  | .hbm => 140
  | .vmem => 41
  | .smem => 0
  | _ => 0

abbrev hbmTy0_0 (i : Nat) : BufTy := match i % 128 with
  | 0 => ⟨S4608x3200, .f32⟩
  | 1 => ⟨S4608x1024, .f32⟩
  | 2 => ⟨S4096x1024, .f32⟩
  | 3 => ⟨S8x128, .f32⟩
  | 4 => ⟨S4608x512, .f32⟩
  | 5 => ⟨S4608x1024, .f32⟩
  | 6 => ⟨S4608x512, .f32⟩
  | 7 => ⟨S512x512, .f32⟩
  | 8 => ⟨S2x256x512, .f32⟩
  | 9 => ⟨S4096x512, .f32⟩
  | 10 => ⟨S2x2048x512, .f32⟩
  | 11 => ⟨S2x2304x512, .f32⟩
  | 12 => ⟨S2x2304x4x128, .f32⟩
  | 13 => ⟨S512x1024, .f32⟩
  | 14 => ⟨S2x256x1024, .f32⟩
  | 15 => ⟨S4096x1024, .f32⟩
  | 16 => ⟨S2x2048x1024, .f32⟩
  | 17 => ⟨S2x2304x1024, .f32⟩
  | 18 => ⟨S2x2304x4x256, .f32⟩
  | 19 => ⟨S512x512, .f32⟩
  | 20 => ⟨S2x256x512, .f32⟩
  | 21 => ⟨S4096x512, .f32⟩
  | 22 => ⟨S2x2048x512, .f32⟩
  | 23 => ⟨S2x2304x512, .f32⟩
  | 24 => ⟨S2x2304x4x128, .f32⟩
  | 25 => ⟨S2304, .i32⟩
  | 26 => ⟨S1x2304x1x1, .i32⟩
  | 27 => ⟨S36, .i32⟩
  | 28 => ⟨S_, .i32⟩
  | 29 => ⟨S36, .i32⟩
  | 30 => ⟨S36, .i32⟩
  | 31 => ⟨S1x1x2304x1x1, .i32⟩
  | 32 => ⟨S36x1x1x1x1, .i32⟩
  | 33 => ⟨S36x1x2304x1x1, .i32⟩
  | 34 => ⟨S36x1x2304x1x1, .i32⟩
  | 35 => ⟨S36x1x2304x1x1, .i1⟩
  | 36 => ⟨S_, .f32⟩
  | 37 => ⟨S_, .f32⟩
  | 38 => ⟨S36x2x2304x4x128, .i1⟩
  | 39 => ⟨S2x2304x4x128, .f32⟩
  | 40 => ⟨S36x2x2304x4x128, .f32⟩
  | 41 => ⟨S36x2x2304x4x128, .f32⟩
  | 42 => ⟨S36x2x2304x4x128, .f32⟩
  | 43 => ⟨S1x1x2304x1x1, .i32⟩
  | 44 => ⟨S36x1x1x1x1, .i32⟩
  | 45 => ⟨S36x1x2304x1x1, .i32⟩
  | 46 => ⟨S36x1x2304x1x1, .i32⟩
  | 47 => ⟨S36x1x2304x1x1, .i1⟩
  | 48 => ⟨S_, .f32⟩
  | 49 => ⟨S_, .f32⟩
  | 50 => ⟨S36x2x2304x4x128, .i1⟩
  | 51 => ⟨S2x2304x4x128, .f32⟩
  | 52 => ⟨S36x2x2304x4x128, .f32⟩
  | 53 => ⟨S36x2x2304x4x128, .f32⟩
  | 54 => ⟨S36x2x2304x4x128, .f32⟩
  | 55 => ⟨S_, .f32⟩
  | 56 => ⟨S_, .f32⟩
  | 57 => ⟨S36x2x2304x4x128, .f32⟩
  | 58 => ⟨S36x2x1x4x128, .f32⟩
  | 59 => ⟨S36x2x2304x4x128, .f32⟩
  | 60 => ⟨S36x2x2304x4x128, .f32⟩
  | 61 => ⟨S36x2x2304x4x128, .f32⟩
  | 62 => ⟨S36x2x2304x4x128, .f32⟩
  | 63 => ⟨S2x4x36x128x256, .f32⟩
  | 64 => ⟨S36x2x4x128x256, .f32⟩
  | 65 => ⟨S2x36x4x256x128, .f32⟩
  | 66 => ⟨S4608x512, .f32⟩
  | 67 => ⟨S512x512, .f32⟩
  | 68 => ⟨S2x256x512, .f32⟩
  | 69 => ⟨S2x256x512, .f32⟩
  | 70 => ⟨S4096x512, .f32⟩
  | 71 => ⟨S2x2048x512, .f32⟩
  | 72 => ⟨S2x2048x512, .f32⟩
  | 73 => ⟨S2x2304x512, .f32⟩
  | 74 => ⟨S2x2304x4x128, .f32⟩
  | 75 => ⟨S512x1024, .f32⟩
  | 76 => ⟨S2x256x1024, .f32⟩
  | 77 => ⟨S2x256x1024, .f32⟩
  | 78 => ⟨S4096x1024, .f32⟩
  | 79 => ⟨S2x2048x1024, .f32⟩
  | 80 => ⟨S2x2048x1024, .f32⟩
  | 81 => ⟨S2x2304x1024, .f32⟩
  | 82 => ⟨S2x2304x4x256, .f32⟩
  | 83 => ⟨S512x512, .f32⟩
  | 84 => ⟨S2x256x512, .f32⟩
  | 85 => ⟨S2x256x512, .f32⟩
  | 86 => ⟨S4096x512, .f32⟩
  | 87 => ⟨S2x2048x512, .f32⟩
  | 88 => ⟨S2x2048x512, .f32⟩
  | 89 => ⟨S2x2304x512, .f32⟩
  | 90 => ⟨S2x2304x4x128, .f32⟩
  | 91 => ⟨S2304, .i32⟩
  | 92 => ⟨S1x2304x1x1, .i32⟩
  | 93 => ⟨S36, .i32⟩
  | 94 => ⟨S_, .i32⟩
  | 95 => ⟨S36, .i32⟩
  | 96 => ⟨S36, .i32⟩
  | 97 => ⟨S1x1x2304x1x1, .i32⟩
  | 98 => ⟨S36x1x1x1x1, .i32⟩
  | 99 => ⟨S36x1x2304x1x1, .i32⟩
  | 100 => ⟨S36x1x2304x1x1, .i32⟩
  | 101 => ⟨S36x1x2304x1x1, .i1⟩
  | 102 => ⟨S_, .f32⟩
  | 103 => ⟨S_, .f32⟩
  | 104 => ⟨S36x2x2304x4x128, .i1⟩
  | 105 => ⟨S2x2304x4x128, .f32⟩
  | 106 => ⟨S36x2x2304x4x128, .f32⟩
  | 107 => ⟨S36x2x2304x4x128, .f32⟩
  | 108 => ⟨S36x2x2304x4x128, .f32⟩
  | 109 => ⟨S1x1x2304x1x1, .i32⟩
  | 110 => ⟨S36x1x1x1x1, .i32⟩
  | 111 => ⟨S36x1x2304x1x1, .i32⟩
  | 112 => ⟨S36x1x2304x1x1, .i32⟩
  | 113 => ⟨S36x1x2304x1x1, .i1⟩
  | 114 => ⟨S_, .f32⟩
  | 115 => ⟨S_, .f32⟩
  | 116 => ⟨S36x2x2304x4x128, .i1⟩
  | 117 => ⟨S2x2304x4x128, .f32⟩
  | 118 => ⟨S36x2x2304x4x128, .f32⟩
  | 119 => ⟨S36x2x2304x4x128, .f32⟩
  | 120 => ⟨S36x2x2304x4x128, .f32⟩
  | 121 => ⟨S_, .f32⟩
  | 122 => ⟨S_, .f32⟩
  | 123 => ⟨S36x2x2304x4x128, .f32⟩
  | 124 => ⟨S36x2x1x4x128, .f32⟩
  | 125 => ⟨S36x2x2304x4x128, .f32⟩
  | 126 => ⟨S36x2x2304x4x128, .f32⟩
  | 127 => ⟨S36x2x2304x4x128, .f32⟩
  | _ => ⟨S4608x3200, .f32⟩

abbrev hbmTy0_1 (i : Nat) : BufTy := match i % 128 with
  | 0 => ⟨S36x2x2304x4x128, .f32⟩
  | 1 => ⟨S2x4x36x128x256, .f32⟩
  | 2 => ⟨S36x2x4x128x256, .f32⟩
  | 3 => ⟨S2x36x4x256x128, .f32⟩
  | 4 => ⟨S4608x512, .f32⟩
  | 5 => ⟨S4608x512, .f32⟩
  | 6 => ⟨S4608x1024, .f32⟩
  | 7 => ⟨S4608x512, .f32⟩
  | 8 => ⟨S4608x512, .f32⟩
  | 9 => ⟨S4608x512, .f32⟩
  | 10 => ⟨S4608x1024, .f32⟩
  | 11 => ⟨S4608x512, .f32⟩
  | _ => ⟨S4608x3200, .f32⟩

abbrev hbmTy (i : Nat) : BufTy := match i / 128 with
  | 0 => hbmTy0_0 i
  | 1 => hbmTy0_1 i
  | _ => ⟨S4608x3200, .f32⟩

abbrev bufTy : (tb : Table) → Fin (tcTables nBuf tb) → BufTy
  | .hbm, ⟨i, _⟩ => hbmTy i
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x512, .f32⟩
  | .local _ .vmem, ⟨7, _⟩ => ⟨S64x512, .f32⟩
  | .local _ .vmem, ⟨8, _⟩ => ⟨S64x1024, .f32⟩
  | .local _ .vmem, ⟨9, _⟩ => ⟨S64x1024, .f32⟩
  | .local _ .vmem, ⟨10, _⟩ => ⟨S1x1x4x256x128, .f32⟩
  | .local _ .vmem, ⟨11, _⟩ => ⟨S1x1x4x256x128, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x1024, .f32⟩
  | .local _ .vmem, ⟨17, _⟩ => ⟨S64x1024, .f32⟩
  | .local _ .vmem, ⟨18, _⟩ => ⟨S64x512, .f32⟩
  | .local _ .vmem, ⟨19, _⟩ => ⟨S64x512, .f32⟩
  | .local _ .vmem, ⟨20, _⟩ => ⟨S64x1024, .f32⟩
  | .local _ .vmem, ⟨21, _⟩ => ⟨S64x1024, .f32⟩
  | .local _ .vmem, ⟨22, _⟩ => ⟨S1x1x4x256x128, .f32⟩
  | .local _ .vmem, ⟨23, _⟩ => ⟨S1x1x4x256x128, .f32⟩
  | .local _ .vmem, ⟨24, _⟩ => ⟨S64x512, .f32⟩
  | .local _ .vmem, ⟨25, _⟩ => ⟨S64x512, .f32⟩
  | .local _ .vmem, ⟨26, _⟩ => ⟨S64x512, .f32⟩
  | .local _ .vmem, ⟨27, _⟩ => ⟨S64x512, .f32⟩
  | .local _ .vmem, ⟨28, _⟩ => ⟨S64x1024, .f32⟩
  | .local _ .vmem, ⟨29, _⟩ => ⟨S64x1024, .f32⟩
  | .local _ .vmem, ⟨30, _⟩ => ⟨S64x512, .f32⟩
  | .local _ .vmem, ⟨31, _⟩ => ⟨S64x512, .f32⟩
  | .local _ .vmem, ⟨32, _⟩ => ⟨S64x512, .f32⟩
  | .local _ .vmem, ⟨33, _⟩ => ⟨S64x512, .f32⟩
  | .local _ .vmem, ⟨34, _⟩ => ⟨S64x512, .f32⟩
  | .local _ .vmem, ⟨35, _⟩ => ⟨S64x512, .f32⟩
  | .local _ .vmem, ⟨36, _⟩ => ⟨S64x1024, .f32⟩
  | .local _ .vmem, ⟨37, _⟩ => ⟨S64x1024, .f32⟩
  | .local _ .vmem, ⟨38, _⟩ => ⟨S64x512, .f32⟩
  | .local _ .vmem, ⟨39, _⟩ => ⟨S64x512, .f32⟩
  | .local _ .vmem, ⟨40, _⟩ => ⟨S8x256x128, .f32⟩
  | _, _ => ⟨S4608x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v37 : Ref sig .tc := ⟨.hbm, 54, rfl⟩
abbrev main_call2_call0_cst : Ref sig .tc := ⟨.hbm, 55, rfl⟩
abbrev main_call2_call0_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c_1 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_2 : Ref sig .tc := ⟨.hbm, 102, rfl⟩
abbrev main_call9_v0 : Ref sig .tc := ⟨.hbm, 103, rfl⟩
abbrev main_call9_v1 : Ref sig .tc := ⟨.hbm, 104, rfl⟩
abbrev main_call9_v2 : Ref sig .tc := ⟨.hbm, 105, rfl⟩
abbrev main_call9_v3 : Ref sig .tc := ⟨.hbm, 106, rfl⟩
abbrev main_call9_v4 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_3 : Ref sig .tc := ⟨.hbm, 114, rfl⟩
abbrev main_call10_v0 : Ref sig .tc := ⟨.hbm, 115, rfl⟩
abbrev main_call10_v1 : Ref sig .tc := ⟨.hbm, 116, rfl⟩
abbrev main_call10_v2 : Ref sig .tc := ⟨.hbm, 117, rfl⟩
abbrev main_call10_v3 : Ref sig .tc := ⟨.hbm, 118, rfl⟩
abbrev main_call10_v4 : Ref sig .tc := ⟨.hbm, 119, rfl⟩
abbrev main_v88 : Ref sig .tc := ⟨.hbm, 120, rfl⟩
abbrev main_call11_call0_cst : Ref sig .tc := ⟨.hbm, 121, rfl⟩
abbrev main_call11_call0_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98_0 : Ref sig .tc := ⟨.hbm, 132, rfl⟩
abbrev main_v98_1 : Ref sig .tc := ⟨.hbm, 133, rfl⟩
abbrev main_v98_2 : Ref sig .tc := ⟨.hbm, 134, rfl⟩
abbrev main_v98_3 : Ref sig .tc := ⟨.hbm, 135, rfl⟩
abbrev main_v98_4 : Ref sig .tc := ⟨.hbm, 136, rfl⟩
abbrev main_v98_5 : Ref sig .tc := ⟨.hbm, 137, rfl⟩
abbrev main_v98_6 : Ref sig .tc := ⟨.hbm, 138, rfl⟩
abbrev main_v98_7 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![2, 36], ![false, false]⟩

def cc0_transform_0 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_true : BitVec 1 := 1#1
  let v2 : BitVec 32 := Scalar.select v_true v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let true_3 : BitVec 1 := 1#1
  let v11 : BitVec 32 := Scalar.select true_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_1 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_true : BitVec 1 := 1#1
  let v2 : BitVec 32 := Scalar.select v_true v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let true_3 : BitVec 1 := 1#1
  let v11 : BitVec 32 := Scalar.select true_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c1_i32 : BitVec 32 := 1#32
  let c0_i32_5 : BitVec 32 := 0#32
  ![v15.toNat, c1_i32.toNat]

def cc0_transform_2 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_true : BitVec 1 := 1#1
  let v2 : BitVec 32 := Scalar.select v_true v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let true_3 : BitVec 1 := 1#1
  let v11 : BitVec 32 := Scalar.select true_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c1_i32 : BitVec 32 := 1#32
  let c0_i32_5 : BitVec 32 := 0#32
  ![v15.toNat, c1_i32.toNat]

def cc0_transform_3 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_true : BitVec 1 := 1#1
  let v2 : BitVec 32 := Scalar.select v_true v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let true_3 : BitVec 1 := 1#1
  let v11 : BitVec 32 := Scalar.select true_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_4 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c32_i32 : BitVec 32 := 32#32
  let v1 : BitVec 32 := Scalar.muli arg0 c32_i32
  let c4_i32 : BitVec 32 := 4#32
  let v2 : BitVec 32 := Scalar.subi v0 c4_i32
  let c4_i32_0 : BitVec 32 := 4#32
  let v3 : BitVec 32 := Scalar.subi v0 c4_i32_0
  let c31_i32 : BitVec 32 := 31#32
  let v4 : BitVec 32 := Scalar.subi c31_i32 v3
  let v_true : BitVec 1 := 1#1
  let v5 : BitVec 32 := Scalar.select v_true v2 v4
  let c0_i32 : BitVec 32 := 0#32
  let c31_i32_1 : BitVec 32 := 31#32
  let v6 : BitVec 32 := Scalar.maxsi c0_i32 v5
  let v7 : BitVec 32 := Scalar.minsi c31_i32_1 v6
  let v8 : BitVec 32 := Scalar.addi v1 v7
  let c0_i32_2 : BitVec 32 := 0#32
  let c0_i32_3 : BitVec 32 := 0#32
  ![v8.toNat, c0_i32_2.toNat]

def cc0_transform_5 (i : grid0.Coords) : Fin 5 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_false : BitVec 1 := 0#1
  let v2 : BitVec 32 := Scalar.select v_false v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let false_3 : BitVec 1 := 0#1
  let v11 : BitVec 32 := Scalar.select false_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_7 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_false : BitVec 1 := 0#1
  let v2 : BitVec 32 := Scalar.select v_false v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let false_3 : BitVec 1 := 0#1
  let v11 : BitVec 32 := Scalar.select false_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c1_i32 : BitVec 32 := 1#32
  let c0_i32_5 : BitVec 32 := 0#32
  ![v15.toNat, c1_i32.toNat]

def cc0_transform_8 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_false : BitVec 1 := 0#1
  let v2 : BitVec 32 := Scalar.select v_false v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let false_3 : BitVec 1 := 0#1
  let v11 : BitVec 32 := Scalar.select false_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c1_i32 : BitVec 32 := 1#32
  let c0_i32_5 : BitVec 32 := 0#32
  ![v15.toNat, c1_i32.toNat]

def cc0_transform_9 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_false : BitVec 1 := 0#1
  let v2 : BitVec 32 := Scalar.select v_false v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let false_3 : BitVec 1 := 0#1
  let v11 : BitVec 32 := Scalar.select false_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c1_i32 : BitVec 32 := 1#32
  let c0_i32_5 : BitVec 32 := 0#32
  ![v15.toNat, c1_i32.toNat]

def cc0_transform_10 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c32_i32 : BitVec 32 := 32#32
  let v1 : BitVec 32 := Scalar.muli arg0 c32_i32
  let c4_i32 : BitVec 32 := 4#32
  let v2 : BitVec 32 := Scalar.subi v0 c4_i32
  let c4_i32_0 : BitVec 32 := 4#32
  let v3 : BitVec 32 := Scalar.subi v0 c4_i32_0
  let c31_i32 : BitVec 32 := 31#32
  let v4 : BitVec 32 := Scalar.subi c31_i32 v3
  let v_false : BitVec 1 := 0#1
  let v5 : BitVec 32 := Scalar.select v_false v2 v4
  let c0_i32 : BitVec 32 := 0#32
  let c31_i32_1 : BitVec 32 := 31#32
  let v6 : BitVec 32 := Scalar.maxsi c0_i32 v5
  let v7 : BitVec 32 := Scalar.minsi c31_i32_1 v6
  let v8 : BitVec 32 := Scalar.addi v1 v7
  let c0_i32_2 : BitVec 32 := 0#32
  let c0_i32_3 : BitVec 32 := 0#32
  ![v8.toNat, c0_i32_2.toNat]

def cc0_transform_11 (i : grid0.Coords) : Fin 5 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_true : BitVec 1 := 1#1
  let v2 : BitVec 32 := Scalar.select v_true v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let true_3 : BitVec 1 := 1#1
  let v11 : BitVec 32 := Scalar.select true_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_14 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_true : BitVec 1 := 1#1
  let v2 : BitVec 32 := Scalar.select v_true v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let true_3 : BitVec 1 := 1#1
  let v11 : BitVec 32 := Scalar.select true_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_15 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_true : BitVec 1 := 1#1
  let v2 : BitVec 32 := Scalar.select v_true v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let true_3 : BitVec 1 := 1#1
  let v11 : BitVec 32 := Scalar.select true_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_16 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_true : BitVec 1 := 1#1
  let v2 : BitVec 32 := Scalar.select v_true v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let true_3 : BitVec 1 := 1#1
  let v11 : BitVec 32 := Scalar.select true_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_17 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_false : BitVec 1 := 0#1
  let v2 : BitVec 32 := Scalar.select v_false v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let false_3 : BitVec 1 := 0#1
  let v11 : BitVec 32 := Scalar.select false_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_18 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_false : BitVec 1 := 0#1
  let v2 : BitVec 32 := Scalar.select v_false v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let false_3 : BitVec 1 := 0#1
  let v11 : BitVec 32 := Scalar.select false_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_19 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_false : BitVec 1 := 0#1
  let v2 : BitVec 32 := Scalar.select v_false v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let false_3 : BitVec 1 := 0#1
  let v11 : BitVec 32 := Scalar.select false_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

def cc0_transform_20 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c3_i32 : BitVec 32 := 3#32
  let v1 : BitVec 32 := Scalar.subi c3_i32 v0
  let v_false : BitVec 1 := 0#1
  let v2 : BitVec 32 := Scalar.select v_false v0 v1
  let c4_i32 : BitVec 32 := 4#32
  let v3 : BitVec 1 := Scalar.cmpi .slt v0 c4_i32
  let c4_i32_0 : BitVec 32 := 4#32
  let v4 : BitVec 32 := Scalar.muli arg0 c4_i32_0
  let c64_i32 : BitVec 32 := 64#32
  let v5 : BitVec 32 := Scalar.addi c64_i32 v4
  let v6 : BitVec 32 := Scalar.addi v5 v2
  let c32_i32 : BitVec 32 := 32#32
  let v7 : BitVec 32 := Scalar.muli arg0 c32_i32
  let c4_i32_1 : BitVec 32 := 4#32
  let v8 : BitVec 32 := Scalar.subi v0 c4_i32_1
  let c4_i32_2 : BitVec 32 := 4#32
  let v9 : BitVec 32 := Scalar.subi v0 c4_i32_2
  let c31_i32 : BitVec 32 := 31#32
  let v10 : BitVec 32 := Scalar.subi c31_i32 v9
  let false_3 : BitVec 1 := 0#1
  let v11 : BitVec 32 := Scalar.select false_3 v8 v10
  let c0_i32 : BitVec 32 := 0#32
  let c31_i32_4 : BitVec 32 := 31#32
  let v12 : BitVec 32 := Scalar.maxsi c0_i32 v11
  let v13 : BitVec 32 := Scalar.minsi c31_i32_4 v12
  let v14 : BitVec 32 := Scalar.addi v7 v13
  let v15 : BitVec 32 := Scalar.select v3 v6 v14
  let c0_i32_5 : BitVec 32 := 0#32
  let c0_i32_6 : BitVec 32 := 0#32
  ![v15.toNat, c0_i32_5.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S4608x3200 : Shape := ⟨2, ![4608, 3200]⟩
abbrev S4608x1024 : Shape := ⟨2, ![4608, 1024]⟩
abbrev S4096x1024 : Shape := ⟨2, ![4096, 1024]⟩
abbrev S8x128 : Shape := ⟨2, ![8, 128]⟩
abbrev S4608x512 : Shape := ⟨2, ![4608, 512]⟩
abbrev S512x512 : Shape := ⟨2, ![512, 512]⟩
abbrev S2x256x512 : Shape := ⟨3, ![2, 256, 512]⟩
abbrev S2x256x4x128 : Shape := ⟨4, ![2, 256, 4, 128]⟩
abbrev S512x1024 : Shape := ⟨2, ![512, 1024]⟩
abbrev S2x256x1024 : Shape := ⟨3, ![2, 256, 1024]⟩
abbrev S2x256x4x256 : Shape := ⟨4, ![2, 256, 4, 256]⟩
abbrev S_ : Shape := ⟨0, ![]⟩
abbrev S2x1x4x128 : Shape := ⟨4, ![2, 1, 4, 128]⟩
abbrev S2x4x128x256 : Shape := ⟨4, ![2, 4, 128, 256]⟩
abbrev S4096x512 : Shape := ⟨2, ![4096, 512]⟩
abbrev S2x2048x512 : Shape := ⟨3, ![2, 2048, 512]⟩
abbrev S2x2048x4x128 : Shape := ⟨4, ![2, 2048, 4, 128]⟩
abbrev S2x2048x1024 : Shape := ⟨3, ![2, 2048, 1024]⟩
abbrev S2x2048x4x256 : Shape := ⟨4, ![2, 2048, 4, 256]⟩
abbrev S2048x2048 : Shape := ⟨2, ![2048, 2048]⟩
abbrev S2x4x2048x2048 : Shape := ⟨4, ![2, 4, 2048, 2048]⟩
abbrev S2x4x256x2048 : Shape := ⟨4, ![2, 4, 256, 2048]⟩
abbrev S2x4x2048x128 : Shape := ⟨4, ![2, 4, 2048, 128]⟩
abbrev S2x4x256x128 : Shape := ⟨4, ![2, 4, 256, 128]⟩
abbrev S2x4x256x256 : Shape := ⟨4, ![2, 4, 256, 256]⟩
abbrev S2x4x128 : Shape := ⟨3, ![2, 4, 128]⟩

abbrev nBuf : Space → Nat
  | .hbm => 317
  | .vmem => 0
  | .smem => 0
  | _ => 0

abbrev hbmTy0_0 (i : Nat) : BufTy := match i % 128 with
  | 0 => ⟨S4608x3200, .f32⟩
  | 1 => ⟨S4608x1024, .f32⟩
  | 2 => ⟨S4096x1024, .f32⟩
  | 3 => ⟨S8x128, .f32⟩
  | 4 => ⟨S4608x512, .f32⟩
  | 5 => ⟨S4608x512, .f32⟩
  | 6 => ⟨S4608x1024, .f32⟩
  | 7 => ⟨S4608x512, .f32⟩
  | 8 => ⟨S512x512, .f32⟩
  | 9 => ⟨S2x256x512, .f32⟩
  | 10 => ⟨S2x256x4x128, .f32⟩
  | 11 => ⟨S512x1024, .f32⟩
  | 12 => ⟨S2x256x1024, .f32⟩
  | 13 => ⟨S2x256x4x256, .f32⟩
  | 14 => ⟨S512x512, .f32⟩
  | 15 => ⟨S2x256x512, .f32⟩
  | 16 => ⟨S2x256x4x128, .f32⟩
  | 17 => ⟨S_, .f32⟩
  | 18 => ⟨S_, .f32⟩
  | 19 => ⟨S2x256x4x128, .f32⟩
  | 20 => ⟨S2x1x4x128, .f32⟩
  | 21 => ⟨S2x256x4x128, .f32⟩
  | 22 => ⟨S2x256x4x128, .f32⟩
  | 23 => ⟨S2x256x4x128, .f32⟩
  | 24 => ⟨S2x256x4x128, .f32⟩
  | 25 => ⟨S2x4x128x256, .f32⟩
  | 26 => ⟨S4096x512, .f32⟩
  | 27 => ⟨S2x2048x512, .f32⟩
  | 28 => ⟨S2x2048x4x128, .f32⟩
  | 29 => ⟨S_, .f32⟩
  | 30 => ⟨S2x2048x4x128, .f32⟩
  | 31 => ⟨S2x2048x4x128, .f32⟩
  | 32 => ⟨S4096x512, .f32⟩
  | 33 => ⟨S2x2048x512, .f32⟩
  | 34 => ⟨S2x2048x4x128, .f32⟩
  | 35 => ⟨S4096x1024, .f32⟩
  | 36 => ⟨S2x2048x1024, .f32⟩
  | 37 => ⟨S2x2048x4x256, .f32⟩
  | 38 => ⟨S4096x512, .f32⟩
  | 39 => ⟨S2x2048x512, .f32⟩
  | 40 => ⟨S2x2048x4x128, .f32⟩
  | 41 => ⟨S_, .i1⟩
  | 42 => ⟨S2048x2048, .i1⟩
  | 43 => ⟨S2048x2048, .i32⟩
  | 44 => ⟨S_, .i32⟩
  | 45 => ⟨S2048x2048, .i32⟩
  | 46 => ⟨S2048x2048, .i32⟩
  | 47 => ⟨S2048x2048, .i32⟩
  | 48 => ⟨S2048x2048, .i1⟩
  | 49 => ⟨S_, .i1⟩
  | 50 => ⟨S2048x2048, .i1⟩
  | 51 => ⟨S2048x2048, .i1⟩
  | 52 => ⟨S_, .f32⟩
  | 53 => ⟨S_, .f32⟩
  | 54 => ⟨S2x2048x4x128, .f32⟩
  | 55 => ⟨S2x2048x4x128, .f32⟩
  | 56 => ⟨S2x2048x4x128, .f32⟩
  | 57 => ⟨S2x2048x4x128, .f32⟩
  | 58 => ⟨S2x2048x4x128, .f32⟩
  | 59 => ⟨S2x2048x4x128, .f32⟩
  | 60 => ⟨S2x4x2048x2048, .f32⟩
  | 61 => ⟨S_, .f32⟩
  | 62 => ⟨S_, .f32⟩
  | 63 => ⟨S2x4x2048x2048, .i1⟩
  | 64 => ⟨S2x4x2048x2048, .f32⟩
  | 65 => ⟨S2x4x2048x2048, .f32⟩
  | 66 => ⟨S_, .f32⟩
  | 67 => ⟨S2x4x2048x2048, .f32⟩
  | 68 => ⟨S2x4x256x2048, .f32⟩
  | 69 => ⟨S2x2048x4x256, .f32⟩
  | 70 => ⟨S2x4x256x2048, .f32⟩
  | 71 => ⟨S2x2048x4x256, .f32⟩
  | 72 => ⟨S2x2048x4x256, .f32⟩
  | 73 => ⟨S4096x1024, .f32⟩
  | 74 => ⟨S2x2048x4x256, .f32⟩
  | 75 => ⟨S2x4x256x2048, .f32⟩
  | 76 => ⟨S2x4x2048x2048, .f32⟩
  | 77 => ⟨S2x4x256x2048, .f32⟩
  | 78 => ⟨S2x2048x4x256, .f32⟩
  | 79 => ⟨S2x4x256x2048, .f32⟩
  | 80 => ⟨S2x4x2048x128, .f32⟩
  | 81 => ⟨S2x2048x4x128, .f32⟩
  | 82 => ⟨S2x4x256x128, .f32⟩
  | 83 => ⟨S2x4x128x256, .f32⟩
  | 84 => ⟨S_, .f32⟩
  | 85 => ⟨S2x4x2048x2048, .f32⟩
  | 86 => ⟨S2x4x2048x2048, .f32⟩
  | 87 => ⟨S2x4x2048x128, .f32⟩
  | 88 => ⟨S2x2048x4x128, .f32⟩
  | 89 => ⟨S2x4x2048x128, .f32⟩
  | 90 => ⟨S2x2048x4x128, .f32⟩
  | 91 => ⟨S2x2048x4x128, .f32⟩
  | 92 => ⟨S2x2048x4x128, .f32⟩
  | 93 => ⟨S2x2048x4x128, .f32⟩
  | 94 => ⟨S2x2048x4x128, .f32⟩
  | 95 => ⟨S2x2048x4x128, .f32⟩
  | 96 => ⟨S2x2048x4x128, .f32⟩
  | 97 => ⟨S2x2048x4x128, .f32⟩
  | 98 => ⟨S2x2048x4x128, .f32⟩
  | 99 => ⟨S2x2048x4x128, .f32⟩
  | 100 => ⟨S_, .f32⟩
  | 101 => ⟨S_, .f32⟩
  | 102 => ⟨S2x2048x4x128, .f32⟩
  | 103 => ⟨S2x2048x512, .f32⟩
  | 104 => ⟨S4096x512, .f32⟩
  | 105 => ⟨S_, .f32⟩
  | 106 => ⟨S4608x512, .f32⟩
  | 107 => ⟨S2x2048x1024, .f32⟩
  | 108 => ⟨S4096x1024, .f32⟩
  | 109 => ⟨S_, .f32⟩
  | 110 => ⟨S4608x1024, .f32⟩
  | 111 => ⟨S2x2048x512, .f32⟩
  | 112 => ⟨S4096x512, .f32⟩
  | 113 => ⟨S_, .f32⟩
  | 114 => ⟨S4608x512, .f32⟩
  | 115 => ⟨S_, .f32⟩
  | 116 => ⟨S2x2048x4x128, .f32⟩
  | 117 => ⟨S2x2048x4x128, .f32⟩
  | 118 => ⟨S2x2048x512, .f32⟩
  | 119 => ⟨S4096x512, .f32⟩
  | 120 => ⟨S_, .f32⟩
  | 121 => ⟨S4608x512, .f32⟩
  | 122 => ⟨S2x4x256x256, .f32⟩
  | 123 => ⟨S2x256x4x256, .f32⟩
  | 124 => ⟨S2x4x128x256, .f32⟩
  | 125 => ⟨S2x256x4x128, .f32⟩
  | 126 => ⟨S2x256x4x128, .f32⟩
  | 127 => ⟨S2x256x4x128, .f32⟩
  | _ => ⟨S4608x3200, .f32⟩

abbrev hbmTy0_1 (i : Nat) : BufTy := match i % 128 with
  | 0 => ⟨S2x256x4x128, .f32⟩
  | 1 => ⟨S_, .f32⟩
  | 2 => ⟨S2x4x128, .f32⟩
  | 3 => ⟨S2x1x4x128, .f32⟩
  | 4 => ⟨S2x256x4x128, .f32⟩
  | 5 => ⟨S_, .f32⟩
  | 6 => ⟨S2x256x4x128, .f32⟩
  | 7 => ⟨S2x256x4x128, .f32⟩
  | 8 => ⟨S_, .f32⟩
  | 9 => ⟨S_, .f32⟩
  | 10 => ⟨S2x256x4x128, .f32⟩
  | 11 => ⟨S2x256x512, .f32⟩
  | 12 => ⟨S512x512, .f32⟩
  | 13 => ⟨S_, .f32⟩
  | 14 => ⟨S4608x512, .f32⟩
  | 15 => ⟨S4608x512, .f32⟩
  | 16 => ⟨S2x256x1024, .f32⟩
  | 17 => ⟨S512x1024, .f32⟩
  | 18 => ⟨S_, .f32⟩
  | 19 => ⟨S4608x1024, .f32⟩
  | 20 => ⟨S4608x1024, .f32⟩
  | 21 => ⟨S2x256x512, .f32⟩
  | 22 => ⟨S512x512, .f32⟩
  | 23 => ⟨S_, .f32⟩
  | 24 => ⟨S4608x512, .f32⟩
  | 25 => ⟨S4608x512, .f32⟩
  | 26 => ⟨S4608x512, .f32⟩
  | 27 => ⟨S512x512, .f32⟩
  | 28 => ⟨S2x256x512, .f32⟩
  | 29 => ⟨S2x256x512, .f32⟩
  | 30 => ⟨S2x256x4x128, .f32⟩
  | 31 => ⟨S512x1024, .f32⟩
  | 32 => ⟨S2x256x1024, .f32⟩
  | 33 => ⟨S2x256x1024, .f32⟩
  | 34 => ⟨S2x256x4x256, .f32⟩
  | 35 => ⟨S512x512, .f32⟩
  | 36 => ⟨S2x256x512, .f32⟩
  | 37 => ⟨S2x256x512, .f32⟩
  | 38 => ⟨S2x256x4x128, .f32⟩
  | 39 => ⟨S_, .f32⟩
  | 40 => ⟨S_, .f32⟩
  | 41 => ⟨S2x256x4x128, .f32⟩
  | 42 => ⟨S2x1x4x128, .f32⟩
  | 43 => ⟨S2x256x4x128, .f32⟩
  | 44 => ⟨S2x256x4x128, .f32⟩
  | 45 => ⟨S2x256x4x128, .f32⟩
  | 46 => ⟨S2x256x4x128, .f32⟩
  | 47 => ⟨S2x4x128x256, .f32⟩
  | 48 => ⟨S4096x512, .f32⟩
  | 49 => ⟨S2x2048x512, .f32⟩
  | 50 => ⟨S2x2048x512, .f32⟩
  | 51 => ⟨S2x2048x4x128, .f32⟩
  | 52 => ⟨S_, .f32⟩
  | 53 => ⟨S2x2048x4x128, .f32⟩
  | 54 => ⟨S2x2048x4x128, .f32⟩
  | 55 => ⟨S4096x512, .f32⟩
  | 56 => ⟨S2x2048x512, .f32⟩
  | 57 => ⟨S2x2048x512, .f32⟩
  | 58 => ⟨S2x2048x4x128, .f32⟩
  | 59 => ⟨S4096x1024, .f32⟩
  | 60 => ⟨S2x2048x1024, .f32⟩
  | 61 => ⟨S2x2048x1024, .f32⟩
  | 62 => ⟨S2x2048x4x256, .f32⟩
  | 63 => ⟨S4096x512, .f32⟩
  | 64 => ⟨S2x2048x512, .f32⟩
  | 65 => ⟨S2x2048x512, .f32⟩
  | 66 => ⟨S2x2048x4x128, .f32⟩
  | 67 => ⟨S_, .i1⟩
  | 68 => ⟨S2048x2048, .i1⟩
  | 69 => ⟨S2048x2048, .i32⟩
  | 70 => ⟨S_, .i32⟩
  | 71 => ⟨S2048x2048, .i32⟩
  | 72 => ⟨S2048x2048, .i32⟩
  | 73 => ⟨S2048x2048, .i32⟩
  | 74 => ⟨S2048x2048, .i1⟩
  | 75 => ⟨S_, .i1⟩
  | 76 => ⟨S2048x2048, .i1⟩
  | 77 => ⟨S2048x2048, .i1⟩
  | 78 => ⟨S_, .f32⟩
  | 79 => ⟨S_, .f32⟩
  | 80 => ⟨S2x2048x4x128, .f32⟩
  | 81 => ⟨S2x2048x4x128, .f32⟩
  | 82 => ⟨S2x2048x4x128, .f32⟩
  | 83 => ⟨S2x2048x4x128, .f32⟩
  | 84 => ⟨S2x2048x4x128, .f32⟩
  | 85 => ⟨S2x2048x4x128, .f32⟩
  | 86 => ⟨S2x4x2048x2048, .f32⟩
  | 87 => ⟨S_, .f32⟩
  | 88 => ⟨S_, .f32⟩
  | 89 => ⟨S2x4x2048x2048, .i1⟩
  | 90 => ⟨S2x4x2048x2048, .f32⟩
  | 91 => ⟨S2x4x2048x2048, .f32⟩
  | 92 => ⟨S_, .f32⟩
  | 93 => ⟨S2x4x2048x2048, .f32⟩
  | 94 => ⟨S2x4x256x2048, .f32⟩
  | 95 => ⟨S2x2048x4x256, .f32⟩
  | 96 => ⟨S2x4x256x2048, .f32⟩
  | 97 => ⟨S2x2048x4x256, .f32⟩
  | 98 => ⟨S2x2048x4x256, .f32⟩
  | 99 => ⟨S2x2048x4x256, .f32⟩
  | 100 => ⟨S4096x1024, .f32⟩
  | 101 => ⟨S2x2048x4x256, .f32⟩
  | 102 => ⟨S2x2048x4x256, .f32⟩
  | 103 => ⟨S2x4x256x2048, .f32⟩
  | 104 => ⟨S2x4x2048x2048, .f32⟩
  | 105 => ⟨S2x4x256x2048, .f32⟩
  | 106 => ⟨S2x2048x4x256, .f32⟩
  | 107 => ⟨S2x4x256x2048, .f32⟩
  | 108 => ⟨S2x4x2048x128, .f32⟩
  | 109 => ⟨S2x2048x4x128, .f32⟩
  | 110 => ⟨S2x4x256x128, .f32⟩
  | 111 => ⟨S2x4x128x256, .f32⟩
  | 112 => ⟨S_, .f32⟩
  | 113 => ⟨S2x4x2048x2048, .f32⟩
  | 114 => ⟨S2x4x2048x2048, .f32⟩
  | 115 => ⟨S2x4x2048x128, .f32⟩
  | 116 => ⟨S2x2048x4x128, .f32⟩
  | 117 => ⟨S2x4x2048x128, .f32⟩
  | 118 => ⟨S2x2048x4x128, .f32⟩
  | 119 => ⟨S2x2048x4x128, .f32⟩
  | 120 => ⟨S2x2048x4x128, .f32⟩
  | 121 => ⟨S2x2048x4x128, .f32⟩
  | 122 => ⟨S2x2048x4x128, .f32⟩
  | 123 => ⟨S2x2048x4x128, .f32⟩
  | 124 => ⟨S2x2048x4x128, .f32⟩
  | 125 => ⟨S2x2048x4x128, .f32⟩
  | 126 => ⟨S2x2048x4x128, .f32⟩
  | 127 => ⟨S2x2048x4x128, .f32⟩
  | _ => ⟨S4608x3200, .f32⟩

abbrev hbmTy0_2 (i : Nat) : BufTy := match i % 128 with
  | 0 => ⟨S_, .f32⟩
  | 1 => ⟨S_, .f32⟩
  | 2 => ⟨S2x2048x4x128, .f32⟩
  | 3 => ⟨S2x2048x512, .f32⟩
  | 4 => ⟨S2x2048x512, .f32⟩
  | 5 => ⟨S4096x512, .f32⟩
  | 6 => ⟨S_, .f32⟩
  | 7 => ⟨S4608x512, .f32⟩
  | 8 => ⟨S2x2048x1024, .f32⟩
  | 9 => ⟨S2x2048x1024, .f32⟩
  | 10 => ⟨S4096x1024, .f32⟩
  | 11 => ⟨S_, .f32⟩
  | 12 => ⟨S4608x1024, .f32⟩
  | 13 => ⟨S2x2048x512, .f32⟩
  | 14 => ⟨S2x2048x512, .f32⟩
  | 15 => ⟨S4096x512, .f32⟩
  | 16 => ⟨S_, .f32⟩
  | 17 => ⟨S4608x512, .f32⟩
  | 18 => ⟨S_, .f32⟩
  | 19 => ⟨S2x2048x4x128, .f32⟩
  | 20 => ⟨S2x2048x4x128, .f32⟩
  | 21 => ⟨S2x2048x512, .f32⟩
  | 22 => ⟨S2x2048x512, .f32⟩
  | 23 => ⟨S4096x512, .f32⟩
  | 24 => ⟨S_, .f32⟩
  | 25 => ⟨S4608x512, .f32⟩
  | 26 => ⟨S2x4x256x256, .f32⟩
  | 27 => ⟨S2x256x4x256, .f32⟩
  | 28 => ⟨S2x4x128x256, .f32⟩
  | 29 => ⟨S2x256x4x128, .f32⟩
  | 30 => ⟨S2x256x4x128, .f32⟩
  | 31 => ⟨S2x256x4x128, .f32⟩
  | 32 => ⟨S2x256x4x128, .f32⟩
  | 33 => ⟨S_, .f32⟩
  | 34 => ⟨S2x4x128, .f32⟩
  | 35 => ⟨S2x1x4x128, .f32⟩
  | 36 => ⟨S2x256x4x128, .f32⟩
  | 37 => ⟨S_, .f32⟩
  | 38 => ⟨S2x256x4x128, .f32⟩
  | 39 => ⟨S2x256x4x128, .f32⟩
  | 40 => ⟨S_, .f32⟩
  | 41 => ⟨S_, .f32⟩
  | 42 => ⟨S2x256x4x128, .f32⟩
  | 43 => ⟨S2x256x512, .f32⟩
  | 44 => ⟨S2x256x512, .f32⟩
  | 45 => ⟨S512x512, .f32⟩
  | 46 => ⟨S_, .f32⟩
  | 47 => ⟨S4608x512, .f32⟩
  | 48 => ⟨S4608x512, .f32⟩
  | 49 => ⟨S2x256x1024, .f32⟩
  | 50 => ⟨S2x256x1024, .f32⟩
  | 51 => ⟨S512x1024, .f32⟩
  | 52 => ⟨S_, .f32⟩
  | 53 => ⟨S4608x1024, .f32⟩
  | 54 => ⟨S4608x1024, .f32⟩
  | 55 => ⟨S2x256x512, .f32⟩
  | 56 => ⟨S2x256x512, .f32⟩
  | 57 => ⟨S512x512, .f32⟩
  | 58 => ⟨S_, .f32⟩
  | 59 => ⟨S4608x512, .f32⟩
  | 60 => ⟨S4608x512, .f32⟩
  | _ => ⟨S4608x3200, .f32⟩

abbrev hbmTy (i : Nat) : BufTy := match i / 128 with
  | 0 => hbmTy0_0 i
  | 1 => hbmTy0_1 i
  | 2 => hbmTy0_2 i
  | _ => ⟨S4608x3200, .f32⟩

abbrev bufTy : (tb : Table) → Fin (tcTables nBuf tb) → BufTy
  | .hbm, ⟨i, _⟩ => hbmTy i
  | _, _ => ⟨S4608x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_call0_cst : Ref sig .tc := ⟨.hbm, 17, rfl⟩
abbrev main_call0_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_v34 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_0 : Ref sig .tc := ⟨.hbm, 49, rfl⟩
abbrev main_call1_v5 : Ref sig .tc := ⟨.hbm, 50, rfl⟩
abbrev main_v35 : Ref sig .tc := ⟨.hbm, 51, rfl⟩
abbrev main_call2_call0_cst : Ref sig .tc := ⟨.hbm, 52, rfl⟩
abbrev main_call2_call0_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_0 : Ref sig .tc := ⟨.hbm, 61, rfl⟩
abbrev main_call3_v0 : Ref sig .tc := ⟨.hbm, 62, rfl⟩
abbrev main_v43_1 : Ref sig .tc := ⟨.hbm, 63, rfl⟩
abbrev main_call3_v2 : Ref sig .tc := ⟨.hbm, 64, rfl⟩
abbrev main_v43_0 : Ref sig .tc := ⟨.hbm, 65, rfl⟩
abbrev main_call3_cst : Ref sig .tc := ⟨.hbm, 66, rfl⟩
abbrev main_v43_2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call4_cst : Ref sig .tc := ⟨.hbm, 84, rfl⟩
abbrev main_call4_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call5_call0_cst : Ref sig .tc := ⟨.hbm, 100, rfl⟩
abbrev main_call5_call0_v0 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_1 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_2 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_3 : Ref sig .tc := ⟨.hbm, 113, rfl⟩
abbrev main_v83 : Ref sig .tc := ⟨.hbm, 114, rfl⟩
abbrev main_cst_4 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_5 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_6 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_7 : Ref sig .tc := ⟨.hbm, 133, rfl⟩
abbrev main_v99 : Ref sig .tc := ⟨.hbm, 134, rfl⟩
abbrev main_v100 : Ref sig .tc := ⟨.hbm, 135, rfl⟩
abbrev main_call6_call0_cst : Ref sig .tc := ⟨.hbm, 136, rfl⟩
abbrev main_call6_call0_v0 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_8 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_9 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_10 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_call10_call0_cst : Ref sig .tc := ⟨.hbm, 167, rfl⟩
abbrev main_call10_call0_v0 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_11 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_c_12 : Ref sig .tc := ⟨.hbm, 195, rfl⟩
abbrev main_v152 : Ref sig .tc := ⟨.hbm, 196, rfl⟩
abbrev main_call15_v0 : Ref sig .tc := ⟨.hbm, 197, rfl⟩
abbrev main_call15_c : Ref sig .tc := ⟨.hbm, 198, rfl⟩
abbrev main_call15_v1 : Ref sig .tc := ⟨.hbm, 199, rfl⟩
abbrev main_call15_v2 : Ref sig .tc := ⟨.hbm, 200, rfl⟩
abbrev main_call15_v3 : Ref sig .tc := ⟨.hbm, 201, rfl⟩
abbrev main_call15_v4 : Ref sig .tc := ⟨.hbm, 202, rfl⟩
abbrev main_call15_c_0 : Ref sig .tc := ⟨.hbm, 203, rfl⟩
abbrev main_call15_v5 : Ref sig .tc := ⟨.hbm, 204, rfl⟩
abbrev main_v153 : Ref sig .tc := ⟨.hbm, 205, rfl⟩
abbrev main_call16_call0_cst : Ref sig .tc := ⟨.hbm, 206, rfl⟩
abbrev main_call16_call0_v0 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_13 : Ref sig .tc := ⟨.hbm, 215, rfl⟩
abbrev main_call17_v0 : Ref sig .tc := ⟨.hbm, 216, rfl⟩
abbrev main_v161_1 : Ref sig .tc := ⟨.hbm, 217, rfl⟩
abbrev main_call17_v2 : Ref sig .tc := ⟨.hbm, 218, rfl⟩
abbrev main_v161_0 : Ref sig .tc := ⟨.hbm, 219, rfl⟩
abbrev main_call17_cst : Ref sig .tc := ⟨.hbm, 220, rfl⟩
abbrev main_v161_2 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_call20_cst : Ref sig .tc := ⟨.hbm, 240, rfl⟩
abbrev main_call20_v0 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_call21_call0_cst : Ref sig .tc := ⟨.hbm, 256, rfl⟩
abbrev main_call21_call0_v0 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_cst_14 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_cst_15 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_cst_16 : Ref sig .tc := ⟨.hbm, 272, rfl⟩
abbrev main_v206 : Ref sig .tc := ⟨.hbm, 273, rfl⟩
abbrev main_cst_17 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_cst_18 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_cst_19 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_cst_20 : Ref sig .tc := ⟨.hbm, 293, rfl⟩
abbrev main_v223 : Ref sig .tc := ⟨.hbm, 294, rfl⟩
abbrev main_v224 : Ref sig .tc := ⟨.hbm, 295, rfl⟩
abbrev main_call26_call0_cst : Ref sig .tc := ⟨.hbm, 296, rfl⟩
abbrev main_call26_call0_v0 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_cst_21 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_cst_22 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_cst_23 : Ref sig .tc := ⟨.hbm, 314, rfl⟩
abbrev main_v239 : Ref sig .tc := ⟨.hbm, 315, rfl⟩
abbrev main_v240 : Ref sig .tc := ⟨.hbm, 316, rfl⟩

abbrev nD : Nat := 1
abbrev τ : Topo := Topo.v7x

variable {F : FTy → Type} [FloatOps F]
-- ==== Kernel2.lean ====
abbrev S4096x2560 : Shape := ⟨2, ![4096, 2560]⟩
abbrev S4096x1024 : Shape := ⟨2, ![4096, 1024]⟩
abbrev S2x4096x2560 : Shape := ⟨3, ![2, 4096, 2560]⟩
abbrev S3x4096x1024 : Shape := ⟨3, ![3, 4096, 1024]⟩
abbrev S1x4096x2560 : Shape := ⟨3, ![1, 4096, 2560]⟩
abbrev S4x5120x1024 : Shape := ⟨3, ![4, 5120, 1024]⟩
abbrev S1x4096x640 : Shape := ⟨3, ![1, 4096, 640]⟩
abbrev S1x640x1024 : Shape := ⟨3, ![1, 640, 1024]⟩
abbrev S4096x640 : Shape := ⟨2, ![4096, 640]⟩
abbrev S640x1024 : Shape := ⟨2, ![640, 1024]⟩
abbrev S1x4096x1024 : Shape := ⟨3, ![1, 4096, 1024]⟩
abbrev S1x4096x256 : Shape := ⟨3, ![1, 4096, 256]⟩
abbrev S1x256x1024 : Shape := ⟨3, ![1, 256, 1024]⟩
abbrev S4096x256 : Shape := ⟨2, ![4096, 256]⟩
abbrev S256x1024 : Shape := ⟨2, ![256, 1024]⟩

abbrev nBuf : Space → Nat
  | .hbm => 25
  | .vmem => 35
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S2x4096x2560, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S3x4096x1024, .bf16⟩
  | .hbm, ⟨7, _⟩ => ⟨S4096x1024, .bf16⟩
  | .hbm, ⟨8, _⟩ => ⟨S4096x2560, .bf16⟩
  | .hbm, ⟨9, _⟩ => ⟨S4096x1024, .bf16⟩
  | .hbm, ⟨10, _⟩ => ⟨S2x4096x2560, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S1x4096x2560, .bf16⟩
  | .hbm, ⟨15, _⟩ => ⟨S4x5120x1024, .f32⟩
  | .hbm, ⟨16, _⟩ => ⟨S4x5120x1024, .f32⟩
  | .hbm, ⟨17, _⟩ => ⟨S1x4096x1024, .bf16⟩
  | .hbm, ⟨18, _⟩ => ⟨S4x5120x1024, .f32⟩
  | .hbm, ⟨19, _⟩ => ⟨S4x5120x1024, .f32⟩
  | .hbm, ⟨20, _⟩ => ⟨S1x4096x2560, .bf16⟩
  | .hbm, ⟨21, _⟩ => ⟨S4x5120x1024, .f32⟩
  | .hbm, ⟨22, _⟩ => ⟨S4x5120x1024, .f32⟩
  | .hbm, ⟨23, _⟩ => ⟨S1x4096x1024, .bf16⟩
  | .hbm, ⟨24, _⟩ => ⟨S4x5120x1024, .f32⟩
  | .local _ .vmem, ⟨0, _⟩ => ⟨S1x4096x640, .bf16⟩
  | .local _ .vmem, ⟨1, _⟩ => ⟨S1x4096x640, .bf16⟩
  | .local _ .vmem, ⟨2, _⟩ => ⟨S4096x1024, .bf16⟩
  | .local _ .vmem, ⟨3, _⟩ => ⟨S1x640x1024, .f32⟩
  | .local _ .vmem, ⟨4, _⟩ => ⟨S1x640x1024, .f32⟩
  | .local _ .vmem, ⟨5, _⟩ => ⟨S1x4096x640, .bf16⟩
  | .local _ .vmem, ⟨6, _⟩ => ⟨S1x4096x640, .bf16⟩
  | .local _ .vmem, ⟨7, _⟩ => ⟨S4096x1024, .bf16⟩
  | .local _ .vmem, ⟨8, _⟩ => ⟨S1x640x1024, .f32⟩
  | .local _ .vmem, ⟨9, _⟩ => ⟨S1x640x1024, .f32⟩
  | .local _ .vmem, ⟨10, _⟩ => ⟨S1x4096x256, .bf16⟩
  | .local _ .vmem, ⟨11, _⟩ => ⟨S1x4096x256, .bf16⟩
  | .local _ .vmem, ⟨12, _⟩ => ⟨S4096x1024, .bf16⟩
  | .local _ .vmem, ⟨13, _⟩ => ⟨S1x256x1024, .f32⟩
  | .local _ .vmem, ⟨14, _⟩ => ⟨S1x256x1024, .f32⟩
  | .local _ .vmem, ⟨15, _⟩ => ⟨S1x4096x256, .bf16⟩
  | .local _ .vmem, ⟨16, _⟩ => ⟨S1x4096x256, .bf16⟩
  | .local _ .vmem, ⟨17, _⟩ => ⟨S4096x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x4096x640, .bf16⟩
  | .local _ .vmem, ⟨21, _⟩ => ⟨S1x4096x640, .bf16⟩
  | .local _ .vmem, ⟨22, _⟩ => ⟨S4096x1024, .bf16⟩
  | .local _ .vmem, ⟨23, _⟩ => ⟨S1x640x1024, .f32⟩
  | .local _ .vmem, ⟨24, _⟩ => ⟨S1x640x1024, .f32⟩
  | .local _ .vmem, ⟨25, _⟩ => ⟨S1x4096x640, .bf16⟩
  | .local _ .vmem, ⟨26, _⟩ => ⟨S1x4096x640, .bf16⟩
  | .local _ .vmem, ⟨27, _⟩ => ⟨S4096x1024, .bf16⟩
  | .local _ .vmem, ⟨28, _⟩ => ⟨S1x640x1024, .f32⟩
  | .local _ .vmem, ⟨29, _⟩ => ⟨S1x640x1024, .f32⟩
  | .local _ .vmem, ⟨30, _⟩ => ⟨S1x4096x256, .bf16⟩
  | .local _ .vmem, ⟨31, _⟩ => ⟨S1x4096x256, .bf16⟩
  | .local _ .vmem, ⟨32, _⟩ => ⟨S4096x1024, .bf16⟩
  | .local _ .vmem, ⟨33, _⟩ => ⟨S1x256x1024, .f32⟩
  | .local _ .vmem, ⟨34, _⟩ => ⟨S1x256x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c640_i32 : BitVec 32 := 640#32
  let v0 : BitVec 32 := Scalar.muli arg0 c640_i32
  let c2560_i32 : BitVec 32 := 2560#32
  let v1 : BitVec 32 := Scalar.divsi v0 c2560_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2560_i32 c0_i32_1
  let v8 : BitVec 32 := Scalar.extui v7
  let c0_i32_2 : BitVec 32 := 0#32
  let v9 : BitVec 1 := Scalar.cmpi .slt c2560_i32 c0_i32_2
  let v10 : BitVec 32 := Scalar.extui v9
  let v11 : BitVec 32 := Scalar.subi v8 v10
  let v12 : BitVec 1 := Scalar.cmpi .ne v6 v11
  let v13 : BitVec 32 := Scalar.remsi v0 c2560_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c640_i32_4 : BitVec 32 := 640#32
  let v18 : BitVec 32 := Scalar.muli arg0 c640_i32_4
  let c2560_i32_5 : BitVec 32 := 2560#32
  let c0_i32_6 : BitVec 32 := 0#32
  let v19 : BitVec 1 := Scalar.cmpi .eq c2560_i32_5 c0_i32_6
  let c1_i32_7 : BitVec 32 := 1#32
  let v20 : BitVec 32 := Scalar.select v19 c1_i32_7 c2560_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c640_i32_11 : BitVec 32 := 640#32
  let v29 : BitVec 32 := Scalar.divsi v28 c640_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c640_i32_11 c0_i32_14
  let v36 : BitVec 32 := Scalar.extui v35
  let c0_i32_15 : BitVec 32 := 0#32
  let v37 : BitVec 1 := Scalar.cmpi .slt c640_i32_11 c0_i32_15
  let v38 : BitVec 32 := Scalar.extui v37
  let v39 : BitVec 32 := Scalar.subi v36 v38
  let v40 : BitVec 1 := Scalar.cmpi .ne v34 v39
  let v41 : BitVec 32 := Scalar.remsi v28 c640_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c640_i32 : BitVec 32 := 640#32
  let v0 : BitVec 32 := Scalar.muli arg0 c640_i32
  let c640_i32_0 : BitVec 32 := 640#32
  let v1 : BitVec 32 := Scalar.divsi v0 c640_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c640_i32_0 c0_i32_2
  let v8 : BitVec 32 := Scalar.extui v7
  let c0_i32_3 : BitVec 32 := 0#32
  let v9 : BitVec 1 := Scalar.cmpi .slt c640_i32_0 c0_i32_3
  let v10 : BitVec 32 := Scalar.extui v9
  let v11 : BitVec 32 := Scalar.subi v8 v10
  let v12 : BitVec 1 := Scalar.cmpi .ne v6 v11
  let v13 : BitVec 32 := Scalar.remsi v0 c640_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c640_i32_5 : BitVec 32 := 640#32
  let v18 : BitVec 32 := Scalar.muli arg0 c640_i32_5
  let c640_i32_6 : BitVec 32 := 640#32
  let c0_i32_7 : BitVec 32 := 0#32
  let v19 : BitVec 1 := Scalar.cmpi .eq c640_i32_6 c0_i32_7
  let c1_i32_8 : BitVec 32 := 1#32
  let v20 : BitVec 32 := Scalar.select v19 c1_i32_8 c640_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c3200_i32 : BitVec 32 := 3200#32
  let v29 : BitVec 32 := Scalar.addi c3200_i32 v28
  let c640_i32_12 : BitVec 32 := 640#32
  let v30 : BitVec 32 := Scalar.divsi v29 c640_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c640_i32_12 c0_i32_15
  let v37 : BitVec 32 := Scalar.extui v36
  let c0_i32_16 : BitVec 32 := 0#32
  let v38 : BitVec 1 := Scalar.cmpi .slt c640_i32_12 c0_i32_16
  let v39 : BitVec 32 := Scalar.extui v38
  let v40 : BitVec 32 := Scalar.subi v37 v39
  let v41 : BitVec 1 := Scalar.cmpi .ne v35 v40
  let v42 : BitVec 32 := Scalar.remsi v29 c640_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c0_i32_19 : BitVec 32 := 0#32
  let c0_i32_20 : BitVec 32 := 0#32
  ![v17.toNat, v46.toNat, c0_i32_19.toNat]

abbrev stage0_0 : Fin 2 → Memref sig .tc .vmem S1x4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c640_i32 : BitVec 32 := 640#32
  let v0 : BitVec 32 := Scalar.muli arg0 c640_i32
  let c2560_i32 : BitVec 32 := 2560#32
  let v1 : BitVec 32 := Scalar.divsi v0 c2560_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2560_i32 c0_i32_1
  let v8 : BitVec 32 := Scalar.extui v7
  let c0_i32_2 : BitVec 32 := 0#32
  let v9 : BitVec 1 := Scalar.cmpi .slt c2560_i32 c0_i32_2
  let v10 : BitVec 32 := Scalar.extui v9
  let v11 : BitVec 32 := Scalar.subi v8 v10
  let v12 : BitVec 1 := Scalar.cmpi .ne v6 v11
  let v13 : BitVec 32 := Scalar.remsi v0 c2560_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c640_i32_4 : BitVec 32 := 640#32
  let v18 : BitVec 32 := Scalar.muli arg0 c640_i32_4
  let c2560_i32_5 : BitVec 32 := 2560#32
  let c0_i32_6 : BitVec 32 := 0#32
  let v19 : BitVec 1 := Scalar.cmpi .eq c2560_i32_5 c0_i32_6
  let c1_i32_7 : BitVec 32 := 1#32
  let v20 : BitVec 32 := Scalar.select v19 c1_i32_7 c2560_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c640_i32_11 : BitVec 32 := 640#32
  let v29 : BitVec 32 := Scalar.divsi v28 c640_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c640_i32_11 c0_i32_14
  let v36 : BitVec 32 := Scalar.extui v35
  let c0_i32_15 : BitVec 32 := 0#32
  let v37 : BitVec 1 := Scalar.cmpi .slt c640_i32_11 c0_i32_15
  let v38 : BitVec 32 := Scalar.extui v37
  let v39 : BitVec 32 := Scalar.subi v36 v38
  let v40 : BitVec 1 := Scalar.cmpi .ne v34 v39
  let v41 : BitVec 32 := Scalar.remsi v28 c640_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c640_i32 : BitVec 32 := 640#32
  let v0 : BitVec 32 := Scalar.muli arg0 c640_i32
  let c1280_i32 : BitVec 32 := 1280#32
  let v1 : BitVec 32 := Scalar.divsi v0 c1280_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1280_i32 c0_i32_1
  let v8 : BitVec 32 := Scalar.extui v7
  let c0_i32_2 : BitVec 32 := 0#32
  let v9 : BitVec 1 := Scalar.cmpi .slt c1280_i32 c0_i32_2
  let v10 : BitVec 32 := Scalar.extui v9
  let v11 : BitVec 32 := Scalar.subi v8 v10
  let v12 : BitVec 1 := Scalar.cmpi .ne v6 v11
  let v13 : BitVec 32 := Scalar.remsi v0 c1280_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c640_i32_4 : BitVec 32 := 640#32
  let v18 : BitVec 32 := Scalar.muli arg0 c640_i32_4
  let c1280_i32_5 : BitVec 32 := 1280#32
  let c0_i32_6 : BitVec 32 := 0#32
  let v19 : BitVec 1 := Scalar.cmpi .eq c1280_i32_5 c0_i32_6
  let c1_i32_7 : BitVec 32 := 1#32
  let v20 : BitVec 32 := Scalar.select v19 c1_i32_7 c1280_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1280_i32_11 : BitVec 32 := 1280#32
  let v29 : BitVec 32 := Scalar.addi c1280_i32_11 v28
  let c640_i32_12 : BitVec 32 := 640#32
  let v30 : BitVec 32 := Scalar.divsi v29 c640_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c640_i32_12 c0_i32_15
  let v37 : BitVec 32 := Scalar.extui v36
  let c0_i32_16 : BitVec 32 := 0#32
  let v38 : BitVec 1 := Scalar.cmpi .slt c640_i32_12 c0_i32_16
  let v39 : BitVec 32 := Scalar.extui v38
  let v40 : BitVec 32 := Scalar.subi v37 v39
  let v41 : BitVec 1 := Scalar.cmpi .ne v35 v40
  let v42 : BitVec 32 := Scalar.remsi v29 c640_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c0_i32_19 : BitVec 32 := 0#32
  let c0_i32_20 : BitVec 32 := 0#32
  ![v17.toNat, v46.toNat, c0_i32_19.toNat]

abbrev stage1_0 : Fin 2 → Memref sig .tc .vmem S1x4096x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x640x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c256_i32_4 : BitVec 32 := 256#32
  let v18 : BitVec 32 := Scalar.muli arg0 c256_i32_4
  let c1024_i32_5 : BitVec 32 := 1024#32
  let c0_i32_6 : BitVec 32 := 0#32
  let v19 : BitVec 1 := Scalar.cmpi .eq c1024_i32_5 c0_i32_6
  let c1_i32_7 : BitVec 32 := 1#32
  let v20 : BitVec 32 := Scalar.select v19 c1_i32_7 c1024_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c256_i32_11 : BitVec 32 := 256#32
  let v29 : BitVec 32 := Scalar.divsi v28 c256_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c256_i32_11 c0_i32_14
  let v36 : BitVec 32 := Scalar.extui v35
  let c0_i32_15 : BitVec 32 := 0#32
  let v37 : BitVec 1 := Scalar.cmpi .slt c256_i32_11 c0_i32_15
  let v38 : BitVec 32 := Scalar.extui v37
  let v39 : BitVec 32 := Scalar.subi v36 v38
  let v40 : BitVec 1 := Scalar.cmpi .ne v34 v39
  let v41 : BitVec 32 := Scalar.remsi v28 c256_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.divsi v0 c256_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c256_i32_5 : BitVec 32 := 256#32
  let v18 : BitVec 32 := Scalar.muli arg0 c256_i32_5
  let c256_i32_6 : BitVec 32 := 256#32
  let c0_i32_7 : BitVec 32 := 0#32
  let v19 : BitVec 1 := Scalar.cmpi .eq c256_i32_6 c0_i32_7
  let c1_i32_8 : BitVec 32 := 1#32
  let v20 : BitVec 32 := Scalar.select v19 c1_i32_8 c256_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4864_i32 : BitVec 32 := 4864#32
  let v29 : BitVec 32 := Scalar.addi c4864_i32 v28
  let c256_i32_12 : BitVec 32 := 256#32
  let v30 : BitVec 32 := Scalar.divsi v29 c256_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c256_i32_12 c0_i32_15
  let v37 : BitVec 32 := Scalar.extui v36
  let c0_i32_16 : BitVec 32 := 0#32
  let v38 : BitVec 1 := Scalar.cmpi .slt c256_i32_12 c0_i32_16
  let v39 : BitVec 32 := Scalar.extui v38
  let v40 : BitVec 32 := Scalar.subi v37 v39
  let v41 : BitVec 1 := Scalar.cmpi .ne v35 v40
  let v42 : BitVec 32 := Scalar.remsi v29 c256_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c0_i32_19 : BitVec 32 := 0#32
  let c0_i32_20 : BitVec 32 := 0#32
  ![v17.toNat, v46.toNat, c0_i32_19.toNat]

abbrev stage2_0 : Fin 2 → Memref sig .tc .vmem S1x4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![12], ![false]⟩

def cc3_transform_0 (i : grid3.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c256_i32_4 : BitVec 32 := 256#32
  let v18 : BitVec 32 := Scalar.muli arg0 c256_i32_4
  let c1024_i32_5 : BitVec 32 := 1024#32
  let c0_i32_6 : BitVec 32 := 0#32
  let v19 : BitVec 1 := Scalar.cmpi .eq c1024_i32_5 c0_i32_6
  let c1_i32_7 : BitVec 32 := 1#32
  let v20 : BitVec 32 := Scalar.select v19 c1_i32_7 c1024_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c256_i32_11 : BitVec 32 := 256#32
  let v29 : BitVec 32 := Scalar.divsi v28 c256_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c256_i32_11 c0_i32_14
  let v36 : BitVec 32 := Scalar.extui v35
  let c0_i32_15 : BitVec 32 := 0#32
  let v37 : BitVec 1 := Scalar.cmpi .slt c256_i32_11 c0_i32_15
  let v38 : BitVec 32 := Scalar.extui v37
  let v39 : BitVec 32 := Scalar.subi v36 v38
  let v40 : BitVec 1 := Scalar.cmpi .ne v34 v39
  let v41 : BitVec 32 := Scalar.remsi v28 c256_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c256_i32 : BitVec 32 := 256#32
  let v0 : BitVec 32 := Scalar.muli arg0 c256_i32
  let c768_i32 : BitVec 32 := 768#32
  let v1 : BitVec 32 := Scalar.divsi v0 c768_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c768_i32 c0_i32_1
  let v8 : BitVec 32 := Scalar.extui v7
  let c0_i32_2 : BitVec 32 := 0#32
  let v9 : BitVec 1 := Scalar.cmpi .slt c768_i32 c0_i32_2
  let v10 : BitVec 32 := Scalar.extui v9
  let v11 : BitVec 32 := Scalar.subi v8 v10
  let v12 : BitVec 1 := Scalar.cmpi .ne v6 v11
  let v13 : BitVec 32 := Scalar.remsi v0 c768_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c256_i32_4 : BitVec 32 := 256#32
  let v18 : BitVec 32 := Scalar.muli arg0 c256_i32_4
  let c768_i32_5 : BitVec 32 := 768#32
  let c0_i32_6 : BitVec 32 := 0#32
  let v19 : BitVec 1 := Scalar.cmpi .eq c768_i32_5 c0_i32_6
  let c1_i32_7 : BitVec 32 := 1#32
  let v20 : BitVec 32 := Scalar.select v19 c1_i32_7 c768_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c3840_i32 : BitVec 32 := 3840#32
  let v29 : BitVec 32 := Scalar.addi c3840_i32 v28
  let c256_i32_11 : BitVec 32 := 256#32
  let v30 : BitVec 32 := Scalar.divsi v29 c256_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c256_i32_11 c0_i32_14
  let v37 : BitVec 32 := Scalar.extui v36
  let c0_i32_15 : BitVec 32 := 0#32
  let v38 : BitVec 1 := Scalar.cmpi .slt c256_i32_11 c0_i32_15
  let v39 : BitVec 32 := Scalar.extui v38
  let v40 : BitVec 32 := Scalar.subi v37 v39
  let v41 : BitVec 1 := Scalar.cmpi .ne v35 v40
  let v42 : BitVec 32 := Scalar.remsi v29 c256_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c0_i32_18 : BitVec 32 := 0#32
  let c0_i32_19 : BitVec 32 := 0#32
  ![v17.toNat, v46.toNat, c0_i32_18.toNat]

abbrev stage3_0 : Fin 2 → Memref sig .tc .vmem S1x4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c640_i32 : BitVec 32 := 640#32
  let v0 : BitVec 32 := Scalar.muli arg0 c640_i32
  let c2560_i32 : BitVec 32 := 2560#32
  let v1 : BitVec 32 := Scalar.divsi v0 c2560_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2560_i32 c0_i32_1
  let v8 : BitVec 32 := Scalar.extui v7
  let c0_i32_2 : BitVec 32 := 0#32
  let v9 : BitVec 1 := Scalar.cmpi .slt c2560_i32 c0_i32_2
  let v10 : BitVec 32 := Scalar.extui v9
  let v11 : BitVec 32 := Scalar.subi v8 v10
  let v12 : BitVec 1 := Scalar.cmpi .ne v6 v11
  let v13 : BitVec 32 := Scalar.remsi v0 c2560_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c640_i32_4 : BitVec 32 := 640#32
  let v18 : BitVec 32 := Scalar.muli arg0 c640_i32_4
  let c2560_i32_5 : BitVec 32 := 2560#32
  let c0_i32_6 : BitVec 32 := 0#32
  let v19 : BitVec 1 := Scalar.cmpi .eq c2560_i32_5 c0_i32_6
  let c1_i32_7 : BitVec 32 := 1#32
  let v20 : BitVec 32 := Scalar.select v19 c1_i32_7 c2560_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c640_i32_11 : BitVec 32 := 640#32
  let v29 : BitVec 32 := Scalar.divsi v28 c640_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c640_i32_11 c0_i32_14
  let v36 : BitVec 32 := Scalar.extui v35
  let c0_i32_15 : BitVec 32 := 0#32
  let v37 : BitVec 1 := Scalar.cmpi .slt c640_i32_11 c0_i32_15
  let v38 : BitVec 32 := Scalar.extui v37
  let v39 : BitVec 32 := Scalar.subi v36 v38
  let v40 : BitVec 1 := Scalar.cmpi .ne v34 v39
  let v41 : BitVec 32 := Scalar.remsi v28 c640_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c640_i32 : BitVec 32 := 640#32
  let v0 : BitVec 32 := Scalar.muli arg0 c640_i32
  let c640_i32_0 : BitVec 32 := 640#32
  let v1 : BitVec 32 := Scalar.divsi v0 c640_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c640_i32_0 c0_i32_2
  let v8 : BitVec 32 := Scalar.extui v7
  let c0_i32_3 : BitVec 32 := 0#32
  let v9 : BitVec 1 := Scalar.cmpi .slt c640_i32_0 c0_i32_3
  let v10 : BitVec 32 := Scalar.extui v9
  let v11 : BitVec 32 := Scalar.subi v8 v10
  let v12 : BitVec 1 := Scalar.cmpi .ne v6 v11
  let v13 : BitVec 32 := Scalar.remsi v0 c640_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c640_i32_5 : BitVec 32 := 640#32
  let v18 : BitVec 32 := Scalar.muli arg0 c640_i32_5
  let c640_i32_6 : BitVec 32 := 640#32
  let c0_i32_7 : BitVec 32 := 0#32
  let v19 : BitVec 1 := Scalar.cmpi .eq c640_i32_6 c0_i32_7
  let c1_i32_8 : BitVec 32 := 1#32
  let v20 : BitVec 32 := Scalar.select v19 c1_i32_8 c640_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2560_i32 : BitVec 32 := 2560#32
  let v29 : BitVec 32 := Scalar.addi c2560_i32 v28
  let c640_i32_12 : BitVec 32 := 640#32
  let v30 : BitVec 32 := Scalar.divsi v29 c640_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c640_i32_12 c0_i32_15
  let v37 : BitVec 32 := Scalar.extui v36
  let c0_i32_16 : BitVec 32 := 0#32
  let v38 : BitVec 1 := Scalar.cmpi .slt c640_i32_12 c0_i32_16
  let v39 : BitVec 32 := Scalar.extui v38
  let v40 : BitVec 32 := Scalar.subi v37 v39
  let v41 : BitVec 1 := Scalar.cmpi .ne v35 v40
  let v42 : BitVec 32 := Scalar.remsi v29 c640_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c0_i32_19 : BitVec 32 := 0#32
  let c0_i32_20 : BitVec 32 := 0#32
  ![v17.toNat, v46.toNat, c0_i32_19.toNat]

abbrev stage4_0 : Fin 2 → Memref sig .tc .vmem S1x4096x640 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x640x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c640_i32 : BitVec 32 := 640#32
  let v0 : BitVec 32 := Scalar.muli arg0 c640_i32
  let c2560_i32 : BitVec 32 := 2560#32
  let v1 : BitVec 32 := Scalar.divsi v0 c2560_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2560_i32 c0_i32_1
  let v8 : BitVec 32 := Scalar.extui v7
  let c0_i32_2 : BitVec 32 := 0#32
  let v9 : BitVec 1 := Scalar.cmpi .slt c2560_i32 c0_i32_2
  let v10 : BitVec 32 := Scalar.extui v9
  let v11 : BitVec 32 := Scalar.subi v8 v10
  let v12 : BitVec 1 := Scalar.cmpi .ne v6 v11
  let v13 : BitVec 32 := Scalar.remsi v0 c2560_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c640_i32_4 : BitVec 32 := 640#32
  let v18 : BitVec 32 := Scalar.muli arg0 c640_i32_4
  let c2560_i32_5 : BitVec 32 := 2560#32
  let c0_i32_6 : BitVec 32 := 0#32
  let v19 : BitVec 1 := Scalar.cmpi .eq c2560_i32_5 c0_i32_6
  let c1_i32_7 : BitVec 32 := 1#32
  let v20 : BitVec 32 := Scalar.select v19 c1_i32_7 c2560_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c640_i32_11 : BitVec 32 := 640#32
  let v29 : BitVec 32 := Scalar.divsi v28 c640_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c640_i32_11 c0_i32_14
  let v36 : BitVec 32 := Scalar.extui v35
  let c0_i32_15 : BitVec 32 := 0#32
  let v37 : BitVec 1 := Scalar.cmpi .slt c640_i32_11 c0_i32_15
  let v38 : BitVec 32 := Scalar.extui v37
  let v39 : BitVec 32 := Scalar.subi v36 v38
  let v40 : BitVec 1 := Scalar.cmpi .ne v34 v39
  let v41 : BitVec 32 := Scalar.remsi v28 c640_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c640_i32 : BitVec 32 := 640#32
  let v0 : BitVec 32 := Scalar.muli arg0 c640_i32
  let c1280_i32 : BitVec 32 := 1280#32
  let v1 : BitVec 32 := Scalar.divsi v0 c1280_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1280_i32 c0_i32_1
  let v8 : BitVec 32 := Scalar.extui v7
  let c0_i32_2 : BitVec 32 := 0#32
  let v9 : BitVec 1 := Scalar.cmpi .slt c1280_i32 c0_i32_2
  let v10 : BitVec 32 := Scalar.extui v9
  let v11 : BitVec 32 := Scalar.subi v8 v10
  let v12 : BitVec 1 := Scalar.cmpi .ne v6 v11
  let v13 : BitVec 32 := Scalar.remsi v0 c1280_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c640_i32_4 : BitVec 32 := 640#32
  let v18 : BitVec 32 := Scalar.muli arg0 c640_i32_4
  let c1280_i32_5 : BitVec 32 := 1280#32
  let c0_i32_6 : BitVec 32 := 0#32
  let v19 : BitVec 1 := Scalar.cmpi .eq c1280_i32_5 c0_i32_6
  let c1_i32_7 : BitVec 32 := 1#32
  let v20 : BitVec 32 := Scalar.select v19 c1_i32_7 c1280_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v28
  let c640_i32_12 : BitVec 32 := 640#32
  let v30 : BitVec 32 := Scalar.divsi v29 c640_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c640_i32_12 c0_i32_15
  let v37 : BitVec 32 := Scalar.extui v36
  let c0_i32_16 : BitVec 32 := 0#32
  let v38 : BitVec 1 := Scalar.cmpi .slt c640_i32_12 c0_i32_16
  let v39 : BitVec 32 := Scalar.extui v38
  let v40 : BitVec 32 := Scalar.subi v37 v39
  let v41 : BitVec 1 := Scalar.cmpi .ne v35 v40
  let v42 : BitVec 32 := Scalar.remsi v29 c640_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c0_i32_19 : BitVec 32 := 0#32
  let c0_i32_20 : BitVec 32 := 0#32
  ![v17.toNat, v46.toNat, c0_i32_19.toNat]

abbrev stage5_0 : Fin 2 → Memref sig .tc .vmem S1x4096x640 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x640x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c256_i32_4 : BitVec 32 := 256#32
  let v18 : BitVec 32 := Scalar.muli arg0 c256_i32_4
  let c1024_i32_5 : BitVec 32 := 1024#32
  let c0_i32_6 : BitVec 32 := 0#32
  let v19 : BitVec 1 := Scalar.cmpi .eq c1024_i32_5 c0_i32_6
  let c1_i32_7 : BitVec 32 := 1#32
  let v20 : BitVec 32 := Scalar.select v19 c1_i32_7 c1024_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c256_i32_11 : BitVec 32 := 256#32
  let v29 : BitVec 32 := Scalar.divsi v28 c256_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c256_i32_11 c0_i32_14
  let v36 : BitVec 32 := Scalar.extui v35
  let c0_i32_15 : BitVec 32 := 0#32
  let v37 : BitVec 1 := Scalar.cmpi .slt c256_i32_11 c0_i32_15
  let v38 : BitVec 32 := Scalar.extui v37
  let v39 : BitVec 32 := Scalar.subi v36 v38
  let v40 : BitVec 1 := Scalar.cmpi .ne v34 v39
  let v41 : BitVec 32 := Scalar.remsi v28 c256_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.divsi v0 c256_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c256_i32_5 : BitVec 32 := 256#32
  let v18 : BitVec 32 := Scalar.muli arg0 c256_i32_5
  let c256_i32_6 : BitVec 32 := 256#32
  let c0_i32_7 : BitVec 32 := 0#32
  let v19 : BitVec 1 := Scalar.cmpi .eq c256_i32_6 c0_i32_7
  let c1_i32_8 : BitVec 32 := 1#32
  let v20 : BitVec 32 := Scalar.select v19 c1_i32_8 c256_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4608_i32 : BitVec 32 := 4608#32
  let v29 : BitVec 32 := Scalar.addi c4608_i32 v28
  let c256_i32_12 : BitVec 32 := 256#32
  let v30 : BitVec 32 := Scalar.divsi v29 c256_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c256_i32_12 c0_i32_15
  let v37 : BitVec 32 := Scalar.extui v36
  let c0_i32_16 : BitVec 32 := 0#32
  let v38 : BitVec 1 := Scalar.cmpi .slt c256_i32_12 c0_i32_16
  let v39 : BitVec 32 := Scalar.extui v38
  let v40 : BitVec 32 := Scalar.subi v37 v39
  let v41 : BitVec 1 := Scalar.cmpi .ne v35 v40
  let v42 : BitVec 32 := Scalar.remsi v29 c256_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c0_i32_19 : BitVec 32 := 0#32
  let c0_i32_20 : BitVec 32 := 0#32
  ![v17.toNat, v46.toNat, c0_i32_19.toNat]

abbrev stage6_0 : Fin 2 → Memref sig .tc .vmem S1x4096x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== Reference2Ideal.lean ====
abbrev S4096x2560 : Shape := ⟨2, ![4096, 2560]⟩
abbrev S4096x1024 : Shape := ⟨2, ![4096, 1024]⟩
abbrev S2x4096x2560 : Shape := ⟨3, ![2, 4096, 2560]⟩
abbrev S3x4096x1024 : Shape := ⟨3, ![3, 4096, 1024]⟩
abbrev S1x4096x2560 : Shape := ⟨3, ![1, 4096, 2560]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩
abbrev S4x1280x1024 : Shape := ⟨3, ![4, 1280, 1024]⟩
abbrev S2560x1024 : Shape := ⟨2, ![2560, 1024]⟩
abbrev S1024x2560 : Shape := ⟨2, ![1024, 2560]⟩
abbrev S4x640x1024 : Shape := ⟨3, ![4, 640, 1024]⟩
abbrev S1x4096x1024 : Shape := ⟨3, ![1, 4096, 1024]⟩
abbrev S4096x3072 : Shape := ⟨2, ![4096, 3072]⟩
abbrev S1024x3072 : Shape := ⟨2, ![1024, 3072]⟩
abbrev S3072x1024 : Shape := ⟨2, ![3072, 1024]⟩
abbrev S4x768x1024 : Shape := ⟨3, ![4, 768, 1024]⟩
abbrev S1024x1024 : Shape := ⟨2, ![1024, 1024]⟩
abbrev S4x256x1024 : Shape := ⟨3, ![4, 256, 1024]⟩
abbrev S4x5120x1024 : Shape := ⟨3, ![4, 5120, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S2x4096x2560, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S3x4096x1024, .bf16⟩
  | .hbm, ⟨7, _⟩ => ⟨S4096x1024, .bf16⟩
  | .hbm, ⟨8, _⟩ => ⟨S4096x2560, .bf16⟩
  | .hbm, ⟨9, _⟩ => ⟨S4096x1024, .bf16⟩
  | .hbm, ⟨10, _⟩ => ⟨S2x4096x2560, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S1x4096x2560, .bf16⟩
  | .hbm, ⟨15, _⟩ => ⟨S4096x2560, .bf16⟩
  | .hbm, ⟨16, _⟩ => ⟨S1x4096x2560, .bf16⟩
  | .hbm, ⟨17, _⟩ => ⟨S4096x2560, .bf16⟩
  | .hbm, ⟨18, _⟩ => ⟨S4096x5120, .bf16⟩
  | .hbm, ⟨19, _⟩ => ⟨S4096x1024, .f32⟩
  | .hbm, ⟨20, _⟩ => ⟨S4096x5120, .f32⟩
  | .hbm, ⟨21, _⟩ => ⟨S_, .f32⟩
  | .hbm, ⟨22, _⟩ => ⟨S1024x5120, .f32⟩
  | .hbm, ⟨23, _⟩ => ⟨S4096x5120, .f32⟩
  | .hbm, ⟨24, _⟩ => ⟨S5120x1024, .f32⟩
  | .hbm, ⟨25, _⟩ => ⟨S1024x5120, .f32⟩
  | .hbm, ⟨26, _⟩ => ⟨S5120x1024, .f32⟩
  | .hbm, ⟨27, _⟩ => ⟨S4x1280x1024, .f32⟩
  | .hbm, ⟨28, _⟩ => ⟨S1x4096x2560, .bf16⟩
  | .hbm, ⟨29, _⟩ => ⟨S4096x2560, .bf16⟩
  | .hbm, ⟨30, _⟩ => ⟨S1x4096x2560, .bf16⟩
  | .hbm, ⟨31, _⟩ => ⟨S4096x2560, .bf16⟩
  | .hbm, ⟨32, _⟩ => ⟨S4096x5120, .bf16⟩
  | .hbm, ⟨33, _⟩ => ⟨S4096x1024, .f32⟩
  | .hbm, ⟨34, _⟩ => ⟨S4096x5120, .f32⟩
  | .hbm, ⟨35, _⟩ => ⟨S_, .f32⟩
  | .hbm, ⟨36, _⟩ => ⟨S1024x5120, .f32⟩
  | .hbm, ⟨37, _⟩ => ⟨S4096x5120, .f32⟩
  | .hbm, ⟨38, _⟩ => ⟨S5120x1024, .f32⟩
  | .hbm, ⟨39, _⟩ => ⟨S1024x5120, .f32⟩
  | .hbm, ⟨40, _⟩ => ⟨S5120x1024, .f32⟩
  | .hbm, ⟨41, _⟩ => ⟨S4x1280x1024, .f32⟩
  | .hbm, ⟨42, _⟩ => ⟨S4096x2560, .f32⟩
  | .hbm, ⟨43, _⟩ => ⟨S4096x1024, .f32⟩
  | .hbm, ⟨44, _⟩ => ⟨S_, .f32⟩
  | .hbm, ⟨45, _⟩ => ⟨S2560x1024, .f32⟩
  | .hbm, ⟨46, _⟩ => ⟨S4096x1024, .f32⟩
  | .hbm, ⟨47, _⟩ => ⟨S1024x2560, .f32⟩
  | .hbm, ⟨48, _⟩ => ⟨S2560x1024, .f32⟩
  | .hbm, ⟨49, _⟩ => ⟨S4x640x1024, .f32⟩
  | .hbm, ⟨50, _⟩ => ⟨S4096x2560, .f32⟩
  | .hbm, ⟨51, _⟩ => ⟨S4096x1024, .f32⟩
  | .hbm, ⟨52, _⟩ => ⟨S_, .f32⟩
  | .hbm, ⟨53, _⟩ => ⟨S2560x1024, .f32⟩
  | .hbm, ⟨54, _⟩ => ⟨S4096x1024, .f32⟩
  | .hbm, ⟨55, _⟩ => ⟨S1024x2560, .f32⟩
  | .hbm, ⟨56, _⟩ => ⟨S2560x1024, .f32⟩
  | .hbm, ⟨57, _⟩ => ⟨S4x640x1024, .f32⟩
  | .hbm, ⟨58, _⟩ => ⟨S1x4096x1024, .bf16⟩
  | .hbm, ⟨59, _⟩ => ⟨S4096x1024, .bf16⟩
  | .hbm, ⟨60, _⟩ => ⟨S1x4096x1024, .bf16⟩
  | .hbm, ⟨61, _⟩ => ⟨S4096x1024, .bf16⟩
  | .hbm, ⟨62, _⟩ => ⟨S1x4096x1024, .bf16⟩
  | .hbm, ⟨63, _⟩ => ⟨S4096x1024, .bf16⟩
  | .hbm, ⟨64, _⟩ => ⟨S4096x3072, .bf16⟩
  | .hbm, ⟨65, _⟩ => ⟨S4096x1024, .f32⟩
  | .hbm, ⟨66, _⟩ => ⟨S4096x3072, .f32⟩
  | .hbm, ⟨67, _⟩ => ⟨S_, .f32⟩
  | .hbm, ⟨68, _⟩ => ⟨S1024x3072, .f32⟩
  | .hbm, ⟨69, _⟩ => ⟨S4096x3072, .f32⟩
  | .hbm, ⟨70, _⟩ => ⟨S3072x1024, .f32⟩
  | .hbm, ⟨71, _⟩ => ⟨S1024x3072, .f32⟩
  | .hbm, ⟨72, _⟩ => ⟨S3072x1024, .f32⟩
  | .hbm, ⟨73, _⟩ => ⟨S4x768x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024x1024, .f32⟩
  | .hbm, ⟨78, _⟩ => ⟨S4096x1024, .f32⟩
  | .hbm, ⟨79, _⟩ => ⟨S1024x1024, .f32⟩
  | .hbm, ⟨80, _⟩ => ⟨S1024x1024, .f32⟩
  | .hbm, ⟨81, _⟩ => ⟨S4x256x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024x1024, .f32⟩
  | .hbm, ⟨86, _⟩ => ⟨S4096x1024, .f32⟩
  | .hbm, ⟨87, _⟩ => ⟨S1024x1024, .f32⟩
  | .hbm, ⟨88, _⟩ => ⟨S1024x1024, .f32⟩
  | .hbm, ⟨89, _⟩ => ⟨S4x256x1024, .f32⟩
  | .hbm, ⟨90, _⟩ => ⟨S4x5120x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Kernel3.lean ====
abbrev S4608x3200 : Shape := ⟨2, ![4608, 3200]⟩
abbrev S4608x1024 : Shape := ⟨2, ![4608, 1024]⟩
abbrev S3200x1024 : Shape := ⟨2, ![3200, 1024]⟩
abbrev S4608x640 : Shape := ⟨2, ![4608, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4608x3200, .bf16⟩
  | .hbm, ⟨1, _⟩ => ⟨S4608x1024, .bf16⟩
  | .hbm, ⟨2, _⟩ => ⟨S3200x1024, .f32⟩
  | .local _ .vmem, ⟨0, _⟩ => ⟨S4608x640, .bf16⟩
  | .local _ .vmem, ⟨1, _⟩ => ⟨S4608x640, .bf16⟩
  | .local _ .vmem, ⟨2, _⟩ => ⟨S4608x1024, .bf16⟩
  | .local _ .vmem, ⟨3, _⟩ => ⟨S640x1024, .f32⟩
  | .local _ .vmem, ⟨4, _⟩ => ⟨S640x1024, .f32⟩
  | _, _ => ⟨S4608x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4608x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4608x3200 : Shape := ⟨2, ![4608, 3200]⟩
abbrev S4608x1024 : Shape := ⟨2, ![4608, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4608x3200, .bf16⟩
  | .hbm, ⟨1, _⟩ => ⟨S4608x1024, .bf16⟩
  | .hbm, ⟨2, _⟩ => ⟨S4608x1024, .f32⟩
  | .hbm, ⟨3, _⟩ => ⟨S4608x3200, .f32⟩
  | .hbm, ⟨4, _⟩ => ⟨S_, .f32⟩
  | .hbm, ⟨5, _⟩ => ⟨S1024x3200, .f32⟩
  | .hbm, ⟨6, _⟩ => ⟨S4608x3200, .f32⟩
  | .hbm, ⟨7, _⟩ => ⟨S3200x1024, .f32⟩
  | .hbm, ⟨8, _⟩ => ⟨S1024x3200, .f32⟩
  | .hbm, ⟨9, _⟩ => ⟨S3200x1024, .f32⟩
  | _, _ => ⟨S4608x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4x4864x1024 : Shape := ⟨3, ![4, 4864, 1024]⟩
abbrev S4096x2560 : Shape := ⟨2, ![4096, 2560]⟩
abbrev S1024x1024 : Shape := ⟨2, ![1024, 1024]⟩
abbrev S1x640x1024 : Shape := ⟨3, ![1, 640, 1024]⟩
abbrev S1024x640 : Shape := ⟨2, ![1024, 640]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S4096x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1x640x1024, .bf16⟩
  | .local _ .vmem, ⟨3, _⟩ => ⟨S1x640x1024, .bf16⟩
  | .local _ .vmem, ⟨4, _⟩ => ⟨S1024x640, .bf16⟩
  | .local _ .vmem, ⟨5, _⟩ => ⟨S1024x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4x4864x1024 : Shape := ⟨3, ![4, 4864, 1024]⟩
abbrev S4x640x1024 : Shape := ⟨3, ![4, 640, 1024]⟩
abbrev S2560x1024 : Shape := ⟨2, ![2560, 1024]⟩
abbrev S_ : Shape := ⟨0, ![]⟩
abbrev S4096x2560 : Shape := ⟨2, ![4096, 2560]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S4x640x1024, .bf16⟩
  | .hbm, ⟨3, _⟩ => ⟨S2560x1024, .bf16⟩
  | .hbm, ⟨4, _⟩ => ⟨S2560x1024, .f32⟩
  | .hbm, ⟨5, _⟩ => ⟨S4096x1024, .f32⟩
  | .hbm, ⟨6, _⟩ => ⟨S_, .f32⟩
  | .hbm, ⟨7, _⟩ => ⟨S4096x2560, .f32⟩
  | .hbm, ⟨8, _⟩ => ⟨S4096x1024, .f32⟩
  | .hbm, ⟨9, _⟩ => ⟨S4096x2560, .f32⟩
  | .hbm, ⟨10, _⟩ => ⟨S4096x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S4x4864x1024 : Shape := ⟨3, ![4, 4864, 1024]⟩
abbrev S4096x2560 : Shape := ⟨2, ![4096, 2560]⟩
abbrev S1024x1024 : Shape := ⟨2, ![1024, 1024]⟩
abbrev S1x640x1024 : Shape := ⟨3, ![1, 640, 1024]⟩
abbrev S1024x640 : Shape := ⟨2, ![1024, 640]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S4096x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1x640x1024, .bf16⟩
  | .local _ .vmem, ⟨3, _⟩ => ⟨S1x640x1024, .bf16⟩
  | .local _ .vmem, ⟨4, _⟩ => ⟨S1024x640, .bf16⟩
  | .local _ .vmem, ⟨5, _⟩ => ⟨S1024x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S4x4864x1024 : Shape := ⟨3, ![4, 4864, 1024]⟩
abbrev S4x640x1024 : Shape := ⟨3, ![4, 640, 1024]⟩
abbrev S2560x1024 : Shape := ⟨2, ![2560, 1024]⟩
abbrev S_ : Shape := ⟨0, ![]⟩
abbrev S4096x2560 : Shape := ⟨2, ![4096, 2560]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S4x640x1024, .bf16⟩
  | .hbm, ⟨3, _⟩ => ⟨S2560x1024, .bf16⟩
  | .hbm, ⟨4, _⟩ => ⟨S2560x1024, .f32⟩
  | .hbm, ⟨5, _⟩ => ⟨S4096x1024, .f32⟩
  | .hbm, ⟨6, _⟩ => ⟨S_, .f32⟩
  | .hbm, ⟨7, _⟩ => ⟨S4096x2560, .f32⟩
  | .hbm, ⟨8, _⟩ => ⟨S4096x1024, .f32⟩
  | .hbm, ⟨9, _⟩ => ⟨S4096x2560, .f32⟩
  | .hbm, ⟨10, _⟩ => ⟨S4096x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S4x4864x1024 : Shape := ⟨3, ![4, 4864, 1024]⟩
abbrev S1024x1024 : Shape := ⟨2, ![1024, 1024]⟩
abbrev S4x256x1024 : Shape := ⟨3, ![4, 256, 1024]⟩
abbrev S1x256x1024 : Shape := ⟨3, ![1, 256, 1024]⟩
abbrev S256x1024 : Shape := ⟨2, ![256, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c18_i32 : BitVec 32 := 18#32
  let c0_i32_0 : BitVec 32 := 0#32
  let c0_i32_1 : BitVec 32 := 0#32
  ![c0_i32.toNat, c18_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S4x4864x1024 : Shape := ⟨3, ![4, 4864, 1024]⟩
abbrev S4x256x1024 : Shape := ⟨3, ![4, 256, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S4x256x1024, .bf16⟩
  | .hbm, ⟨3, _⟩ => ⟨S1024x1024, .bf16⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S4x4864x1024 : Shape := ⟨3, ![4, 4864, 1024]⟩
abbrev S3x5120 : Shape := ⟨2, ![3, 5120]⟩
abbrev S5120 : Shape := ⟨1, ![5120]⟩
abbrev S1x5120 : Shape := ⟨2, ![1, 5120]⟩
abbrev S2x4096x2560 : Shape := ⟨3, ![2, 4096, 2560]⟩
abbrev S4096x2560 : Shape := ⟨2, ![4096, 2560]⟩
abbrev S2048x1024 : Shape := ⟨2, ![2048, 1024]⟩
abbrev S1x256x1024 : Shape := ⟨3, ![1, 256, 1024]⟩
abbrev S3x256 : Shape := ⟨2, ![3, 256]⟩
abbrev S1x256 : Shape := ⟨2, ![1, 256]⟩
abbrev S2x2048x256 : Shape := ⟨3, ![2, 2048, 256]⟩
abbrev S2048x256 : Shape := ⟨2, ![2048, 256]⟩
abbrev S256x1024 : Shape := ⟨2, ![256, 1024]⟩
abbrev S1x2048x256 : Shape := ⟨3, ![1, 2048, 256]⟩
abbrev S64x256 : Shape := ⟨2, ![64, 256]⟩
abbrev S1984x256 : Shape := ⟨2, ![1984, 256]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S3x5120, .f32⟩
  | .hbm, ⟨3, _⟩ => ⟨S5120, .f32⟩
  | .hbm, ⟨4, _⟩ => ⟨S1x5120, .f32⟩
  | .hbm, ⟨5, _⟩ => ⟨S2x4096x2560, .bf16⟩
  | .hbm, ⟨6, _⟩ => ⟨S4096x2560, .bf16⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2x2048x256, .bf16⟩
  | .local _ .vmem, ⟨15, _⟩ => ⟨S2x2048x256, .bf16⟩
  | .local _ .vmem, ⟨16, _⟩ => ⟨S2048x256, .bf16⟩
  | .local _ .vmem, ⟨17, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let c1280_i32 : BitVec 32 := 1280#32
  let v2 : BitVec 32 := Scalar.divsi v1 c1280_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1280_i32 c0_i32_2
  let v9 : BitVec 32 := Scalar.extui v8
  let c0_i32_3 : BitVec 32 := 0#32
  let v10 : BitVec 1 := Scalar.cmpi .slt c1280_i32 c0_i32_3
  let v11 : BitVec 32 := Scalar.extui v10
  let v12 : BitVec 32 := Scalar.subi v9 v11
  let v13 : BitVec 1 := Scalar.cmpi .ne v7 v12
  let v14 : BitVec 32 := Scalar.remsi v1 c1280_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1280_i32_5 : BitVec 32 := 1280#32
  let c0_i32_6 : BitVec 32 := 0#32
  let v19 : BitVec 1 := Scalar.cmpi .eq c1280_i32_5 c0_i32_6
  let c1_i32_7 : BitVec 32 := 1#32
  let v20 : BitVec 32 := Scalar.select v19 c1_i32_7 c1280_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v28
  let c256_i32_12 : BitVec 32 := 256#32
  let v30 : BitVec 32 := Scalar.divsi v29 c256_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c256_i32_12 c0_i32_15
  let v37 : BitVec 32 := Scalar.extui v36
  let c0_i32_16 : BitVec 32 := 0#32
  let v38 : BitVec 1 := Scalar.cmpi .slt c256_i32_12 c0_i32_16
  let v39 : BitVec 32 := Scalar.extui v38
  let v40 : BitVec 32 := Scalar.subi v37 v39
  let v41 : BitVec 1 := Scalar.cmpi .ne v35 v40
  let v42 : BitVec 32 := Scalar.remsi v29 c256_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c0_i32_19 : BitVec 32 := 0#32
  let c0_i32_20 : BitVec 32 := 0#32
  ![v18.toNat, v46.toNat, c0_i32_19.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2560_i32 : BitVec 32 := 2560#32
  let v1 : BitVec 32 := Scalar.addi c2560_i32 v0
  let c1280_i32 : BitVec 32 := 1280#32
  let v2 : BitVec 32 := Scalar.divsi v1 c1280_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1280_i32 c0_i32_1
  let v9 : BitVec 32 := Scalar.extui v8
  let c0_i32_2 : BitVec 32 := 0#32
  let v10 : BitVec 1 := Scalar.cmpi .slt c1280_i32 c0_i32_2
  let v11 : BitVec 32 := Scalar.extui v10
  let v12 : BitVec 32 := Scalar.subi v9 v11
  let v13 : BitVec 1 := Scalar.cmpi .ne v7 v12
  let v14 : BitVec 32 := Scalar.remsi v1 c1280_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1280_i32_4 : BitVec 32 := 1280#32
  let c0_i32_5 : BitVec 32 := 0#32
  let v19 : BitVec 1 := Scalar.cmpi .eq c1280_i32_4 c0_i32_5
  let c1_i32_6 : BitVec 32 := 1#32
  let v20 : BitVec 32 := Scalar.select v19 c1_i32_6 c1280_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi c0_i32_10 v28
  let c256_i32_11 : BitVec 32 := 256#32
  let v30 : BitVec 32 := Scalar.divsi v29 c256_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c256_i32_11 c0_i32_14
  let v37 : BitVec 32 := Scalar.extui v36
  let c0_i32_15 : BitVec 32 := 0#32
  let v38 : BitVec 1 := Scalar.cmpi .slt c256_i32_11 c0_i32_15
  let v39 : BitVec 32 := Scalar.extui v38
  let v40 : BitVec 32 := Scalar.subi v37 v39
  let v41 : BitVec 1 := Scalar.cmpi .ne v35 v40
  let v42 : BitVec 32 := Scalar.remsi v29 c256_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c0_i32_18 : BitVec 32 := 0#32
  let c0_i32_19 : BitVec 32 := 0#32
  ![v18.toNat, v46.toNat, c0_i32_18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S4096x1024 : Shape := ⟨2, ![4096, 1024]⟩
abbrev S4x4864x1024 : Shape := ⟨3, ![4, 4864, 1024]⟩
abbrev S3x5120 : Shape := ⟨2, ![3, 5120]⟩
abbrev S5120 : Shape := ⟨1, ![5120]⟩
abbrev S4x1280x1024 : Shape := ⟨3, ![4, 1280, 1024]⟩
abbrev S5120x1024 : Shape := ⟨2, ![5120, 1024]⟩
abbrev S1024x5120 : Shape := ⟨2, ![1024, 5120]⟩
abbrev S4096x5120 : Shape := ⟨2, ![4096, 5120]⟩
abbrev S2x32x64x5120 : Shape := ⟨4, ![2, 32, 64, 5120]⟩
abbrev S_ : Shape := ⟨0, ![]⟩
abbrev S2x34x64x5120 : Shape := ⟨4, ![2, 34, 64, 5120]⟩
abbrev S1x5120 : Shape := ⟨2, ![1, 5120]⟩
abbrev S1x1x1x5120 : Shape := ⟨4, ![1, 1, 1, 5120]⟩
abbrev S4096x2560 : Shape := ⟨2, ![4096, 2560]⟩
abbrev S1x4096x2560 : Shape := ⟨3, ![1, 4096, 2560]⟩
abbrev S2x4096x2560 : Shape := ⟨3, ![2, 4096, 2560]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S3x5120, .f32⟩
  | .hbm, ⟨3, _⟩ => ⟨S5120, .f32⟩
  | .hbm, ⟨4, _⟩ => ⟨S4x1280x1024, .bf16⟩
  | .hbm, ⟨5, _⟩ => ⟨S5120x1024, .bf16⟩
  | .hbm, ⟨6, _⟩ => ⟨S5120x1024, .f32⟩
  | .hbm, ⟨7, _⟩ => ⟨S1024x5120, .f32⟩
  | .hbm, ⟨8, _⟩ => ⟨S4096x1024, .f32⟩
  | .hbm, ⟨9, _⟩ => ⟨S4096x5120, .f32⟩
  | .hbm, ⟨10, _⟩ => ⟨S2x32x64x5120, .f32⟩
  | .hbm, ⟨11, _⟩ => ⟨S_, .i32⟩
  | .hbm, ⟨12, _⟩ => ⟨S_, .f32⟩
  | .hbm, ⟨13, _⟩ => ⟨S2x34x64x5120, .f32⟩
  | .hbm, ⟨14, _⟩ => ⟨S2x32x64x5120, .f32⟩
  | .hbm, ⟨15, _⟩ => ⟨S1x5120, .f32⟩
  | .hbm, ⟨16, _⟩ => ⟨S5120, .f32⟩
  | .hbm, ⟨17, _⟩ => ⟨S1x1x1x5120, .f32⟩
  | .hbm, ⟨18, _⟩ => ⟨S2x32x64x5120, .f32⟩
  | .hbm, ⟨19, _⟩ => ⟨S2x32x64x5120, .f32⟩
  | .hbm, ⟨20, _⟩ => ⟨S2x32x64x5120, .f32⟩
  | .hbm, ⟨21, _⟩ => ⟨S1x5120, .f32⟩
  | .hbm, ⟨22, _⟩ => ⟨S5120, .f32⟩
  | .hbm, ⟨23, _⟩ => ⟨S1x1x1x5120, .f32⟩
  | .hbm, ⟨24, _⟩ => ⟨S2x32x64x5120, .f32⟩
  | .hbm, ⟨25, _⟩ => ⟨S2x32x64x5120, .f32⟩
  | .hbm, ⟨26, _⟩ => ⟨S2x32x64x5120, .f32⟩
  | .hbm, ⟨27, _⟩ => ⟨S2x32x64x5120, .f32⟩
  | .hbm, ⟨28, _⟩ => ⟨S1x5120, .f32⟩
  | .hbm, ⟨29, _⟩ => ⟨S5120, .f32⟩
  | .hbm, ⟨30, _⟩ => ⟨S1x1x1x5120, .f32⟩
  | .hbm, ⟨31, _⟩ => ⟨S2x32x64x5120, .f32⟩
  | .hbm, ⟨32, _⟩ => ⟨S2x32x64x5120, .f32⟩
  | .hbm, ⟨33, _⟩ => ⟨S2x32x64x5120, .f32⟩
  | .hbm, ⟨34, _⟩ => ⟨S4096x5120, .f32⟩
  | .hbm, ⟨35, _⟩ => ⟨S1x5120, .f32⟩
  | .hbm, ⟨36, _⟩ => ⟨S4096x5120, .f32⟩
  | .hbm, ⟨37, _⟩ => ⟨S4096x5120, .f32⟩
  | .hbm, ⟨38, _⟩ => ⟨S4096x2560, .f32⟩
  | .hbm, ⟨39, _⟩ => ⟨S4096x2560, .f32⟩
  | .hbm, ⟨40, _⟩ => ⟨S4096x2560, .f32⟩
  | .hbm, ⟨41, _⟩ => ⟨S4096x2560, .f32⟩
  | .hbm, ⟨42, _⟩ => ⟨S1x4096x2560, .f32⟩
  | .hbm, ⟨43, _⟩ => ⟨S1x4096x2560, .f32⟩
  | .hbm, ⟨44, _⟩ => ⟨S2x4096x2560, .f32⟩
  | .hbm, ⟨45, _⟩ => ⟨S2x4096x2560, .bf16⟩
  | .hbm, ⟨46, _⟩ => ⟨S4096x2560, .f32⟩
  | .hbm, ⟨47, _⟩ => ⟨S4096x2560, .f32⟩
  | .hbm, ⟨48, _⟩ => ⟨S_, .f32⟩
  | .hbm, ⟨49, _⟩ => ⟨S4096x2560, .f32⟩
  | .hbm, ⟨50, _⟩ => ⟨S4096x2560, .f32⟩
  | .hbm, ⟨51, _⟩ => ⟨S_, .f32⟩
  | .hbm, ⟨52, _⟩ => ⟨S4096x2560, .f32⟩
  | .hbm, ⟨53, _⟩ => ⟨S4096x2560, .f32⟩
  | .hbm, ⟨54, _⟩ => ⟨S4096x2560, .f32⟩
  | .hbm, ⟨55, _⟩ => ⟨S4096x2560, .f32⟩
  | .hbm, ⟨56, _⟩ => ⟨S4096x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel8.lean ====
abbrev S4096x1024 : Shape := ⟨2, ![4096, 1024]⟩
abbrev S4x4864x1024 : Shape := ⟨3, ![4, 4864, 1024]⟩
abbrev S3x5120 : Shape := ⟨2, ![3, 5120]⟩
abbrev S5120 : Shape := ⟨1, ![5120]⟩
abbrev S1x5120 : Shape := ⟨2, ![1, 5120]⟩
abbrev S2x4096x2560 : Shape := ⟨3, ![2, 4096, 2560]⟩
abbrev S4096x2560 : Shape := ⟨2, ![4096, 2560]⟩
abbrev S2048x1024 : Shape := ⟨2, ![2048, 1024]⟩
abbrev S1x256x1024 : Shape := ⟨3, ![1, 256, 1024]⟩
abbrev S3x256 : Shape := ⟨2, ![3, 256]⟩
abbrev S1x256 : Shape := ⟨2, ![1, 256]⟩
abbrev S2x2048x256 : Shape := ⟨3, ![2, 2048, 256]⟩
abbrev S2048x256 : Shape := ⟨2, ![2048, 256]⟩
abbrev S256x1024 : Shape := ⟨2, ![256, 1024]⟩
abbrev S1x2048x256 : Shape := ⟨3, ![1, 2048, 256]⟩
abbrev S64x256 : Shape := ⟨2, ![64, 256]⟩
abbrev S1984x256 : Shape := ⟨2, ![1984, 256]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S3x5120, .f32⟩
  | .hbm, ⟨3, _⟩ => ⟨S5120, .f32⟩
  | .hbm, ⟨4, _⟩ => ⟨S1x5120, .f32⟩
  | .hbm, ⟨5, _⟩ => ⟨S2x4096x2560, .bf16⟩
  | .hbm, ⟨6, _⟩ => ⟨S4096x2560, .bf16⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2x2048x256, .bf16⟩
  | .local _ .vmem, ⟨15, _⟩ => ⟨S2x2048x256, .bf16⟩
  | .local _ .vmem, ⟨16, _⟩ => ⟨S2048x256, .bf16⟩
  | .local _ .vmem, ⟨17, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let c1280_i32 : BitVec 32 := 1280#32
  let v2 : BitVec 32 := Scalar.divsi v1 c1280_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1280_i32 c0_i32_2
  let v9 : BitVec 32 := Scalar.extui v8
  let c0_i32_3 : BitVec 32 := 0#32
  let v10 : BitVec 1 := Scalar.cmpi .slt c1280_i32 c0_i32_3
  let v11 : BitVec 32 := Scalar.extui v10
  let v12 : BitVec 32 := Scalar.subi v9 v11
  let v13 : BitVec 1 := Scalar.cmpi .ne v7 v12
  let v14 : BitVec 32 := Scalar.remsi v1 c1280_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1280_i32_5 : BitVec 32 := 1280#32
  let c0_i32_6 : BitVec 32 := 0#32
  let v19 : BitVec 1 := Scalar.cmpi .eq c1280_i32_5 c0_i32_6
  let c1_i32_7 : BitVec 32 := 1#32
  let v20 : BitVec 32 := Scalar.select v19 c1_i32_7 c1280_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1280_i32_11 : BitVec 32 := 1280#32
  let v29 : BitVec 32 := Scalar.addi c1280_i32_11 v28
  let c256_i32_12 : BitVec 32 := 256#32
  let v30 : BitVec 32 := Scalar.divsi v29 c256_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c256_i32_12 c0_i32_15
  let v37 : BitVec 32 := Scalar.extui v36
  let c0_i32_16 : BitVec 32 := 0#32
  let v38 : BitVec 1 := Scalar.cmpi .slt c256_i32_12 c0_i32_16
  let v39 : BitVec 32 := Scalar.extui v38
  let v40 : BitVec 32 := Scalar.subi v37 v39
  let v41 : BitVec 1 := Scalar.cmpi .ne v35 v40
  let v42 : BitVec 32 := Scalar.remsi v29 c256_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c0_i32_19 : BitVec 32 := 0#32
  let c0_i32_20 : BitVec 32 := 0#32
  ![v18.toNat, v46.toNat, c0_i32_19.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2560_i32 : BitVec 32 := 2560#32
  let v1 : BitVec 32 := Scalar.addi c2560_i32 v0
  let c1280_i32 : BitVec 32 := 1280#32
  let v2 : BitVec 32 := Scalar.divsi v1 c1280_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1280_i32 c0_i32_1
  let v9 : BitVec 32 := Scalar.extui v8
  let c0_i32_2 : BitVec 32 := 0#32
  let v10 : BitVec 1 := Scalar.cmpi .slt c1280_i32 c0_i32_2
  let v11 : BitVec 32 := Scalar.extui v10
  let v12 : BitVec 32 := Scalar.subi v9 v11
  let v13 : BitVec 1 := Scalar.cmpi .ne v7 v12
  let v14 : BitVec 32 := Scalar.remsi v1 c1280_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1280_i32_4 : BitVec 32 := 1280#32
  let c0_i32_5 : BitVec 32 := 0#32
  let v19 : BitVec 1 := Scalar.cmpi .eq c1280_i32_4 c0_i32_5
  let c1_i32_6 : BitVec 32 := 1#32
  let v20 : BitVec 32 := Scalar.select v19 c1_i32_6 c1280_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1280_i32_10 : BitVec 32 := 1280#32
  let v29 : BitVec 32 := Scalar.addi c1280_i32_10 v28
  let c256_i32_11 : BitVec 32 := 256#32
  let v30 : BitVec 32 := Scalar.divsi v29 c256_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c256_i32_11 c0_i32_14
  let v37 : BitVec 32 := Scalar.extui v36
  let c0_i32_15 : BitVec 32 := 0#32
  let v38 : BitVec 1 := Scalar.cmpi .slt c256_i32_11 c0_i32_15
  let v39 : BitVec 32 := Scalar.extui v38
  let v40 : BitVec 32 := Scalar.subi v37 v39
  let v41 : BitVec 1 := Scalar.cmpi .ne v35 v40
  let v42 : BitVec 32 := Scalar.remsi v29 c256_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c0_i32_18 : BitVec 32 := 0#32
  let c0_i32_19 : BitVec 32 := 0#32
  ![v18.toNat, v46.toNat, c0_i32_18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S4096x1024 : Shape := ⟨2, ![4096, 1024]⟩
abbrev S4x4864x1024 : Shape := ⟨3, ![4, 4864, 1024]⟩
abbrev S3x5120 : Shape := ⟨2, ![3, 5120]⟩
abbrev S5120 : Shape := ⟨1, ![5120]⟩
abbrev S4x1280x1024 : Shape := ⟨3, ![4, 1280, 1024]⟩
abbrev S5120x1024 : Shape := ⟨2, ![5120, 1024]⟩
abbrev S1024x5120 : Shape := ⟨2, ![1024, 5120]⟩
abbrev S4096x5120 : Shape := ⟨2, ![4096, 5120]⟩
abbrev S2x32x64x5120 : Shape := ⟨4, ![2, 32, 64, 5120]⟩
abbrev S_ : Shape := ⟨0, ![]⟩
abbrev S2x34x64x5120 : Shape := ⟨4, ![2, 34, 64, 5120]⟩
abbrev S1x5120 : Shape := ⟨2, ![1, 5120]⟩
abbrev S1x1x1x5120 : Shape := ⟨4, ![1, 1, 1, 5120]⟩
abbrev S4096x2560 : Shape := ⟨2, ![4096, 2560]⟩
abbrev S1x4096x2560 : Shape := ⟨3, ![1, 4096, 2560]⟩
abbrev S2x4096x2560 : Shape := ⟨3, ![2, 4096, 2560]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4864x1024, .bf16⟩
  | .hbm, ⟨2, _⟩ => ⟨S3x5120, .f32⟩
  | .hbm, ⟨3, _⟩ => ⟨S5120, .f32⟩
  | .hbm, ⟨4, _⟩ => ⟨S4x1280x1024, .bf16⟩
  | .hbm, ⟨5, _⟩ => ⟨S5120x1024, .bf16⟩
  | .hbm, ⟨6, _⟩ => ⟨S5120x1024, .f32⟩
  | .hbm, ⟨7, _⟩ => ⟨S1024x5120, .f32⟩
  | .hbm, ⟨8, _⟩ => ⟨S4096x1024, .f32⟩
  | .hbm, ⟨9, _⟩ => ⟨S4096x5120, .f32⟩
  | .hbm, ⟨10, _⟩ => ⟨S2x32x64x5120, .f32⟩
  | .hbm, ⟨11, _⟩ => ⟨S_, .i32⟩
  | .hbm, ⟨12, _⟩ => ⟨S_, .f32⟩
  | .hbm, ⟨13, _⟩ => ⟨S2x34x64x5120, .f32⟩
  | .hbm, ⟨14, _⟩ => ⟨S2x32x64x5120, .f32⟩
  | .hbm, ⟨15, _⟩ => ⟨S1x5120, .f32⟩
  | .hbm, ⟨16, _⟩ => ⟨S5120, .f32⟩
  | .hbm, ⟨17, _⟩ => ⟨S1x1x1x5120, .f32⟩
  | .hbm, ⟨18, _⟩ => ⟨S2x32x64x5120, .f32⟩
  | .hbm, ⟨19, _⟩ => ⟨S2x32x64x5120, .f32⟩
  | .hbm, ⟨20, _⟩ => ⟨S2x32x64x5120, .f32⟩
  | .hbm, ⟨21, _⟩ => ⟨S1x5120, .f32⟩
  | .hbm, ⟨22, _⟩ => ⟨S5120, .f32⟩
  | .hbm, ⟨23, _⟩ => ⟨S1x1x1x5120, .f32⟩
  | .hbm, ⟨24, _⟩ => ⟨S2x32x64x5120, .f32⟩
  | .hbm, ⟨25, _⟩ => ⟨S2x32x64x5120, .f32⟩
  | .hbm, ⟨26, _⟩ => ⟨S2x32x64x5120, .f32⟩
  | .hbm, ⟨27, _⟩ => ⟨S2x32x64x5120, .f32⟩
  | .hbm, ⟨28, _⟩ => ⟨S1x5120, .f32⟩
  | .hbm, ⟨29, _⟩ => ⟨S5120, .f32⟩
  | .hbm, ⟨30, _⟩ => ⟨S1x1x1x5120, .f32⟩
  | .hbm, ⟨31, _⟩ => ⟨S2x32x64x5120, .f32⟩
  | .hbm, ⟨32, _⟩ => ⟨S2x32x64x5120, .f32⟩
  | .hbm, ⟨33, _⟩ => ⟨S2x32x64x5120, .f32⟩
  | .hbm, ⟨34, _⟩ => ⟨S4096x5120, .f32⟩
  | .hbm, ⟨35, _⟩ => ⟨S1x5120, .f32⟩
  | .hbm, ⟨36, _⟩ => ⟨S4096x5120, .f32⟩
  | .hbm, ⟨37, _⟩ => ⟨S4096x5120, .f32⟩
  | .hbm, ⟨38, _⟩ => ⟨S4096x2560, .f32⟩
  | .hbm, ⟨39, _⟩ => ⟨S4096x2560, .f32⟩
  | .hbm, ⟨40, _⟩ => ⟨S4096x2560, .f32⟩
  | .hbm, ⟨41, _⟩ => ⟨S4096x2560, .f32⟩
  | .hbm, ⟨42, _⟩ => ⟨S1x4096x2560, .f32⟩
  | .hbm, ⟨43, _⟩ => ⟨S1x4096x2560, .f32⟩
  | .hbm, ⟨44, _⟩ => ⟨S2x4096x2560, .f32⟩
  | .hbm, ⟨45, _⟩ => ⟨S2x4096x2560, .bf16⟩
  | .hbm, ⟨46, _⟩ => ⟨S4096x2560, .f32⟩
  | .hbm, ⟨47, _⟩ => ⟨S4096x2560, .f32⟩
  | .hbm, ⟨48, _⟩ => ⟨S_, .f32⟩
  | .hbm, ⟨49, _⟩ => ⟨S4096x2560, .f32⟩
  | .hbm, ⟨50, _⟩ => ⟨S4096x2560, .f32⟩
  | .hbm, ⟨51, _⟩ => ⟨S_, .f32⟩
  | .hbm, ⟨52, _⟩ => ⟨S4096x2560, .f32⟩
  | .hbm, ⟨53, _⟩ => ⟨S4096x2560, .f32⟩
  | .hbm, ⟨54, _⟩ => ⟨S4096x2560, .f32⟩
  | .hbm, ⟨55, _⟩ => ⟨S4096x2560, .f32⟩
  | .hbm, ⟨56, _⟩ => ⟨S4096x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel9.lean ====
abbrev S4608x1024 : Shape := ⟨2, ![4608, 1024]⟩
abbrev S3200x1024 : Shape := ⟨2, ![3200, 1024]⟩
abbrev S2x16x512 : Shape := ⟨3, ![2, 16, 512]⟩
abbrev S2x512 : Shape := ⟨2, ![2, 512]⟩
abbrev S_ : Shape := ⟨0, ![]⟩
abbrev S128x1024 : Shape := ⟨2, ![128, 1024]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S1x1024 : Shape := ⟨2, ![1, 1024]⟩
abbrev S4608x3200 : Shape := ⟨2, ![4608, 3200]⟩
abbrev S768x1024 : Shape := ⟨2, ![768, 1024]⟩
abbrev S768x3200 : Shape := ⟨2, ![768, 3200]⟩
abbrev S768x128 : Shape := ⟨2, ![768, 128]⟩

abbrev nBuf : Space → Nat
  | .hbm => 25
  | .vmem => 9
  | .smem => 0
  | _ => 0

abbrev bufTy : (tb : Table) → Fin (tcTables nBuf tb) → BufTy
  | .hbm, ⟨0, _⟩ => ⟨S4608x1024, .bf16⟩
  | .hbm, ⟨1, _⟩ => ⟨S3200x1024, .bf16⟩
  | .hbm, ⟨2, _⟩ => ⟨S2x16x512, .f32⟩
  | .hbm, ⟨3, _⟩ => ⟨S2x512, .f32⟩
  | .hbm, ⟨4, _⟩ => ⟨S_, .f32⟩
  | .hbm, ⟨5, _⟩ => ⟨S128x1024, .f32⟩
  | .hbm, ⟨6, _⟩ => ⟨S1x16x512, .f32⟩
  | .hbm, ⟨7, _⟩ => ⟨S16x512, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S128x1024, .f32⟩
  | .hbm, ⟨14, _⟩ => ⟨S1x16x512, .f32⟩
  | .hbm, ⟨15, _⟩ => ⟨S16x512, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x1024, .f32⟩
  | .hbm, ⟨22, _⟩ => ⟨S1x1024, .f32⟩
  | .hbm, ⟨23, _⟩ => ⟨S4608x3200, .f32⟩
  | .hbm, ⟨24, _⟩ => ⟨S4608x1024, .f32⟩
  | .local _ .vmem, ⟨0, _⟩ => ⟨S768x1024, .bf16⟩
  | .local _ .vmem, ⟨1, _⟩ => ⟨S768x1024, .bf16⟩
  | .local _ .vmem, ⟨2, _⟩ => ⟨S3200x1024, .bf16⟩
  | .local _ .vmem, ⟨3, _⟩ => ⟨S128x1024, .f32⟩
  | .local _ .vmem, ⟨4, _⟩ => ⟨S1x1024, .f32⟩
  | .local _ .vmem, ⟨5, _⟩ => ⟨S768x3200, .f32⟩
  | .local _ .vmem, ⟨6, _⟩ => ⟨S768x3200, .f32⟩
  | .local _ .vmem, ⟨7, _⟩ => ⟨S768x1024, .f32⟩
  | .local _ .vmem, ⟨8, _⟩ => ⟨S768x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4608x1024 : Shape := ⟨2, ![4608, 1024]⟩
abbrev S3200x1024 : Shape := ⟨2, ![3200, 1024]⟩
abbrev S2x16x512 : Shape := ⟨3, ![2, 16, 512]⟩
abbrev S2x512 : Shape := ⟨2, ![2, 512]⟩
abbrev S1024x3200 : Shape := ⟨2, ![1024, 3200]⟩
abbrev S4608x3200 : Shape := ⟨2, ![4608, 3200]⟩

abbrev nBuf : Space → Nat
  | .hbm => 8
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S3200x1024, .bf16⟩
  | .hbm, ⟨2, _⟩ => ⟨S2x16x512, .f32⟩
  | .hbm, ⟨3, _⟩ => ⟨S2x512, .f32⟩
  | .hbm, ⟨4, _⟩ => ⟨S4608x1024, .f32⟩
  | .hbm, ⟨5, _⟩ => ⟨S3200x1024, .f32⟩
  | .hbm, ⟨6, _⟩ => ⟨S1024x3200, .f32⟩
  | .hbm, ⟨7, _⟩ => ⟨S4608x3200, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S4096x2560 : Shape := ⟨2, ![4096, 2560]⟩
abbrev S4x4864x1024 : Shape := ⟨3, ![4, 4864, 1024]⟩
abbrev S4096x1024 : Shape := ⟨2, ![4096, 1024]⟩
abbrev S2x1x1024 : Shape := ⟨3, ![2, 1, 1024]⟩
abbrev S1024 : Shape := ⟨1, ![1024]⟩
abbrev S1x4096x2560 : Shape := ⟨3, ![1, 4096, 2560]⟩
abbrev S1x1024 : Shape := ⟨2, ![1, 1024]⟩
abbrev S1x512x2560 : Shape := ⟨3, ![1, 512, 2560]⟩
abbrev S4x640x1024 : Shape := ⟨3, ![4, 640, 1024]⟩
abbrev S512x1024 : Shape := ⟨2, ![512, 1024]⟩
abbrev S1x1x1024 : Shape := ⟨3, ![1, 1, 1024]⟩
abbrev S1x512x640 : Shape := ⟨3, ![1, 512, 640]⟩
abbrev S512x640 : Shape := ⟨2, ![512, 640]⟩
abbrev S1x640x1024 : Shape := ⟨3, ![1, 640, 1024]⟩
abbrev S640x1024 : Shape := ⟨2, ![640, 1024]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S4096x2560, .bf16⟩
  | .hbm, ⟨1, _⟩ => ⟨S4x4864x1024, .bf16⟩
  | .hbm, ⟨2, _⟩ => ⟨S4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S1x4096x2560, .bf16⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S1x512x2560, .bf16⟩
  | .local _ .vmem, ⟨1, _⟩ => ⟨S1x512x2560, .bf16⟩
  | .local _ .vmem, ⟨2, _⟩ => ⟨S4x640x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x640x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x2560 : Shape := ⟨2, ![4096, 2560]⟩
abbrev S4x4864x1024 : Shape := ⟨3, ![4, 4864, 1024]⟩
abbrev S4096x1024 : Shape := ⟨2, ![4096, 1024]⟩
abbrev S2x1x1024 : Shape := ⟨3, ![2, 1, 1024]⟩
abbrev S1024 : Shape := ⟨1, ![1024]⟩
abbrev S4x640x1024 : Shape := ⟨3, ![4, 640, 1024]⟩
abbrev S2560x1024 : Shape := ⟨2, ![2560, 1024]⟩
abbrev S2x2048x1024 : Shape := ⟨3, ![2, 2048, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4x4864x1024, .bf16⟩
  | .hbm, ⟨2, _⟩ => ⟨S4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S4x640x1024, .bf16⟩
  | .hbm, ⟨8, _⟩ => ⟨S2560x1024, .bf16⟩
  | .hbm, ⟨9, _⟩ => ⟨S2560x1024, .f32⟩
  | .hbm, ⟨10, _⟩ => ⟨S4096x2560, .f32⟩
  | .hbm, ⟨11, _⟩ => ⟨S4096x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Proof.OutsKernelIdeal.lean ====
/- What one grid point of the ideal kernel leaves in each output and in the carried scratch, case by case (the first point of a batch
   entry, or a later one), and point by point over the whole grid. -/
module

public import proofs.«01_k».proof.Proof.Gen.KernelIdeal.Frame.RunB
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (a2 : Memref sig .tc .vmem S64x512 .f32) (h2 : a2.IsWhole) (a3 : Memref sig .tc .vmem S64x512 .f32) (h3 : a3.IsWhole) (a4 : Memref sig .tc .vmem S64x1024 .f32) (h4 : a4.IsWhole) (a5 : Memref sig .tc .vmem S64x512 .f32) (h5 : a5.IsWhole) (a6 : Memref sig .tc .vmem S64x1024 .f32) (h6 : a6.IsWhole) (a7 : Memref sig .tc .vmem S1x1x4x256x128 .f32) (h7 : a7.IsWhole) (a8 : Memref sig .tc .vmem S64x512 .f32) (h8 : a8.IsWhole) (a9 : Memref sig .tc .vmem S64x512 .f32) (h9 : a9.IsWhole) (a10 : Memref sig .tc .vmem S64x1024 .f32) (h10 : a10.IsWhole) (a11 : Memref sig .tc .vmem S64x512 .f32) (h11 : a11.IsWhole) (a12 : Memref sig .tc .vmem S64x1024 .f32) (h12 : a12.IsWhole) (a13 : Memref sig .tc .vmem S1x1x4x256x128 .f32) (h13 : a13.IsWhole) (a15 : Memref sig .tc .vmem S64x512 .f32) (h15 : a15.IsWhole) (a16 : Memref sig .tc .vmem S64x512 .f32) (h16 : a16.IsWhole) (a17 : Memref sig .tc .vmem S64x1024 .f32) (h17 : a17.IsWhole) (a18 : Memref sig .tc .vmem S64x512 .f32) (h18 : a18.IsWhole) (a19 : Memref sig .tc .vmem S64x512 .f32) (h19 : a19.IsWhole) (a20 : Memref sig .tc .vmem S64x512 .f32) (h20 : a20.IsWhole) (a21 : Memref sig .tc .vmem S64x1024 .f32) (h21 : a21.IsWhole) (a22 : Memref sig .tc .vmem S64x512 .f32) (h22 : a22.IsWhole) (a23 : Memref sig .tc .vmem S8x256x128 .f32) (h23 : a23.IsWhole) (hc0 : cond0_0 i)
    (x0 : Vec F S64x512 .f32) (x1 : Vec F S64x512 .f32) (x2 : Vec F S64x1024 .f32) (x3 : Vec F S64x512 .f32) (x4 : Vec F S64x1024 .f32) (x5 : Vec F S1x1x4x256x128 .f32) (x6 : Vec F S64x512 .f32) (x7 : Vec F S64x512 .f32) (x8 : Vec F S64x1024 .f32) (x9 : Vec F S64x512 .f32) (x10 : Vec F S64x1024 .f32) (x11 : Vec F S1x1x4x256x128 .f32)

/-- Case A's pieces for output 12 tile its block, so they cover it. -/
theorem cover0_A_12 (y : S64x512.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).1, y ∈ pc.1.set :=
  View.cover_of_tiledL (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).1 S64x512.size (by sl_kernel_rfl) y

/-- What case A leaves in output 12's staging buffer: its pieces read back over junk. -/
def out0_A_12 : Vec F S64x512 .f32 :=
  VO0_12.read (Elt F) (VO0_12.writes (Elt F) VO0_12.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).1)

/-- Case A's pieces for output 13 tile its block, so they cover it. -/
theorem cover0_A_13 (y : S64x512.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.1, y ∈ pc.1.set :=
  View.cover_of_tiledL (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.1 S64x512.size (by sl_kernel_rfl) y

/-- What case A leaves in output 13's staging buffer: its pieces read back over junk. -/
def out0_A_13 : Vec F S64x512 .f32 :=
  VO0_13.read (Elt F) (VO0_13.writes (Elt F) VO0_13.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.1)

/-- Case A's pieces for output 14 tile its block, so they cover it. -/
theorem cover0_A_14 (y : S64x1024.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.1, y ∈ pc.1.set :=
  View.cover_of_tiledL (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.1 S64x1024.size (by sl_kernel_rfl) y

/-- What case A leaves in output 14's staging buffer: its pieces read back over junk. -/
def out0_A_14 : Vec F S64x1024 .f32 :=
  VO0_14.read (Elt F) (VO0_14.writes (Elt F) VO0_14.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.1)

/-- Case A's pieces for output 15 tile its block, so they cover it. -/
theorem cover0_A_15 (y : S64x512.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.1, y ∈ pc.1.set :=
  View.cover_of_tiledL (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.1 S64x512.size (by sl_kernel_rfl) y

/-- What case A leaves in output 15's staging buffer: its pieces read back over junk. -/
def out0_A_15 : Vec F S64x512 .f32 :=
  VO0_15.read (Elt F) (VO0_15.writes (Elt F) VO0_15.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.1)

/-- Case A's pieces for output 16 tile its block, so they cover it. -/
theorem cover0_A_16 (y : S64x512.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.1, y ∈ pc.1.set :=
  View.cover_of_tiledL (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.1 S64x512.size (by sl_kernel_rfl) y

/-- What case A leaves in output 16's staging buffer: its pieces read back over junk. -/
def out0_A_16 : Vec F S64x512 .f32 :=
  VO0_16.read (Elt F) (VO0_16.writes (Elt F) VO0_16.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.1)

/-- Case A's pieces for output 17 tile its block, so they cover it. -/
theorem cover0_A_17 (y : S64x512.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.1, y ∈ pc.1.set :=
  View.cover_of_tiledL (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.1 S64x512.size (by sl_kernel_rfl) y

/-- What case A leaves in output 17's staging buffer: its pieces read back over junk. -/
def out0_A_17 : Vec F S64x512 .f32 :=
  VO0_17.read (Elt F) (VO0_17.writes (Elt F) VO0_17.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.1)

/-- Case A's pieces for output 18 tile its block, so they cover it. -/
theorem cover0_A_18 (y : S64x1024.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.1, y ∈ pc.1.set :=
  View.cover_of_tiledL (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.1 S64x1024.size (by sl_kernel_rfl) y

/-- What case A leaves in output 18's staging buffer: its pieces read back over junk. -/
def out0_A_18 : Vec F S64x1024 .f32 :=
  VO0_18.read (Elt F) (VO0_18.writes (Elt F) VO0_18.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.1)

/-- Case A's pieces for output 19 tile its block, so they cover it. -/
theorem cover0_A_19 (y : S64x512.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.2.1, y ∈ pc.1.set :=
  View.cover_of_tiledL (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.2.1 S64x512.size (by sl_kernel_rfl) y

/-- What case A leaves in output 19's staging buffer: its pieces read back over junk. -/
def out0_A_19 : Vec F S64x512 .f32 :=
  VO0_19.read (Elt F) (VO0_19.writes (Elt F) VO0_19.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.2.1)

/-- Case A's pieces for scratch `arg23` cover it: one of them is a store of the whole buffer. -/
theorem scover0_A_0 (y : S8x256x128.Idx) :
    ∃ pc ∈ (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.2.2.1, y ∈ pc.1.set :=
  View.cover_of_wholeMem (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.2.2.1 (by sl_whole_mem) y

/-- What case A leaves in scratch `arg23`: its pieces read back over junk. -/
def sout0_A_0 : Vec F S8x256x128 .f32 :=
  VS0_0.read (Elt F) (VS0_0.writes (Elt F) VS0_0.junk (kernelRun0_A c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11).2.2.2.2.2.2.2.2.1)

end

section
variable (c : Dev nD) (i : grid0.Coords) (a2 : Memref sig .tc .vmem S64x512 .f32) (h2 : a2.IsWhole) (a3 : Memref sig .tc .vmem S64x512 .f32) (h3 : a3.IsWhole) (a4 : Memref sig .tc .vmem S64x1024 .f32) (h4 : a4.IsWhole) (a5 : Memref sig .tc .vmem S64x512 .f32) (h5 : a5.IsWhole) (a6 : Memref sig .tc .vmem S64x1024 .f32) (h6 : a6.IsWhole) (a7 : Memref sig .tc .vmem S1x1x4x256x128 .f32) (h7 : a7.IsWhole) (a8 : Memref sig .tc .vmem S64x512 .f32) (h8 : a8.IsWhole) (a9 : Memref sig .tc .vmem S64x512 .f32) (h9 : a9.IsWhole) (a10 : Memref sig .tc .vmem S64x1024 .f32) (h10 : a10.IsWhole) (a11 : Memref sig .tc .vmem S64x512 .f32) (h11 : a11.IsWhole) (a12 : Memref sig .tc .vmem S64x1024 .f32) (h12 : a12.IsWhole) (a13 : Memref sig .tc .vmem S1x1x4x256x128 .f32) (h13 : a13.IsWhole) (a15 : Memref sig .tc .vmem S64x512 .f32) (h15 : a15.IsWhole) (a16 : Memref sig .tc .vmem S64x512 .f32) (h16 : a16.IsWhole) (a17 : Memref sig .tc .vmem S64x1024 .f32) (h17 : a17.IsWhole) (a18 : Memref sig .tc .vmem S64x512 .f32) (h18 : a18.IsWhole) (a19 : Memref sig .tc .vmem S64x512 .f32) (h19 : a19.IsWhole) (a20 : Memref sig .tc .vmem S64x512 .f32) (h20 : a20.IsWhole) (a21 : Memref sig .tc .vmem S64x1024 .f32) (h21 : a21.IsWhole) (a22 : Memref sig .tc .vmem S64x512 .f32) (h22 : a22.IsWhole) (a23 : Memref sig .tc .vmem S8x256x128 .f32) (h23 : a23.IsWhole) (hc0 : ¬cond0_0 i)
    (x0 : Vec F S64x512 .f32) (x1 : Vec F S64x512 .f32) (x2 : Vec F S64x1024 .f32) (x3 : Vec F S64x512 .f32) (x4 : Vec F S64x1024 .f32) (x5 : Vec F S1x1x4x256x128 .f32) (x6 : Vec F S64x512 .f32) (x7 : Vec F S64x512 .f32) (x8 : Vec F S64x1024 .f32) (x9 : Vec F S64x512 .f32) (x10 : Vec F S64x1024 .f32) (x11 : Vec F S1x1x4x256x128 .f32) (xs0 : Vec F S8x256x128 .f32)

/-- Case B's pieces for output 12 tile its block, so they cover it. -/
theorem cover0_B_12 (y : S64x512.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).1 S64x512.size (by sl_kernel_rfl) y

/-- What case B leaves in output 12's staging buffer: its pieces read back over junk. -/
def out0_B_12 : Vec F S64x512 .f32 :=
  VO0_12.read (Elt F) (VO0_12.writes (Elt F) VO0_12.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).1)

/-- Case B's pieces for output 13 tile its block, so they cover it. -/
theorem cover0_B_13 (y : S64x512.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.1 S64x512.size (by sl_kernel_rfl) y

/-- What case B leaves in output 13's staging buffer: its pieces read back over junk. -/
def out0_B_13 : Vec F S64x512 .f32 :=
  VO0_13.read (Elt F) (VO0_13.writes (Elt F) VO0_13.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.1)

/-- Case B's pieces for output 14 tile its block, so they cover it. -/
theorem cover0_B_14 (y : S64x1024.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.1 S64x1024.size (by sl_kernel_rfl) y

/-- What case B leaves in output 14's staging buffer: its pieces read back over junk. -/
def out0_B_14 : Vec F S64x1024 .f32 :=
  VO0_14.read (Elt F) (VO0_14.writes (Elt F) VO0_14.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.1)

/-- Case B's pieces for output 15 tile its block, so they cover it. -/
theorem cover0_B_15 (y : S64x512.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.1 S64x512.size (by sl_kernel_rfl) y

/-- What case B leaves in output 15's staging buffer: its pieces read back over junk. -/
def out0_B_15 : Vec F S64x512 .f32 :=
  VO0_15.read (Elt F) (VO0_15.writes (Elt F) VO0_15.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.1)

/-- Case B's pieces for output 16 tile its block, so they cover it. -/
theorem cover0_B_16 (y : S64x512.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.1 S64x512.size (by sl_kernel_rfl) y

/-- What case B leaves in output 16's staging buffer: its pieces read back over junk. -/
def out0_B_16 : Vec F S64x512 .f32 :=
  VO0_16.read (Elt F) (VO0_16.writes (Elt F) VO0_16.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.1)

/-- Case B's pieces for output 17 tile its block, so they cover it. -/
theorem cover0_B_17 (y : S64x512.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.1 S64x512.size (by sl_kernel_rfl) y

/-- What case B leaves in output 17's staging buffer: its pieces read back over junk. -/
def out0_B_17 : Vec F S64x512 .f32 :=
  VO0_17.read (Elt F) (VO0_17.writes (Elt F) VO0_17.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.1)

/-- Case B's pieces for output 18 tile its block, so they cover it. -/
theorem cover0_B_18 (y : S64x1024.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.1 S64x1024.size (by sl_kernel_rfl) y

/-- What case B leaves in output 18's staging buffer: its pieces read back over junk. -/
def out0_B_18 : Vec F S64x1024 .f32 :=
  VO0_18.read (Elt F) (VO0_18.writes (Elt F) VO0_18.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.1)

/-- Case B's pieces for output 19 tile its block, so they cover it. -/
theorem cover0_B_19 (y : S64x512.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.2.1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.2.1 S64x512.size (by sl_kernel_rfl) y

/-- What case B leaves in output 19's staging buffer: its pieces read back over junk. -/
def out0_B_19 : Vec F S64x512 .f32 :=
  VO0_19.read (Elt F) (VO0_19.writes (Elt F) VO0_19.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.2.1)

/-- Case B's pieces for scratch `arg23`, which the kernel carries between points, cover it: 8 pieces of `S1x256x128` tiling it. -/
theorem scover0_B_0 (y : S8x256x128.Idx) :
    ∃ pc ∈ (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.2.2.1, y ∈ pc.1.set :=
  View.cover_of_tiledL (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.2.2.1 S1x256x128.size (by sl_kernel_rfl) y

/-- What case B leaves in scratch `arg23`: its pieces read back over junk. -/
def sout0_B_0 : Vec F S8x256x128 .f32 :=
  VS0_0.read (Elt F) (VS0_0.writes (Elt F) VS0_0.junk (kernelRun0_B c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0).2.2.2.2.2.2.2.2.1)

/-! ## What the outputs hold after each point -/

end

/-- What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S64x512 .f32 × Vec F S64x512 .f32 × Vec F S64x1024 .f32 × Vec F S64x512 .f32 × Vec F S64x512 .f32 × Vec F S64x512 .f32 × Vec F S64x1024 .f32 × Vec F S64x512 .f32 × Vec F S8x256x128 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (X0_6 m c ⟨0, hn⟩) (X0_7 m c ⟨0, hn⟩) (X0_8 m c ⟨0, hn⟩) (iblk m c 9 ⟨0, hn⟩) (iblk m c 10 ⟨0, hn⟩) (iblk m c 11 ⟨0, hn⟩))
  | n + 1, hn =>
    if h0 : (n + 1) % 36 = 0 then
      (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩))
    else
      (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (X0_6 m c ⟨n + 1, hn⟩) (X0_7 m c ⟨n + 1, hn⟩) (X0_8 m c ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2)

/-- `outsAt0` at a point of case A: that case's contents. -/
theorem outsAt0_A (c : Dev nD) (t : Fin cfg0.N) (h0 : t.val % 36 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t)) := by
  obtain ⟨n, hn⟩ := t
  cases n with
  | zero => exact rfl
  | succ n =>
    have h : (n + 1) % 36 = 0 := h0
    simp only [outsAt0, dif_pos h]

/-- `outsAt0` at a point of case B: that case's contents, over what the point before left. -/
theorem outsAt0_B (c : Dev nD) (t : Fin cfg0.N) (h0 : ¬t.val % 36 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n =>
    have h : ¬ (n + 1) % 36 = 0 := h0
    simp only [outsAt0, dif_neg h, Nat.add_sub_cancel]

end Cert.KernelIdeal.Hand

end
-- ==== Proof.FrameKernelIdeal.lean ====
/- The frame of the ideal kernel: the pipeline's proof data, the body's obligation at a generic point, the run and what it leaves. -/
module

public import proofs.«01_k».proof.Proof.OutsKernelIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => X0_6 m c t
    | ⟨7, _⟩ => X0_7 m c t
    | ⟨8, _⟩ => X0_8 m c t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨_ + 20, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 72 := lt_of_lt_of_eq t.isLt (show cfg0.N = 72 from N_0)
  by_cases h0 : t.val % 36 = 0
  · by_cases hz : t.val = 0
    · rw [PhiS_castSucc m c t, PhiS_zero m c _ _ hz, PhiA0_eq]
      rw [outsAt0_A m c t h0]
      unfold out0_A_12 out0_A_13 out0_A_14 out0_A_15 out0_A_16 out0_A_17 out0_A_18 out0_A_19 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_12 out0_A_13 out0_A_14 out0_A_15 out0_A_16 out0_A_17 out0_A_18 out0_A_19 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexists _; iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 72 := lt_of_lt_of_eq t.isLt (show cfg0.N = 72 from N_0); omega
    · rw [PhiS_castSucc m c t, PhiS_pos m c _ _ hz]
      rw [outsAt0_B m c t h0]
      unfold out0_B_12 out0_B_13 out0_B_14 out0_B_15 out0_B_16 out0_B_17 out0_B_18 out0_B_19 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (X0_0 m c t) (X0_1 m c t) (X0_2 m c t) (iblk m c 3 t) (iblk m c 4 t) (iblk m c 5 t) (X0_6 m c t) (X0_7 m c t) (X0_8 m c t) (iblk m c 9 t) (iblk m c 10 t) (iblk m c 11 t) _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 72 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every fair execution terminates, leaves the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Math.lean ====
/- The mathematics of the backward pass of gated linear attention on one sequence, over the reals. A sequence has `N`
   tokens; `q` is the scaled query, `k`, `v` key and value, `o` the gradient of the output, `g` the logarithm of the decay.
   The first part states the gradients as plain sums over pairs of tokens; the second shows that one chunk of `L` tokens,
   given the state that enters it and the gradient of the state that leaves it, computes them. -/
module

public import Idealize.ShloMosaic.PureOps.Ideal
public import Mathlib.Algebra.BigOperators.Intervals
public import Mathlib.Tactic.Linarith

@[expose] public section

noncomputable section

namespace Cert.Gla

open Finset

/-! ## Sums over part of a range -/

theorem sum_fin_le {n : ℕ} (i : Fin n) (F : ℕ → ℝ) :
    ∑ j : Fin n, (if j ≤ i then F j else 0) = ∑ j ∈ range (i + 1), F j := by
  have h := Fin.sum_univ_eq_sum_range (fun j => if j ≤ i.val then F j else 0) n
  rw [show (∑ j : Fin n, (if j ≤ i then F j else 0)) = ∑ j : Fin n, (if j.val ≤ i.val then F j else 0) from rfl, h,
    ← sum_filter]
  congr 1
  ext j
  have := i.isLt
  simp only [mem_filter, mem_range]
  omega

theorem sum_fin_ge {n : ℕ} (i : Fin n) (F : ℕ → ℝ) :
    ∑ j : Fin n, (if i ≤ j then F j else 0) = ∑ j ∈ Ico i.val n, F j := by
  have h := Fin.sum_univ_eq_sum_range (fun j => if i.val ≤ j then F j else 0) n
  rw [show (∑ j : Fin n, (if i ≤ j then F j else 0)) = ∑ j : Fin n, (if i.val ≤ j.val then F j else 0) from rfl, h,
    ← sum_filter]
  congr 1
  ext j
  simp only [mem_filter, mem_range, mem_Ico]
  omega

theorem sum_range_split (s i : ℕ) (F : ℕ → ℝ) :
    ∑ j ∈ range (s + i + 1), F j = ∑ j ∈ range s, F j + ∑ j ∈ range (i + 1), F (s + j) := by
  rw [show s + i + 1 = s + (i + 1) by omega, sum_range_add]

theorem sum_Ico_split (s n N i : ℕ) (hi : i ≤ n) (hN : s + n ≤ N) (F : ℕ → ℝ) :
    ∑ j ∈ Ico (s + i) N, F j = ∑ j ∈ Ico i n, F (s + j) + ∑ j ∈ Ico (s + n) N, F j := by
  rw [← sum_Ico_consecutive F (show s + i ≤ s + n by omega) hN]
  congr 1
  rw [sum_Ico_eq_sum_range, sum_Ico_eq_sum_range, show s + n - (s + i) = n - i by omega]
  exact sum_congr rfl fun j _ => by rw [add_assoc]

/-! ## The gradients -/

/-- The decay of the tokens before `t`, as a logarithm. -/
def cum (g : ℕ → ℝ) (t : ℕ) : ℝ := ∑ j ∈ range t, g j

theorem cum_add (g : ℕ → ℝ) (s i : ℕ) : cum g (s + i) = cum g s + ∑ j ∈ range i, g (s + j) :=
  sum_range_add g s i

variable {K V : Type} [Fintype K] [Fintype V]

/-- One head's sequence: its length and its five rows per token. -/
structure Seq (K V : Type) where
  N : ℕ
  q : ℕ → K → ℝ
  k : ℕ → K → ℝ
  v : ℕ → V → ℝ
  o : ℕ → V → ℝ
  g : ℕ → K → ℝ

namespace Seq

variable (S : Seq K V)

def B (t : ℕ) (c : K) : ℝ := cum (fun j => S.g j c) t

/-- What is left at token `t` of what token `j` wrote. -/
def w (t j : ℕ) (c : K) : ℝ := Real.exp (S.B (t + 1) c - S.B (j + 1) c)

def a (t j : ℕ) : ℝ := ∑ c, S.q t c * S.k j c * S.w t j c

def p (t j : ℕ) : ℝ := ∑ x, S.o t x * S.v j x

def DQ (t : ℕ) (c : K) : ℝ := ∑ j ∈ range (t + 1), S.p t j * S.k j c * S.w t j c

def DK (j : ℕ) (c : K) : ℝ := ∑ t ∈ Ico j S.N, S.p t j * S.q t c * S.w t j c

def DV (j : ℕ) (x : V) : ℝ := ∑ t ∈ Ico j S.N, S.a t j * S.o t x

def M (t j : ℕ) (c : K) : ℝ := S.q t c * S.k j c * S.w t j c * S.p t j

/-- The gradient of the decay of token `u`: every pair of a token before `u` and one from `u` on crosses it. -/
def DG (u : ℕ) (c : K) : ℝ := ∑ t ∈ Ico u S.N, ∑ j ∈ range u, S.M t j c

/-- The state that enters token `s`. -/
def ST (s : ℕ) (x : V) (c : K) : ℝ := ∑ j ∈ range s, S.v j x * (S.k j c * Real.exp (S.B s c - S.B (j + 1) c))

/-- The gradient of the state that enters token `e`. -/
def DST (e : ℕ) (x : V) (c : K) : ℝ := ∑ t ∈ Ico e S.N, S.o t x * (S.q t c * Real.exp (S.B (t + 1) c - S.B e c))

theorem w_split (t j e : ℕ) (c : K) :
    S.w t j c = Real.exp (S.B (t + 1) c - S.B e c) * Real.exp (S.B e c - S.B (j + 1) c) := by
  rw [← Real.exp_add, w]; congr 1; ring

/-- The row sums less the column sums are the steps of the gradient of the decay. -/
theorem DG_step (u : ℕ) (hu : u < S.N) (c : K) :
    S.DG u c = S.DG (u + 1) c + (∑ j ∈ range (u + 1), S.M u j c - ∑ t ∈ Ico u S.N, S.M t u c) := by
  unfold DG
  rw [sum_eq_sum_Ico_succ_bot hu, sum_eq_sum_Ico_succ_bot hu (fun t => S.M t u c)]
  simp only [sum_range_succ, sum_add_distrib]
  ring

theorem DG_telescope (u n : ℕ) (h : u + n ≤ S.N) (c : K) :
    S.DG u c = ∑ i ∈ Ico u (u + n), (∑ j ∈ range (i + 1), S.M i j c - ∑ t ∈ Ico i S.N, S.M t i c) + S.DG (u + n) c := by
  induction n with
  | zero => simp
  | succ n ih =>
    rw [ih (by omega), S.DG_step (u + n) (by omega), ← add_assoc u n 1, sum_Ico_succ_top (by omega)]
    ring

theorem DG_last (c : K) : S.DG S.N c = 0 := by simp [DG]

theorem DG_zero (c : K) : S.DG 0 c = 0 := by simp [DG]

/-- Summed from the end of the sequence. -/
theorem DG_suffix (u : ℕ) (h : u ≤ S.N) (c : K) :
    S.DG u c = ∑ i ∈ Ico u S.N, (∑ j ∈ range (i + 1), S.M i j c - ∑ t ∈ Ico i S.N, S.M t i c) := by
  have := S.DG_telescope u (S.N - u) (by omega) c
  rw [show u + (S.N - u) = S.N by omega, S.DG_last, add_zero] at this
  exact this

/-- Summed from the beginning, where no token before `u` has a gradient of its output. -/
theorem DG_prefix (u : ℕ) (h : u ≤ S.N) (hz : ∀ t < u, ∀ x, S.o t x = 0) (c : K) :
    S.DG u c = ∑ i ∈ range u, ∑ t ∈ Ico i S.N, S.M t i c := by
  have := S.DG_telescope 0 u (by omega) c
  rw [S.DG_zero, zero_add] at this
  have hM : ∀ t < u, ∀ j, S.M t j c = 0 := fun t ht j => by
    have : S.p t j = 0 := sum_eq_zero fun x _ => by rw [hz t ht x, zero_mul]
    rw [M, this, mul_zero]
  have h2 : ∑ i ∈ Ico 0 u, (∑ j ∈ range (i + 1), S.M i j c - ∑ t ∈ Ico i S.N, S.M t i c)
      = - ∑ i ∈ range u, ∑ t ∈ Ico i S.N, S.M t i c := by
    rw [← sum_neg_distrib, range_eq_Ico]
    refine sum_congr rfl fun i hi => ?_
    rw [sum_eq_zero fun j _ => hM i (mem_Ico.mp hi).2 j, zero_sub]
  rw [h2] at this
  linarith

/-! ## One chunk

`e` is the order of the chunk's rows: row `x` holds token `s + e x`. -/

variable {L : ℕ} (s : ℕ) (e : Fin L ≃ Fin L)

/-- The decay within the chunk up to and including row `x`. -/
def bc (x : Fin L) (c : K) : ℝ := ∑ j : Fin L, (if e j ≤ e x then 1 else 0) * S.g (s + e j) c

def bl (c : K) : ℝ := ∑ j : Fin L, S.g (s + e j) c

theorem bc_eq (x : Fin L) (c : K) : S.bc s e x c = S.B (s + e x + 1) c - S.B s c := by
  unfold bc B
  rw [Equiv.sum_comp e (fun j => (if j ≤ e x then (1 : ℝ) else 0) * S.g (s + j) c)]
  simp only [ite_mul, one_mul, zero_mul]
  rw [sum_fin_le (e x) (fun j => S.g (s + j) c), add_assoc s, cum_add]
  ring

theorem bl_eq (c : K) : S.bl s e c = S.B (s + L) c - S.B s c := by
  unfold bl B
  rw [Equiv.sum_comp e (fun j => S.g (s + j) c), Fin.sum_univ_eq_sum_range (fun j => S.g (s + j) c), cum_add]
  ring

def cdatt (x j : Fin L) : ℝ := if e j ≤ e x then ∑ y, S.o (s + e x) y * S.v (s + e j) y else 0

def cqs (x : Fin L) (c : K) : ℝ := S.q (s + e x) c * Real.exp (S.bc s e x c)

def cks (x : Fin L) (c : K) : ℝ := S.k (s + e x) c * Real.exp (- S.bc s e x c)

def ckd (x : Fin L) (c : K) : ℝ := S.k (s + e x) c * Real.exp (S.bl s e c - S.bc s e x c)

def catt (x j : Fin L) : ℝ := if e j ≤ e x then ∑ c, S.cqs s e x c * S.cks s e j c else 0

def cdqs (st : V → K → ℝ) (x : Fin L) (c : K) : ℝ :=
  ∑ y, S.o (s + e x) y * st y c + ∑ j, S.cdatt s e x j * S.cks s e j c

def cdks (x : Fin L) (c : K) : ℝ := ∑ t, S.cdatt s e t x * S.cqs s e t c

def cdkd (dst : V → K → ℝ) (x : Fin L) (c : K) : ℝ := ∑ y, S.v (s + e x) y * dst y c

theorem cqs_cks (x j : Fin L) (c : K) :
    S.cqs s e x c * S.cks s e j c = S.q (s + e x) c * S.k (s + e j) c * S.w (s + e x) (s + e j) c := by
  unfold cqs cks
  rw [S.w_split _ _ s, bc_eq, bc_eq, show -(S.B (s + ↑(e j) + 1) c - S.B s c) = S.B s c - S.B (s + ↑(e j) + 1) c by ring]
  ring

theorem catt_eq (x j : Fin L) : S.catt s e x j = if e j ≤ e x then S.a (s + e x) (s + e j) else 0 := by
  unfold catt a
  simp only [cqs_cks]

theorem chunk_dq (x : Fin L) (c : K) :
    S.cdqs s e (S.ST s) x c * Real.exp (S.bc s e x c) = S.DQ (s + e x) c := by
  unfold cdqs DQ
  rw [sum_range_split, add_mul]
  congr 1
  · unfold ST p
    simp only [mul_sum, sum_mul]
    rw [sum_comm]
    refine sum_congr rfl fun j _ => sum_congr rfl fun y _ => ?_
    rw [S.w_split _ _ s, bc_eq]
    ring
  · rw [← sum_fin_le (e x) (fun j => S.p (s + e x) (s + j) * S.k (s + j) c * S.w (s + e x) (s + j) c)]
    refine Eq.trans ?_ (Equiv.sum_comp e _)
    rw [sum_mul]
    refine sum_congr rfl fun j _ => ?_
    unfold cdatt p
    split_ifs
    · unfold cks
      rw [S.w_split _ _ s, bc_eq, bc_eq,
        show -(S.B (s + ↑(e j) + 1) c - S.B s c) = S.B s c - S.B (s + ↑(e j) + 1) c by ring]
      ring
    · simp

theorem chunk_dk (hs : s + L ≤ S.N) (x : Fin L) (c : K) :
    S.cdks s e x c * Real.exp (- S.bc s e x c) + S.cdkd s e (S.DST (s + L)) x c * Real.exp (S.bl s e c - S.bc s e x c)
      = S.DK (s + e x) c := by
  unfold DK
  rw [sum_Ico_split s L S.N _ (e x).isLt.le hs]
  congr 1
  · rw [← sum_fin_ge (e x) (fun t => S.p (s + t) (s + e x) * S.q (s + t) c * S.w (s + t) (s + e x) c)]
    refine Eq.trans ?_ (Equiv.sum_comp e _)
    unfold cdks
    rw [sum_mul]
    refine sum_congr rfl fun t _ => ?_
    unfold cdatt p
    split_ifs
    · unfold cqs
      rw [S.w_split _ _ s, bc_eq, bc_eq,
        show -(S.B (s + ↑(e x) + 1) c - S.B s c) = S.B s c - S.B (s + ↑(e x) + 1) c by ring]
      ring
    · simp
  · unfold cdkd DST p
    simp only [mul_sum, sum_mul]
    rw [sum_comm]
    refine sum_congr rfl fun t _ => sum_congr rfl fun y _ => ?_
    rw [S.w_split _ _ (s + L), bc_eq, bl_eq,
      show S.B (s + L) c - S.B s c - (S.B (s + ↑(e x) + 1) c - S.B s c) = S.B (s + L) c - S.B (s + ↑(e x) + 1) c by ring]
    ring

theorem chunk_dv (hs : s + L ≤ S.N) (x : Fin L) (y : V) :
    ∑ t, S.catt s e t x * S.o (s + e t) y + ∑ c, S.ckd s e x c * S.DST (s + L) y c = S.DV (s + e x) y := by
  unfold DV
  rw [sum_Ico_split s L S.N _ (e x).isLt.le hs]
  congr 1
  · rw [← sum_fin_ge (e x) (fun t => S.a (s + t) (s + e x) * S.o (s + t) y)]
    refine Eq.trans ?_ (Equiv.sum_comp e _)
    refine sum_congr rfl fun t _ => ?_
    rw [catt_eq]
    split_ifs <;> simp
  · unfold DST a
    simp only [mul_sum, sum_mul]
    rw [sum_comm]
    refine sum_congr rfl fun t _ => sum_congr rfl fun c _ => ?_
    unfold ckd
    rw [S.w_split _ _ (s + L), bc_eq, bl_eq,
      show S.B (s + L) c - S.B s c - (S.B (s + ↑(e x) + 1) c - S.B s c) = S.B (s + L) c - S.B (s + ↑(e x) + 1) c by ring]
    ring

theorem cdqs_cqs (x : Fin L) (c : K) :
    S.cdqs s e (S.ST s) x c * S.cqs s e x c = ∑ j ∈ range (s + e x + 1), S.M (s + e x) j c := by
  have h := S.chunk_dq s e x c
  unfold cqs
  rw [show S.cdqs s e (S.ST s) x c * (S.q (s + ↑(e x)) c * Real.exp (S.bc s e x c))
    = (S.cdqs s e (S.ST s) x c * Real.exp (S.bc s e x c)) * S.q (s + ↑(e x)) c by ring, h]
  unfold DQ M
  rw [sum_mul]
  exact sum_congr rfl fun j _ => by ring

theorem cdks_cks (hs : s + L ≤ S.N) (x : Fin L) (c : K) :
    S.cdks s e x c * S.cks s e x c + S.cdkd s e (S.DST (s + L)) x c * S.ckd s e x c
      = ∑ t ∈ Ico (s + e x) S.N, S.M t (s + e x) c := by
  have h := S.chunk_dk s e hs x c
  unfold cks ckd
  rw [show S.cdks s e x c * (S.k (s + ↑(e x)) c * Real.exp (-S.bc s e x c))
      + S.cdkd s e (S.DST (s + L)) x c * (S.k (s + ↑(e x)) c * Real.exp (S.bl s e c - S.bc s e x c))
    = (S.cdks s e x c * Real.exp (-S.bc s e x c)
        + S.cdkd s e (S.DST (s + L)) x c * Real.exp (S.bl s e c - S.bc s e x c)) * S.k (s + ↑(e x)) c by ring, h]
  unfold DK M
  rw [sum_mul]
  exact sum_congr rfl fun j _ => by ring

/-- The gradient of the decay of the whole chunk: the pairs that the chunk's end separates. -/
theorem chunk_dbl (c : K) :
    Real.exp (S.bl s e c) * (∑ y, S.ST s y c * S.DST (s + L) y c)
        + ∑ x, S.cdkd s e (S.DST (s + L)) x c * S.ckd s e x c
      = S.DG (s + L) c := by
  have hM : ∀ t j : ℕ, ∀ y : V,
      S.o t y * (S.q t c * Real.exp (S.B (t + 1) c - S.B (s + L) c))
        * (S.v j y * (S.k j c * Real.exp (S.B (s + L) c - S.B (j + 1) c)))
      = S.q t c * S.k j c * S.w t j c * (S.o t y * S.v j y) := fun t j y => by
    rw [S.w_split _ _ (s + L)]; ring
  unfold DG
  have h1 : ∀ t, ∑ j ∈ range (s + L), S.M t j c
      = ∑ j ∈ range s, S.M t j c + ∑ x, S.M t (s + e x) c := fun t => by
    rw [sum_range_add, Equiv.sum_comp e (fun x => S.M t (s + x) c),
      Fin.sum_univ_eq_sum_range (fun j => S.M t (s + j) c)]
  simp only [h1, sum_add_distrib]
  congr 1
  · unfold ST M p
    simp only [mul_sum, sum_mul, DST]
    rw [sum_comm]
    refine sum_congr rfl fun t _ => ?_
    rw [sum_comm]
    refine sum_congr rfl fun j _ => sum_congr rfl fun y _ => ?_
    rw [← hM t j y, bl_eq, show S.B (s + L) c - S.B (j + 1) c = (S.B (s + L) c - S.B s c) + (S.B s c - S.B (j + 1) c) by ring,
      Real.exp_add]
    ring
  · unfold cdkd M p
    simp only [mul_sum, sum_mul, DST]
    rw [sum_comm (s := Ico (s + L) S.N)]
    refine sum_congr rfl fun x _ => ?_
    rw [sum_comm]
    refine sum_congr rfl fun t _ => sum_congr rfl fun y _ => ?_
    rw [← hM t (s + e x) y]
    unfold ckd
    rw [bc_eq, bl_eq, show S.B (s + L) c - S.B s c - (S.B (s + ↑(e x) + 1) c - S.B s c) = S.B (s + L) c - S.B (s + ↑(e x) + 1) c by ring]
    ring

def cdbs (st dst : V → K → ℝ) (x : Fin L) (c : K) : ℝ :=
  S.cdqs s e st x c * S.cqs s e x c - S.cdks s e x c * S.cks s e x c - S.cdkd s e dst x c * S.ckd s e x c

theorem chunk_dg (hs : s + L ≤ S.N) (x : Fin L) (c : K) :
    ∑ j : Fin L, (if e x ≤ e j then 1 else 0) * S.cdbs s e (S.ST s) (S.DST (s + L)) j c
        + (Real.exp (S.bl s e c) * (∑ y, S.ST s y c * S.DST (s + L) y c)
          + ∑ x, S.cdkd s e (S.DST (s + L)) x c * S.ckd s e x c)
      = S.DG (s + e x) c := by
  have hx := (e x).isLt
  rw [chunk_dbl, S.DG_telescope (s + e x) (L - e x) (by omega), show s + (e x).val + (L - (e x).val) = s + L by omega,
    sum_Ico_split s L (s + L) _ hx.le le_rfl]
  simp only [Ico_self, sum_empty, add_zero]
  congr 1
  rw [← sum_fin_ge (e x) (fun i => ∑ j ∈ range (s + i + 1), S.M (s + i) j c - ∑ t ∈ Ico (s + i) S.N, S.M t (s + i) c)]
  refine Eq.trans ?_ (Equiv.sum_comp e _)
  refine sum_congr rfl fun j _ => ?_
  rw [ite_mul, one_mul, zero_mul, ← cdqs_cqs, ← S.cdks_cks s e hs]
  unfold cdbs
  split_ifs <;> ring

/-- The gradient of the state that enters the chunk, from that of the state that leaves it. -/
theorem chunk_dst (hs : s + L ≤ S.N) (y : V) (c : K) :
    ∑ t, S.o (s + e t) y * S.cqs s e t c + S.DST (s + L) y c * Real.exp (S.bl s e c) = S.DST s y c := by
  have h := sum_Ico_split s L S.N 0 (by omega) hs
    (fun t => S.o t y * (S.q t c * Real.exp (S.B (t + 1) c - S.B s c)))
  rw [add_zero] at h
  rw [show S.DST s y c = _ from h]
  congr 1
  · rw [← range_eq_Ico, ← Fin.sum_univ_eq_sum_range
      (fun t => S.o (s + t) y * (S.q (s + t) c * Real.exp (S.B (s + t + 1) c - S.B s c)))]
    refine Eq.trans ?_ (Equiv.sum_comp e _)
    refine sum_congr rfl fun t _ => ?_
    unfold cqs
    rw [bc_eq]
  · unfold DST
    rw [sum_mul]
    refine sum_congr rfl fun t _ => ?_
    rw [bl_eq, show S.B (t + 1) c - S.B s c = (S.B (t + 1) c - S.B (s + L) c) + (S.B (s + L) c - S.B s c) by ring, Real.exp_add]
    ring

/-- The end of the sequence. -/
theorem DST_last (y : V) (c : K) : S.DST S.N y c = 0 := by simp [DST]

end Seq

end Cert.Gla

end
-- ==== Proof.Body.lean ====
/- One grid point of the backward scan as functions on arrays, one function for each intermediate value of one head, and what
   each of them is at real inputs. -/
module

public import proofs.«01_k».proof.KernelIdeal
public import proofs.«01_k».proof.Proof.Math
public import Idealize.ShloMosaic.Lib.Pointwise
public import Idealize.ShloMosaic.Lib.IdealHost

@[expose] public section

set_option maxRecDepth 16384

noncomputable section

namespace Cert.KernelIdeal.Body

open Idealize.ShloMosaic Cert.Gla
open Cert.KernelIdeal Cert.KernelIdeal.Facts₀ Cert.KernelIdeal.Facts

/-- The factor `128 ^ (-1/2)` as the kernel's literal has it. -/
def Q : ℝ := (Ideal.ofBits .f32 0x3DB504F3#32).toReal

theorem Q_coe : Ideal.ofBits .f32 0x3DB504F3#32 = ((Q : ℝ) : EReal) := by
  have h : Ideal.ofBits .f32 0x3DB504F3#32 = ((11863283 * (2 ^ 27)⁻¹ : ℝ) : EReal) := by
    simp [Ideal.ofBits, Ideal.ieee]
  rw [Q, h, EReal.toReal_coe]

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A matrix whose entries are reals. -/
def Is {a b : ℕ} (x : (⟨2, ![a, b]⟩ : Shape).Idx → EReal) (X : Fin a → Fin b → ℝ) : Prop :=
  ∀ r c, x (ix2 r c) = ((X r c : ℝ) : EReal)

/-- A matrix of bits. -/
def IsM (m : IVec S64x64 1) (e : Fin 64 ≃ Fin 64) : Prop :=
  ∀ x j, m (ix2 x j) = if e j ≤ e x then 1#1 else 0#1

section
variable [Facts]

/-! ## The functions -/

def zero (s : Shape) : FVec Ideal s .f32 := constant s .f32 0x00000000#32
def bz (s : Shape) : FVec Ideal s .f32 := broadcast s (Scalar.ofBits .f32 0x00000000#32)
def tf {s : Shape} (x : FVec Ideal s .f32) : FVec Ideal s .bf16 := truncf .bf16 x (by decide)
def ef {s : Shape} (x : FVec Ideal s .bf16) : FVec Ideal s .f32 := extf .f32 x (by decide)

/-- Row number less column number, or the other way round. -/
def diff (b : BitVec 1) : IVec S64x64 32 :=
  Scalar.select b (subi (iota .tc S64x64 32 [0] iota_S64x64_d0_w32) (iota .tc S64x64 32 [1] iota_S64x64_d1_w32))
    (subi (iota .tc S64x64 32 [1] iota_S64x64_d1_w32) (iota .tc S64x64 32 [0] iota_S64x64_d0_w32))

def mask (b : BitVec 1) : IVec S64x64 1 := cmpi .sge (diff b) (broadcast S64x64 0#32)
def maskt (b : BitVec 1) : IVec S64x64 1 := cmpi .sle (diff b) (broadcast S64x64 0#32)

def unit01 (m : IVec S64x64 1) : FVec Ideal S64x64 .bf16 :=
  tf (select m (broadcast S64x64 (Scalar.ofBits .f32 0x3F800000#32)) (bz S64x64))

/-- A product with a 0/1 matrix, taken of three pieces of the operand. -/
def tri (m : FVec Ideal S64x64 .bf16) (g : FVec Ideal S64x512 .f32) : FVec Ideal S64x512 .f32 :=
  have r1 : FVec Ideal S64x512 .f32 := subf g (ef (tf g))
  have r2 : FVec Ideal S64x512 .f32 := subf r1 (ef (tf r1))
  have y : FVec Ideal S64x1536 .f32 := matmul dot_S64x64_S64x1536_S64x1536_1_0_0_1_n_n none m
    (concatenate S64x1536 1 [⟨S64x512, tf g⟩, ⟨S64x512, tf r1⟩, ⟨S64x512, tf r2⟩] concatenates_S64x512_S64x512_S64x512_S64x1536_d1) (zero S64x1536)
  addf (addf (extractStridedSlice S64x512 ![0, 0] y slices_S64x1536_o0_0_S64x512)
    (extractStridedSlice S64x512 ![0, 512] y slices_S64x1536_o0_512_S64x512))
    (extractStridedSlice S64x512 ![0, 1024] y slices_S64x1536_o0_1024_S64x512)

def bl (g : FVec Ideal S64x128 .f32) : FVec Ideal S1x128 .f32 :=
  shapeCast S1x128 (multiReduction .add [0] S128 g 0x00000000#32 reduces_S64x128_S128 (.inl rfl) rfl) shapeCasts_S128_S1x128
def ek (bc : FVec Ideal S64x128 .f32) : FVec Ideal S64x128 .f32 := exp (subf (bz S64x128) bc)
def ed (b : FVec Ideal S1x128 .f32) (bc : FVec Ideal S64x128 .f32) : FVec Ideal S64x128 .f32 :=
  exp (subf (broadcastTo S64x128 b broadcasts_S1x128_S64x128) bc)
def bQ : FVec Ideal S64x128 .f32 := broadcast S64x128 (Scalar.ofBits .f32 0x3DB504F3#32)
def qs (q bc : FVec Ideal S64x128 .f32) : FVec Ideal S64x128 .f32 := mulf (mulf q bQ) (exp bc)
def ks (k bc : FVec Ideal S64x128 .f32) : FVec Ideal S64x128 .f32 := mulf k (ek bc)
def kd (k g bc : FVec Ideal S64x128 .f32) : FVec Ideal S64x128 .f32 := mulf k (ed (bl g) bc)
def att (m : IVec S64x64 1) (x y : FVec Ideal S64x128 .f32) : FVec Ideal S64x64 .f32 :=
  select m (matmul dot_S64x128_S64x128_S64x64_1_1_0_0_n_n none (tf x) (tf y) (zero S64x64)) (bz S64x64)
def datt (m : IVec S64x64 1) (o v : FVec Ideal S64x256 .f32) : FVec Ideal S64x64 .f32 :=
  select m (matmul dot_S64x256_S64x256_S64x64_1_1_0_0_n_n none (tf o) (tf v) (zero S64x64)) (bz S64x64)
/-- Rows of values against a state. -/
def vst (o : FVec Ideal S64x256 .f32) (st : FVec Ideal S256x128 .f32) : FVec Ideal S64x128 .f32 :=
  matmul dot_S64x256_S256x128_S64x128_1_0_0_1_n_n none (tf o) (tf st) (zero S64x128)
def dqs (o : FVec Ideal S64x256 .f32) (st : FVec Ideal S256x128 .f32) (da : FVec Ideal S64x64 .f32) (k : FVec Ideal S64x128 .f32) :
    FVec Ideal S64x128 .f32 :=
  addf (vst o st) (matmul dot_S64x64_S64x128_S64x128_1_0_0_1_n_n none (tf da) (tf k) (zero S64x128))
def dks (da : FVec Ideal S64x64 .f32) (q : FVec Ideal S64x128 .f32) : FVec Ideal S64x128 .f32 :=
  matmul dot_S64x64_S64x128_S64x128_0_0_1_1_n_n none (tf da) (tf q) (zero S64x128)
def dv (a : FVec Ideal S64x64 .f32) (o : FVec Ideal S64x256 .f32) (k : FVec Ideal S64x128 .f32) (dst : FVec Ideal S256x128 .f32) :
    FVec Ideal S64x256 .f32 :=
  addf (matmul dot_S64x64_S64x256_S64x256_0_0_1_1_n_n none (tf a) (tf o) (zero S64x256))
    (matmul dot_S64x128_S256x128_S64x256_1_1_0_0_n_n none (tf k) (tf dst) (zero S64x256))
def dbl (b : FVec Ideal S1x128 .f32) (st dst : FVec Ideal S256x128 .f32) (dk k : FVec Ideal S64x128 .f32) : FVec Ideal S1x128 .f32 :=
  addf (mulf (exp b) (shapeCast S1x128 (multiReduction .add [0] S128 (mulf st dst) 0x00000000#32 reduces_S256x128_S128 (.inl rfl) rfl) shapeCasts_S128_S1x128))
    (bl (mulf dk k))
def ndst (o : FVec Ideal S64x256 .f32) (q : FVec Ideal S64x128 .f32) (b : FVec Ideal S1x128 .f32) (dst : FVec Ideal S256x128 .f32) :
    FVec Ideal S256x128 .f32 :=
  addf (matmul dot_S64x256_S64x128_S256x128_0_0_1_1_n_n none (tf o) (tf q) (zero S256x128))
    (mulf dst (broadcastTo S256x128 (exp b) broadcasts_S1x128_S256x128))
def dq (x bc : FVec Ideal S64x128 .f32) : FVec Ideal S64x128 .f32 := mulf (mulf x (exp bc)) bQ
def dk (x y bc : FVec Ideal S64x128 .f32) (b : FVec Ideal S1x128 .f32) : FVec Ideal S64x128 .f32 :=
  addf (mulf x (ek bc)) (mulf y (ed b bc))
def dbs (x q y k z d : FVec Ideal S64x128 .f32) : FVec Ideal S64x128 .f32 := subf (subf (mulf x q) (mulf y k)) (mulf z d)

/-! ## One head -/

/-- What one head reads at one grid point. -/
structure Head where
  (q k g bc : FVec Ideal S64x128 .f32)
  (v o : FVec Ideal S64x256 .f32)
  (st dst : FVec Ideal S256x128 .f32)

namespace Head
variable (m : IVec S64x64 1) (H : Head)
def hqs := Body.qs H.q H.bc
def hks := Body.ks H.k H.bc
def hkd := Body.kd H.k H.g H.bc
def hdatt := Body.datt m H.o H.v
def hdqs := Body.dqs H.o H.st (H.hdatt m) H.hks
def hdks := Body.dks (H.hdatt m) H.hqs
def hdkd := vst H.v H.dst
def odq := Body.dq (H.hdqs m) H.bc
def odk := Body.dk (H.hdks m) H.hdkd H.bc (Body.bl H.g)
def odv := Body.dv (Body.att m H.hqs H.hks) H.o H.hkd H.dst
def odbs := Body.dbs (H.hdqs m) H.hqs (H.hdks m) H.hks H.hdkd H.hkd
def odbl := Body.dbl (Body.bl H.g) H.st H.dst H.hdkd H.hkd
def ondst := Body.ndst H.o H.hqs (Body.bl H.g) H.dst
end Head

def sl (a : ℕ) (h : S64x512.Slices ![0, a] S64x128) (x : FVec Ideal S64x512 .f32) : FVec Ideal S64x128 .f32 :=
  extractStridedSlice S64x128 ![0, a] x h
def slv (a : ℕ) (h : S64x1024.Slices ![0, a] S64x256) (x : FVec Ideal S64x1024 .f32) : FVec Ideal S64x256 .f32 :=
  extractStridedSlice S64x256 ![0, a] x h

/-- One direction's blocks at one grid point. -/
structure Dir where
  b : BitVec 1
  (q k g : FVec Ideal S64x512 .f32)
  (v o : FVec Ideal S64x1024 .f32)
  (st dst : Fin 4 → FVec Ideal S256x128 .f32)

namespace Dir
variable (D : Dir)
def bc := tri (unit01 (mask D.b)) D.g

def head0 : Head := ⟨sl 0 slices_S64x512_o0_0_S64x128 D.q, sl 0 slices_S64x512_o0_0_S64x128 D.k, sl 0 slices_S64x512_o0_0_S64x128 D.g, sl 0 slices_S64x512_o0_0_S64x128 D.bc,
  slv 0 slices_S64x1024_o0_0_S64x256 D.v, slv 0 slices_S64x1024_o0_0_S64x256 D.o, D.st 0, D.dst 0⟩
def head1 : Head := ⟨sl 128 slices_S64x512_o0_128_S64x128 D.q, sl 128 slices_S64x512_o0_128_S64x128 D.k, sl 128 slices_S64x512_o0_128_S64x128 D.g, sl 128 slices_S64x512_o0_128_S64x128 D.bc,
  slv 256 slices_S64x1024_o0_256_S64x256 D.v, slv 256 slices_S64x1024_o0_256_S64x256 D.o, D.st 1, D.dst 1⟩
def head2 : Head := ⟨sl 256 slices_S64x512_o0_256_S64x128 D.q, sl 256 slices_S64x512_o0_256_S64x128 D.k, sl 256 slices_S64x512_o0_256_S64x128 D.g, sl 256 slices_S64x512_o0_256_S64x128 D.bc,
  slv 512 slices_S64x1024_o0_512_S64x256 D.v, slv 512 slices_S64x1024_o0_512_S64x256 D.o, D.st 2, D.dst 2⟩
def head3 : Head := ⟨sl 384 slices_S64x512_o0_384_S64x128 D.q, sl 384 slices_S64x512_o0_384_S64x128 D.k, sl 384 slices_S64x512_o0_384_S64x128 D.g, sl 384 slices_S64x512_o0_384_S64x128 D.bc,
  slv 768 slices_S64x1024_o0_768_S64x256 D.v, slv 768 slices_S64x1024_o0_768_S64x256 D.o, D.st 3, D.dst 3⟩

def odq : FVec Ideal S64x512 .f32 := concatenate S64x512 1 [⟨S64x128, D.head0.odq (mask D.b)⟩, ⟨S64x128, D.head1.odq (mask D.b)⟩, ⟨S64x128, D.head2.odq (mask D.b)⟩, ⟨S64x128, D.head3.odq (mask D.b)⟩] concatenates_S64x128_S64x128_S64x128_S64x128_S64x512_d1
def odk : FVec Ideal S64x512 .f32 := concatenate S64x512 1 [⟨S64x128, D.head0.odk (mask D.b)⟩, ⟨S64x128, D.head1.odk (mask D.b)⟩, ⟨S64x128, D.head2.odk (mask D.b)⟩, ⟨S64x128, D.head3.odk (mask D.b)⟩] concatenates_S64x128_S64x128_S64x128_S64x128_S64x512_d1
def odv : FVec Ideal S64x1024 .f32 := concatenate S64x1024 1 [⟨S64x256, D.head0.odv (mask D.b)⟩, ⟨S64x256, D.head1.odv (mask D.b)⟩, ⟨S64x256, D.head2.odv (mask D.b)⟩, ⟨S64x256, D.head3.odv (mask D.b)⟩] concatenates_S64x256_S64x256_S64x256_S64x256_S64x1024_d1
def odbs : FVec Ideal S64x512 .f32 := concatenate S64x512 1 [⟨S64x128, D.head0.odbs (mask D.b)⟩, ⟨S64x128, D.head1.odbs (mask D.b)⟩, ⟨S64x128, D.head2.odbs (mask D.b)⟩, ⟨S64x128, D.head3.odbs (mask D.b)⟩] concatenates_S64x128_S64x128_S64x128_S64x128_S64x512_d1
def odbl : FVec Ideal S1x512 .f32 := concatenate S1x512 1 [⟨S1x128, D.head0.odbl⟩, ⟨S1x128, D.head1.odbl⟩, ⟨S1x128, D.head2.odbl⟩, ⟨S1x128, D.head3.odbl⟩] concatenates_S1x128_S1x128_S1x128_S1x128_S1x512_d1
def odg : FVec Ideal S64x512 .f32 := addf (tri (unit01 (maskt D.b)) D.odbs) (broadcastTo S64x512 D.odbl broadcasts_S1x512_S64x512)
end Dir

/-! ## At real inputs -/

theorem zero_apply (s : Shape) (i : s.Idx) : zero s i = 0 := Ideal.ofBits_zero_f32
theorem bz_apply (s : Shape) (i : s.Idx) : bz s i = 0 := Ideal.ofBits_zero_f32
theorem bQ_apply (i : S64x128.Idx) : bQ i = ((Q : ℝ) : EReal) := Q_coe
theorem tf_apply {s : Shape} (x : FVec Ideal s .f32) (i : s.Idx) : tf x i = x i := rfl
theorem ef_apply {s : Shape} (x : FVec Ideal s .bf16) (i : s.Idx) : ef x i = x i := rfl

theorem is_bl {g : FVec Ideal S64x128 .f32} {G} (hg : Is g G) : Is (bl g) (fun _ c => ∑ j, G j c) := by
  intro r c
  pointwise [bl]
  rw [coe_sum]
  exact Finset.sum_congr rfl fun j _ => hg j c

theorem is_exp {a b : ℕ} {x : FVec Ideal ⟨2, ![a, b]⟩ .f32} {X} (h : Is x X) : Is (exp x) (fun r c => Real.exp (X r c)) := by
  intro r c
  pointwise
  rw [h]; rfl

theorem is_ek {bc : FVec Ideal S64x128 .f32} {B} (h : Is bc B) : Is (ek bc) (fun r c => Real.exp (- B r c)) := by
  intro r c
  pointwise [ek]
  rw [bz_apply, h, zero_sub, ← EReal.coe_neg]; rfl

theorem is_ed {b : FVec Ideal S1x128 .f32} {bc : FVec Ideal S64x128 .f32} {L B} (hb : Is b L) (h : Is bc B) :
    Is (ed b bc) (fun r c => Real.exp (L 0 c - B r c)) := by
  intro r c
  pointwise [ed]
  rw [h, hb, ← EReal.coe_sub]; rfl

theorem is_mul {a b : ℕ} {x y : FVec Ideal ⟨2, ![a, b]⟩ .f32} {X Y} (hx : Is x X) (hy : Is y Y) : Is (mulf x y) (fun r c => X r c * Y r c) := by
  intro r c
  pointwise
  rw [hx, hy, EReal.coe_mul]

theorem is_add {a b : ℕ} {x y : FVec Ideal ⟨2, ![a, b]⟩ .f32} {X Y} (hx : Is x X) (hy : Is y Y) : Is (addf x y) (fun r c => X r c + Y r c) := by
  intro r c
  pointwise
  rw [hx, hy, EReal.coe_add]

theorem is_sub {a b : ℕ} {x y : FVec Ideal ⟨2, ![a, b]⟩ .f32} {X Y} (hx : Is x X) (hy : Is y Y) : Is (subf x y) (fun r c => X r c - Y r c) := by
  intro r c
  pointwise
  rw [hx, hy, EReal.coe_sub]

theorem is_bQ : Is bQ (fun _ _ => Q) := fun _ _ => bQ_apply _

/-- A sum of products of reals. -/
theorem sum_coe {n : ℕ} {f g : Fin n → EReal} {F G : Fin n → ℝ} (hf : ∀ k, f k = ((F k : ℝ) : EReal)) (hg : ∀ k, g k = ((G k : ℝ) : EReal)) :
    ∑ k, f k * g k = ((∑ k, F k * G k : ℝ) : EReal) := by
  rw [coe_sum]
  exact Finset.sum_congr rfl fun k _ => by rw [hf, hg, EReal.coe_mul]

theorem is_att {m : IVec S64x64 1} {e} (hm : IsM m e) {x y : FVec Ideal S64x128 .f32} {X Y} (hx : Is x X) (hy : Is y Y) :
    Is (att m x y) (fun r j => if e j ≤ e r then ∑ c, X r c * Y j c else 0) := by
  intro r j
  pointwise [att]
  simp only [tf_apply, zero_apply, bz_apply, zero_add]
  rw [sum_coe (fun k => hx r k) (fun k => hy j k), hm]
  split_ifs <;> rfl

theorem is_datt {m : IVec S64x64 1} {e} (hm : IsM m e) {x y : FVec Ideal S64x256 .f32} {X Y} (hx : Is x X) (hy : Is y Y) :
    Is (datt m x y) (fun r j => if e j ≤ e r then ∑ c, X r c * Y j c else 0) := by
  intro r j
  pointwise [datt]
  simp only [tf_apply, zero_apply, bz_apply, zero_add]
  rw [sum_coe (fun k => hx r k) (fun k => hy j k), hm]
  split_ifs <;> rfl

theorem is_vst {o : FVec Ideal S64x256 .f32} {st : FVec Ideal S256x128 .f32} {O T} (ho : Is o O) (hs : Is st T) :
    Is (vst o st) (fun r c => ∑ y, O r y * T y c) := by
  intro r c
  pointwise [vst]
  simp only [tf_apply, zero_apply, zero_add]
  exact sum_coe (fun k => ho r k) (fun k => hs k c)

theorem is_dqs {o : FVec Ideal S64x256 .f32} {st : FVec Ideal S256x128 .f32} {da : FVec Ideal S64x64 .f32} {k : FVec Ideal S64x128 .f32}
    {O T A K} (ho : Is o O) (hs : Is st T) (ha : Is da A) (hk : Is k K) :
    Is (dqs o st da k) (fun r c => ∑ y, O r y * T y c + ∑ j, A r j * K j c) := by
  refine is_add (is_vst ho hs) fun r c => ?_
  pointwise
  simp only [tf_apply, zero_apply, zero_add]
  exact sum_coe (fun j => ha r j) (fun j => hk j c)

theorem is_dks {da : FVec Ideal S64x64 .f32} {q : FVec Ideal S64x128 .f32} {A K} (ha : Is da A) (hk : Is q K) :
    Is (dks da q) (fun r c => ∑ t, A t r * K t c) := by
  intro r c
  pointwise [dks]
  simp only [tf_apply, zero_apply, zero_add]
  exact sum_coe (fun j => ha j r) (fun j => hk j c)

theorem is_dv {a : FVec Ideal S64x64 .f32} {o : FVec Ideal S64x256 .f32} {k : FVec Ideal S64x128 .f32} {dst : FVec Ideal S256x128 .f32}
    {A O K T} (ha : Is a A) (ho : Is o O) (hk : Is k K) (hs : Is dst T) :
    Is (dv a o k dst) (fun r y => ∑ t, A t r * O t y + ∑ c, K r c * T y c) := by
  refine is_add (fun r c => ?_) fun r c => ?_
  · pointwise
    simp only [tf_apply, zero_apply, zero_add]
    exact sum_coe (fun j => ha j r) (fun j => ho j c)
  · pointwise
    simp only [tf_apply, zero_apply, zero_add]
    exact sum_coe (fun j => hk r j) (fun j => hs c j)

theorem is_dbl {b : FVec Ideal S1x128 .f32} {st dst : FVec Ideal S256x128 .f32} {dk k : FVec Ideal S64x128 .f32} {L T T' D K}
    (hb : Is b L) (hs : Is st T) (hs' : Is dst T') (hd : Is dk D) (hk : Is k K) :
    Is (dbl b st dst dk k) (fun r c => Real.exp (L r c) * (∑ y, T y c * T' y c) + ∑ x, D x c * K x c) := by
  refine is_add (is_mul (is_exp hb) fun r c => ?_) (is_bl (is_mul hd hk))
  pointwise
  exact sum_coe (fun y => hs y c) (fun y => hs' y c)

theorem is_ndst {o : FVec Ideal S64x256 .f32} {q : FVec Ideal S64x128 .f32} {b : FVec Ideal S1x128 .f32} {dst : FVec Ideal S256x128 .f32}
    {O X L T} (ho : Is o O) (hq : Is q X) (hb : Is b L) (hs : Is dst T) :
    Is (ndst o q b dst) (fun y c => ∑ t, O t y * X t c + T y c * Real.exp (L 0 c)) := by
  refine is_add (fun r c => ?_) (is_mul hs fun r c => ?_)
  · pointwise
    simp only [tf_apply, zero_apply, zero_add]
    exact sum_coe (fun j => ho j r) (fun j => hq j c)
  · pointwise
    rw [hb]; rfl

theorem is_tri {m : FVec Ideal S64x64 .bf16} {g : FVec Ideal S64x512 .f32} {M G} (hm : Is m M) (hg : Is g G) :
    Is (tri m g) (fun r c => ∑ j, M r j * G j c) := by
  intro r c
  have h0 : ∀ j c, subf g (ef (tf g)) (ix2 j c) = 0 := fun j c => by
    pointwise
    rw [ef_apply, tf_apply, hg, ← EReal.coe_sub, sub_self, EReal.coe_zero]
  have h1 : ∀ j c, subf (subf g (ef (tf g))) (ef (tf (subf g (ef (tf g))))) (ix2 j c) = 0 := fun j c => by
    show subf g (ef (tf g)) (ix2 j c) - subf g (ef (tf g)) (ix2 j c) = 0
    rw [h0, sub_zero]
  have c1 : ¬ 1024 + c.val < 512 := by omega
  have c2 : ¬ 1024 + c.val - 512 < 512 := by omega
  pointwise [tri]
  simp only [tf_apply, ef_apply, zero_apply, zero_add, h0, h1, dif_neg c1, dif_neg c2, mul_zero, Finset.sum_const_zero, add_zero]
  exact sum_coe (fun j => hm r j) (fun j => hg j c)

theorem is_unit01 {m : IVec S64x64 1} {p : Fin 64 → Fin 64 → Prop} [∀ x j, Decidable (p x j)]
    (hm : ∀ x j, m (ix2 x j) = if p x j then 1#1 else 0#1) :
    Is (unit01 m) (fun x j => if p x j then 1 else 0) := by
  intro r c
  pointwise [unit01]
  rw [tf_apply]
  pointwise
  rw [hm, bz_apply]
  split_ifs <;> rfl

/-! ## The masks -/

def d64 (b : BitVec 1) (x j : Fin 64) : BitVec 32 :=
  Scalar.select b (IntOp.subi (BitVec.ofNat 32 x.val) (BitVec.ofNat 32 j.val)) (IntOp.subi (BitVec.ofNat 32 j.val) (BitVec.ofNat 32 x.val))

theorem mask_apply (b : BitVec 1) (x j : Fin 64) : mask b (ix2 x j) = IntOp.cmpi .sge (d64 b x j) 0#32 := by
  pointwise [mask, diff, d64]

theorem maskt_apply (b : BitVec 1) (x j : Fin 64) : maskt b (ix2 x j) = IntOp.cmpi .sle (d64 b x j) 0#32 := by
  pointwise [maskt, diff, d64]

theorem mask_true : IsM (mask 1#1) (Equiv.refl _) := fun x j => by
  rw [mask_apply]; clear * -; revert x j; decide +kernel

theorem maskt_true : ∀ x j, maskt 1#1 (ix2 x j) = if x ≤ j then 1#1 else 0#1 := fun x j => by
  rw [maskt_apply]; clear * -; revert x j; decide +kernel

theorem mask_false : IsM (mask 0#1) Fin.revPerm := fun x j => by
  rw [mask_apply]; clear * -; revert x j; decide +kernel

theorem maskt_false : ∀ x j, maskt 0#1 (ix2 x j) = if Fin.revPerm x ≤ Fin.revPerm j then 1#1 else 0#1 := fun x j => by
  rw [maskt_apply]; clear * -; revert x j; decide +kernel

end

end Cert.KernelIdeal.Body

end
-- ==== Proof.BodyVal.lean ====
/- What one grid point leaves, at real inputs: the gradients of the tokens of its chunk, from the state that enters the chunk
   and the gradient of the state that leaves it. -/
module

public import proofs.«01_k».proof.Proof.Body

@[expose] public section

set_option maxRecDepth 16384

noncomputable section

namespace Cert.KernelIdeal.Body

open Idealize.ShloMosaic Cert.Gla
open Cert.KernelIdeal Cert.KernelIdeal.Facts₀ Cert.KernelIdeal.Facts

/-! ## Columns: head and lane -/

def hd (C : Fin 512) : Fin 4 := ⟨C.val / 128, by omega⟩
def ln (C : Fin 512) : Fin 128 := ⟨C.val % 128, by omega⟩
def hdv (C : Fin 1024) : Fin 4 := ⟨C.val / 256, by omega⟩
def lnv (C : Fin 1024) : Fin 256 := ⟨C.val % 256, by omega⟩
def col (h : Fin 4) (c : Fin 128) : Fin 512 := ⟨128 * h.val + c.val, by omega⟩
def colv (h : Fin 4) (c : Fin 256) : Fin 1024 := ⟨256 * h.val + c.val, by omega⟩

theorem hd_col (h : Fin 4) (c : Fin 128) : hd (col h c) = h := Fin.ext (by unfold hd col; dsimp only; omega)
theorem ln_col (h : Fin 4) (c : Fin 128) : ln (col h c) = c := Fin.ext (by unfold ln col; dsimp only; omega)
theorem hdv_col (h : Fin 4) (c : Fin 256) : hdv (colv h c) = h := Fin.ext (by unfold hdv colv; dsimp only; omega)
theorem lnv_col (h : Fin 4) (c : Fin 256) : lnv (colv h c) = c := Fin.ext (by unfold lnv colv; dsimp only; omega)
theorem col_eq (C : Fin 512) : ∃ h c, C = col h c := ⟨hd C, ln C, Fin.ext (by unfold hd ln col; dsimp only; omega)⟩
theorem colv_eq (C : Fin 1024) : ∃ h c, C = colv h c := ⟨hdv C, lnv C, Fin.ext (by unfold hdv lnv colv; dsimp only; omega)⟩

section
variable [Facts]

theorem is_sl {x : FVec Ideal S64x512 .f32} {X : Fin 4 → Fin 64 → Fin 128 → ℝ} (hx : Is x (fun r C => X (hd C) r (ln C)))
    (h : Fin 4) (a : ℕ) (ha : S64x512.Slices ![0, a] S64x128) (e : a = 128 * h.val) : Is (sl a ha x) (X h) := by
  intro r c
  subst e
  have := hx r (col h c)
  simp only [hd_col, ln_col] at this
  rw [← this]
  unfold sl
  pointwise
  rfl

theorem is_slv {x : FVec Ideal S64x1024 .f32} {X : Fin 4 → Fin 64 → Fin 256 → ℝ} (hx : Is x (fun r C => X (hdv C) r (lnv C)))
    (h : Fin 4) (a : ℕ) (ha : S64x1024.Slices ![0, a] S64x256) (e : a = 256 * h.val) : Is (slv a ha x) (X h) := by
  intro r c
  subst e
  have := hx r (colv h c)
  simp only [hdv_col, lnv_col] at this
  rw [← this]
  unfold slv
  pointwise
  rfl

theorem at_ix2 {n m : ℕ} {i : (⟨2, ![n, m]⟩ : Shape).Idx} {r : Fin n} {c : Fin m} (h0 : (i 0).val = r.val) (h1 : (i 1).val = c.val) : i = ix2 r c := by
  funext b
  match b with
  | 0 => exact Fin.ext h0
  | 1 => exact Fin.ext h1

theorem is_cat {n : ℕ} {a0 a1 a2 a3 : FVec Ideal ⟨2, ![n, 128]⟩ .f32} {A : Fin 4 → Fin n → Fin 128 → ℝ}
    (h0 : Is a0 (A 0)) (h1 : Is a1 (A 1)) (h2 : Is a2 (A 2)) (h3 : Is a3 (A 3))
    (hc : Shape.Concatenates [⟨2, ![n, 128]⟩, ⟨2, ![n, 128]⟩, ⟨2, ![n, 128]⟩, ⟨2, ![n, 128]⟩] ⟨2, ![n, 512]⟩ 1) :
    Is (concatenate ⟨2, ![n, 512]⟩ 1 [⟨⟨2, ![n, 128]⟩, a0⟩, ⟨⟨2, ![n, 128]⟩, a1⟩, ⟨⟨2, ![n, 128]⟩, a2⟩, ⟨⟨2, ![n, 128]⟩, a3⟩] hc)
      (fun r C => A (hd C) r (ln C)) := by
  intro r C
  obtain ⟨h, c, rfl⟩ := col_eq C
  simp only [hd_col, ln_col]
  have hcl := c.isLt
  match h with
  | 0 => rw [← h0]; unfold col; pointwise; first | exact congrArg a0 (at_ix2 rfl (by first | rfl | (change c.val = c.val; omega))) | (rw [dif_pos (by omega)]; exact congrArg a0 (at_ix2 rfl (by first | rfl | (change c.val = c.val; omega))))
  | 1 => rw [← h1]; unfold col; pointwise; first | exact congrArg a1 (at_ix2 rfl (by first | rfl | (change 128 + c.val - 128 = c.val; omega))) | (rw [dif_neg (by omega), dif_pos (by omega)]; exact congrArg a1 (at_ix2 rfl (by first | rfl | (change 128 + c.val - 128 = c.val; omega))))
  | 2 => rw [← h2]; unfold col; pointwise; first | exact congrArg a2 (at_ix2 rfl (by first | rfl | (change 256 + c.val - 128 - 128 = c.val; omega))) | (rw [dif_neg (by omega), dif_neg (by omega), dif_pos (by omega)]; exact congrArg a2 (at_ix2 rfl (by first | rfl | (change 256 + c.val - 128 - 128 = c.val; omega))))
  | 3 => rw [← h3]; unfold col; pointwise; first | exact congrArg a3 (at_ix2 rfl (by first | rfl | (change 384 + c.val - 128 - 128 - 128 = c.val; omega))) | (rw [dif_neg (by omega), dif_neg (by omega), dif_neg (by omega)]; exact congrArg a3 (at_ix2 rfl (by first | rfl | (change 384 + c.val - 128 - 128 - 128 = c.val; omega))))

theorem is_catv {n : ℕ} {a0 a1 a2 a3 : FVec Ideal ⟨2, ![n, 256]⟩ .f32} {A : Fin 4 → Fin n → Fin 256 → ℝ}
    (h0 : Is a0 (A 0)) (h1 : Is a1 (A 1)) (h2 : Is a2 (A 2)) (h3 : Is a3 (A 3))
    (hc : Shape.Concatenates [⟨2, ![n, 256]⟩, ⟨2, ![n, 256]⟩, ⟨2, ![n, 256]⟩, ⟨2, ![n, 256]⟩] ⟨2, ![n, 1024]⟩ 1) :
    Is (concatenate ⟨2, ![n, 1024]⟩ 1 [⟨⟨2, ![n, 256]⟩, a0⟩, ⟨⟨2, ![n, 256]⟩, a1⟩, ⟨⟨2, ![n, 256]⟩, a2⟩, ⟨⟨2, ![n, 256]⟩, a3⟩] hc)
      (fun r C => A (hdv C) r (lnv C)) := by
  intro r C
  obtain ⟨h, c, rfl⟩ := colv_eq C
  simp only [hdv_col, lnv_col]
  have hcl := c.isLt
  match h with
  | 0 => rw [← h0]; unfold colv; pointwise; first | exact congrArg a0 (at_ix2 rfl (by first | rfl | (change c.val = c.val; omega))) | (rw [dif_pos (by omega)]; exact congrArg a0 (at_ix2 rfl (by first | rfl | (change c.val = c.val; omega))))
  | 1 => rw [← h1]; unfold colv; pointwise; first | exact congrArg a1 (at_ix2 rfl (by first | rfl | (change 256 + c.val - 256 = c.val; omega))) | (rw [dif_neg (by omega), dif_pos (by omega)]; exact congrArg a1 (at_ix2 rfl (by first | rfl | (change 256 + c.val - 256 = c.val; omega))))
  | 2 => rw [← h2]; unfold colv; pointwise; first | exact congrArg a2 (at_ix2 rfl (by first | rfl | (change 512 + c.val - 256 - 256 = c.val; omega))) | (rw [dif_neg (by omega), dif_neg (by omega), dif_pos (by omega)]; exact congrArg a2 (at_ix2 rfl (by first | rfl | (change 512 + c.val - 256 - 256 = c.val; omega))))
  | 3 => rw [← h3]; unfold colv; pointwise; first | exact congrArg a3 (at_ix2 rfl (by first | rfl | (change 768 + c.val - 256 - 256 - 256 = c.val; omega))) | (rw [dif_neg (by omega), dif_neg (by omega), dif_neg (by omega)]; exact congrArg a3 (at_ix2 rfl (by first | rfl | (change 768 + c.val - 256 - 256 - 256 = c.val; omega))))

/-! ## One head -/

/-- The sequence of one head, its blocks at the chunk of tokens `s … s + 63` and the states around the chunk. -/
structure HReads (H : Head) (S : Seq (Fin 128) (Fin 256)) (q : ℕ → Fin 128 → ℝ) (e : Fin 64 ≃ Fin 64) (s : ℕ) : Prop where
  hs : s + 64 ≤ S.N
  hq : ∀ t c, S.q t c = q t c * Q
  iq : Is H.q (fun x c => q (s + e x) c)
  ik : Is H.k (fun x c => S.k (s + e x) c)
  ig : Is H.g (fun x c => S.g (s + e x) c)
  ibc : Is H.bc (fun x c => S.bc s e x c)
  iv : Is H.v (fun x c => S.v (s + e x) c)
  io : Is H.o (fun x c => S.o (s + e x) c)
  ist : Is H.st (S.ST s)
  idst : Is H.dst (S.DST (s + 64))

theorem Is.to {a b : ℕ} {x : (⟨2, ![a, b]⟩ : Shape).Idx → EReal} {X Y : Fin a → Fin b → ℝ} (h : Is x X) (e : ∀ r c, X r c = Y r c) : Is x Y :=
  fun r c => (h r c).trans (congrArg _ (e r c))

namespace HReads
variable {m : IVec S64x64 1} {H : Head} {S : Seq (Fin 128) (Fin 256)} {q : ℕ → Fin 128 → ℝ} {e : Fin 64 ≃ Fin 64} {s : ℕ}

theorem ibl (R : HReads H S q e s) : Is (Body.bl H.g) (fun _ c => S.bl s e c) := is_bl R.ig

theorem hqs (R : HReads H S q e s) : Is H.hqs (S.cqs s e) :=
  (is_mul (is_mul R.iq is_bQ) (is_exp R.ibc)).to fun r c => by rw [Seq.cqs, R.hq]

theorem hks (R : HReads H S q e s) : Is H.hks (S.cks s e) := is_mul R.ik (is_ek R.ibc)

theorem hkd (R : HReads H S q e s) : Is H.hkd (S.ckd s e) := is_mul R.ik (is_ed R.ibl R.ibc)

theorem hdatt (R : HReads H S q e s) (hm : IsM m e) : Is (H.hdatt m) (S.cdatt s e) := is_datt hm R.io R.iv

theorem hdqs (R : HReads H S q e s) (hm : IsM m e) : Is (H.hdqs m) (S.cdqs s e (S.ST s)) := is_dqs R.io R.ist (R.hdatt hm) R.hks

theorem hdks (R : HReads H S q e s) (hm : IsM m e) : Is (H.hdks m) (S.cdks s e) := is_dks (R.hdatt hm) R.hqs

theorem hdkd (R : HReads H S q e s) : Is H.hdkd (S.cdkd s e (S.DST (s + 64))) := is_vst R.iv R.idst

theorem odq (R : HReads H S q e s) (hm : IsM m e) : Is (H.odq m) (fun x c => S.DQ (s + e x) c * Q) :=
  (is_mul (is_mul (R.hdqs hm) (is_exp R.ibc)) is_bQ).to fun x c => by rw [S.chunk_dq]

theorem odk (R : HReads H S q e s) (hm : IsM m e) : Is (H.odk m) (fun x c => S.DK (s + e x) c) :=
  (is_add (is_mul (R.hdks hm) (is_ek R.ibc)) (is_mul R.hdkd (is_ed R.ibl R.ibc))).to fun x c => S.chunk_dk s e R.hs x c

theorem odv (R : HReads H S q e s) (hm : IsM m e) : Is (H.odv m) (fun x c => S.DV (s + e x) c) :=
  (is_dv (is_att hm R.hqs R.hks) R.io R.hkd R.idst).to fun x c => S.chunk_dv s e R.hs x c

theorem odbs (R : HReads H S q e s) (hm : IsM m e) : Is (H.odbs m) (S.cdbs s e (S.ST s) (S.DST (s + 64))) :=
  is_sub (is_sub (is_mul (R.hdqs hm) R.hqs) (is_mul (R.hdks hm) R.hks)) (is_mul R.hdkd R.hkd)

theorem odbl (R : HReads H S q e s) : Is H.odbl (fun _ c => Real.exp (S.bl s e c) * (∑ y, S.ST s y c * S.DST (s + 64) y c)
    + ∑ x, S.cdkd s e (S.DST (s + 64)) x c * S.ckd s e x c) :=
  is_dbl R.ibl R.ist R.idst R.hdkd R.hkd

theorem ondst (R : HReads H S q e s) : Is H.ondst (S.DST s) :=
  (is_ndst R.io R.hqs R.ibl R.idst).to fun y c => S.chunk_dst s e R.hs y c

end HReads
/-! ## One direction -/

/-- The sequences of the four heads, one direction's blocks at a chunk and the states around the chunk. -/
structure DReads (D : Dir) (S : Fin 4 → Seq (Fin 128) (Fin 256)) (q : Fin 4 → ℕ → Fin 128 → ℝ) (e : Fin 64 ≃ Fin 64) (s : ℕ) : Prop where
  hm : IsM (mask D.b) e
  hmt : ∀ x j, maskt D.b (ix2 x j) = if e x ≤ e j then 1#1 else 0#1
  hs : ∀ h, s + 64 ≤ (S h).N
  hq : ∀ h t c, (S h).q t c = q h t c * Q
  iq : Is D.q (fun x C => q (hd C) (s + e x) (ln C))
  ik : Is D.k (fun x C => (S (hd C)).k (s + e x) (ln C))
  ig : Is D.g (fun x C => (S (hd C)).g (s + e x) (ln C))
  iv : Is D.v (fun x C => (S (hdv C)).v (s + e x) (lnv C))
  io : Is D.o (fun x C => (S (hdv C)).o (s + e x) (lnv C))
  ist : ∀ h, Is (D.st h) ((S h).ST s)
  idst : ∀ h, Is (D.dst h) ((S h).DST (s + 64))

namespace DReads
variable {D : Dir} {S : Fin 4 → Seq (Fin 128) (Fin 256)} {q : Fin 4 → ℕ → Fin 128 → ℝ} {e : Fin 64 ≃ Fin 64} {s : ℕ}

theorem ibc (R : DReads D S q e s) : Is D.bc (fun x C => (S (hd C)).bc s e x (ln C)) := is_tri (is_unit01 R.hm) R.ig

theorem reads0 (R : DReads D S q e s) : HReads D.head0 (S 0) (q 0) e s :=
  ⟨R.hs 0, R.hq 0, is_sl (X := fun h x c => q h (s + e x) c) R.iq 0 _ slices_S64x512_o0_0_S64x128 rfl, is_sl (X := fun h x c => (S h).k (s + e x) c) R.ik 0 _ slices_S64x512_o0_0_S64x128 rfl,
    is_sl (X := fun h x c => (S h).g (s + e x) c) R.ig 0 _ slices_S64x512_o0_0_S64x128 rfl, is_sl (X := fun h => (S h).bc s e) R.ibc 0 _ slices_S64x512_o0_0_S64x128 rfl,
    is_slv (X := fun h x c => (S h).v (s + e x) c) R.iv 0 _ slices_S64x1024_o0_0_S64x256 rfl, is_slv (X := fun h x c => (S h).o (s + e x) c) R.io 0 _ slices_S64x1024_o0_0_S64x256 rfl, R.ist 0, R.idst 0⟩

theorem reads1 (R : DReads D S q e s) : HReads D.head1 (S 1) (q 1) e s :=
  ⟨R.hs 1, R.hq 1, is_sl (X := fun h x c => q h (s + e x) c) R.iq 1 _ slices_S64x512_o0_128_S64x128 rfl, is_sl (X := fun h x c => (S h).k (s + e x) c) R.ik 1 _ slices_S64x512_o0_128_S64x128 rfl,
    is_sl (X := fun h x c => (S h).g (s + e x) c) R.ig 1 _ slices_S64x512_o0_128_S64x128 rfl, is_sl (X := fun h => (S h).bc s e) R.ibc 1 _ slices_S64x512_o0_128_S64x128 rfl,
    is_slv (X := fun h x c => (S h).v (s + e x) c) R.iv 1 _ slices_S64x1024_o0_256_S64x256 rfl, is_slv (X := fun h x c => (S h).o (s + e x) c) R.io 1 _ slices_S64x1024_o0_256_S64x256 rfl, R.ist 1, R.idst 1⟩

theorem reads2 (R : DReads D S q e s) : HReads D.head2 (S 2) (q 2) e s :=
  ⟨R.hs 2, R.hq 2, is_sl (X := fun h x c => q h (s + e x) c) R.iq 2 _ slices_S64x512_o0_256_S64x128 rfl, is_sl (X := fun h x c => (S h).k (s + e x) c) R.ik 2 _ slices_S64x512_o0_256_S64x128 rfl,
    is_sl (X := fun h x c => (S h).g (s + e x) c) R.ig 2 _ slices_S64x512_o0_256_S64x128 rfl, is_sl (X := fun h => (S h).bc s e) R.ibc 2 _ slices_S64x512_o0_256_S64x128 rfl,
    is_slv (X := fun h x c => (S h).v (s + e x) c) R.iv 2 _ slices_S64x1024_o0_512_S64x256 rfl, is_slv (X := fun h x c => (S h).o (s + e x) c) R.io 2 _ slices_S64x1024_o0_512_S64x256 rfl, R.ist 2, R.idst 2⟩

theorem reads3 (R : DReads D S q e s) : HReads D.head3 (S 3) (q 3) e s :=
  ⟨R.hs 3, R.hq 3, is_sl (X := fun h x c => q h (s + e x) c) R.iq 3 _ slices_S64x512_o0_384_S64x128 rfl, is_sl (X := fun h x c => (S h).k (s + e x) c) R.ik 3 _ slices_S64x512_o0_384_S64x128 rfl,
    is_sl (X := fun h x c => (S h).g (s + e x) c) R.ig 3 _ slices_S64x512_o0_384_S64x128 rfl, is_sl (X := fun h => (S h).bc s e) R.ibc 3 _ slices_S64x512_o0_384_S64x128 rfl,
    is_slv (X := fun h x c => (S h).v (s + e x) c) R.iv 3 _ slices_S64x1024_o0_768_S64x256 rfl, is_slv (X := fun h x c => (S h).o (s + e x) c) R.io 3 _ slices_S64x1024_o0_768_S64x256 rfl, R.ist 3, R.idst 3⟩

theorem odq (R : DReads D S q e s) : Is D.odq (fun x C => (S (hd C)).DQ (s + e x) (ln C) * Q) :=
  is_cat (A := fun h x c => (S h).DQ (s + e x) c * Q) (R.reads0.odq R.hm) (R.reads1.odq R.hm) (R.reads2.odq R.hm) (R.reads3.odq R.hm) _

theorem odk (R : DReads D S q e s) : Is D.odk (fun x C => (S (hd C)).DK (s + e x) (ln C)) :=
  is_cat (A := fun h x c => (S h).DK (s + e x) c) (R.reads0.odk R.hm) (R.reads1.odk R.hm) (R.reads2.odk R.hm) (R.reads3.odk R.hm) _

theorem odv (R : DReads D S q e s) : Is D.odv (fun x C => (S (hdv C)).DV (s + e x) (lnv C)) :=
  is_catv (A := fun h x c => (S h).DV (s + e x) c) (R.reads0.odv R.hm) (R.reads1.odv R.hm) (R.reads2.odv R.hm) (R.reads3.odv R.hm) _

theorem odbs (R : DReads D S q e s) : Is D.odbs (fun x C => (S (hd C)).cdbs s e ((S (hd C)).ST s) ((S (hd C)).DST (s + 64)) x (ln C)) :=
  is_cat (A := fun h x c => (S h).cdbs s e ((S h).ST s) ((S h).DST (s + 64)) x c) (R.reads0.odbs R.hm) (R.reads1.odbs R.hm) (R.reads2.odbs R.hm) (R.reads3.odbs R.hm) _

theorem odbl (R : DReads D S q e s) : Is D.odbl (fun _ C => Real.exp ((S (hd C)).bl s e (ln C)) * (∑ y, (S (hd C)).ST s y (ln C) * (S (hd C)).DST (s + 64) y (ln C))
    + ∑ x, (S (hd C)).cdkd s e ((S (hd C)).DST (s + 64)) x (ln C) * (S (hd C)).ckd s e x (ln C)) :=
  is_cat (A := fun h _ c => Real.exp ((S h).bl s e c) * (∑ y, (S h).ST s y c * (S h).DST (s + 64) y c)
    + ∑ x, (S h).cdkd s e ((S h).DST (s + 64)) x c * (S h).ckd s e x c) R.reads0.odbl R.reads1.odbl R.reads2.odbl R.reads3.odbl _

theorem odg (R : DReads D S q e s) : Is D.odg (fun x C => (S (hd C)).DG (s + e x) (ln C)) := by
  refine (is_add (is_tri (is_unit01 R.hmt) R.odbs) (Y := fun _ C => _) fun r C => ?_).to fun x C => (S (hd C)).chunk_dg s e (R.hs _) x (ln C)
  have h := R.odbl 0 C
  pointwise
  exact h

end DReads
end

end Cert.KernelIdeal.Body

end
-- ==== Proof.Bridge.lean ====
/- What the two cases of a grid point leave, in the words of `Body`: each output is the direction's function of its blocks, and the
   scratch afterwards holds the new gradient of the state, one row for each direction and head. -/
module

public import proofs.«01_k».proof.Proof.OutsKernelIdeal
public import proofs.«01_k».proof.Proof.BodyVal

@[expose] public section

set_option maxRecDepth 16384

noncomputable section

namespace Cert.KernelIdeal.Hand

open Cert.KernelIdeal.Gen
open Cert.KernelIdeal.Body
open Idealize.ShloMosaic Idealize.ShloMosaic.TcCoe Idealize.ShloMosaic.Tactic

set_option maxHeartbeats 4000000

/-- The four states of a block, one for each head. -/
def stv (x : Vec Ideal S1x1x4x256x128 .f32) : Fin 4 → FVec Ideal S256x128 .f32
  | 0 => shapeCast S256x128 (View.ld x (Rect.unit ![0, 0, 0, 0, 0] ![1, 1, 1, 256, 128] inb_S1x1x4x256x128_S1x1x1x256x128_0_0_0_0_0)) shapeCasts_S1x1x1x256x128_S256x128
  | 1 => shapeCast S256x128 (View.ld x (Rect.unit ![0, 0, 1, 0, 0] ![1, 1, 1, 256, 128] inb_S1x1x4x256x128_S1x1x1x256x128_0_0_1_0_0)) shapeCasts_S1x1x1x256x128_S256x128
  | 2 => shapeCast S256x128 (View.ld x (Rect.unit ![0, 0, 2, 0, 0] ![1, 1, 1, 256, 128] inb_S1x1x4x256x128_S1x1x1x256x128_0_0_2_0_0)) shapeCasts_S1x1x1x256x128_S256x128
  | 3 => shapeCast S256x128 (View.ld x (Rect.unit ![0, 0, 3, 0, 0] ![1, 1, 1, 256, 128] inb_S1x1x4x256x128_S1x1x1x256x128_0_0_3_0_0)) shapeCasts_S1x1x1x256x128_S256x128

/-- The gradients of the states that the scratch holds for direction 0. -/
def sc0 (x : Vec Ideal S8x256x128 .f32) : Fin 4 → FVec Ideal S256x128 .f32
  | 0 => shapeCast S256x128 (View.ld x (Rect.unit ![0, 0, 0] ![1, 256, 128] inb_S8x256x128_S1x256x128_0_0_0)) shapeCasts_S1x256x128_S256x128
  | 1 => shapeCast S256x128 (View.ld x (Rect.unit ![1, 0, 0] ![1, 256, 128] inb_S8x256x128_S1x256x128_1_0_0)) shapeCasts_S1x256x128_S256x128
  | 2 => shapeCast S256x128 (View.ld x (Rect.unit ![2, 0, 0] ![1, 256, 128] inb_S8x256x128_S1x256x128_2_0_0)) shapeCasts_S1x256x128_S256x128
  | 3 => shapeCast S256x128 (View.ld x (Rect.unit ![3, 0, 0] ![1, 256, 128] inb_S8x256x128_S1x256x128_3_0_0)) shapeCasts_S1x256x128_S256x128

/-- The gradients of the states that the scratch holds for direction 1. -/
def sc1 (x : Vec Ideal S8x256x128 .f32) : Fin 4 → FVec Ideal S256x128 .f32
  | 0 => shapeCast S256x128 (View.ld x (Rect.unit ![4, 0, 0] ![1, 256, 128] inb_S8x256x128_S1x256x128_4_0_0)) shapeCasts_S1x256x128_S256x128
  | 1 => shapeCast S256x128 (View.ld x (Rect.unit ![5, 0, 0] ![1, 256, 128] inb_S8x256x128_S1x256x128_5_0_0)) shapeCasts_S1x256x128_S256x128
  | 2 => shapeCast S256x128 (View.ld x (Rect.unit ![6, 0, 0] ![1, 256, 128] inb_S8x256x128_S1x256x128_6_0_0)) shapeCasts_S1x256x128_S256x128
  | 3 => shapeCast S256x128 (View.ld x (Rect.unit ![7, 0, 0] ![1, 256, 128] inb_S8x256x128_S1x256x128_7_0_0)) shapeCasts_S1x256x128_S256x128

/-- The rows of the gradient of the output, or zeros at a grid point of the context. -/
def live (i : grid0.Coords) (o : Vec Ideal S64x1024 .f32) : FVec Ideal S64x1024 .f32 := mulf o (broadcast S64x1024 (k0_pay5 (F := Ideal) i))

def dir (b : BitVec 1) (i : grid0.Coords) (q k : Vec Ideal S64x512 .f32) (v : Vec Ideal S64x1024 .f32) (g : Vec Ideal S64x512 .f32)
    (o : Vec Ideal S64x1024 .f32) (st : Vec Ideal S1x1x4x256x128 .f32) (dst : Fin 4 → FVec Ideal S256x128 .f32) : Dir :=
  ⟨b, q, k, g, v, live i o, stv st, dst⟩

/-- The new gradient of the state of each head. -/
def nst (D : Dir) : Fin 4 → FVec Ideal S256x128 .f32
  | 0 => D.head0.ondst
  | 1 => D.head1.ondst
  | 2 => D.head2.ondst
  | 3 => D.head3.ondst

/-- The scratch after the point. -/
def nsc (D0 D1 : Dir) : Vec Ideal S8x256x128 .f32 := fun i =>
  if h : (i 0).val < 4 then nst D0 ⟨(i 0).val, h⟩ (ix2 (i 1) (i 2)) else nst D1 ⟨(i 0).val - 4, by have := (i 0).isLt; change (i 0).val < 8 at this; omega⟩ (ix2 (i 1) (i 2))

theorem cov_sc (v : View sig .tc .vmem S8x256x128 .f32) (X : Vec Ideal S8x256x128 .f32) (inb) (r : Rect S8x256x128) :
    v.readCov [(⟨Rect.unit (s := S8x256x128) ![0, 0, 0] ![8, 256, 128] inb, X⟩ : View.Piece (Elt Ideal) S8x256x128 .f32)] r.toLoadRect = View.ld X r := by
  rw [View.readCov_eq_canon', View.canon_unit_zero (by decide)]
theorem ld_512 (X : Vec Ideal S64x512 .f32) (inb) : View.ld X (Rect.unit (s := S64x512) ![0, 0] ![64, 512] inb) = X := View.ld_unit_zero (by decide) inb X
theorem ld_1024 (X : Vec Ideal S64x1024 .f32) (inb) : View.ld X (Rect.unit (s := S64x1024) ![0, 0] ![64, 1024] inb) = X := View.ld_unit_zero (by decide) inb X
theorem canon_512 (X : Vec Ideal S64x512 .f32) (inb) : View.canon [(⟨Rect.unit (s := S64x512) ![0, 0] ![64, 512] inb, X⟩ : View.Piece (Elt Ideal) S64x512 .f32)] = X := View.canon_unit_zero (by decide) inb X
theorem canon_1024 (X : Vec Ideal S64x1024 .f32) (inb) : View.canon [(⟨Rect.unit (s := S64x1024) ![0, 0] ![64, 1024] inb, X⟩ : View.Piece (Elt Ideal) S64x1024 .f32)] = X := View.canon_unit_zero (by decide) inb X

theorem row_hit (j : Fin 8) (inb : ∀ a, (![j.val, 0, 0] : Fin 3 → ℕ) a + (![1, 256, 128] : Fin 3 → ℕ) a ≤ S8x256x128.size a)
    (x : FVec Ideal S256x128 .f32) (h : S256x128.ShapeCasts S1x256x128) (L : List (View.Piece (Elt Ideal) S8x256x128 .f32)) (y : Fin 256) (c : Fin 128) :
    View.canon (⟨Rect.unit (s := S8x256x128) ![j.val, 0, 0] ![1, 256, 128] inb, shapeCast S1x256x128 x h⟩ :: L) (ix3 j y c) = x (ix2 y c) := by
  have e : (ix3 j y c : S8x256x128.Idx) = (Rect.unit (s := S8x256x128) ![j.val, 0, 0] ![1, 256, 128] inb).emb (ix3 (0 : Fin 1) y c) := by
    funext a
    refine Fin.ext ?_
    match a with
    | 0 => exact (Nat.add_zero _).symm
    | 1 => change y.val = 0 + 1 * y.val; omega
    | 2 => change c.val = 0 + 1 * c.val; omega
  rw [e, View.canon_cons_emb]
  pointwise

theorem row_miss (a : ℕ) (j : Fin 8) (hne : a ≠ j.val) (inb : ∀ b, (![a, 0, 0] : Fin 3 → ℕ) b + (![1, 256, 128] : Fin 3 → ℕ) b ≤ S8x256x128.size b)
    (x : (Rect.unit (s := S8x256x128) ![a, 0, 0] ![1, 256, 128] inb).shape.Idx → Elt Ideal .f32) (L : List (View.Piece (Elt Ideal) S8x256x128 .f32)) (y : Fin 256) (c : Fin 128) :
    View.canon (⟨Rect.unit (s := S8x256x128) ![a, 0, 0] ![1, 256, 128] inb, x⟩ :: L) (ix3 j y c) = View.canon L (ix3 j y c) := by
  refine View.canon_cons_of_not_mem _ _ (Rect.not_mem_set_of_axis _ _ 0 a 1 rfl rfl rfl ?_)
  change j.val < a ∨ a + 1 ≤ j.val
  omega

section
variable (c : Dev nD) (i : grid0.Coords) (a2 : Memref sig .tc .vmem S64x512 .f32) (h2 : a2.IsWhole) (a3 : Memref sig .tc .vmem S64x512 .f32) (h3 : a3.IsWhole) (a4 : Memref sig .tc .vmem S64x1024 .f32) (h4 : a4.IsWhole) (a5 : Memref sig .tc .vmem S64x512 .f32) (h5 : a5.IsWhole) (a6 : Memref sig .tc .vmem S64x1024 .f32) (h6 : a6.IsWhole) (a7 : Memref sig .tc .vmem S1x1x4x256x128 .f32) (h7 : a7.IsWhole) (a8 : Memref sig .tc .vmem S64x512 .f32) (h8 : a8.IsWhole) (a9 : Memref sig .tc .vmem S64x512 .f32) (h9 : a9.IsWhole) (a10 : Memref sig .tc .vmem S64x1024 .f32) (h10 : a10.IsWhole) (a11 : Memref sig .tc .vmem S64x512 .f32) (h11 : a11.IsWhole) (a12 : Memref sig .tc .vmem S64x1024 .f32) (h12 : a12.IsWhole) (a13 : Memref sig .tc .vmem S1x1x4x256x128 .f32) (h13 : a13.IsWhole) (a15 : Memref sig .tc .vmem S64x512 .f32) (h15 : a15.IsWhole) (a16 : Memref sig .tc .vmem S64x512 .f32) (h16 : a16.IsWhole) (a17 : Memref sig .tc .vmem S64x1024 .f32) (h17 : a17.IsWhole) (a18 : Memref sig .tc .vmem S64x512 .f32) (h18 : a18.IsWhole) (a19 : Memref sig .tc .vmem S64x512 .f32) (h19 : a19.IsWhole) (a20 : Memref sig .tc .vmem S64x512 .f32) (h20 : a20.IsWhole) (a21 : Memref sig .tc .vmem S64x1024 .f32) (h21 : a21.IsWhole) (a22 : Memref sig .tc .vmem S64x512 .f32) (h22 : a22.IsWhole) (a23 : Memref sig .tc .vmem S8x256x128 .f32) (h23 : a23.IsWhole) (hc0 : cond0_0 i)
    (x0 : Vec Ideal S64x512 .f32) (x1 : Vec Ideal S64x512 .f32) (x2 : Vec Ideal S64x1024 .f32) (x3 : Vec Ideal S64x512 .f32) (x4 : Vec Ideal S64x1024 .f32) (x5 : Vec Ideal S1x1x4x256x128 .f32) (x6 : Vec Ideal S64x512 .f32) (x7 : Vec Ideal S64x512 .f32) (x8 : Vec Ideal S64x1024 .f32) (x9 : Vec Ideal S64x512 .f32) (x10 : Vec Ideal S64x1024 .f32) (x11 : Vec Ideal S1x1x4x256x128 .f32)

theorem out_A_12 : out0_A_12 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = (dir 1#1 i x0 x1 x2 x3 x4 x5 (sc0 (k0_pay4 (F := Ideal)))).odq := by
  unfold out0_A_12
  rw [View.read_writes_eq_canon _ _ _ (cover0_A_12 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_A_13 : out0_A_13 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = (dir 1#1 i x0 x1 x2 x3 x4 x5 (sc0 (k0_pay4 (F := Ideal)))).odk := by
  unfold out0_A_13
  rw [View.read_writes_eq_canon _ _ _ (cover0_A_13 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_A_14 : out0_A_14 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = (dir 1#1 i x0 x1 x2 x3 x4 x5 (sc0 (k0_pay4 (F := Ideal)))).odv := by
  unfold out0_A_14
  rw [View.read_writes_eq_canon _ _ _ (cover0_A_14 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_A_15 : out0_A_15 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = (dir 1#1 i x0 x1 x2 x3 x4 x5 (sc0 (k0_pay4 (F := Ideal)))).odg := by
  unfold out0_A_15
  rw [View.read_writes_eq_canon _ _ _ (cover0_A_15 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_A_16 : out0_A_16 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = (dir 0#1 i x6 x7 x8 x9 x10 x11 (sc1 (k0_pay4 (F := Ideal)))).odq := by
  unfold out0_A_16
  rw [View.read_writes_eq_canon _ _ _ (cover0_A_16 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_A_17 : out0_A_17 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = (dir 0#1 i x6 x7 x8 x9 x10 x11 (sc1 (k0_pay4 (F := Ideal)))).odk := by
  unfold out0_A_17
  rw [View.read_writes_eq_canon _ _ _ (cover0_A_17 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_A_18 : out0_A_18 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = (dir 0#1 i x6 x7 x8 x9 x10 x11 (sc1 (k0_pay4 (F := Ideal)))).odv := by
  unfold out0_A_18
  rw [View.read_writes_eq_canon _ _ _ (cover0_A_18 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_A_19 : out0_A_19 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = (dir 0#1 i x6 x7 x8 x9 x10 x11 (sc1 (k0_pay4 (F := Ideal)))).odg := by
  unfold out0_A_19
  rw [View.read_writes_eq_canon _ _ _ (cover0_A_19 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem sout_A : sout0_A_0 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 = nsc (dir 1#1 i x0 x1 x2 x3 x4 x5 (sc0 (k0_pay4 (F := Ideal)))) (dir 0#1 i x6 x7 x8 x9 x10 x11 (sc1 (k0_pay4 (F := Ideal)))) := by
  unfold sout0_A_0
  rw [View.read_writes_eq_canon _ _ _ (scover0_A_0 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, cov_sc]
  funext z
  obtain ⟨j, r, c, rfl⟩ : ∃ (j : Fin 8) (r : Fin 256) (c : Fin 128), z = ix3 j r c := ⟨z 0, z 1, z 2, by funext a; match a with | 0 => rfl | 1 => rfl | 2 => rfl⟩
  match j with
  | 0 =>
    refine (row_miss 7 0 (by decide) _ _ _ r c).trans ?_
    refine (row_miss 6 0 (by decide) _ _ _ r c).trans ?_
    refine (row_miss 5 0 (by decide) _ _ _ r c).trans ?_
    refine (row_miss 4 0 (by decide) _ _ _ r c).trans ?_
    refine (row_miss 3 0 (by decide) _ _ _ r c).trans ?_
    refine (row_miss 2 0 (by decide) _ _ _ r c).trans ?_
    refine (row_miss 1 0 (by decide) _ _ _ r c).trans ?_
    exact (row_hit 0 _ _ _ _ r c).trans rfl
  | 1 =>
    refine (row_miss 7 1 (by decide) _ _ _ r c).trans ?_
    refine (row_miss 6 1 (by decide) _ _ _ r c).trans ?_
    refine (row_miss 5 1 (by decide) _ _ _ r c).trans ?_
    refine (row_miss 4 1 (by decide) _ _ _ r c).trans ?_
    refine (row_miss 3 1 (by decide) _ _ _ r c).trans ?_
    refine (row_miss 2 1 (by decide) _ _ _ r c).trans ?_
    exact (row_hit 1 _ _ _ _ r c).trans rfl
  | 2 =>
    refine (row_miss 7 2 (by decide) _ _ _ r c).trans ?_
    refine (row_miss 6 2 (by decide) _ _ _ r c).trans ?_
    refine (row_miss 5 2 (by decide) _ _ _ r c).trans ?_
    refine (row_miss 4 2 (by decide) _ _ _ r c).trans ?_
    refine (row_miss 3 2 (by decide) _ _ _ r c).trans ?_
    exact (row_hit 2 _ _ _ _ r c).trans rfl
  | 3 =>
    refine (row_miss 7 3 (by decide) _ _ _ r c).trans ?_
    refine (row_miss 6 3 (by decide) _ _ _ r c).trans ?_
    refine (row_miss 5 3 (by decide) _ _ _ r c).trans ?_
    refine (row_miss 4 3 (by decide) _ _ _ r c).trans ?_
    exact (row_hit 3 _ _ _ _ r c).trans rfl
  | 4 =>
    refine (row_miss 7 4 (by decide) _ _ _ r c).trans ?_
    refine (row_miss 6 4 (by decide) _ _ _ r c).trans ?_
    refine (row_miss 5 4 (by decide) _ _ _ r c).trans ?_
    exact (row_hit 4 _ _ _ _ r c).trans rfl
  | 5 =>
    refine (row_miss 7 5 (by decide) _ _ _ r c).trans ?_
    refine (row_miss 6 5 (by decide) _ _ _ r c).trans ?_
    exact (row_hit 5 _ _ _ _ r c).trans rfl
  | 6 =>
    refine (row_miss 7 6 (by decide) _ _ _ r c).trans ?_
    exact (row_hit 6 _ _ _ _ r c).trans rfl
  | 7 =>
    exact (row_hit 7 _ _ _ _ r c).trans rfl
end

section
variable (c : Dev nD) (i : grid0.Coords) (a2 : Memref sig .tc .vmem S64x512 .f32) (h2 : a2.IsWhole) (a3 : Memref sig .tc .vmem S64x512 .f32) (h3 : a3.IsWhole) (a4 : Memref sig .tc .vmem S64x1024 .f32) (h4 : a4.IsWhole) (a5 : Memref sig .tc .vmem S64x512 .f32) (h5 : a5.IsWhole) (a6 : Memref sig .tc .vmem S64x1024 .f32) (h6 : a6.IsWhole) (a7 : Memref sig .tc .vmem S1x1x4x256x128 .f32) (h7 : a7.IsWhole) (a8 : Memref sig .tc .vmem S64x512 .f32) (h8 : a8.IsWhole) (a9 : Memref sig .tc .vmem S64x512 .f32) (h9 : a9.IsWhole) (a10 : Memref sig .tc .vmem S64x1024 .f32) (h10 : a10.IsWhole) (a11 : Memref sig .tc .vmem S64x512 .f32) (h11 : a11.IsWhole) (a12 : Memref sig .tc .vmem S64x1024 .f32) (h12 : a12.IsWhole) (a13 : Memref sig .tc .vmem S1x1x4x256x128 .f32) (h13 : a13.IsWhole) (a15 : Memref sig .tc .vmem S64x512 .f32) (h15 : a15.IsWhole) (a16 : Memref sig .tc .vmem S64x512 .f32) (h16 : a16.IsWhole) (a17 : Memref sig .tc .vmem S64x1024 .f32) (h17 : a17.IsWhole) (a18 : Memref sig .tc .vmem S64x512 .f32) (h18 : a18.IsWhole) (a19 : Memref sig .tc .vmem S64x512 .f32) (h19 : a19.IsWhole) (a20 : Memref sig .tc .vmem S64x512 .f32) (h20 : a20.IsWhole) (a21 : Memref sig .tc .vmem S64x1024 .f32) (h21 : a21.IsWhole) (a22 : Memref sig .tc .vmem S64x512 .f32) (h22 : a22.IsWhole) (a23 : Memref sig .tc .vmem S8x256x128 .f32) (h23 : a23.IsWhole) (hc0 : ¬cond0_0 i)
    (x0 : Vec Ideal S64x512 .f32) (x1 : Vec Ideal S64x512 .f32) (x2 : Vec Ideal S64x1024 .f32) (x3 : Vec Ideal S64x512 .f32) (x4 : Vec Ideal S64x1024 .f32) (x5 : Vec Ideal S1x1x4x256x128 .f32) (x6 : Vec Ideal S64x512 .f32) (x7 : Vec Ideal S64x512 .f32) (x8 : Vec Ideal S64x1024 .f32) (x9 : Vec Ideal S64x512 .f32) (x10 : Vec Ideal S64x1024 .f32) (x11 : Vec Ideal S1x1x4x256x128 .f32) (xs0 : Vec Ideal S8x256x128 .f32)

theorem out_B_12 : out0_B_12 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = (dir 1#1 i x0 x1 x2 x3 x4 x5 (sc0 xs0)).odq := by
  unfold out0_B_12
  rw [View.read_writes_eq_canon _ _ _ (cover0_B_12 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_B_13 : out0_B_13 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = (dir 1#1 i x0 x1 x2 x3 x4 x5 (sc0 xs0)).odk := by
  unfold out0_B_13
  rw [View.read_writes_eq_canon _ _ _ (cover0_B_13 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_B_14 : out0_B_14 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = (dir 1#1 i x0 x1 x2 x3 x4 x5 (sc0 xs0)).odv := by
  unfold out0_B_14
  rw [View.read_writes_eq_canon _ _ _ (cover0_B_14 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_B_15 : out0_B_15 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = (dir 1#1 i x0 x1 x2 x3 x4 x5 (sc0 xs0)).odg := by
  unfold out0_B_15
  rw [View.read_writes_eq_canon _ _ _ (cover0_B_15 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_B_16 : out0_B_16 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = (dir 0#1 i x6 x7 x8 x9 x10 x11 (sc1 xs0)).odq := by
  unfold out0_B_16
  rw [View.read_writes_eq_canon _ _ _ (cover0_B_16 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_B_17 : out0_B_17 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = (dir 0#1 i x6 x7 x8 x9 x10 x11 (sc1 xs0)).odk := by
  unfold out0_B_17
  rw [View.read_writes_eq_canon _ _ _ (cover0_B_17 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_B_18 : out0_B_18 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = (dir 0#1 i x6 x7 x8 x9 x10 x11 (sc1 xs0)).odv := by
  unfold out0_B_18
  rw [View.read_writes_eq_canon _ _ _ (cover0_B_18 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem out_B_19 : out0_B_19 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = (dir 0#1 i x6 x7 x8 x9 x10 x11 (sc1 xs0)).odg := by
  unfold out0_B_19
  rw [View.read_writes_eq_canon _ _ _ (cover0_B_19 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, canon_512, canon_1024, cov_sc]
  rfl

theorem sout_B : sout0_B_0 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0 = nsc (dir 1#1 i x0 x1 x2 x3 x4 x5 (sc0 xs0)) (dir 0#1 i x6 x7 x8 x9 x10 x11 (sc1 xs0)) := by
  unfold sout0_B_0
  rw [View.read_writes_eq_canon _ _ _ (scover0_B_0 c i a2 h2 a3 h3 a4 h4 a5 h5 a6 h6 a7 h7 a8 h8 a9 h9 a10 h10 a11 h11 a12 h12 a13 h13 a15 h15 a16 h16 a17 h17 a18 h18 a19 h19 a20 h20 a21 h21 a22 h22 a23 h23 hc0 x0 x1 x2 x3 x4 x5 x6 x7 x8 x9 x10 x11 xs0)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h23.read_unread]
  simp only [ld_512, ld_1024, cov_sc]
  funext z
  obtain ⟨j, r, c, rfl⟩ : ∃ (j : Fin 8) (r : Fin 256) (c : Fin 128), z = ix3 j r c := ⟨z 0, z 1, z 2, by funext a; match a with | 0 => rfl | 1 => rfl | 2 => rfl⟩
  match j with
  | 0 =>
    refine (row_miss 7 0 (by decide) _ _ _ r c).trans ?_
    refine (row_miss 6 0 (by decide) _ _ _ r c).trans ?_
    refine (row_miss 5 0 (by decide) _ _ _ r c).trans ?_
    refine (row_miss 4 0 (by decide) _ _ _ r c).trans ?_
    refine (row_miss 3 0 (by decide) _ _ _ r c).trans ?_
    refine (row_miss 2 0 (by decide) _ _ _ r c).trans ?_
    refine (row_miss 1 0 (by decide) _ _ _ r c).trans ?_
    exact (row_hit 0 _ _ _ _ r c).trans rfl
  | 1 =>
    refine (row_miss 7 1 (by decide) _ _ _ r c).trans ?_
    refine (row_miss 6 1 (by decide) _ _ _ r c).trans ?_
    refine (row_miss 5 1 (by decide) _ _ _ r c).trans ?_
    refine (row_miss 4 1 (by decide) _ _ _ r c).trans ?_
    refine (row_miss 3 1 (by decide) _ _ _ r c).trans ?_
    refine (row_miss 2 1 (by decide) _ _ _ r c).trans ?_
    exact (row_hit 1 _ _ _ _ r c).trans rfl
  | 2 =>
    refine (row_miss 7 2 (by decide) _ _ _ r c).trans ?_
    refine (row_miss 6 2 (by decide) _ _ _ r c).trans ?_
    refine (row_miss 5 2 (by decide) _ _ _ r c).trans ?_
    refine (row_miss 4 2 (by decide) _ _ _ r c).trans ?_
    refine (row_miss 3 2 (by decide) _ _ _ r c).trans ?_
    exact (row_hit 2 _ _ _ _ r c).trans rfl
  | 3 =>
    refine (row_miss 7 3 (by decide) _ _ _ r c).trans ?_
    refine (row_miss 6 3 (by decide) _ _ _ r c).trans ?_
    refine (row_miss 5 3 (by decide) _ _ _ r c).trans ?_
    refine (row_miss 4 3 (by decide) _ _ _ r c).trans ?_
    exact (row_hit 3 _ _ _ _ r c).trans rfl
  | 4 =>
    refine (row_miss 7 4 (by decide) _ _ _ r c).trans ?_
    refine (row_miss 6 4 (by decide) _ _ _ r c).trans ?_
    refine (row_miss 5 4 (by decide) _ _ _ r c).trans ?_
    exact (row_hit 4 _ _ _ _ r c).trans rfl
  | 5 =>
    refine (row_miss 7 5 (by decide) _ _ _ r c).trans ?_
    refine (row_miss 6 5 (by decide) _ _ _ r c).trans ?_
    exact (row_hit 5 _ _ _ _ r c).trans rfl
  | 6 =>
    refine (row_miss 7 6 (by decide) _ _ _ r c).trans ?_
    exact (row_hit 6 _ _ _ _ r c).trans rfl
  | 7 =>
    exact (row_hit 7 _ _ _ _ r c).trans rfl
end

end Cert.KernelIdeal.Hand
end
-- ==== Proof.HostStates.lean ====
/- The saved states, computed on the host before the kernel runs: what each of the two arrays of states holds,
   as a composition of array operations on the arguments. -/
module

public import proofs.«01_k».proof.Proof.OutsKernelIdeal
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-- Two arrays of 512 columns, one after the other along the tokens. -/
def cat512 (a : Vec F S2x256x512 .f32) (b : Vec F S2x2048x512 .f32) : Vec F S2x2304x512 .f32 :=
  concatenate S2x2304x512 1 [⟨S2x256x512, a⟩, ⟨S2x2048x512, b⟩] concatenates_S2x256x512_S2x2048x512_S2x2304x512_d1
/-- Two arrays of 1024 columns, one after the other along the tokens. -/
def cat1024 (a : Vec F S2x256x1024 .f32) (b : Vec F S2x2048x1024 .f32) : Vec F S2x2304x1024 .f32 :=
  concatenate S2x2304x1024 1 [⟨S2x256x1024, a⟩, ⟨S2x2048x1024, b⟩] concatenates_S2x256x1024_S2x2048x1024_S2x2304x1024_d1
theorem cat512_fun : ((fun a b => concatenate S2x2304x512 1 [⟨S2x256x512, a⟩, ⟨S2x2048x512, b⟩] concatenates_S2x256x512_S2x2048x512_S2x2304x512_d1) : (⟨S2x256x512, .f32⟩ : BufTy).Contents (Elt F) → (⟨S2x2048x512, .f32⟩ : BufTy).Contents (Elt F) → (⟨S2x2304x512, .f32⟩ : BufTy).Contents (Elt F)) = cat512 := rfl
theorem cat1024_fun : ((fun a b => concatenate S2x2304x1024 1 [⟨S2x256x1024, a⟩, ⟨S2x2048x1024, b⟩] concatenates_S2x256x1024_S2x2048x1024_S2x2304x1024_d1) : (⟨S2x256x1024, .f32⟩ : BufTy).Contents (Elt F) → (⟨S2x2048x1024, .f32⟩ : BufTy).Contents (Elt F) → (⟨S2x2304x1024, .f32⟩ : BufTy).Contents (Elt F)) = cat1024 := rfl

/-- Which of the 2304 tokens lie before each of the 36 blocks. -/
def early : Vec F S36x1x2304x1x1 .i1 :=
  cmpi .slt (broadcastInDim S36x1x2304x1x1 ![0, 1, 2, 3, 4] bcast_S1x1x2304x1x1_S36x1x2304x1x1_0_1_2_3_4
      (broadcastInDim S1x1x2304x1x1 ![1, 2, 3, 4] bcast_S1x2304x1x1_S1x1x2304x1x1_1_2_3_4
        (broadcastInDim S1x2304x1x1 ![1] bcast_S2304_S1x2304x1x1_1 (iotaInDim S2304 32 0 : Vec F S2304 .i32))))
    (broadcastInDim S36x1x2304x1x1 ![0, 1, 2, 3, 4] bcast_S36x1x1x1x1_S36x1x2304x1x1_0_1_2_3_4
      (broadcastInDim S36x1x1x1x1 ![0] bcast_S36_S36x1x1x1x1_0
        (muli (broadcastInDim S36 ![] bcast_S_S36 (constantI S_ 32 64#32 : Vec F S_ .i32)) (iotaInDim S36 32 0))))

/-- An array kept on the tokens before each block, and zero on the others. -/
def keepEarly (x : Vec F S2x2304x4x128 .f32) : Vec F S36x2x2304x4x128 .f32 :=
  select (broadcastInDim S36x2x2304x4x128 ![0, 1, 2, 3, 4] bcast_S36x1x2304x1x1_S36x2x2304x4x128_0_1_2_3_4 (early (F := F)))
    (broadcastInDim S36x2x2304x4x128 ![1, 2, 3, 4] bcast_S2x2304x4x128_S36x2x2304x4x128_1_2_3_4 x)
    (broadcastInDim S36x2x2304x4x128 ![1, 2, 3, 4] bcast_S2x2304x4x128_S36x2x2304x4x128_1_2_3_4
      (broadcastInDim S2x2304x4x128 ![] bcast_S_S2x2304x4x128 (constant S_ .f32 0x00000000#32)))

/-- The running sum of the decays over the tokens before each block. -/
def cumEarly (g : Vec F S2x2304x4x128 .f32) : Vec F S36x2x2304x4x128 .f32 :=
  Host.reduceWindowAdd ![1, 1, 2304, 1, 1] ![1, 1, 1, 1, 1] ![0, 0, 2303, 0, 0] ![0, 0, 0, 0, 0] (keepEarly g)
    (broadcastInDim S_ ![] bcast_S_S_ (constant S_ .f32 0x00000000#32))
    reduceWindows_S36x2x2304x4x128_S36x2x2304x4x128_w1s1p0_0_w1s1p0_0_w2304s1p2303_0_w1s1p0_0_w1s1p0_0

/-- The states before each block. -/
def statesOf (k : Vec F S2x2304x4x128 .f32) (v : Vec F S2x2304x4x256 .f32) (g : Vec F S2x2304x4x128 .f32) :
    Vec F S2x36x4x256x128 .f32 :=
  transpose S2x36x4x256x128 [1, 0, 2, 4, 3]
    (transpose S36x2x4x128x256 [2, 0, 1, 3, 4]
      (Host.dotGeneral dot_S36x2x2304x4x128_S2x2304x4x256_S2x4x36x128x256_2_1_04_3_13_02 none
        (mulf (keepEarly k)
          (Host.exp (subf (broadcastInDim S36x2x2304x4x128 ![0, 1, 2, 3, 4] bcast_S36x2x1x4x128_S36x2x2304x4x128_0_1_2_3_4
            (extractStridedSlice S36x2x1x4x128 ![0, 0, 2303, 0, 0] (cumEarly g) slices_S36x2x2304x4x128_S36x2x1x4x128_0_0_2303_0_0))
            (cumEarly g)))) v) transposes_S2x4x36x128x256_S36x2x4x128x256_2_0_1_3_4)
    transposes_S36x2x4x128x256_S2x36x4x256x128_1_0_2_4_3

/-- The 2304 tokens of an array of 512 columns in the order of direction 0. -/
def tok512 (x : Vec F S4608x512 .f32) : Vec F S2x2304x4x128 .f32 :=
  shapeCast S2x2304x4x128 (cat512 (shapeCast S2x256x512 (extractStridedSlice S512x512 ![4096, 0] x slices_S4608x512_S512x512_4096_0) shapeCasts_S512x512_S2x256x512)
    (shapeCast S2x2048x512 (extractStridedSlice S4096x512 ![0, 0] x slices_S4608x512_S4096x512_0_0) shapeCasts_S4096x512_S2x2048x512)) shapeCasts_S2x2304x512_S2x2304x4x128
/-- The 2304 tokens of an array of 512 columns in the order of direction 1. -/
def rtok512 (x : Vec F S4608x512 .f32) : Vec F S2x2304x4x128 .f32 :=
  shapeCast S2x2304x4x128 (cat512 (Host.reverse [1] (shapeCast S2x256x512 (extractStridedSlice S512x512 ![4096, 0] x slices_S4608x512_S512x512_4096_0) shapeCasts_S512x512_S2x256x512))
    (Host.reverse [1] (shapeCast S2x2048x512 (extractStridedSlice S4096x512 ![0, 0] x slices_S4608x512_S4096x512_0_0) shapeCasts_S4096x512_S2x2048x512))) shapeCasts_S2x2304x512_S2x2304x4x128
/-- The 2304 tokens of an array of 1024 columns in the order of direction 0. -/
def tok1024 (x : Vec F S4608x1024 .f32) : Vec F S2x2304x4x256 .f32 :=
  shapeCast S2x2304x4x256 (cat1024 (shapeCast S2x256x1024 (extractStridedSlice S512x1024 ![4096, 0] x slices_S4608x1024_S512x1024_4096_0) shapeCasts_S512x1024_S2x256x1024)
    (shapeCast S2x2048x1024 (extractStridedSlice S4096x1024 ![0, 0] x slices_S4608x1024_S4096x1024_0_0) shapeCasts_S4096x1024_S2x2048x1024)) shapeCasts_S2x2304x1024_S2x2304x4x256
/-- The 2304 tokens of an array of 1024 columns in the order of direction 1. -/
def rtok1024 (x : Vec F S4608x1024 .f32) : Vec F S2x2304x4x256 .f32 :=
  shapeCast S2x2304x4x256 (cat1024 (Host.reverse [1] (shapeCast S2x256x1024 (extractStridedSlice S512x1024 ![4096, 0] x slices_S4608x1024_S512x1024_4096_0) shapeCasts_S512x1024_S2x256x1024))
    (Host.reverse [1] (shapeCast S2x2048x1024 (extractStridedSlice S4096x1024 ![0, 0] x slices_S4608x1024_S4096x1024_0_0) shapeCasts_S4096x1024_S2x2048x1024))) shapeCasts_S2x2304x1024_S2x2304x4x256

variable (m : (ℓ : Loc nD τ sig) → Buf (Elt F) ℓ)

/-- The states of direction 0 that the kernel finds. -/
def hst0 (a0 : Vec F S4608x3200 .f32) (a1 : Vec F S4608x1024 .f32) : Vec F S2x36x4x256x128 .f32 :=
  statesOf (tok512 (extractStridedSlice S4608x512 ![0, 512] a0 slices_S4608x3200_S4608x512_0_512))
    (tok1024 (extractStridedSlice S4608x1024 ![0, 1024] a0 slices_S4608x3200_S4608x1024_0_1024))
    (tok512 (extractStridedSlice S4608x512 ![0, 0] a1 slices_S4608x1024_S4608x512_0_0))
/-- The states of direction 1 that the kernel finds. -/
def hst1 (a0 : Vec F S4608x3200 .f32) (a1 : Vec F S4608x1024 .f32) : Vec F S2x36x4x256x128 .f32 :=
  statesOf (rtok512 (extractStridedSlice S4608x512 ![0, 512] a0 slices_S4608x3200_S4608x512_0_512))
    (rtok1024 (extractStridedSlice S4608x1024 ![0, 1024] a0 slices_S4608x3200_S4608x1024_0_1024))
    (rtok512 (extractStridedSlice S4608x512 ![0, 512] a1 slices_S4608x1024_S4608x512_0_512))

set_option maxHeartbeats 4000000 in
theorem V_main_v46 (c : Dev nD) : V m c main_v46 = hst0 (m ((c : Thread nD τ).loc main_arg0)) (m ((c : Thread nD τ).loc main_arg1)) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, TRef.nullary, TRef.ternary, TRef.unary, TRef.binary, TRef.toBuf, TRef.ofBuf, cast_eq]
  simp only [cat512_fun, cat1024_fun]
  after_results_simp
  rfl

set_option maxHeartbeats 4000000 in
theorem V_main_v97 (c : Dev nD) : V m c main_v97 = hst1 (m ((c : Thread nD τ).loc main_arg0)) (m ((c : Thread nD τ).loc main_arg1)) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, TRef.nullary, TRef.ternary, TRef.unary, TRef.binary, TRef.toBuf, TRef.ofBuf, cast_eq]
  simp only [cat512_fun, cat1024_fun]
  after_results_simp
  rfl

end Cert.KernelIdeal.Hand

end
-- ==== Proof.Data.lean ====
/- The arguments as sequences: which row of the arguments each token of a sequence is, and the sequence of one direction, batch
   element and head. -/
module

public import proofs.«01_k».proof.Proof.Body
public import proofs.«01_k».proof.Proof.BodyVal

@[expose] public section

noncomputable section

namespace Cert.Gla

open Idealize.ShloMosaic Cert.KernelIdeal.Body

/-- Position `t` of `n`, counted from the end in direction 1. -/
def tk (d : Bool) (n t : ℕ) : ℕ := if d then n - 1 - t else t

theorem tk_lt (d : Bool) {n t : ℕ} (h : t < n) : tk d n t < n := by
  unfold tk; split <;> omega

theorem tk_tk (d : Bool) {n t : ℕ} (h : t < n) : tk d n (tk d n t) = t := by
  unfold tk; split <;> omega

/-- The row of token `t` of batch element `b`: 256 context tokens, then 2048 main tokens. -/
def row (d : Bool) (b : Fin 2) (t : ℕ) : Fin 4608 :=
  if h : t < 256 then ⟨4096 + 256 * b.val + tk d 256 t, by have := tk_lt d h; omega⟩
  else if h' : t - 256 < 2048 then ⟨2048 * b.val + tk d 2048 (t - 256), by have := tk_lt d h'; omega⟩ else 0

/-- The row of a main token among the main tokens. -/
def rowo (d : Bool) (b : Fin 2) (t : ℕ) : Fin 4096 :=
  if h' : t - 256 < 2048 then ⟨2048 * b.val + tk d 2048 (t - 256), by have := tk_lt d h'; omega⟩ else 0

theorem row_ctx (d : Bool) (b : Fin 2) {t : ℕ} (h : t < 256) : (row d b t).val = 4096 + 256 * b.val + tk d 256 t := by
  unfold row; rw [dif_pos h]

theorem row_main (d : Bool) (b : Fin 2) {t : ℕ} (h : t < 2048) : (row d b (256 + t)).val = 2048 * b.val + tk d 2048 t := by
  unfold row
  rw [dif_neg (by omega), dif_pos (by omega)]; dsimp only; rw [Nat.add_sub_cancel_left]

theorem rowo_main (d : Bool) (b : Fin 2) {t : ℕ} (h : t < 2048) : (rowo d b (256 + t)).val = 2048 * b.val + tk d 2048 t := by
  unfold rowo
  rw [dif_pos (by omega)]; dsimp only; rw [Nat.add_sub_cancel_left]

theorem row_main' (d : Bool) (b : Fin 2) {t : ℕ} (h : ¬ t < 256) (h' : t < 2304) : (row d b t).val = 2048 * b.val + tk d 2048 (t - 256) := by
  unfold row; rw [dif_neg h, dif_pos (by omega)]

/-- Every row is a token's. -/
theorem row_surj (d : Bool) (R : Fin 4608) : ∃ (b : Fin 2) (t : ℕ), t < 2304 ∧ R = row d b t := by
  have hR := R.isLt
  by_cases h : R.val < 4096
  · have hm : R.val % 2048 < 2048 := Nat.mod_lt _ (by omega)
    refine ⟨⟨R.val / 2048, by omega⟩, 256 + tk d 2048 (R.val % 2048), ?_, Fin.ext ?_⟩
    · have := tk_lt d hm
      omega
    · rw [row_main d _ (tk_lt d hm), tk_tk d hm]
      dsimp only
      omega
  · have hm : (R.val - 4096) % 256 < 256 := Nat.mod_lt _ (by omega)
    refine ⟨⟨(R.val - 4096) / 256, by omega⟩, tk d 256 ((R.val - 4096) % 256), ?_, Fin.ext ?_⟩
    · have := tk_lt d hm
      omega
    · rw [row_ctx d _ (tk_lt d hm), tk_tk d hm]
      dsimp only
      omega

/-- An array with its second axis reversed. -/
theorem rev3 {B n C : ℕ} (x : (⟨3, ![B, n, C]⟩ : Shape).Idx → EReal) (b : Fin B) (t : Fin n) (c : Fin C) :
    Host.reverse [1] x (ix3 b t c) = x (ix3 b t.rev c) := by
  unfold Host.reverse
  refine congrArg x (funext fun a => ?_)
  match a with
  | 0 => rfl
  | 1 => rfl
  | 2 => rfl

def dn (d : Bool) : ℕ := if d then 1 else 0

theorem dn_le (d : Bool) : dn d ≤ 1 := by unfold dn; split <;> omega

variable (A0 : Fin 4608 → Fin 3200 → ℝ) (A1 : Fin 4608 → Fin 1024 → ℝ) (A2 : Fin 4096 → Fin 1024 → ℝ)

def qraw (d : Bool) (b : Fin 2) (h : Fin 4) (t : ℕ) (c : Fin 128) : ℝ := A0 (row d b t) ⟨128 * h.val + c.val, by omega⟩

/-- The sequence of one direction, batch element and head. -/
def seq (d : Bool) (b : Fin 2) (h : Fin 4) : Seq (Fin 128) (Fin 256) where
  N := 2304
  q t c := qraw A0 d b h t c * Q
  k t c := A0 (row d b t) ⟨512 + (128 * h.val + c.val), by omega⟩
  v t y := A0 (row d b t) ⟨1024 + (256 * h.val + y.val), by omega⟩
  o t y := if t < 256 then 0 else A2 (rowo d b t) ⟨256 * h.val + y.val, by omega⟩
  g t c := A1 (row d b t) ⟨512 * dn d + (128 * h.val + c.val), by have := dn_le d; omega⟩

end Cert.Gla

end
-- ==== Proof.Cum.lean ====
/- A window sum that is a running sum: the windows of `n` positions along one axis, padded before the array or after it. -/
module

public import proofs.«01_k».proof.Proof.Math
public import Idealize.ShloMosaic.Lib.Pointwise
public import Idealize.ShloMosaic.Lib.IdealHost

@[expose] public section

noncomputable section

namespace Cert.Gla

open Idealize.ShloMosaic

theorem winSum_eq {s t : Shape} (window strides lo hi : Fin s.rank → Nat) (h : s.ReduceWindows window strides lo hi t)
    (x : s.Idx → EReal) (j : t.Idx) :
    Ideal.hostReduceWindowAdd window strides lo hi h x 0 j
      = ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0) := by
  unfold Ideal.hostReduceWindowAdd Host.reduceWindow
  rw [← Equiv.sum_comp (⟨s.rank, window⟩ : Shape).rowMajor.symm, Fin.sum_univ_def, List.sum_eq_foldl, List.foldl_map]
  refine congrArg (fun f => List.foldl f (0 : EReal) _) (funext fun r => funext fun n => congrArg (r + ·) ?_)
  dsimp only
  split_ifs <;> rfl

/-- An index of a box with one axis longer than 1, at axis 1 of 4. -/
def win4 (n : ℕ) : (⟨4, ![1, n, 1, 1]⟩ : Shape).Idx ≃ Fin n where
  toFun w := w 1
  invFun k := ix4 0 k 0 0
  left_inv w := by
    funext a
    match a with
    | 0 => exact Subsingleton.elim (α := Fin 1) _ _
    | 1 => rfl
    | 2 => exact Subsingleton.elim (α := Fin 1) _ _
    | 3 => exact Subsingleton.elim (α := Fin 1) _ _
  right_inv k := rfl

/-- An index of a box with one axis longer than 1, at axis 2 of 5. -/
def win5 (n : ℕ) : (⟨5, ![1, 1, n, 1, 1]⟩ : Shape).Idx ≃ Fin n where
  toFun w := w 2
  invFun k := ix5 0 0 k 0 0
  left_inv w := by
    funext a
    match a with
    | 0 => exact Subsingleton.elim (α := Fin 1) _ _
    | 1 => exact Subsingleton.elim (α := Fin 1) _ _
    | 2 => rfl
    | 3 => exact Subsingleton.elim (α := Fin 1) _ _
    | 4 => exact Subsingleton.elim (α := Fin 1) _ _
  right_inv k := rfl

/-- Windows padded before the array: each position of the window is an element up to and including the window's own. -/
theorem sum_lo {n : ℕ} (t : Fin n) (F : Fin n → EReal) :
    ∑ k : Fin n, (if h : n - 1 ≤ t.val + k.val ∧ t.val + k.val - (n - 1) < n then F ⟨t.val + k.val - (n - 1), h.2⟩ else 0)
      = ∑ u : Fin n, if u ≤ t then F u else 0 := by
  have ht := t.isLt
  rw [← Finset.sum_filter]
  have e : ∀ k : Fin n, (if h : n - 1 ≤ t.val + k.val ∧ t.val + k.val - (n - 1) < n then F ⟨t.val + k.val - (n - 1), h.2⟩ else 0)
      = if n - 1 ≤ t.val + k.val then F ⟨t.val + k.val - (n - 1), by have := k.isLt; omega⟩ else 0 := fun k => by
    have := k.isLt
    by_cases h : n - 1 ≤ t.val + k.val
    · rw [dif_pos ⟨h, by omega⟩, if_pos h]
    · rw [dif_neg (fun h' => h h'.1), if_neg h]
  rw [Finset.sum_congr rfl fun k _ => e k, ← Finset.sum_filter]
  refine Finset.sum_bij (fun k _ => ⟨t.val + k.val - (n - 1), by have := k.isLt; omega⟩) ?_ ?_ ?_ ?_
  · intro k hk
    have := k.isLt
    simp only [Finset.mem_filter, Finset.mem_univ, true_and, Fin.le_def] at hk ⊢
    omega
  · intro a ha b hb h
    simp only [Finset.mem_filter, Finset.mem_univ, true_and] at ha hb
    have := congrArg Fin.val h
    dsimp only at this
    exact Fin.ext (by omega)
  · intro u hu
    simp only [Finset.mem_filter, Finset.mem_univ, true_and, Fin.le_def] at hu
    refine ⟨⟨u.val + (n - 1) - t.val, by omega⟩, ?_, Fin.ext ?_⟩
    · simp only [Finset.mem_filter, Finset.mem_univ, true_and]
      omega
    · dsimp only
      omega
  · intro k hk
    rfl

/-- Windows padded after the array: each position of the window is an element from the window's own on. -/
theorem sum_hi {n : ℕ} (t : Fin n) (F : Fin n → EReal) :
    ∑ k : Fin n, (if h : t.val + k.val < n then F ⟨t.val + k.val, h⟩ else 0)
      = ∑ u : Fin n, if t ≤ u then F u else 0 := by
  have ht := t.isLt
  rw [← Finset.sum_filter]
  have e : ∀ k : Fin n, (if h : t.val + k.val < n then F ⟨t.val + k.val, h⟩ else 0)
      = if t.val + k.val < n then F ⟨(t.val + k.val) % n, Nat.mod_lt _ (by omega)⟩ else 0 := fun k => by
    by_cases h : t.val + k.val < n
    · rw [dif_pos h, if_pos h]
      exact congrArg F (Fin.ext (Nat.mod_eq_of_lt h).symm)
    · rw [dif_neg h, if_neg h]
  rw [Finset.sum_congr rfl fun k _ => e k, ← Finset.sum_filter]
  refine Finset.sum_bij (fun k _ => ⟨(t.val + k.val) % n, Nat.mod_lt _ (by omega)⟩) ?_ ?_ ?_ ?_
  · intro k hk
    simp only [Finset.mem_filter, Finset.mem_univ, true_and, Fin.le_def] at hk ⊢
    rw [Nat.mod_eq_of_lt hk]
    omega
  · intro a ha b hb h
    simp only [Finset.mem_filter, Finset.mem_univ, true_and] at ha hb
    have := congrArg Fin.val h
    dsimp only at this
    rw [Nat.mod_eq_of_lt ha, Nat.mod_eq_of_lt hb] at this
    exact Fin.ext (by omega)
  · intro u hu
    have hl := u.isLt
    simp only [Finset.mem_filter, Finset.mem_univ, true_and, Fin.le_def] at hu
    refine ⟨⟨u.val - t.val, by omega⟩, ?_, Fin.ext ?_⟩
    · simp only [Finset.mem_filter, Finset.mem_univ, true_and]
      omega
    · dsimp only
      rw [Nat.mod_eq_of_lt (by omega)]
      omega
  · intro k hk
    rfl

variable {A B H C n : ℕ}

theorem cum_lo4 (h : (⟨4, ![B, n, H, C]⟩ : Shape).ReduceWindows ![1, n, 1, 1] ![1, 1, 1, 1] ![0, n - 1, 0, 0] ![0, 0, 0, 0] ⟨4, ![B, n, H, C]⟩)
    (x : (⟨4, ![B, n, H, C]⟩ : Shape).Idx → EReal) (b : Fin B) (t : Fin n) (i : Fin H) (c : Fin C) :
    Ideal.hostReduceWindowAdd ![1, n, 1, 1] ![1, 1, 1, 1] ![0, n - 1, 0, 0] ![0, 0, 0, 0] h x 0 (ix4 b t i c)
      = ∑ u : Fin n, if u ≤ t then x (ix4 b u i c) else 0 := by
  rw [winSum_eq, ← sum_lo t (fun u => x (ix4 b u i c)), ← Equiv.sum_comp (win4 n).symm]
  refine Finset.sum_congr rfl fun k _ => ?_
  have hk := k.isLt
  have ht := t.isLt
  by_cases hr : n - 1 ≤ t.val + k.val
  · rw [dif_pos (fun a => ?_), dif_pos ⟨hr, by omega⟩]
    · refine congrArg x (funext fun a => Fin.ext ?_)
      match a with
      | 0 => show b.val * 1 + 0 - 0 = b.val; omega
      | 1 => show t.val * 1 + k.val - (n - 1) = t.val + k.val - (n - 1); omega
      | 2 => show i.val * 1 + 0 - 0 = i.val; omega
      | 3 => show c.val * 1 + 0 - 0 = c.val; omega
    · match a with
      | 0 => exact ⟨Nat.zero_le _, show b.val * 1 + 0 - 0 < B from by omega⟩
      | 1 => exact ⟨show n - 1 ≤ t.val * 1 + k.val from by omega, show t.val * 1 + k.val - (n - 1) < n from by omega⟩
      | 2 => exact ⟨Nat.zero_le _, show i.val * 1 + 0 - 0 < H from by omega⟩
      | 3 => exact ⟨Nat.zero_le _, show c.val * 1 + 0 - 0 < C from by omega⟩
  · rw [dif_neg (fun h' => ?_), dif_neg (fun h' => hr h'.1)]
    have := (h' 1).1
    change n - 1 ≤ t.val * 1 + k.val at this
    omega

theorem cum_hi4 (h : (⟨4, ![B, n, H, C]⟩ : Shape).ReduceWindows ![1, n, 1, 1] ![1, 1, 1, 1] ![0, 0, 0, 0] ![0, n - 1, 0, 0] ⟨4, ![B, n, H, C]⟩)
    (x : (⟨4, ![B, n, H, C]⟩ : Shape).Idx → EReal) (b : Fin B) (t : Fin n) (i : Fin H) (c : Fin C) :
    Ideal.hostReduceWindowAdd ![1, n, 1, 1] ![1, 1, 1, 1] ![0, 0, 0, 0] ![0, n - 1, 0, 0] h x 0 (ix4 b t i c)
      = ∑ u : Fin n, if t ≤ u then x (ix4 b u i c) else 0 := by
  rw [winSum_eq, ← sum_hi t (fun u => x (ix4 b u i c)), ← Equiv.sum_comp (win4 n).symm]
  refine Finset.sum_congr rfl fun k _ => ?_
  have hk := k.isLt
  have ht := t.isLt
  by_cases hr : t.val + k.val < n
  · rw [dif_pos (fun a => ?_), dif_pos hr]
    · refine congrArg x (funext fun a => Fin.ext ?_)
      match a with
      | 0 => show b.val * 1 + 0 - 0 = b.val; omega
      | 1 => show t.val * 1 + k.val - 0 = t.val + k.val; omega
      | 2 => show i.val * 1 + 0 - 0 = i.val; omega
      | 3 => show c.val * 1 + 0 - 0 = c.val; omega
    · match a with
      | 0 => exact ⟨Nat.zero_le _, show b.val * 1 + 0 - 0 < B from by omega⟩
      | 1 => exact ⟨Nat.zero_le _, show t.val * 1 + k.val - 0 < n from by omega⟩
      | 2 => exact ⟨Nat.zero_le _, show i.val * 1 + 0 - 0 < H from by omega⟩
      | 3 => exact ⟨Nat.zero_le _, show c.val * 1 + 0 - 0 < C from by omega⟩
  · rw [dif_neg (fun h' => ?_), dif_neg hr]
    have := (h' 1).2
    change t.val * 1 + k.val - 0 < n at this
    omega

theorem cum_lo5 (h : (⟨5, ![A, B, n, H, C]⟩ : Shape).ReduceWindows ![1, 1, n, 1, 1] ![1, 1, 1, 1, 1] ![0, 0, n - 1, 0, 0] ![0, 0, 0, 0, 0] ⟨5, ![A, B, n, H, C]⟩)
    (x : (⟨5, ![A, B, n, H, C]⟩ : Shape).Idx → EReal) (a : Fin A) (b : Fin B) (t : Fin n) (i : Fin H) (c : Fin C) :
    Ideal.hostReduceWindowAdd ![1, 1, n, 1, 1] ![1, 1, 1, 1, 1] ![0, 0, n - 1, 0, 0] ![0, 0, 0, 0, 0] h x 0 (ix5 a b t i c)
      = ∑ u : Fin n, if u ≤ t then x (ix5 a b u i c) else 0 := by
  rw [winSum_eq, ← sum_lo t (fun u => x (ix5 a b u i c)), ← Equiv.sum_comp (win5 n).symm]
  refine Finset.sum_congr rfl fun k _ => ?_
  have hk := k.isLt
  have ht := t.isLt
  by_cases hr : n - 1 ≤ t.val + k.val
  · rw [dif_pos (fun d => ?_), dif_pos ⟨hr, by omega⟩]
    · refine congrArg x (funext fun d => Fin.ext ?_)
      match d with
      | 0 => show a.val * 1 + 0 - 0 = a.val; omega
      | 1 => show b.val * 1 + 0 - 0 = b.val; omega
      | 2 => show t.val * 1 + k.val - (n - 1) = t.val + k.val - (n - 1); omega
      | 3 => show i.val * 1 + 0 - 0 = i.val; omega
      | 4 => show c.val * 1 + 0 - 0 = c.val; omega
    · match d with
      | 0 => exact ⟨Nat.zero_le _, show a.val * 1 + 0 - 0 < A from by omega⟩
      | 1 => exact ⟨Nat.zero_le _, show b.val * 1 + 0 - 0 < B from by omega⟩
      | 2 => exact ⟨show n - 1 ≤ t.val * 1 + k.val from by omega, show t.val * 1 + k.val - (n - 1) < n from by omega⟩
      | 3 => exact ⟨Nat.zero_le _, show i.val * 1 + 0 - 0 < H from by omega⟩
      | 4 => exact ⟨Nat.zero_le _, show c.val * 1 + 0 - 0 < C from by omega⟩
  · rw [dif_neg (fun h' => ?_), dif_neg (fun h' => hr h'.1)]
    have := (h' 2).1
    change n - 1 ≤ t.val * 1 + k.val at this
    omega

end Cert.Gla

end
-- ==== Proof.HostVal.lean ====
/- The saved states at real arguments: each is the state that enters its block. -/
module

public import proofs.«01_k».proof.Proof.HostStates
public import proofs.«01_k».proof.Proof.Data
public import proofs.«01_k».proof.Proof.Cum

@[expose] public section

set_option maxRecDepth 16384

noncomputable section

namespace Cert.KernelIdeal.Hand

open Cert.KernelIdeal Cert.KernelIdeal.Gen Cert.KernelIdeal.Body Cert.Gla
open Idealize.ShloMosaic Idealize.ShloMosaic.TcCoe Idealize.ShloMosaic.Tactic

theorem ofNat_toInt (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem early_apply (i : Fin 36) (t : Fin 2304) (z : Fin 1) :
    early (F := Ideal) (ix5 i z t z z) = if t.val < 64 * i.val then 1#1 else 0#1 := by
  have hi := i.isLt
  have ht := t.isLt
  have e : IntOp.muli (64#32) (BitVec.ofNat 32 i.val) = BitVec.ofNat 32 (64 * i.val) := by
    unfold IntOp.muli
    rw [BitVec.ofNat_mul]
  pointwise [early]
  rw [e]
  unfold IntOp.cmpi
  dsimp only
  rw [BitVec.slt, ofNat_toInt _ (by omega), ofNat_toInt _ (by omega)]
  by_cases h : t.val < 64 * i.val
  · rw [if_pos h, decide_eq_true (by omega)]; rfl
  · rw [if_neg h, decide_eq_false (by omega)]; rfl

theorem keep_apply (x : Vec Ideal S2x2304x4x128 .f32) (i : Fin 36) (b : Fin 2) (t : Fin 2304) (h : Fin 4) (c : Fin 128) :
    keepEarly x (ix5 i b t h c) = if t.val < 64 * i.val then x (ix4 b t h c) else 0 := by
  pointwise [keepEarly]
  rw [early_apply]
  by_cases ht : t.val < 64 * i.val
  · rw [if_pos ht, if_pos ht]; rfl
  · rw [if_neg ht, if_neg ht]; rfl

theorem tcat512 (p : Vec Ideal S2x256x512 .f32) (q : Vec Ideal S2x2048x512 .f32) (b : Fin 2) (t : Fin 2304) (h : Fin 4) (c : Fin 128) :
    (shapeCast S2x2304x4x128 (cat512 p q) shapeCasts_S2x2304x512_S2x2304x4x128 : Vec Ideal S2x2304x4x128 .f32) (ix4 b t h c)
      = if ht : t.val < 256 then p (ix3 b ⟨t.val, ht⟩ ⟨h.val * 128 + c.val, by omega⟩)
        else q (ix3 b ⟨t.val - 256, by omega⟩ ⟨h.val * 128 + c.val, by omega⟩) := by
  pointwise [cat512]

theorem pc512 (x : Vec Ideal S4608x512 .f32) (b : Fin 2) (t : Fin 256) (C : Fin 512) :
    (shapeCast S2x256x512 (extractStridedSlice S512x512 ![4096, 0] x slices_S4608x512_S512x512_4096_0) shapeCasts_S512x512_S2x256x512 : Vec Ideal S2x256x512 .f32)
      (ix3 b t C) = x (ix2 ⟨4096 + (b.val * 256 + t.val), by omega⟩ C) := by
  pointwise

theorem pm512 (x : Vec Ideal S4608x512 .f32) (b : Fin 2) (t : Fin 2048) (C : Fin 512) :
    (shapeCast S2x2048x512 (extractStridedSlice S4096x512 ![0, 0] x slices_S4608x512_S4096x512_0_0) shapeCasts_S4096x512_S2x2048x512 : Vec Ideal S2x2048x512 .f32)
      (ix3 b t C) = x (ix2 ⟨b.val * 2048 + t.val, by omega⟩ C) := by
  pointwise

theorem tok512_apply (x : Vec Ideal S4608x512 .f32) (b : Fin 2) (t : Fin 2304) (h : Fin 4) (c : Fin 128) :
    tok512 x (ix4 b t h c) = x (ix2 (row false b t) ⟨128 * h.val + c.val, by omega⟩) := by
  refine (tcat512 _ _ b t h c).trans ?_
  have hC : h.val * 128 + c.val = 128 * h.val + c.val := by omega
  by_cases ht : t.val < 256
  · rw [dif_pos ht, pc512]
    refine congrArg x (at_ix2 ?_ hC)
    rw [row_ctx _ _ ht]
    show 4096 + (b.val * 256 + t.val) = _
    unfold tk; simp only [Bool.false_eq_true, if_true, if_false]; omega
  · rw [dif_neg ht, pm512]
    refine congrArg x (at_ix2 ?_ hC)
    rw [row_main' _ _ ht t.isLt]
    show b.val * 2048 + (t.val - 256) = _
    unfold tk; simp only [Bool.false_eq_true, if_true, if_false]; omega

theorem rtok512_apply (x : Vec Ideal S4608x512 .f32) (b : Fin 2) (t : Fin 2304) (h : Fin 4) (c : Fin 128) :
    rtok512 x (ix4 b t h c) = x (ix2 (row true b t) ⟨128 * h.val + c.val, by omega⟩) := by
  refine (tcat512 _ _ b t h c).trans ?_
  have hC : h.val * 128 + c.val = 128 * h.val + c.val := by omega
  by_cases ht : t.val < 256
  · rw [dif_pos ht, rev3, pc512]
    refine congrArg x (at_ix2 ?_ hC)
    rw [row_ctx _ _ ht]
    show 4096 + (b.val * 256 + (256 - (t.val + 1))) = _
    unfold tk; simp only [Bool.false_eq_true, if_true, if_false]; omega
  · rw [dif_neg ht, rev3, pm512]
    refine congrArg x (at_ix2 ?_ hC)
    rw [row_main' _ _ ht t.isLt]
    show b.val * 2048 + (2048 - (t.val - 256 + 1)) = _
    unfold tk; simp only [Bool.false_eq_true, if_true, if_false]; omega

theorem tcat1024 (p : Vec Ideal S2x256x1024 .f32) (q : Vec Ideal S2x2048x1024 .f32) (b : Fin 2) (t : Fin 2304) (h : Fin 4) (c : Fin 256) :
    (shapeCast S2x2304x4x256 (cat1024 p q) shapeCasts_S2x2304x1024_S2x2304x4x256 : Vec Ideal S2x2304x4x256 .f32) (ix4 b t h c)
      = if ht : t.val < 256 then p (ix3 b ⟨t.val, ht⟩ ⟨h.val * 256 + c.val, by omega⟩)
        else q (ix3 b ⟨t.val - 256, by omega⟩ ⟨h.val * 256 + c.val, by omega⟩) := by
  pointwise [cat1024]

theorem pc1024 (x : Vec Ideal S4608x1024 .f32) (b : Fin 2) (t : Fin 256) (C : Fin 1024) :
    (shapeCast S2x256x1024 (extractStridedSlice S512x1024 ![4096, 0] x slices_S4608x1024_S512x1024_4096_0) shapeCasts_S512x1024_S2x256x1024 : Vec Ideal S2x256x1024 .f32)
      (ix3 b t C) = x (ix2 ⟨4096 + (b.val * 256 + t.val), by omega⟩ C) := by
  pointwise

theorem pm1024 (x : Vec Ideal S4608x1024 .f32) (b : Fin 2) (t : Fin 2048) (C : Fin 1024) :
    (shapeCast S2x2048x1024 (extractStridedSlice S4096x1024 ![0, 0] x slices_S4608x1024_S4096x1024_0_0) shapeCasts_S4096x1024_S2x2048x1024 : Vec Ideal S2x2048x1024 .f32)
      (ix3 b t C) = x (ix2 ⟨b.val * 2048 + t.val, by omega⟩ C) := by
  pointwise

theorem tok1024_apply (x : Vec Ideal S4608x1024 .f32) (b : Fin 2) (t : Fin 2304) (h : Fin 4) (c : Fin 256) :
    tok1024 x (ix4 b t h c) = x (ix2 (row false b t) ⟨256 * h.val + c.val, by omega⟩) := by
  refine (tcat1024 _ _ b t h c).trans ?_
  have hC : h.val * 256 + c.val = 256 * h.val + c.val := by omega
  by_cases ht : t.val < 256
  · rw [dif_pos ht, pc1024]
    refine congrArg x (at_ix2 ?_ hC)
    rw [row_ctx _ _ ht]
    show 4096 + (b.val * 256 + t.val) = _
    unfold tk; simp only [Bool.false_eq_true, if_true, if_false]; omega
  · rw [dif_neg ht, pm1024]
    refine congrArg x (at_ix2 ?_ hC)
    rw [row_main' _ _ ht t.isLt]
    show b.val * 2048 + (t.val - 256) = _
    unfold tk; simp only [Bool.false_eq_true, if_true, if_false]; omega

theorem rtok1024_apply (x : Vec Ideal S4608x1024 .f32) (b : Fin 2) (t : Fin 2304) (h : Fin 4) (c : Fin 256) :
    rtok1024 x (ix4 b t h c) = x (ix2 (row true b t) ⟨256 * h.val + c.val, by omega⟩) := by
  refine (tcat1024 _ _ b t h c).trans ?_
  have hC : h.val * 256 + c.val = 256 * h.val + c.val := by omega
  by_cases ht : t.val < 256
  · rw [dif_pos ht, rev3, pc1024]
    refine congrArg x (at_ix2 ?_ hC)
    rw [row_ctx _ _ ht]
    show 4096 + (b.val * 256 + (256 - (t.val + 1))) = _
    unfold tk; simp only [Bool.false_eq_true, if_true, if_false]; omega
  · rw [dif_neg ht, rev3, pm1024]
    refine congrArg x (at_ix2 ?_ hC)
    rw [row_main' _ _ ht t.isLt]
    show b.val * 2048 + (2048 - (t.val - 256 + 1)) = _
    unfold tk; simp only [Bool.false_eq_true, if_true, if_false]; omega

theorem cum_apply (g : Vec Ideal S2x2304x4x128 .f32) (i : Fin 36) (b : Fin 2) (t : Fin 2304) (h : Fin 4) (c : Fin 128) :
    cumEarly g (ix5 i b t h c) = ∑ u : Fin 2304, if u ≤ t then (if u.val < 64 * i.val then g (ix4 b u h c) else 0) else 0 := by
  have h0 : (broadcastInDim S_ ![] bcast_S_S_ (constant S_ .f32 0x00000000#32 : FVec Ideal S_ .f32) : FVec Ideal S_ .f32) (Shape.Idx.first h_S_) = 0 := by
    show Ideal.ofBits .f32 0x00000000#32 = 0
    simp [Ideal.ofBits, Ideal.ieee]
  unfold cumEarly Host.reduceWindowAdd
  rw [h0, Ideal.hostReduceWindowAdd_def]
  refine (cum_lo5 reduceWindows_S36x2x2304x4x128_S36x2x2304x4x128_w1s1p0_0_w1s1p0_0_w2304s1p2303_0_w1s1p0_0_w1s1p0_0 _ i b t h c).trans ?_
  simp only [keep_apply]

/-- What the arrays hold when the tokens' rows are real. -/
theorem states_apply {k : Vec Ideal S2x2304x4x128 .f32} {v : Vec Ideal S2x2304x4x256 .f32} {g : Vec Ideal S2x2304x4x128 .f32}
    {S : Fin 2 → Fin 4 → Seq (Fin 128) (Fin 256)}
    (hk : ∀ b (t : Fin 2304) h c, k (ix4 b t h c) = (((S b h).k t c : ℝ) : EReal))
    (hv : ∀ b (t : Fin 2304) h c, v (ix4 b t h c) = (((S b h).v t c : ℝ) : EReal))
    (hg : ∀ b (t : Fin 2304) h c, g (ix4 b t h c) = (((S b h).g t c : ℝ) : EReal))
    (i : Fin 36) (b : Fin 2) (h : Fin 4) (y : Fin 256) (c : Fin 128) :
    statesOf k v g (ix5 b i h y c) = (((S b h).ST (64 * i.val) y c : ℝ) : EReal) := by
  have hi := i.isLt
  have hc : ∀ t : Fin 2304, cumEarly g (ix5 i b t h c)
      = (((∑ u : Fin 2304, if u ≤ t then (if u.val < 64 * i.val then (S b h).g u c else 0) else 0 : ℝ)) : EReal) := fun t => by
    rw [cum_apply, coe_sum]
    refine Finset.sum_congr rfl fun u _ => ?_
    split_ifs
    · exact hg _ _ _ _
    · exact EReal.coe_zero.symm
    · exact EReal.coe_zero.symm
  have hl : (∑ u : Fin 2304, if u ≤ (2303 : Fin 2304) then (if u.val < 64 * i.val then (S b h).g u c else 0) else 0 : ℝ) = (S b h).B (64 * i.val) c := by
    rw [sum_fin_le (2303 : Fin 2304) (fun u => if u < 64 * i.val then (S b h).g u c else 0), ← Finset.sum_filter]
    unfold Seq.B cum
    refine Finset.sum_congr (Finset.ext fun u => ?_) fun _ _ => rfl
    simp only [Finset.mem_filter, Finset.mem_range]
    show u < 2303 + 1 ∧ _ ↔ _
    omega
  have ht : ∀ t : Fin 2304, t.val < 64 * i.val → (∑ u : Fin 2304, if u ≤ t then (if u.val < 64 * i.val then (S b h).g u c else 0) else 0 : ℝ) = (S b h).B (t.val + 1) c := fun t ht => by
    rw [sum_fin_le t (fun u => if u < 64 * i.val then (S b h).g u c else 0), ← Finset.sum_filter]
    unfold Seq.B cum
    refine Finset.sum_congr (Finset.ext fun u => ?_) fun _ _ => rfl
    simp only [Finset.mem_filter, Finset.mem_range]
    omega
  pointwise [statesOf]
  have hs : (S b h).ST (64 * i.val) y c = ∑ x : Fin 2304, if x.val < 64 * i.val then
      (S b h).k x c * Real.exp ((S b h).B (64 * i.val) c - (S b h).B (x.val + 1) c) * (S b h).v x y else 0 := by
    rw [Fin.sum_univ_eq_sum_range (fun x => if x < 64 * i.val then
      (S b h).k x c * Real.exp ((S b h).B (64 * i.val) c - (S b h).B (x + 1) c) * (S b h).v x y else 0) 2304, ← Finset.sum_filter]
    unfold Seq.ST
    refine Finset.sum_congr (Finset.ext fun u => ?_) fun _ _ => by ring
    simp only [Finset.mem_filter, Finset.mem_range]
    omega
  rw [hs, coe_sum]
  refine Finset.sum_congr rfl fun x _ => ?_
  rw [keep_apply, hc, hc, hl]
  by_cases hx : x.val < 64 * i.val
  · rw [if_pos hx, if_pos hx, ht x hx, hk, hv, ← EReal.coe_sub, EReal.coe_mul, EReal.coe_mul]
    rfl
  · rw [if_neg hx, if_neg hx, zero_mul, zero_mul, EReal.coe_zero]

end Cert.KernelIdeal.Hand

end
-- ==== Proof.Points.lean ====
/- What a grid point reads: each block is rows of an argument, 64 consecutive tokens of one batch element, counted from the end of the
   sequence in direction 1. -/
module

public import proofs.«01_k».proof.Proof.Bridge
public import proofs.«01_k».proof.Proof.HostVal

@[expose] public section

set_option maxRecDepth 16384

noncomputable section

namespace Cert.KernelIdeal.Hand

open Cert.KernelIdeal.Gen Cert.KernelIdeal.Body Cert.Gla
open Idealize.ShloMosaic Idealize.ShloMosaic.TcCoe Idealize.ShloMosaic.Tactic

set_option maxHeartbeats 4000000

/-- The batch element of a grid point. -/
def bt (t : ℕ) : Fin 2 := ⟨t / 36 % 2, by omega⟩
/-- The chunk of a grid point: the last one first. -/
def ci (t : ℕ) : ℕ := 35 - t % 36
theorem ci_lt (t : ℕ) : ci t < 36 := by unfold ci; omega

/-- The block of 64 rows of a grid point, among all rows. -/
def rb (d : Bool) (t : ℕ) : ℕ := if ci t < 4 then 64 + 4 * (bt t).val + tk d 4 (ci t) else 32 * (bt t).val + tk d 32 (ci t - 4)
/-- The block of 64 rows of a grid point, among the main rows; the nearest one at a point of the context. -/
def ro (d : Bool) (t : ℕ) : ℕ := if ci t < 4 then 32 * (bt t).val + tk d 32 0 else 32 * (bt t).val + tk d 32 (ci t - 4)

/-- The tokens of a block of rows, in the order of the rows. -/
def ed (d : Bool) : Fin 64 ≃ Fin 64 := if d then Fin.revPerm else Equiv.refl _

theorem ed_val (d : Bool) (x : Fin 64) : (ed d x).val = if d then 63 - x.val else x.val := by
  cases d
  · rfl
  · change 64 - (x.val + 1) = 63 - x.val; omega

theorem rb_row (d : Bool) (t : ℕ) (ht : t < 72) (x : Fin 64) : (row d (bt t) (64 * ci t + (ed d x).val)).val = rb d t * 64 + x.val := by
  have hc := ci_lt t
  have hx := x.isLt
  have he := ed_val d x
  have hl := (ed d x).isLt
  unfold rb
  by_cases h : ci t < 4
  · rw [if_pos h, row_ctx d _ (by omega)]
    unfold tk
    cases d
    · simp only [Bool.false_eq_true, if_false] at he ⊢; omega
    · simp only [if_true] at he ⊢; omega
  · rw [if_neg h, row_main' d _ (by omega) (by omega)]
    unfold tk
    cases d
    · simp only [Bool.false_eq_true, if_false] at he ⊢; omega
    · simp only [if_true] at he ⊢; omega

theorem ro_row (d : Bool) (t : ℕ) (ht : t < 72) (h : ¬ ci t < 4) (x : Fin 64) : (rowo d (bt t) (64 * ci t + (ed d x).val)).val = ro d t * 64 + x.val := by
  have hc := ci_lt t
  have hx := x.isLt
  have he := ed_val d x
  have hl := (ed d x).isLt
  unfold ro
  rw [if_neg h, show 64 * ci t + (ed d x).val = 256 + (64 * ci t + (ed d x).val - 256) by omega, rowo_main d _ (by omega)]
  unfold tk
  cases d
  · simp only [Bool.false_eq_true, if_false] at he ⊢; omega
  · simp only [if_true] at he ⊢; omega

theorem ix0_0 : ∀ t : Fin cfg0.N, win0_0.index t = ![rb false t.val, 0] := (by decide +kernel : ∀ t : Fin grid0.N, win0_0.index t = ![rb false t.val, 0])
theorem ix0_1 : ∀ t : Fin cfg0.N, win0_1.index t = ![rb false t.val, 1] := (by decide +kernel : ∀ t : Fin grid0.N, win0_1.index t = ![rb false t.val, 1])
theorem ix0_2 : ∀ t : Fin cfg0.N, win0_2.index t = ![rb false t.val, 1] := (by decide +kernel : ∀ t : Fin grid0.N, win0_2.index t = ![rb false t.val, 1])
theorem ix0_3 : ∀ t : Fin cfg0.N, win0_3.index t = ![rb false t.val, 0] := (by decide +kernel : ∀ t : Fin grid0.N, win0_3.index t = ![rb false t.val, 0])
theorem ix0_4 : ∀ t : Fin cfg0.N, win0_4.index t = ![ro false t.val, 0] := (by decide +kernel : ∀ t : Fin grid0.N, win0_4.index t = ![ro false t.val, 0])
theorem ix0_5 : ∀ t : Fin cfg0.N, win0_5.index t = ![(bt t.val).val, ci t.val, 0, 0, 0] := (by decide +kernel : ∀ t : Fin grid0.N, win0_5.index t = ![(bt t.val).val, ci t.val, 0, 0, 0])
theorem ix0_6 : ∀ t : Fin cfg0.N, win0_6.index t = ![rb true t.val, 0] := (by decide +kernel : ∀ t : Fin grid0.N, win0_6.index t = ![rb true t.val, 0])
theorem ix0_7 : ∀ t : Fin cfg0.N, win0_7.index t = ![rb true t.val, 1] := (by decide +kernel : ∀ t : Fin grid0.N, win0_7.index t = ![rb true t.val, 1])
theorem ix0_8 : ∀ t : Fin cfg0.N, win0_8.index t = ![rb true t.val, 1] := (by decide +kernel : ∀ t : Fin grid0.N, win0_8.index t = ![rb true t.val, 1])
theorem ix0_9 : ∀ t : Fin cfg0.N, win0_9.index t = ![rb true t.val, 1] := (by decide +kernel : ∀ t : Fin grid0.N, win0_9.index t = ![rb true t.val, 1])
theorem ix0_10 : ∀ t : Fin cfg0.N, win0_10.index t = ![ro true t.val, 0] := (by decide +kernel : ∀ t : Fin grid0.N, win0_10.index t = ![ro true t.val, 0])
theorem ix0_11 : ∀ t : Fin cfg0.N, win0_11.index t = ![(bt t.val).val, ci t.val, 0, 0, 0] := (by decide +kernel : ∀ t : Fin grid0.N, win0_11.index t = ![(bt t.val).val, ci t.val, 0, 0, 0])

/-- The factor of a point's rows of the gradient of the output. -/
theorem pay5_eq : ∀ t : Fin grid0.N, Scalar.cmpi .sge (Scalar.subi 35#32 (BitVec.ofNat 32 ((grid0.coords t) 1).val)) 4#32 = if ci t.val < 4 then 0#1 else 1#1 := by decide +kernel

theorem one_bits : Ideal.ofBits .f32 0x3F800000#32 = ((1 : ℝ) : EReal) := by
  simp [Ideal.ofBits, Ideal.ieee]
  rw [← EReal.coe_mul]
  norm_num

theorem pay5_val (t : Fin cfg0.N) : k0_pay5 (F := Ideal) (grid0.coords t) = if ci t.val < 4 then ((0 : ℝ) : EReal) else ((1 : ℝ) : EReal) := by
  unfold k0_pay5
  dsimp only
  rw [pay5_eq t]
  split
  · change Ideal.ofBits .f32 0x00000000#32 = _; simp [Ideal.ofBits, Ideal.ieee]
  · exact one_bits

section
variable (m : (ℓ : Loc nD τ sig) → Buf (Elt Ideal) ℓ) (c : Dev nD)
variable {A0 : Fin 4608 → Fin 3200 → ℝ} {A1 : Fin 4608 → Fin 1024 → ℝ} {A2 : Fin 4096 → Fin 1024 → ℝ}

/-- The columns of an argument that are read, in real numbers. -/
abbrev Rd {n k : ℕ} (x : (⟨2, ![n, k]⟩ : Shape).Idx → EReal) (A : Fin n → Fin k → ℝ) : Prop := ∀ R C, C.val < 2048 → x (ix2 R C) = ((A R C : ℝ) : EReal)

theorem rd_at {n k : ℕ} {x : (⟨2, ![n, k]⟩ : Shape).Idx → EReal} {A : Fin n → Fin k → ℝ} (h : Rd x A) {i} {R : Fin n} {C : Fin k}
    (h0 : (i 0).val = R.val) (h1 : (i 1).val = C.val) (hC : C.val < 2048) : x i = ((A R C : ℝ) : EReal) := by rw [at_ix2 h0 h1]; exact h R C hC

theorem hst0_apply {a0 : Vec Ideal S4608x3200 .f32} {a1 : Vec Ideal S4608x1024 .f32} (h0 : Rd a0 A0) (h1 : Rd a1 A1) (b : Fin 2) (i : Fin 36) (h : Fin 4) (y : Fin 256) (z : Fin 128) :
    hst0 a0 a1 (ix5 b i h y z) = (((seq A0 A1 A2 false b h).ST (64 * i.val) y z : ℝ) : EReal) := by
  unfold hst0
  refine states_apply (S := fun b h => seq A0 A1 A2 false b h) ?_ ?_ ?_ i b h y z
  · intro b t h z
    refine (tok512_apply _ b t h z).trans ?_
    pointwise
    refine rd_at h0 ?_ ?_ ?_
    · rfl
    · rfl
    · change 512 + (128 * h.val + z.val) < 2048; omega
  · intro b t h z
    refine (tok1024_apply _ b t h z).trans ?_
    pointwise
    refine rd_at h0 ?_ ?_ ?_
    · rfl
    · rfl
    · change 1024 + (256 * h.val + z.val) < 2048; omega
  · intro b t h z
    refine (tok512_apply _ b t h z).trans ?_
    pointwise
    refine rd_at h1 ?_ ?_ ?_
    · rfl
    · change _ = 512 * 0 + (128 * h.val + z.val)
      simp
    · change 512 * 0 + (128 * h.val + z.val) < 2048; omega

theorem hst1_apply {a0 : Vec Ideal S4608x3200 .f32} {a1 : Vec Ideal S4608x1024 .f32} (h0 : Rd a0 A0) (h1 : Rd a1 A1) (b : Fin 2) (i : Fin 36) (h : Fin 4) (y : Fin 256) (z : Fin 128) :
    hst1 a0 a1 (ix5 b i h y z) = (((seq A0 A1 A2 true b h).ST (64 * i.val) y z : ℝ) : EReal) := by
  unfold hst1
  refine states_apply (S := fun b h => seq A0 A1 A2 true b h) ?_ ?_ ?_ i b h y z
  · intro b t h z
    refine (rtok512_apply _ b t h z).trans ?_
    pointwise
    refine rd_at h0 ?_ ?_ ?_
    · rfl
    · rfl
    · change 512 + (128 * h.val + z.val) < 2048; omega
  · intro b t h z
    refine (rtok1024_apply _ b t h z).trans ?_
    pointwise
    refine rd_at h0 ?_ ?_ ?_
    · rfl
    · rfl
    · change 1024 + (256 * h.val + z.val) < 2048; omega
  · intro b t h z
    refine (rtok512_apply _ b t h z).trans ?_
    pointwise
    refine rd_at h1 ?_ ?_ ?_
    · rfl
    · change _ = 512 * 1 + (128 * h.val + z.val)
      simp
    · change 512 * 1 + (128 * h.val + z.val) < 2048; omega

theorem x0_0 (h : Rd (m ((c : Thread nD τ).loc main_arg0)) A0) (t : Fin cfg0.N) :
    Is (X0_0 m c t) (fun x C => qraw A0 false (bt t.val) (hd C) (64 * ci t.val + (ed false x).val) (ln C)) := by
  intro x C
  unfold X0_0 Pipeline.Window.fill
  rw [dif_pos (moved0_0 t _)]
  unfold iblk
  change V m c main_arg0 (((cfg0.win 0).blk t).view.emb _) = _
  rw [V_main_arg0]
  refine rd_at h ?_ ?_ ?_
  · refine Eq.trans ?_ (rb_row false t.val t.isLt x).symm
    change win0_0.index t 0 * 64 + 1 * x.val = _
    rw [ix0_0 t]
    change rb false t.val * 64 + 1 * x.val = _
    omega
  · change win0_0.index t 1 * 512 + 1 * C.val = 128 * (C.val / 128) + C.val % 128
    rw [ix0_0 t]
    change 0 * 512 + 1 * C.val = _
    omega
  · change 128 * (C.val / 128) + C.val % 128 < 2048
    have hC : C.val < 512 := C.isLt
    omega

theorem x0_1 (h : Rd (m ((c : Thread nD τ).loc main_arg0)) A0) (t : Fin cfg0.N) :
    Is (X0_1 m c t) (fun x C => (seq A0 A1 A2 false (bt t.val) (hd C)).k (64 * ci t.val + (ed false x).val) (ln C)) := by
  intro x C
  unfold X0_1 Pipeline.Window.fill
  rw [dif_pos (moved0_1 t _)]
  unfold iblk
  change V m c main_arg0 (((cfg0.win 1).blk t).view.emb _) = _
  rw [V_main_arg0]
  refine rd_at h ?_ ?_ ?_
  · refine Eq.trans ?_ (rb_row false t.val t.isLt x).symm
    change win0_1.index t 0 * 64 + 1 * x.val = _
    rw [ix0_1 t]
    change rb false t.val * 64 + 1 * x.val = _
    omega
  · change win0_1.index t 1 * 512 + 1 * C.val = 512 + (128 * (C.val / 128) + C.val % 128)
    rw [ix0_1 t]
    change 1 * 512 + 1 * C.val = _
    omega
  · change 512 + (128 * (C.val / 128) + C.val % 128) < 2048
    have hC : C.val < 512 := C.isLt
    omega

theorem x0_2 (h : Rd (m ((c : Thread nD τ).loc main_arg0)) A0) (t : Fin cfg0.N) :
    Is (X0_2 m c t) (fun x C => (seq A0 A1 A2 false (bt t.val) (hdv C)).v (64 * ci t.val + (ed false x).val) (lnv C)) := by
  intro x C
  unfold X0_2 Pipeline.Window.fill
  rw [dif_pos (moved0_2 t _)]
  unfold iblk
  change V m c main_arg0 (((cfg0.win 2).blk t).view.emb _) = _
  rw [V_main_arg0]
  refine rd_at h ?_ ?_ ?_
  · refine Eq.trans ?_ (rb_row false t.val t.isLt x).symm
    change win0_2.index t 0 * 64 + 1 * x.val = _
    rw [ix0_2 t]
    change rb false t.val * 64 + 1 * x.val = _
    omega
  · change win0_2.index t 1 * 1024 + 1 * C.val = 1024 + (256 * (C.val / 256) + C.val % 256)
    rw [ix0_2 t]
    change 1 * 1024 + 1 * C.val = _
    omega
  · change 1024 + (256 * (C.val / 256) + C.val % 256) < 2048
    have hC : C.val < 1024 := C.isLt
    omega

theorem x0_3 (h : Rd (m ((c : Thread nD τ).loc main_arg1)) A1) (t : Fin cfg0.N) :
    Is (iblk m c 3 t) (fun x C => (seq A0 A1 A2 false (bt t.val) (hd C)).g (64 * ci t.val + (ed false x).val) (ln C)) := by
  intro x C
  unfold iblk
  change V m c main_arg1 (((cfg0.win 3).blk t).view.emb _) = _
  rw [V_main_arg1]
  refine rd_at h ?_ ?_ ?_
  · refine Eq.trans ?_ (rb_row false t.val t.isLt x).symm
    change win0_3.index t 0 * 64 + 1 * x.val = _
    rw [ix0_3 t]
    change rb false t.val * 64 + 1 * x.val = _
    omega
  · change win0_3.index t 1 * 512 + 1 * C.val = 512 * 0 + (128 * (C.val / 128) + C.val % 128)
    rw [ix0_3 t]
    change 0 * 512 + 1 * C.val = _
    omega
  · change 512 * 0 + (128 * (C.val / 128) + C.val % 128) < 2048
    have hC : C.val < 512 := C.isLt
    omega

theorem x0_4 (h : Rd (m ((c : Thread nD τ).loc main_arg2)) A2) (t : Fin cfg0.N) :
    Is (live (grid0.coords t) (iblk m c 4 t)) (fun x C => (seq A0 A1 A2 false (bt t.val) (hdv C)).o (64 * ci t.val + (ed false x).val) (lnv C)) := by
  intro x C
  change @HMul.hMul EReal EReal EReal _ (iblk m c 4 t (ix2 x C)) (k0_pay5 (F := Ideal) (grid0.coords t)) = _
  rw [pay5_val t]
  have hl := (ed false x).isLt
  unfold iblk
  change @HMul.hMul EReal EReal EReal _ (V m c main_arg2 (((cfg0.win 4).blk t).view.emb _)) _ = _
  rw [V_main_arg2]
  have hr : ∃ R, (m ((c : Thread nD τ).loc main_arg2) (((cfg0.win 4).blk t).view.emb (ix2 x C)) : EReal) = ((A2 R C : ℝ) : EReal) ∧ R.val = ro false t.val * 64 + x.val := by
    have hR : ro false t.val * 64 + x.val < 4096 := by
      have := ci_lt t.val
      have := (bt t.val).isLt
      have hx := x.isLt
      unfold ro tk
      simp only [if_true, Bool.false_eq_true, if_false]
      split <;> omega
    refine ⟨⟨_, hR⟩, rd_at h ?_ ?_ (by have hC : C.val < 1024 := C.isLt; omega), rfl⟩
    · change win0_4.index t 0 * 64 + 1 * x.val = ro false t.val * 64 + x.val
      rw [ix0_4 t]
      change ro false t.val * 64 + 1 * x.val = _
      omega
    · change win0_4.index t 1 * 1024 + 1 * C.val = C.val
      rw [ix0_4 t]
      change 0 * 1024 + 1 * C.val = _
      omega
  obtain ⟨R, hR, hv⟩ := hr
  refine (congrArg (fun z : EReal => z * _) hR).trans ?_
  dsimp only
  rw [show ((seq A0 A1 A2 false (bt t.val) (hdv C)).o (64 * ci t.val + (ed false x).val) (lnv C)) = if ci t.val < 4 then 0 else A2 R C from ?_]
  · split <;> simp
  · unfold seq
    dsimp only
    by_cases hc : ci t.val < 4
    · rw [if_pos hc, if_pos (by omega)]
    · rw [if_neg hc, if_neg (by omega)]
      refine congrArg₂ A2 (Fin.ext ?_) (Fin.ext ?_)
      · rw [hv]; exact ro_row false t.val t.isLt hc x
      · change 256 * (C.val / 256) + C.val % 256 = C.val; omega

theorem x0_5 (h0 : Rd (m ((c : Thread nD τ).loc main_arg0)) A0) (h1 : Rd (m ((c : Thread nD τ).loc main_arg1)) A1) (t : Fin cfg0.N) (h : Fin 4) :
    Is (stv (iblk m c 5 t) h) ((seq A0 A1 A2 false (bt t.val) h).ST (64 * ci t.val)) := by
  intro y z
  have e : stv (iblk m c 5 t) h (ix2 y z) = (iblk m c 5 t (ix5 (0 : Fin 1) (0 : Fin 1) h y z) : EReal) := by
    match h with
    | 0 => unfold stv; pointwise
    | 1 => unfold stv; pointwise
    | 2 => unfold stv; pointwise
    | 3 => unfold stv; pointwise
  rw [e]
  unfold iblk
  change (V m c main_v46 (((cfg0.win 5).blk t).view.emb _) : EReal) = _
  rw [V_main_v46]
  have e2 : ((cfg0.win 5).blk t).view.emb (ix5 (0 : Fin 1) (0 : Fin 1) h y z) = (ix5 (bt t.val) (⟨ci t.val, ci_lt _⟩ : Fin 36) h y z : S2x36x4x256x128.Idx) := by
    funext a
    refine Fin.ext ?_
    change win0_5.index t a * S1x1x4x256x128.size a + 1 * ((ix5 (0 : Fin 1) (0 : Fin 1) h y z : S1x1x4x256x128.Idx) a).val = _
    rw [ix0_5 t]
    match a with
    | 0 => change (bt t.val).val * 1 + 1 * 0 = (bt t.val).val; omega
    | 1 => change ci t.val * 1 + 1 * 0 = ci t.val; omega
    | 2 => change 0 * 4 + 1 * h.val = h.val; omega
    | 3 => change 0 * 256 + 1 * y.val = y.val; omega
    | 4 => change 0 * 128 + 1 * z.val = z.val; omega
  rw [e2]
  exact hst0_apply h0 h1 _ _ _ _ _

theorem x0_6 (h : Rd (m ((c : Thread nD τ).loc main_arg0)) A0) (t : Fin cfg0.N) :
    Is (X0_6 m c t) (fun x C => qraw A0 true (bt t.val) (hd C) (64 * ci t.val + (ed true x).val) (ln C)) := by
  intro x C
  unfold X0_6 Pipeline.Window.fill
  rw [dif_pos (moved0_6 t _)]
  unfold iblk
  change V m c main_arg0 (((cfg0.win 6).blk t).view.emb _) = _
  rw [V_main_arg0]
  refine rd_at h ?_ ?_ ?_
  · refine Eq.trans ?_ (rb_row true t.val t.isLt x).symm
    change win0_6.index t 0 * 64 + 1 * x.val = _
    rw [ix0_6 t]
    change rb true t.val * 64 + 1 * x.val = _
    omega
  · change win0_6.index t 1 * 512 + 1 * C.val = 128 * (C.val / 128) + C.val % 128
    rw [ix0_6 t]
    change 0 * 512 + 1 * C.val = _
    omega
  · change 128 * (C.val / 128) + C.val % 128 < 2048
    have hC : C.val < 512 := C.isLt
    omega

theorem x0_7 (h : Rd (m ((c : Thread nD τ).loc main_arg0)) A0) (t : Fin cfg0.N) :
    Is (X0_7 m c t) (fun x C => (seq A0 A1 A2 true (bt t.val) (hd C)).k (64 * ci t.val + (ed true x).val) (ln C)) := by
  intro x C
  unfold X0_7 Pipeline.Window.fill
  rw [dif_pos (moved0_7 t _)]
  unfold iblk
  change V m c main_arg0 (((cfg0.win 7).blk t).view.emb _) = _
  rw [V_main_arg0]
  refine rd_at h ?_ ?_ ?_
  · refine Eq.trans ?_ (rb_row true t.val t.isLt x).symm
    change win0_7.index t 0 * 64 + 1 * x.val = _
    rw [ix0_7 t]
    change rb true t.val * 64 + 1 * x.val = _
    omega
  · change win0_7.index t 1 * 512 + 1 * C.val = 512 + (128 * (C.val / 128) + C.val % 128)
    rw [ix0_7 t]
    change 1 * 512 + 1 * C.val = _
    omega
  · change 512 + (128 * (C.val / 128) + C.val % 128) < 2048
    have hC : C.val < 512 := C.isLt
    omega

theorem x0_8 (h : Rd (m ((c : Thread nD τ).loc main_arg0)) A0) (t : Fin cfg0.N) :
    Is (X0_8 m c t) (fun x C => (seq A0 A1 A2 true (bt t.val) (hdv C)).v (64 * ci t.val + (ed true x).val) (lnv C)) := by
  intro x C
  unfold X0_8 Pipeline.Window.fill
  rw [dif_pos (moved0_8 t _)]
  unfold iblk
  change V m c main_arg0 (((cfg0.win 8).blk t).view.emb _) = _
  rw [V_main_arg0]
  refine rd_at h ?_ ?_ ?_
  · refine Eq.trans ?_ (rb_row true t.val t.isLt x).symm
    change win0_8.index t 0 * 64 + 1 * x.val = _
    rw [ix0_8 t]
    change rb true t.val * 64 + 1 * x.val = _
    omega
  · change win0_8.index t 1 * 1024 + 1 * C.val = 1024 + (256 * (C.val / 256) + C.val % 256)
    rw [ix0_8 t]
    change 1 * 1024 + 1 * C.val = _
    omega
  · change 1024 + (256 * (C.val / 256) + C.val % 256) < 2048
    have hC : C.val < 1024 := C.isLt
    omega

theorem x0_9 (h : Rd (m ((c : Thread nD τ).loc main_arg1)) A1) (t : Fin cfg0.N) :
    Is (iblk m c 9 t) (fun x C => (seq A0 A1 A2 true (bt t.val) (hd C)).g (64 * ci t.val + (ed true x).val) (ln C)) := by
  intro x C
  unfold iblk
  change V m c main_arg1 (((cfg0.win 9).blk t).view.emb _) = _
  rw [V_main_arg1]
  refine rd_at h ?_ ?_ ?_
  · refine Eq.trans ?_ (rb_row true t.val t.isLt x).symm
    change win0_9.index t 0 * 64 + 1 * x.val = _
    rw [ix0_9 t]
    change rb true t.val * 64 + 1 * x.val = _
    omega
  · change win0_9.index t 1 * 512 + 1 * C.val = 512 * 1 + (128 * (C.val / 128) + C.val % 128)
    rw [ix0_9 t]
    change 1 * 512 + 1 * C.val = _
    omega
  · change 512 * 1 + (128 * (C.val / 128) + C.val % 128) < 2048
    have hC : C.val < 512 := C.isLt
    omega

theorem x0_10 (h : Rd (m ((c : Thread nD τ).loc main_arg2)) A2) (t : Fin cfg0.N) :
    Is (live (grid0.coords t) (iblk m c 10 t)) (fun x C => (seq A0 A1 A2 true (bt t.val) (hdv C)).o (64 * ci t.val + (ed true x).val) (lnv C)) := by
  intro x C
  change @HMul.hMul EReal EReal EReal _ (iblk m c 10 t (ix2 x C)) (k0_pay5 (F := Ideal) (grid0.coords t)) = _
  rw [pay5_val t]
  have hl := (ed true x).isLt
  unfold iblk
  change @HMul.hMul EReal EReal EReal _ (V m c main_arg2 (((cfg0.win 10).blk t).view.emb _)) _ = _
  rw [V_main_arg2]
  have hr : ∃ R, (m ((c : Thread nD τ).loc main_arg2) (((cfg0.win 10).blk t).view.emb (ix2 x C)) : EReal) = ((A2 R C : ℝ) : EReal) ∧ R.val = ro true t.val * 64 + x.val := by
    have hR : ro true t.val * 64 + x.val < 4096 := by
      have := ci_lt t.val
      have := (bt t.val).isLt
      have hx := x.isLt
      unfold ro tk
      simp only [if_true, Bool.false_eq_true, if_false]
      split <;> omega
    refine ⟨⟨_, hR⟩, rd_at h ?_ ?_ (by have hC : C.val < 1024 := C.isLt; omega), rfl⟩
    · change win0_10.index t 0 * 64 + 1 * x.val = ro true t.val * 64 + x.val
      rw [ix0_10 t]
      change ro true t.val * 64 + 1 * x.val = _
      omega
    · change win0_10.index t 1 * 1024 + 1 * C.val = C.val
      rw [ix0_10 t]
      change 0 * 1024 + 1 * C.val = _
      omega
  obtain ⟨R, hR, hv⟩ := hr
  refine (congrArg (fun z : EReal => z * _) hR).trans ?_
  dsimp only
  rw [show ((seq A0 A1 A2 true (bt t.val) (hdv C)).o (64 * ci t.val + (ed true x).val) (lnv C)) = if ci t.val < 4 then 0 else A2 R C from ?_]
  · split <;> simp
  · unfold seq
    dsimp only
    by_cases hc : ci t.val < 4
    · rw [if_pos hc, if_pos (by omega)]
    · rw [if_neg hc, if_neg (by omega)]
      refine congrArg₂ A2 (Fin.ext ?_) (Fin.ext ?_)
      · rw [hv]; exact ro_row true t.val t.isLt hc x
      · change 256 * (C.val / 256) + C.val % 256 = C.val; omega

theorem x0_11 (h0 : Rd (m ((c : Thread nD τ).loc main_arg0)) A0) (h1 : Rd (m ((c : Thread nD τ).loc main_arg1)) A1) (t : Fin cfg0.N) (h : Fin 4) :
    Is (stv (iblk m c 11 t) h) ((seq A0 A1 A2 true (bt t.val) h).ST (64 * ci t.val)) := by
  intro y z
  have e : stv (iblk m c 11 t) h (ix2 y z) = (iblk m c 11 t (ix5 (0 : Fin 1) (0 : Fin 1) h y z) : EReal) := by
    match h with
    | 0 => unfold stv; pointwise
    | 1 => unfold stv; pointwise
    | 2 => unfold stv; pointwise
    | 3 => unfold stv; pointwise
  rw [e]
  unfold iblk
  change (V m c main_v97 (((cfg0.win 11).blk t).view.emb _) : EReal) = _
  rw [V_main_v97]
  have e2 : ((cfg0.win 11).blk t).view.emb (ix5 (0 : Fin 1) (0 : Fin 1) h y z) = (ix5 (bt t.val) (⟨ci t.val, ci_lt _⟩ : Fin 36) h y z : S2x36x4x256x128.Idx) := by
    funext a
    refine Fin.ext ?_
    change win0_11.index t a * S1x1x4x256x128.size a + 1 * ((ix5 (0 : Fin 1) (0 : Fin 1) h y z : S1x1x4x256x128.Idx) a).val = _
    rw [ix0_11 t]
    match a with
    | 0 => change (bt t.val).val * 1 + 1 * 0 = (bt t.val).val; omega
    | 1 => change ci t.val * 1 + 1 * 0 = ci t.val; omega
    | 2 => change 0 * 4 + 1 * h.val = h.val; omega
    | 3 => change 0 * 256 + 1 * y.val = y.val; omega
    | 4 => change 0 * 128 + 1 * z.val = z.val; omega
  rw [e2]
  exact hst1_apply h0 h1 _ _ _ _ _

/-- Direction 0 of a point, over gradients of the states. -/
def dir0 (t : Fin cfg0.N) (dst : Fin 4 → FVec Ideal S256x128 .f32) : Dir :=
  dir 1#1 (grid0.coords t) (X0_0 m c t) (X0_1 m c t) (X0_2 m c t) (iblk m c 3 t) (iblk m c 4 t) (iblk m c 5 t) dst

theorem reads0 (h0 : Rd (m ((c : Thread nD τ).loc main_arg0)) A0) (h1 : Rd (m ((c : Thread nD τ).loc main_arg1)) A1) (h2 : Rd (m ((c : Thread nD τ).loc main_arg2)) A2)
    (t : Fin cfg0.N) {dst : Fin 4 → FVec Ideal S256x128 .f32} (hd : ∀ h, Is (dst h) ((seq A0 A1 A2 false (bt t.val) h).DST (64 * ci t.val + 64))) :
    DReads (dir0 m c t dst) (seq A0 A1 A2 false (bt t.val)) (qraw A0 false (bt t.val)) (ed false) (64 * ci t.val) where
  hm := mask_true
  hmt := maskt_true
  hs h := by change 64 * ci t.val + 64 ≤ 2304; have := ci_lt t.val; omega
  hq h t c := rfl
  iq := x0_0 m c h0 t
  ik := x0_1 m c h0 t
  iv := x0_2 m c h0 t
  ig := x0_3 m c h1 t
  io := x0_4 m c h2 t
  ist h := x0_5 m c h0 h1 t h
  idst := hd

/-- Direction 1 of a point, over gradients of the states. -/
def dir1 (t : Fin cfg0.N) (dst : Fin 4 → FVec Ideal S256x128 .f32) : Dir :=
  dir 0#1 (grid0.coords t) (X0_6 m c t) (X0_7 m c t) (X0_8 m c t) (iblk m c 9 t) (iblk m c 10 t) (iblk m c 11 t) dst

theorem reads1 (h0 : Rd (m ((c : Thread nD τ).loc main_arg0)) A0) (h1 : Rd (m ((c : Thread nD τ).loc main_arg1)) A1) (h2 : Rd (m ((c : Thread nD τ).loc main_arg2)) A2)
    (t : Fin cfg0.N) {dst : Fin 4 → FVec Ideal S256x128 .f32} (hd : ∀ h, Is (dst h) ((seq A0 A1 A2 true (bt t.val) h).DST (64 * ci t.val + 64))) :
    DReads (dir1 m c t dst) (seq A0 A1 A2 true (bt t.val)) (qraw A0 true (bt t.val)) (ed true) (64 * ci t.val) where
  hm := mask_false
  hmt := maskt_false
  hs h := by change 64 * ci t.val + 64 ≤ 2304; have := ci_lt t.val; omega
  hq h t c := rfl
  iq := x0_6 m c h0 t
  ik := x0_7 m c h0 t
  iv := x0_8 m c h0 t
  ig := x0_9 m c h1 t
  io := x0_10 m c h2 t
  ist h := x0_11 m c h0 h1 t h
  idst := hd

end

end Cert.KernelIdeal.Hand

end
-- ==== Proof.ValueKernelIdeal.lean ====
/- What the frame run of the ideal kernel leaves in each output array, block by block: the block of a grid point holds what the point
   left in the output's staging buffer. -/
module

public import proofs.«01_k».proof.Proof.FrameKernelIdeal
public import Idealize.ShloMosaic.Lib.Pipeline.Value

@[expose] public section

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`outsAt0`: its component 0), read through the window's block. -/
theorem flushed12 (c : Dev nD) (t : Fin cfg0.N) :
    (dats m 0 c).flushed 12 t = (cfg0.win 12).cut (grid0.coords t) ((outsAt0 m c t.val t.isLt).1) := by
  show (cfg0.win 12).cut (grid0.coords t) ((dats m 0 c).after 12 t) = _
  rw [after0_12]

/-- The index map sends distinct grid points to distinct block indices (decided over the 72 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S4608x512.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`outsAt0`: its component 1), read through the window's block. -/
theorem flushed13 (c : Dev nD) (t : Fin cfg0.N) :
    (dats m 0 c).flushed 13 t = (cfg0.win 13).cut (grid0.coords t) ((outsAt0 m c t.val t.isLt).2.1) := by
  show (cfg0.win 13).cut (grid0.coords t) ((dats m 0 c).after 13 t) = _
  rw [after0_13]

/-- The index map sends distinct grid points to distinct block indices (decided over the 72 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S4608x512.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`outsAt0`: its component 2), read through the window's block. -/
theorem flushed14 (c : Dev nD) (t : Fin cfg0.N) :
    (dats m 0 c).flushed 14 t = (cfg0.win 14).cut (grid0.coords t) ((outsAt0 m c t.val t.isLt).2.2.1) := by
  show (cfg0.win 14).cut (grid0.coords t) ((dats m 0 c).after 14 t) = _
  rw [after0_14]

/-- The index map sends distinct grid points to distinct block indices (decided over the 72 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S4608x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`outsAt0`: its component 3), read through the window's block. -/
theorem flushed15 (c : Dev nD) (t : Fin cfg0.N) :
    (dats m 0 c).flushed 15 t = (cfg0.win 15).cut (grid0.coords t) ((outsAt0 m c t.val t.isLt).2.2.2.1) := by
  show (cfg0.win 15).cut (grid0.coords t) ((dats m 0 c).after 15 t) = _
  rw [after0_15]

/-- The index map sends distinct grid points to distinct block indices (decided over the 72 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S4608x512.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`outsAt0`: its component 4), read through the window's block. -/
theorem flushed16 (c : Dev nD) (t : Fin cfg0.N) :
    (dats m 0 c).flushed 16 t = (cfg0.win 16).cut (grid0.coords t) ((outsAt0 m c t.val t.isLt).2.2.2.2.1) := by
  show (cfg0.win 16).cut (grid0.coords t) ((dats m 0 c).after 16 t) = _
  rw [after0_16]

/-- The index map sends distinct grid points to distinct block indices (decided over the 72 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S4608x512.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`outsAt0`: its component 5), read through the window's block. -/
theorem flushed17 (c : Dev nD) (t : Fin cfg0.N) :
    (dats m 0 c).flushed 17 t = (cfg0.win 17).cut (grid0.coords t) ((outsAt0 m c t.val t.isLt).2.2.2.2.2.1) := by
  show (cfg0.win 17).cut (grid0.coords t) ((dats m 0 c).after 17 t) = _
  rw [after0_17]

/-- The index map sends distinct grid points to distinct block indices (decided over the 72 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S4608x512.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`outsAt0`: its component 6), read through the window's block. -/
theorem flushed18 (c : Dev nD) (t : Fin cfg0.N) :
    (dats m 0 c).flushed 18 t = (cfg0.win 18).cut (grid0.coords t) ((outsAt0 m c t.val t.isLt).2.2.2.2.2.2.1) := by
  show (cfg0.win 18).cut (grid0.coords t) ((dats m 0 c).after 18 t) = _
  rw [after0_18]

/-- The index map sends distinct grid points to distinct block indices (decided over the 72 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S4608x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`outsAt0`: its component 7), read through the window's block. -/
theorem flushed19 (c : Dev nD) (t : Fin cfg0.N) :
    (dats m 0 c).flushed 19 t = (cfg0.win 19).cut (grid0.coords t) ((outsAt0 m c t.val t.isLt).2.2.2.2.2.2.2.1) := by
  show (cfg0.win 19).cut (grid0.coords t) ((dats m 0 c).after 19 t) = _
  rw [after0_19]

/-- The index map sends distinct grid points to distinct block indices (decided over the 72 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S4608x512.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v98_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v98_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v98_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v98_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v98_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v98_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v98_6) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v98_7) = (dats m 0 c).arrAt 19 cfg0.N :=
  (h c).1 19

/-- After the frame run, argument `main_arg0` is as launched: input window 8 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 8).trans (((dats m 0 c).arrAt_in 8 rfl _).trans ((A_eq m c 8).trans (V_main_arg0 m c)))

/-- After the frame run, argument `main_arg1` is as launched: input window 9 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 9).trans (((dats m 0 c).arrAt_in 9 rfl _).trans ((A_eq m c 9).trans (V_main_arg1 m c)))

/-- After the frame run, argument `main_arg2` is as launched: input window 10 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 10).trans (((dats m 0 c).arrAt_in 10 rfl _).trans ((A_eq m c 10).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

set_option maxHeartbeats 306960 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v98_0) = (dats m 0 c).arrAt 12 cfg0.N
      ∧ r.2.mem ((c : Thread nD τ).loc main_v98_1) = (dats m 0 c).arrAt 13 cfg0.N
      ∧ r.2.mem ((c : Thread nD τ).loc main_v98_2) = (dats m 0 c).arrAt 14 cfg0.N
      ∧ r.2.mem ((c : Thread nD τ).loc main_v98_3) = (dats m 0 c).arrAt 15 cfg0.N
      ∧ r.2.mem ((c : Thread nD τ).loc main_v98_4) = (dats m 0 c).arrAt 16 cfg0.N
      ∧ r.2.mem ((c : Thread nD τ).loc main_v98_5) = (dats m 0 c).arrAt 17 cfg0.N
      ∧ r.2.mem ((c : Thread nD τ).loc main_v98_6) = (dats m 0 c).arrAt 18 cfg0.N
      ∧ r.2.mem ((c : Thread nD τ).loc main_v98_7) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post12 m r h c,
      post13 m r h c,
      post14 m r h c,
      post15 m r h c,
      post16 m r h c,
      post17 m r h c,
      post18 m r h c,
      post19 m r h c,
      kept_main_arg0 m r h c,
      kept_main_arg1 m r h c,
      kept_main_arg2 m r h c,
      kept_main_arg3 m r h c⟩)
    (run_main m ρ)

/-! ## Carried scratch 0: what each point leaves in it, and its fold -/

end Cert.KernelIdeal.HandValue

end
-- ==== Proof.Arrays.lean ====
/- The kernel's eight arrays, row by row: the gradients of the sequences' queries, keys, values and decays. The scratch carries the gradient of
   the state from each grid point to the next, from the last chunk to the first. -/
module

public import proofs.«01_k».proof.Proof.Points
public import proofs.«01_k».proof.Proof.ValueKernelIdeal

@[expose] public section

set_option maxRecDepth 16384

noncomputable section

namespace Cert.KernelIdeal.Hand

open Cert.KernelIdeal.Gen Cert.KernelIdeal.Body Cert.KernelIdeal.HandValue Cert.Gla
open Idealize.ShloMosaic Idealize.ShloMosaic.TcCoe Idealize.ShloMosaic.Tactic

set_option maxHeartbeats 4000000

/-! ## The scratch -/

/-- The zeros of the scratch at the first point of a batch element. -/
theorem pay4_zero (i : S8x256x128.Idx) : (k0_pay4 (F := Ideal) i : EReal) = ((0 : ℝ) : EReal) := by
  unfold k0_pay4
  pointwise
  first | rfl | simp

theorem row_cast {α : Type} (x : S1x256x128.Idx → α) (h : S1x256x128.ShapeCasts S256x128) (y : Fin 256) (z : Fin 128) :
    shapeCast S256x128 x h (ix2 y z) = x (ix3 (0 : Fin 1) y z) := by
  pointwise

theorem ld_row (X : Vec Ideal S8x256x128 .f32) (j : Fin 8) (inb) (h : S1x256x128.ShapeCasts S256x128) (y : Fin 256) (z : Fin 128) :
    shapeCast S256x128 (View.ld X (Rect.unit (s := S8x256x128) ![j.val, 0, 0] ![1, 256, 128] inb)) h (ix2 y z) = X (ix3 j y z) := by
  have e : (Rect.unit (s := S8x256x128) ![j.val, 0, 0] ![1, 256, 128] inb).emb (ix3 (0 : Fin 1) y z) = (ix3 j y z : S8x256x128.Idx) := by
    funext a
    refine Fin.ext ?_
    match a with
    | 0 => exact Nat.add_zero _
    | 1 => change 0 + 1 * y.val = y.val; omega
    | 2 => change 0 + 1 * z.val = z.val; omega
  exact (row_cast _ h y z).trans (congrArg X e)

theorem sc0_apply (X : Vec Ideal S8x256x128 .f32) (h : Fin 4) (y : Fin 256) (z : Fin 128) : sc0 X h (ix2 y z) = X (ix3 (⟨h.val, by omega⟩ : Fin 8) y z) := by
  match h with
  | 0 => exact ld_row X 0 _ _ y z
  | 1 => exact ld_row X 1 _ _ y z
  | 2 => exact ld_row X 2 _ _ y z
  | 3 => exact ld_row X 3 _ _ y z

theorem sc1_apply (X : Vec Ideal S8x256x128 .f32) (h : Fin 4) (y : Fin 256) (z : Fin 128) : sc1 X h (ix2 y z) = X (ix3 (⟨4 + h.val, by omega⟩ : Fin 8) y z) := by
  match h with
  | 0 => exact ld_row X 4 _ _ y z
  | 1 => exact ld_row X 5 _ _ y z
  | 2 => exact ld_row X 6 _ _ y z
  | 3 => exact ld_row X 7 _ _ y z

theorem sc0_nsc (D0 D1 : Dir) (h : Fin 4) (y : Fin 256) (z : Fin 128) : sc0 (nsc D0 D1) h (ix2 y z) = nst D0 h (ix2 y z) :=
  (sc0_apply _ h y z).trans (dif_pos h.isLt)

theorem sc1_nsc (D0 D1 : Dir) (h : Fin 4) (y : Fin 256) (z : Fin 128) : sc1 (nsc D0 D1) h (ix2 y z) = nst D1 h (ix2 y z) := by
  refine (sc1_apply _ h y z).trans ((dif_neg (by change ¬ 4 + h.val < 4; omega)).trans ?_)
  have e : ∀ p, (⟨4 + h.val - 4, p⟩ : Fin 4) = h := fun p => Fin.ext (Nat.add_sub_cancel_left _ _)
  exact congrArg (fun j => nst D1 j (ix2 y z)) (e _)

theorem nst_is {D : Dir} {S : Fin 4 → Seq (Fin 128) (Fin 256)} {q : Fin 4 → ℕ → Fin 128 → ℝ} {e : Fin 64 ≃ Fin 64} {s : ℕ} (R : DReads D S q e s) (h : Fin 4) :
    Is (nst D h) ((S h).DST s) := by
  match h with
  | 0 => exact R.reads0.ondst
  | 1 => exact R.reads1.ondst
  | 2 => exact R.reads2.ondst
  | 3 => exact R.reads3.ondst

section
variable (m : (ℓ : Loc nD τ sig) → Buf (Elt Ideal) ℓ) (c : Dev nD)

/-- The scratch after a grid point. -/
def scr (n : ℕ) (hn : n < cfg0.N) : Vec Ideal S8x256x128 .f32 := (outsAt0 m c n hn).2.2.2.2.2.2.2.2

/-- The scratch that a grid point begins with. -/
def pre (t : Fin cfg0.N) : Vec Ideal S8x256x128 .f32 :=
  if t.val % 36 = 0 then k0_pay4 (F := Ideal) else scr m c (t.val - 1) (Nat.lt_of_le_of_lt (Nat.sub_le _ _) t.isLt)

/-- The two directions of a grid point. -/
def pd0 (t : Fin cfg0.N) : Dir := dir0 m c t (sc0 (pre m c t))
def pd1 (t : Fin cfg0.N) : Dir := dir1 m c t (sc1 (pre m c t))

theorem pre_A (t : Fin cfg0.N) (h : t.val % 36 = 0) : pre m c t = k0_pay4 (F := Ideal) := if_pos h
theorem pre_B (t : Fin cfg0.N) (h : ¬ t.val % 36 = 0) : pre m c t = scr m c (t.val - 1) (Nat.lt_of_le_of_lt (Nat.sub_le _ _) t.isLt) := if_neg h

theorem o12 (t : Fin cfg0.N) : (outsAt0 m c t.val t.isLt).1 = (pd0 m c t).odq := by
  by_cases h : t.val % 36 = 0
  · rw [pd0, pre_A m c t h, outsAt0_A m c t h]; dsimp only; rw [out_A_12]; rfl
  · rw [pd0, pre_B m c t h, outsAt0_B m c t h]; dsimp only; rw [out_B_12]; rfl

theorem o13 (t : Fin cfg0.N) : (outsAt0 m c t.val t.isLt).2.1 = (pd0 m c t).odk := by
  by_cases h : t.val % 36 = 0
  · rw [pd0, pre_A m c t h, outsAt0_A m c t h]; dsimp only; rw [out_A_13]; rfl
  · rw [pd0, pre_B m c t h, outsAt0_B m c t h]; dsimp only; rw [out_B_13]; rfl

theorem o14 (t : Fin cfg0.N) : (outsAt0 m c t.val t.isLt).2.2.1 = (pd0 m c t).odv := by
  by_cases h : t.val % 36 = 0
  · rw [pd0, pre_A m c t h, outsAt0_A m c t h]; dsimp only; rw [out_A_14]; rfl
  · rw [pd0, pre_B m c t h, outsAt0_B m c t h]; dsimp only; rw [out_B_14]; rfl

theorem o15 (t : Fin cfg0.N) : (outsAt0 m c t.val t.isLt).2.2.2.1 = (pd0 m c t).odg := by
  by_cases h : t.val % 36 = 0
  · rw [pd0, pre_A m c t h, outsAt0_A m c t h]; dsimp only; rw [out_A_15]; rfl
  · rw [pd0, pre_B m c t h, outsAt0_B m c t h]; dsimp only; rw [out_B_15]; rfl

theorem o16 (t : Fin cfg0.N) : (outsAt0 m c t.val t.isLt).2.2.2.2.1 = (pd1 m c t).odq := by
  by_cases h : t.val % 36 = 0
  · rw [pd1, pre_A m c t h, outsAt0_A m c t h]; dsimp only; rw [out_A_16]; rfl
  · rw [pd1, pre_B m c t h, outsAt0_B m c t h]; dsimp only; rw [out_B_16]; rfl

theorem o17 (t : Fin cfg0.N) : (outsAt0 m c t.val t.isLt).2.2.2.2.2.1 = (pd1 m c t).odk := by
  by_cases h : t.val % 36 = 0
  · rw [pd1, pre_A m c t h, outsAt0_A m c t h]; dsimp only; rw [out_A_17]; rfl
  · rw [pd1, pre_B m c t h, outsAt0_B m c t h]; dsimp only; rw [out_B_17]; rfl

theorem o18 (t : Fin cfg0.N) : (outsAt0 m c t.val t.isLt).2.2.2.2.2.2.1 = (pd1 m c t).odv := by
  by_cases h : t.val % 36 = 0
  · rw [pd1, pre_A m c t h, outsAt0_A m c t h]; dsimp only; rw [out_A_18]; rfl
  · rw [pd1, pre_B m c t h, outsAt0_B m c t h]; dsimp only; rw [out_B_18]; rfl

theorem o19 (t : Fin cfg0.N) : (outsAt0 m c t.val t.isLt).2.2.2.2.2.2.2.1 = (pd1 m c t).odg := by
  by_cases h : t.val % 36 = 0
  · rw [pd1, pre_A m c t h, outsAt0_A m c t h]; dsimp only; rw [out_A_19]; rfl
  · rw [pd1, pre_B m c t h, outsAt0_B m c t h]; dsimp only; rw [out_B_19]; rfl

theorem oscr (t : Fin cfg0.N) : scr m c t.val t.isLt = nsc (pd0 m c t) (pd1 m c t) := by
  by_cases h : t.val % 36 = 0
  · rw [scr, pd0, pd1, pre_A m c t h, outsAt0_A m c t h]; dsimp only; rw [sout_A]; rfl
  · rw [scr, pd0, pd1, pre_B m c t h, outsAt0_B m c t h]; dsimp only; rw [sout_B]; rfl

variable {A0 : Fin 4608 → Fin 3200 → ℝ} {A1 : Fin 4608 → Fin 1024 → ℝ} {A2 : Fin 4096 → Fin 1024 → ℝ}
variable (h0 : Rd (m ((c : Thread nD τ).loc main_arg0)) A0) (h1 : Rd (m ((c : Thread nD τ).loc main_arg1)) A1) (h2 : Rd (m ((c : Thread nD τ).loc main_arg2)) A2)
include h0 h1 h2

/-- The gradients of the states that a grid point begins with are those of the states after its chunk. -/
theorem pre_is (n : ℕ) : ∀ (hn : n < cfg0.N),
    (∀ h, Is (sc0 (pre m c ⟨n, hn⟩) h) ((seq A0 A1 A2 false (bt n) h).DST (64 * ci n + 64)))
    ∧ (∀ h, Is (sc1 (pre m c ⟨n, hn⟩) h) ((seq A0 A1 A2 true (bt n) h).DST (64 * ci n + 64))) := by
  induction n with
  | zero =>
    intro hn
    rw [pre_A m c ⟨0, hn⟩ rfl]
    exact ⟨fun h y z => ((sc0_apply _ h y z).trans (pay4_zero _)).trans (congrArg _ (Seq.DST_last (seq A0 A1 A2 false (bt 0) h) y z).symm),
      fun h y z => ((sc1_apply _ h y z).trans (pay4_zero _)).trans (congrArg _ (Seq.DST_last (seq A0 A1 A2 true (bt 0) h) y z).symm)⟩
  | succ n ih =>
    intro hn
    by_cases e : (n + 1) % 36 = 0
    · rw [pre_A m c ⟨n + 1, hn⟩ e]
      have e2 : 64 * ci (n + 1) + 64 = 2304 := by unfold ci; omega
      rw [e2]
      exact ⟨fun h y z => ((sc0_apply _ h y z).trans (pay4_zero _)).trans (congrArg _ (Seq.DST_last (seq A0 A1 A2 false (bt (n + 1)) h) y z).symm),
        fun h y z => ((sc1_apply _ h y z).trans (pay4_zero _)).trans (congrArg _ (Seq.DST_last (seq A0 A1 A2 true (bt (n + 1)) h) y z).symm)⟩
    · have hn' : n < cfg0.N := Nat.lt_of_succ_lt hn
      have i := ih hn'
      have e2 : 64 * ci (n + 1) + 64 = 64 * ci n := by unfold ci; omega
      have e3 : bt (n + 1) = bt n := by unfold bt; exact Fin.ext (by change (n + 1) / 36 % 2 = n / 36 % 2; omega)
      rw [pre_B m c ⟨n + 1, hn⟩ e, e2, e3]
      have e4 : scr m c n hn' = nsc (pd0 m c ⟨n, hn'⟩) (pd1 m c ⟨n, hn'⟩) := oscr m c ⟨n, hn'⟩
      refine ⟨fun h y z => ?_, fun h y z => ?_⟩
      · change sc0 (scr m c n hn') h (ix2 y z) = _
        rw [e4, sc0_nsc]
        exact nst_is (reads0 m c h0 h1 h2 ⟨n, hn'⟩ i.1) h y z
      · change sc1 (scr m c n hn') h (ix2 y z) = _
        rw [e4, sc1_nsc]
        exact nst_is (reads1 m c h0 h1 h2 ⟨n, hn'⟩ i.2) h y z

theorem preads0 (t : Fin cfg0.N) : DReads (pd0 m c t) (seq A0 A1 A2 false (bt t.val)) (qraw A0 false (bt t.val)) (ed false) (64 * ci t.val) :=
  reads0 m c h0 h1 h2 t (pre_is m c h0 h1 h2 t.val t.isLt).1
theorem preads1 (t : Fin cfg0.N) : DReads (pd1 m c t) (seq A0 A1 A2 true (bt t.val)) (qraw A0 true (bt t.val)) (ed true) (64 * ci t.val) :=
  reads1 m c h0 h1 h2 t (pre_is m c h0 h1 h2 t.val t.isLt).2

end

/-! ## The arrays -/

theorem ix0_12 : ∀ t : Fin cfg0.N, win0_12.index t = ![rb false t.val, 0] := (by decide +kernel : ∀ t : Fin grid0.N, win0_12.index t = ![rb false t.val, 0])
theorem ix0_13 : ∀ t : Fin cfg0.N, win0_13.index t = ![rb false t.val, 0] := (by decide +kernel : ∀ t : Fin grid0.N, win0_13.index t = ![rb false t.val, 0])
theorem ix0_14 : ∀ t : Fin cfg0.N, win0_14.index t = ![rb false t.val, 0] := (by decide +kernel : ∀ t : Fin grid0.N, win0_14.index t = ![rb false t.val, 0])
theorem ix0_15 : ∀ t : Fin cfg0.N, win0_15.index t = ![rb false t.val, 0] := (by decide +kernel : ∀ t : Fin grid0.N, win0_15.index t = ![rb false t.val, 0])
theorem ix0_16 : ∀ t : Fin cfg0.N, win0_16.index t = ![rb true t.val, 0] := (by decide +kernel : ∀ t : Fin grid0.N, win0_16.index t = ![rb true t.val, 0])
theorem ix0_17 : ∀ t : Fin cfg0.N, win0_17.index t = ![rb true t.val, 0] := (by decide +kernel : ∀ t : Fin grid0.N, win0_17.index t = ![rb true t.val, 0])
theorem ix0_18 : ∀ t : Fin cfg0.N, win0_18.index t = ![rb true t.val, 0] := (by decide +kernel : ∀ t : Fin grid0.N, win0_18.index t = ![rb true t.val, 0])
theorem ix0_19 : ∀ t : Fin cfg0.N, win0_19.index t = ![rb true t.val, 0] := (by decide +kernel : ∀ t : Fin grid0.N, win0_19.index t = ![rb true t.val, 0])

/-- The grid point that holds a token. -/
def pt (b : Fin 2) (t : ℕ) (ht : t < 2304) : Fin cfg0.N := ⟨36 * b.val + (35 - t / 64), by change _ < 72; omega⟩
/-- The row of a token in its block. -/
def px (d : Bool) (t : ℕ) : Fin 64 := (ed d).symm ⟨t % 64, by omega⟩

theorem pt_bt (b : Fin 2) (t : ℕ) (ht : t < 2304) : bt (pt b t ht).val = b := by
  refine Fin.ext ?_
  change (36 * b.val + (35 - t / 64)) / 36 % 2 = b.val
  omega

theorem pt_ci (d : Bool) (b : Fin 2) (t : ℕ) (ht : t < 2304) : 64 * ci (pt b t ht).val + (ed d (px d t)).val = t := by
  unfold px
  rw [Equiv.apply_symm_apply]
  change 64 * (35 - (36 * b.val + (35 - t / 64)) % 36) + t % 64 = t
  omega

theorem pt_row (d : Bool) (b : Fin 2) (t : ℕ) (ht : t < 2304) : rb d (pt b t ht).val * 64 + (px d t).val = (row d b t).val := by
  have h := rb_row d (pt b t ht).val (pt b t ht).isLt (px d t)
  rw [pt_bt, pt_ci] at h
  exact h.symm

section
variable (m : (ℓ : Loc nD τ sig) → Buf (Elt Ideal) ℓ) (c : Dev nD)
variable {A0 : Fin 4608 → Fin 3200 → ℝ} {A1 : Fin 4608 → Fin 1024 → ℝ} {A2 : Fin 4096 → Fin 1024 → ℝ}
variable (h0 : Rd (m ((c : Thread nD τ).loc main_arg0)) A0) (h1 : Rd (m ((c : Thread nD τ).loc main_arg1)) A1) (h2 : Rd (m ((c : Thread nD τ).loc main_arg2)) A2)

theorem rd12 (t : Fin cfg0.N) (x : Fin 64) (C : Fin 512) :
    (dats m 0 c).arrAt 12 cfg0.N (((cfg0.win 12).blk t).view.emb (ix2 x C)) = (pd0 m c t).odq (ix2 x C) := by
  have h := congrFun (blocks12 m c t (flush0_12 t)) (ix2 x C)
  rw [flushed12, o12] at h
  exact h

include h0 h1 h2 in
theorem arr12 (b : Fin 2) (t : ℕ) (ht : t < 2304) (C : Fin 512) :
    ((dats m 0 c).arrAt 12 cfg0.N (ix2 (row false b t) C) : EReal) = (((seq A0 A1 A2 false b (hd C)).DQ t (ln C) * Q : ℝ) : EReal) := by
  have e : (ix2 (row false b t) C : S4608x512.Idx) = ((cfg0.win 12).blk (pt b t ht)).view.emb (ix2 (px false t) C) := by
    funext a
    refine Fin.ext (Eq.symm ?_)
    change win0_12.index (pt b t ht) a * S64x512.size a + 1 * ((ix2 (px false t) C : S64x512.Idx) a).val = _
    rw [ix0_12]
    match a with
    | 0 => change rb false (pt b t ht).val * 64 + 1 * (px false t).val = (row false b t).val; rw [Nat.one_mul]; exact pt_row false b t ht
    | 1 => change 0 * 512 + 1 * C.val = C.val; omega
  have h := (preads0 m c h0 h1 h2 (pt b t ht)).odq (px false t) C
  rw [pt_bt] at h
  dsimp only at h
  rw [pt_ci] at h
  exact (congrArg ((dats m 0 c).arrAt 12 cfg0.N) e).trans ((rd12 m c (pt b t ht) (px false t) C).trans h)

theorem rd13 (t : Fin cfg0.N) (x : Fin 64) (C : Fin 512) :
    (dats m 0 c).arrAt 13 cfg0.N (((cfg0.win 13).blk t).view.emb (ix2 x C)) = (pd0 m c t).odk (ix2 x C) := by
  have h := congrFun (blocks13 m c t (flush0_13 t)) (ix2 x C)
  rw [flushed13, o13] at h
  exact h

include h0 h1 h2 in
theorem arr13 (b : Fin 2) (t : ℕ) (ht : t < 2304) (C : Fin 512) :
    ((dats m 0 c).arrAt 13 cfg0.N (ix2 (row false b t) C) : EReal) = (((seq A0 A1 A2 false b (hd C)).DK t (ln C) : ℝ) : EReal) := by
  have e : (ix2 (row false b t) C : S4608x512.Idx) = ((cfg0.win 13).blk (pt b t ht)).view.emb (ix2 (px false t) C) := by
    funext a
    refine Fin.ext (Eq.symm ?_)
    change win0_13.index (pt b t ht) a * S64x512.size a + 1 * ((ix2 (px false t) C : S64x512.Idx) a).val = _
    rw [ix0_13]
    match a with
    | 0 => change rb false (pt b t ht).val * 64 + 1 * (px false t).val = (row false b t).val; rw [Nat.one_mul]; exact pt_row false b t ht
    | 1 => change 0 * 512 + 1 * C.val = C.val; omega
  have h := (preads0 m c h0 h1 h2 (pt b t ht)).odk (px false t) C
  rw [pt_bt] at h
  dsimp only at h
  rw [pt_ci] at h
  exact (congrArg ((dats m 0 c).arrAt 13 cfg0.N) e).trans ((rd13 m c (pt b t ht) (px false t) C).trans h)

theorem rd14 (t : Fin cfg0.N) (x : Fin 64) (C : Fin 1024) :
    (dats m 0 c).arrAt 14 cfg0.N (((cfg0.win 14).blk t).view.emb (ix2 x C)) = (pd0 m c t).odv (ix2 x C) := by
  have h := congrFun (blocks14 m c t (flush0_14 t)) (ix2 x C)
  rw [flushed14, o14] at h
  exact h

include h0 h1 h2 in
theorem arr14 (b : Fin 2) (t : ℕ) (ht : t < 2304) (C : Fin 1024) :
    ((dats m 0 c).arrAt 14 cfg0.N (ix2 (row false b t) C) : EReal) = (((seq A0 A1 A2 false b (hdv C)).DV t (lnv C) : ℝ) : EReal) := by
  have e : (ix2 (row false b t) C : S4608x1024.Idx) = ((cfg0.win 14).blk (pt b t ht)).view.emb (ix2 (px false t) C) := by
    funext a
    refine Fin.ext (Eq.symm ?_)
    change win0_14.index (pt b t ht) a * S64x1024.size a + 1 * ((ix2 (px false t) C : S64x1024.Idx) a).val = _
    rw [ix0_14]
    match a with
    | 0 => change rb false (pt b t ht).val * 64 + 1 * (px false t).val = (row false b t).val; rw [Nat.one_mul]; exact pt_row false b t ht
    | 1 => change 0 * 1024 + 1 * C.val = C.val; omega
  have h := (preads0 m c h0 h1 h2 (pt b t ht)).odv (px false t) C
  rw [pt_bt] at h
  dsimp only at h
  rw [pt_ci] at h
  exact (congrArg ((dats m 0 c).arrAt 14 cfg0.N) e).trans ((rd14 m c (pt b t ht) (px false t) C).trans h)

theorem rd15 (t : Fin cfg0.N) (x : Fin 64) (C : Fin 512) :
    (dats m 0 c).arrAt 15 cfg0.N (((cfg0.win 15).blk t).view.emb (ix2 x C)) = (pd0 m c t).odg (ix2 x C) := by
  have h := congrFun (blocks15 m c t (flush0_15 t)) (ix2 x C)
  rw [flushed15, o15] at h
  exact h

include h0 h1 h2 in
theorem arr15 (b : Fin 2) (t : ℕ) (ht : t < 2304) (C : Fin 512) :
    ((dats m 0 c).arrAt 15 cfg0.N (ix2 (row false b t) C) : EReal) = (((seq A0 A1 A2 false b (hd C)).DG t (ln C) : ℝ) : EReal) := by
  have e : (ix2 (row false b t) C : S4608x512.Idx) = ((cfg0.win 15).blk (pt b t ht)).view.emb (ix2 (px false t) C) := by
    funext a
    refine Fin.ext (Eq.symm ?_)
    change win0_15.index (pt b t ht) a * S64x512.size a + 1 * ((ix2 (px false t) C : S64x512.Idx) a).val = _
    rw [ix0_15]
    match a with
    | 0 => change rb false (pt b t ht).val * 64 + 1 * (px false t).val = (row false b t).val; rw [Nat.one_mul]; exact pt_row false b t ht
    | 1 => change 0 * 512 + 1 * C.val = C.val; omega
  have h := (preads0 m c h0 h1 h2 (pt b t ht)).odg (px false t) C
  rw [pt_bt] at h
  dsimp only at h
  rw [pt_ci] at h
  exact (congrArg ((dats m 0 c).arrAt 15 cfg0.N) e).trans ((rd15 m c (pt b t ht) (px false t) C).trans h)

theorem rd16 (t : Fin cfg0.N) (x : Fin 64) (C : Fin 512) :
    (dats m 0 c).arrAt 16 cfg0.N (((cfg0.win 16).blk t).view.emb (ix2 x C)) = (pd1 m c t).odq (ix2 x C) := by
  have h := congrFun (blocks16 m c t (flush0_16 t)) (ix2 x C)
  rw [flushed16, o16] at h
  exact h

include h0 h1 h2 in
theorem arr16 (b : Fin 2) (t : ℕ) (ht : t < 2304) (C : Fin 512) :
    ((dats m 0 c).arrAt 16 cfg0.N (ix2 (row true b t) C) : EReal) = (((seq A0 A1 A2 true b (hd C)).DQ t (ln C) * Q : ℝ) : EReal) := by
  have e : (ix2 (row true b t) C : S4608x512.Idx) = ((cfg0.win 16).blk (pt b t ht)).view.emb (ix2 (px true t) C) := by
    funext a
    refine Fin.ext (Eq.symm ?_)
    change win0_16.index (pt b t ht) a * S64x512.size a + 1 * ((ix2 (px true t) C : S64x512.Idx) a).val = _
    rw [ix0_16]
    match a with
    | 0 => change rb true (pt b t ht).val * 64 + 1 * (px true t).val = (row true b t).val; rw [Nat.one_mul]; exact pt_row true b t ht
    | 1 => change 0 * 512 + 1 * C.val = C.val; omega
  have h := (preads1 m c h0 h1 h2 (pt b t ht)).odq (px true t) C
  rw [pt_bt] at h
  dsimp only at h
  rw [pt_ci] at h
  exact (congrArg ((dats m 0 c).arrAt 16 cfg0.N) e).trans ((rd16 m c (pt b t ht) (px true t) C).trans h)

theorem rd17 (t : Fin cfg0.N) (x : Fin 64) (C : Fin 512) :
    (dats m 0 c).arrAt 17 cfg0.N (((cfg0.win 17).blk t).view.emb (ix2 x C)) = (pd1 m c t).odk (ix2 x C) := by
  have h := congrFun (blocks17 m c t (flush0_17 t)) (ix2 x C)
  rw [flushed17, o17] at h
  exact h

include h0 h1 h2 in
theorem arr17 (b : Fin 2) (t : ℕ) (ht : t < 2304) (C : Fin 512) :
    ((dats m 0 c).arrAt 17 cfg0.N (ix2 (row true b t) C) : EReal) = (((seq A0 A1 A2 true b (hd C)).DK t (ln C) : ℝ) : EReal) := by
  have e : (ix2 (row true b t) C : S4608x512.Idx) = ((cfg0.win 17).blk (pt b t ht)).view.emb (ix2 (px true t) C) := by
    funext a
    refine Fin.ext (Eq.symm ?_)
    change win0_17.index (pt b t ht) a * S64x512.size a + 1 * ((ix2 (px true t) C : S64x512.Idx) a).val = _
    rw [ix0_17]
    match a with
    | 0 => change rb true (pt b t ht).val * 64 + 1 * (px true t).val = (row true b t).val; rw [Nat.one_mul]; exact pt_row true b t ht
    | 1 => change 0 * 512 + 1 * C.val = C.val; omega
  have h := (preads1 m c h0 h1 h2 (pt b t ht)).odk (px true t) C
  rw [pt_bt] at h
  dsimp only at h
  rw [pt_ci] at h
  exact (congrArg ((dats m 0 c).arrAt 17 cfg0.N) e).trans ((rd17 m c (pt b t ht) (px true t) C).trans h)

theorem rd18 (t : Fin cfg0.N) (x : Fin 64) (C : Fin 1024) :
    (dats m 0 c).arrAt 18 cfg0.N (((cfg0.win 18).blk t).view.emb (ix2 x C)) = (pd1 m c t).odv (ix2 x C) := by
  have h := congrFun (blocks18 m c t (flush0_18 t)) (ix2 x C)
  rw [flushed18, o18] at h
  exact h

include h0 h1 h2 in
theorem arr18 (b : Fin 2) (t : ℕ) (ht : t < 2304) (C : Fin 1024) :
    ((dats m 0 c).arrAt 18 cfg0.N (ix2 (row true b t) C) : EReal) = (((seq A0 A1 A2 true b (hdv C)).DV t (lnv C) : ℝ) : EReal) := by
  have e : (ix2 (row true b t) C : S4608x1024.Idx) = ((cfg0.win 18).blk (pt b t ht)).view.emb (ix2 (px true t) C) := by
    funext a
    refine Fin.ext (Eq.symm ?_)
    change win0_18.index (pt b t ht) a * S64x1024.size a + 1 * ((ix2 (px true t) C : S64x1024.Idx) a).val = _
    rw [ix0_18]
    match a with
    | 0 => change rb true (pt b t ht).val * 64 + 1 * (px true t).val = (row true b t).val; rw [Nat.one_mul]; exact pt_row true b t ht
    | 1 => change 0 * 1024 + 1 * C.val = C.val; omega
  have h := (preads1 m c h0 h1 h2 (pt b t ht)).odv (px true t) C
  rw [pt_bt] at h
  dsimp only at h
  rw [pt_ci] at h
  exact (congrArg ((dats m 0 c).arrAt 18 cfg0.N) e).trans ((rd18 m c (pt b t ht) (px true t) C).trans h)

theorem rd19 (t : Fin cfg0.N) (x : Fin 64) (C : Fin 512) :
    (dats m 0 c).arrAt 19 cfg0.N (((cfg0.win 19).blk t).view.emb (ix2 x C)) = (pd1 m c t).odg (ix2 x C) := by
  have h := congrFun (blocks19 m c t (flush0_19 t)) (ix2 x C)
  rw [flushed19, o19] at h
  exact h

include h0 h1 h2 in
theorem arr19 (b : Fin 2) (t : ℕ) (ht : t < 2304) (C : Fin 512) :
    ((dats m 0 c).arrAt 19 cfg0.N (ix2 (row true b t) C) : EReal) = (((seq A0 A1 A2 true b (hd C)).DG t (ln C) : ℝ) : EReal) := by
  have e : (ix2 (row true b t) C : S4608x512.Idx) = ((cfg0.win 19).blk (pt b t ht)).view.emb (ix2 (px true t) C) := by
    funext a
    refine Fin.ext (Eq.symm ?_)
    change win0_19.index (pt b t ht) a * S64x512.size a + 1 * ((ix2 (px true t) C : S64x512.Idx) a).val = _
    rw [ix0_19]
    match a with
    | 0 => change rb true (pt b t ht).val * 64 + 1 * (px true t).val = (row true b t).val; rw [Nat.one_mul]; exact pt_row true b t ht
    | 1 => change 0 * 512 + 1 * C.val = C.val; omega
  have h := (preads1 m c h0 h1 h2 (pt b t ht)).odg (px true t) C
  rw [pt_bt] at h
  dsimp only at h
  rw [pt_ci] at h
  exact (congrArg ((dats m 0 c).arrAt 19 cfg0.N) e).trans ((rd19 m c (pt b t ht) (px true t) C).trans h)

end

end Cert.KernelIdeal.Hand

end
-- ==== Proof.RefDir.lean ====
/- One direction of the reference, as a composition of array operations on the rows of its tokens, and what each array holds when the
   rows are real: the whole sequence is one chunk of context and one chunk of main tokens. -/
module

public import proofs.«01_k».proof.Proof.Gen.ReferenceIdeal
public import proofs.«01_k».proof.Proof.Data
public import proofs.«01_k».proof.Proof.Cum

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Gla
open Cert.KernelIdeal.Body (Q Q_coe coe_sum)

set_option maxHeartbeats 2000000

/-- The rows of the tokens: context rows, then main rows. -/
structure Lv where
  (kc gc : FVec Ideal S2x256x4x128 .f32)
  (vc : FVec Ideal S2x256x4x256 .f32)
  (q k g : FVec Ideal S2x2048x4x128 .f32)
  (v o : FVec Ideal S2x2048x4x256 .f32)

def z0 : FVec Ideal S_ .f32 := constant S_ .f32 0x00000000#32
def bz : FVec Ideal S_ .f32 := broadcastInDim S_ ![] bcast_S_S_ z0
def scale : FVec Ideal S_ .f32 := constant S_ .f32 0x3DB504F3#32

/-- Which pairs of main tokens are in order. -/
def tri : IVec S2048x2048 1 :=
  select (cmpi .sge (addi (iotaInDim S2048x2048 32 0) (broadcastInDim S2048x2048 ![] bcast_S_S2048x2048 (constantI S_ 32 0#32))) (iotaInDim S2048x2048 32 1))
    (broadcastInDim S2048x2048 ![] bcast_S_S2048x2048 (constantI S_ 1 1#1)) (broadcastInDim S2048x2048 ![] bcast_S_S2048x2048 (constantI S_ 1 0#1))
def keep (x : FVec Ideal S2x4x2048x2048 .f32) : FVec Ideal S2x4x2048x2048 .f32 :=
  select (broadcastInDim S2x4x2048x2048 ![2, 3] bcast_S2048x2048_S2x4x2048x2048_2_3 tri) x (broadcastInDim S2x4x2048x2048 ![] bcast_S_S2x4x2048x2048 z0)

namespace Lv
variable (L : Lv)
def bcc : FVec Ideal S2x256x4x128 .f32 := Host.reduceWindowAdd ![1, 256, 1, 1] ![1, 1, 1, 1] ![0, 255, 0, 0] ![0, 0, 0, 0] L.gc bz reduceWindows_S2x256x4x128_S2x256x4x128_w1s1p0_0_w256s1p255_0_w1s1p0_0_w1s1p0_0 h_S_
def dec : FVec Ideal S2x256x4x128 .f32 := Host.exp (subf (broadcastInDim S2x256x4x128 ![0, 1, 2, 3] bcast_S2x1x4x128_S2x256x4x128_0_1_2_3 (extractStridedSlice S2x1x4x128 ![0, 255, 0, 0] L.bcc slices_S2x256x4x128_S2x1x4x128_0_255_0_0)) L.bcc)
def kd : FVec Ideal S2x256x4x128 .f32 := mulf L.kc L.dec
def st : FVec Ideal S2x4x128x256 .f32 := Host.dotGeneral dot_S2x256x4x128_S2x256x4x256_S2x4x128x256_1_1_3_3_02_02 none L.kd L.vc
def bm : FVec Ideal S2x2048x4x128 .f32 := Host.reduceWindowAdd ![1, 2048, 1, 1] ![1, 1, 1, 1] ![0, 2047, 0, 0] ![0, 0, 0, 0] L.g bz reduceWindows_S2x2048x4x128_S2x2048x4x128_w1s1p0_0_w2048s1p2047_0_w1s1p0_0_w1s1p0_0 h_S_
def eb : FVec Ideal S2x2048x4x128 .f32 := Host.exp L.bm
def neb : FVec Ideal S2x2048x4x128 .f32 := Host.exp (Host.negf L.bm)
def qs : FVec Ideal S2x2048x4x128 .f32 := mulf L.q L.eb
def ks : FVec Ideal S2x2048x4x128 .f32 := mulf L.k L.neb
def att : FVec Ideal S2x4x2048x2048 .f32 := keep (Host.dotGeneral dot_S2x2048x4x128_S2x2048x4x128_S2x4x2048x2048_3_3_1_1_02_02 none L.qs L.ks)
def ot : FVec Ideal S2x4x256x2048 .f32 := transpose S2x4x256x2048 [0, 2, 3, 1] L.o transposes_S2x2048x4x256_S2x4x256x2048_0_2_3_1
def datt : FVec Ideal S2x4x2048x2048 .f32 := keep (Host.dotGeneral dot_S2x4x256x2048_S2x2048x4x256_S2x4x2048x2048_2_3_3_1_01_02 none L.ot L.v)
def dv : FVec Ideal S2x2048x4x256 .f32 := transpose S2x2048x4x256 [0, 3, 1, 2] (Host.dotGeneral dot_S2x4x256x2048_S2x4x2048x2048_S2x4x256x2048_3_2_2_3_01_01 none L.ot L.att) transposes_S2x4x256x2048_S2x2048x4x256_0_3_1_2
def dqst : FVec Ideal S2x2048x4x128 .f32 := transpose S2x2048x4x128 [0, 2, 1, 3] (Host.dotGeneral dot_S2x4x256x2048_S2x4x128x256_S2x4x2048x128_2_3_3_2_01_01 none L.ot L.st) transposes_S2x4x2048x128_S2x2048x4x128_0_2_1_3
def dst : FVec Ideal S2x4x128x256 .f32 := transpose S2x4x128x256 [0, 1, 3, 2] (Host.dotGeneral dot_S2x4x256x2048_S2x2048x4x128_S2x4x256x128_3_1_2_3_01_02 none L.ot L.qs) transposes_S2x4x256x128_S2x4x128x256_0_1_3_2
def dks : FVec Ideal S2x2048x4x128 .f32 := transpose S2x2048x4x128 [0, 2, 1, 3] (Host.dotGeneral dot_S2x4x2048x2048_S2x2048x4x128_S2x4x2048x128_2_1_3_3_01_02 none L.datt L.qs) transposes_S2x4x2048x128_S2x2048x4x128_0_2_1_3
def dqat : FVec Ideal S2x2048x4x128 .f32 := transpose S2x2048x4x128 [0, 2, 1, 3] (Host.dotGeneral dot_S2x4x2048x2048_S2x2048x4x128_S2x4x2048x128_3_1_2_3_01_02 none L.datt L.ks) transposes_S2x4x2048x128_S2x2048x4x128_0_2_1_3
def dqs : FVec Ideal S2x2048x4x128 .f32 := addf L.dqst L.dqat
def dk : FVec Ideal S2x2048x4x128 .f32 := mulf L.dks L.neb
def dq : FVec Ideal S2x2048x4x128 .f32 := mulf (mulf L.dqs L.eb) (broadcastInDim S2x2048x4x128 ![] bcast_S_S2x2048x4x128 scale)
def db : FVec Ideal S2x2048x4x128 .f32 := addf (Host.negf (mulf (mulf L.k L.dks) L.neb)) (mulf (mulf L.q L.dqs) L.eb)
def dg : FVec Ideal S2x2048x4x128 .f32 := Host.reduceWindowAdd ![1, 2048, 1, 1] ![1, 1, 1, 1] ![0, 0, 0, 0] ![0, 2047, 0, 0] L.db bz reduceWindows_S2x2048x4x128_S2x2048x4x128_w1s1p0_0_w2048s1p0_2047_w1s1p0_0_w1s1p0_0 h_S_
def dvc : FVec Ideal S2x256x4x256 .f32 := transpose S2x256x4x256 [0, 3, 1, 2] (Host.dotGeneral dot_S2x4x128x256_S2x256x4x128_S2x4x256x256_2_3_3_1_01_02 none L.dst L.kd) transposes_S2x4x256x256_S2x256x4x256_0_3_1_2
def dkd : FVec Ideal S2x256x4x128 .f32 := transpose S2x256x4x128 [0, 3, 1, 2] (Host.dotGeneral dot_S2x4x128x256_S2x256x4x256_S2x4x128x256_3_3_2_1_01_02 none L.dst L.vc) transposes_S2x4x128x256_S2x256x4x128_0_3_1_2
def dkc : FVec Ideal S2x256x4x128 .f32 := mulf L.dkd L.dec
def dbe : FVec Ideal S2x256x4x128 .f32 := mulf (mulf L.kc L.dkd) L.dec
def dbl : FVec Ideal S2x256x4x128 .f32 := pad S2x256x4x128 ![0, 255, 0, 0] ![0, 0, 0, 0] ![0, 0, 0, 0] (shapeCast S2x1x4x128 (Host.reduceAdd L.dbe z0 reducesTo_S2x256x4x128_S2x4x128_d1 h_S_) shapeCasts_S2x4x128_S2x1x4x128) z0 pads_S2x1x4x128_S2x256x4x128_000_25500_000_000 h_S_
def dbc : FVec Ideal S2x256x4x128 .f32 := addf (Host.negf L.dbe) L.dbl
def dgc : FVec Ideal S2x256x4x128 .f32 := Host.reduceWindowAdd ![1, 256, 1, 1] ![1, 1, 1, 1] ![0, 0, 0, 0] ![0, 255, 0, 0] L.dbc bz reduceWindows_S2x256x4x128_S2x256x4x128_w1s1p0_0_w256s1p0_255_w1s1p0_0_w1s1p0_0 h_S_
end Lv

/-! ## Arrays of real numbers -/

/-- An array whose entries are reals. -/
def Is4 {n0 n1 n2 n3 : ℕ} (x : (⟨4, ![n0, n1, n2, n3]⟩ : Shape).Idx → EReal) (X : Fin n0 → Fin n1 → Fin n2 → Fin n3 → ℝ) : Prop :=
  ∀ i j k l, x (ix4 i j k l) = ((X i j k l : ℝ) : EReal)

section
variable {n0 n1 n2 n3 : ℕ} {x y : FVec Ideal ⟨4, ![n0, n1, n2, n3]⟩ .f32} {X Y : Fin n0 → Fin n1 → Fin n2 → Fin n3 → ℝ}
theorem Is4.to (h : Is4 x X) (e : ∀ i j k l, X i j k l = Y i j k l) : Is4 x Y := fun i j k l => (h i j k l).trans (congrArg _ (e i j k l))
theorem is4_mul (hx : Is4 x X) (hy : Is4 y Y) : Is4 (mulf x y) (fun i j k l => X i j k l * Y i j k l) := fun i j k l => by
  show x _ * y _ = _; rw [hx, hy, EReal.coe_mul]
theorem is4_add (hx : Is4 x X) (hy : Is4 y Y) : Is4 (addf x y) (fun i j k l => X i j k l + Y i j k l) := fun i j k l => by
  show x _ + y _ = _; rw [hx, hy, EReal.coe_add]
theorem is4_sub (hx : Is4 x X) (hy : Is4 y Y) : Is4 (subf x y) (fun i j k l => X i j k l - Y i j k l) := fun i j k l => by
  show x _ - y _ = _; rw [hx, hy, EReal.coe_sub]
theorem is4_neg (hx : Is4 x X) : Is4 (Host.negf x) (fun i j k l => - X i j k l) := fun i j k l => by
  show - x _ = _; rw [hx, EReal.coe_neg]
theorem is4_exp (hx : Is4 x X) : Is4 (Host.exp x) (fun i j k l => Real.exp (X i j k l)) := fun i j k l => by
  show Ideal.exp (x _) = _; rw [hx]; rfl
end

theorem sum_coe' {ι : Type} [Fintype ι] {f g : ι → EReal} {A B : ι → ℝ} (hf : ∀ i, f i = ((A i : ℝ) : EReal)) (hg : ∀ i, g i = ((B i : ℝ) : EReal)) :
    ∑ i, f i * g i = ((∑ i, A i * B i : ℝ) : EReal) := by
  rw [coe_sum]
  exact Finset.sum_congr rfl fun i _ => by rw [hf, hg, EReal.coe_mul]

theorem zero_bits : Ideal.ofBits .f32 0x00000000#32 = 0 := by simp [Ideal.ofBits, Ideal.ieee]
theorem bz_first : bz (Shape.Idx.first h_S_) = 0 := zero_bits

theorem ite_coe {p : Prop} [Decidable p] {x : EReal} {r : ℝ} (h : x = ((r : ℝ) : EReal)) : (if p then x else 0) = (((if p then r else 0 : ℝ)) : EReal) := by
  split
  · exact h
  · exact EReal.coe_zero.symm

section
variable {n : ℕ} {x : FVec Ideal S2x2048x4x128 .f32} {X : Fin 2 → Fin 2048 → Fin 4 → Fin 128 → ℝ} {x' : FVec Ideal S2x256x4x128 .f32} {X' : Fin 2 → Fin 256 → Fin 4 → Fin 128 → ℝ}
theorem is_lo (h : Is4 x X) : Is4 (Host.reduceWindowAdd ![1, 2048, 1, 1] ![1, 1, 1, 1] ![0, 2047, 0, 0] ![0, 0, 0, 0] x bz reduceWindows_S2x2048x4x128_S2x2048x4x128_w1s1p0_0_w2048s1p2047_0_w1s1p0_0_w1s1p0_0 h_S_)
    (fun b t i c => ∑ u, if u ≤ t then X b u i c else 0) := fun b t i c => by
  unfold Host.reduceWindowAdd
  rw [bz_first, Ideal.hostReduceWindowAdd_def]
  refine (cum_lo4 reduceWindows_S2x2048x4x128_S2x2048x4x128_w1s1p0_0_w2048s1p2047_0_w1s1p0_0_w1s1p0_0 x b t i c).trans ?_
  rw [coe_sum]
  exact Finset.sum_congr rfl fun u _ => ite_coe (h b u i c)
theorem is_hi (h : Is4 x X) : Is4 (Host.reduceWindowAdd ![1, 2048, 1, 1] ![1, 1, 1, 1] ![0, 0, 0, 0] ![0, 2047, 0, 0] x bz reduceWindows_S2x2048x4x128_S2x2048x4x128_w1s1p0_0_w2048s1p0_2047_w1s1p0_0_w1s1p0_0 h_S_)
    (fun b t i c => ∑ u, if t ≤ u then X b u i c else 0) := fun b t i c => by
  unfold Host.reduceWindowAdd
  rw [bz_first, Ideal.hostReduceWindowAdd_def]
  refine (cum_hi4 reduceWindows_S2x2048x4x128_S2x2048x4x128_w1s1p0_0_w2048s1p0_2047_w1s1p0_0_w1s1p0_0 x b t i c).trans ?_
  rw [coe_sum]
  exact Finset.sum_congr rfl fun u _ => ite_coe (h b u i c)
theorem is_loc (h : Is4 x' X') : Is4 (Host.reduceWindowAdd ![1, 256, 1, 1] ![1, 1, 1, 1] ![0, 255, 0, 0] ![0, 0, 0, 0] x' bz reduceWindows_S2x256x4x128_S2x256x4x128_w1s1p0_0_w256s1p255_0_w1s1p0_0_w1s1p0_0 h_S_)
    (fun b t i c => ∑ u, if u ≤ t then X' b u i c else 0) := fun b t i c => by
  unfold Host.reduceWindowAdd
  rw [bz_first, Ideal.hostReduceWindowAdd_def]
  refine (cum_lo4 reduceWindows_S2x256x4x128_S2x256x4x128_w1s1p0_0_w256s1p255_0_w1s1p0_0_w1s1p0_0 x' b t i c).trans ?_
  rw [coe_sum]
  exact Finset.sum_congr rfl fun u _ => ite_coe (h b u i c)
theorem is_hic (h : Is4 x' X') : Is4 (Host.reduceWindowAdd ![1, 256, 1, 1] ![1, 1, 1, 1] ![0, 0, 0, 0] ![0, 255, 0, 0] x' bz reduceWindows_S2x256x4x128_S2x256x4x128_w1s1p0_0_w256s1p0_255_w1s1p0_0_w1s1p0_0 h_S_)
    (fun b t i c => ∑ u, if t ≤ u then X' b u i c else 0) := fun b t i c => by
  unfold Host.reduceWindowAdd
  rw [bz_first, Ideal.hostReduceWindowAdd_def]
  refine (cum_hi4 reduceWindows_S2x256x4x128_S2x256x4x128_w1s1p0_0_w256s1p0_255_w1s1p0_0_w1s1p0_0 x' b t i c).trans ?_
  rw [coe_sum]
  exact Finset.sum_congr rfl fun u _ => ite_coe (h b u i c)
end

theorem toInt_ofNat (n : ℕ) (h : n < 2 ^ 31) : (BitVec.ofNat 32 n).toInt = n := by
  rw [BitVec.toInt_eq_toNat_of_lt (by rw [BitVec.toNat_ofNat]; omega), BitVec.toNat_ofNat]
  omega

theorem tri_apply (t u : Fin 2048) : tri (ix2 t u) = if u ≤ t then 1#1 else 0#1 := by
  have ht := t.isLt
  have hu := u.isLt
  pointwise [tri]
  unfold IntOp.addi IntOp.cmpi
  dsimp only
  rw [BitVec.add_zero, BitVec.sle, toInt_ofNat _ (by omega), toInt_ofNat _ (by omega)]
  by_cases h : u ≤ t
  · rw [if_pos h, decide_eq_true (by have : u.val ≤ t.val := h; omega)]; rfl
  · rw [if_neg h, decide_eq_false (by have : ¬ u.val ≤ t.val := h; omega)]; rfl

theorem is_keep {x : FVec Ideal S2x4x2048x2048 .f32} {X : Fin 2 → Fin 4 → Fin 2048 → Fin 2048 → ℝ} (h : Is4 x X) :
    Is4 (keep x) (fun b i t u => if u ≤ t then X b i t u else 0) := fun b i t u => by
  pointwise [keep]
  rw [tri_apply]
  by_cases hu : u ≤ t
  · rw [if_pos hu, if_pos hu]; exact h b i t u
  · rw [if_neg hu, if_neg hu]; exact zero_bits.trans EReal.coe_zero.symm

end Cert.ReferenceIdeal.Hand

end
-- ==== Proof.RefVal.lean ====
/- What the arrays of one direction of the reference hold, in the words of `Seq`: the gradients of the queries, keys, values and decays. -/
module

public import proofs.«01_k».proof.Proof.RefDir

@[expose] public section

set_option maxRecDepth 16384

noncomputable section

namespace Cert.Gla.Seq
open Finset
variable {K V : Type} [Fintype K] [Fintype V] (S : Seq K V)

/-- The state after the first chunk. -/
theorem st_first {L : ℕ} (e : Fin L ≃ Fin L) (y : V) (c : K) : ∑ x, S.ckd 0 e x c * S.v (0 + e x) y = S.ST L y c := by
  have h : ∀ x : Fin L, S.ckd 0 e x c * S.v (0 + e x) y = (fun j : ℕ => S.v j y * (S.k j c * Real.exp (S.B L c - S.B (j + 1) c))) (e x).val := fun x => by
    unfold ckd
    rw [bl_eq, bc_eq]
    dsimp only
    rw [Nat.zero_add, Nat.zero_add]
    rw [show S.B L c - S.B 0 c - (S.B ((e x).val + 1) c - S.B 0 c) = S.B L c - S.B ((e x).val + 1) c by ring]
    ring
  rw [sum_congr rfl fun x _ => h x, Equiv.sum_comp e (fun x : Fin L => (fun j : ℕ => S.v j y * (S.k j c * Real.exp (S.B L c - S.B (j + 1) c))) x.val),
    Fin.sum_univ_eq_sum_range (fun j : ℕ => S.v j y * (S.k j c * Real.exp (S.B L c - S.B (j + 1) c)))]
  rfl

theorem DQ_zero {t : ℕ} (h : ∀ x, S.o t x = 0) (c : K) : S.DQ t c = 0 := by
  unfold DQ p
  simp [h]

end Cert.Gla.Seq

namespace Cert.ReferenceIdeal.Hand

open Cert.ReferenceIdeal Cert.ReferenceIdeal.Gen
open Idealize.ShloMosaic Idealize.ShloMosaic.TcCoe Idealize.ShloMosaic.Tactic
open Cert.Gla
open Cert.KernelIdeal.Body (Q Q_coe coe_sum)

set_option maxHeartbeats 2000000

/-- The rows of a direction are those of a sequence for each batch element and head. -/
structure LReads (L : Lv) (S : Fin 2 → Fin 4 → Seq (Fin 128) (Fin 256)) : Prop where
  hN : ∀ b h, (S b h).N = 2304
  ho : ∀ b h t y, t < 256 → (S b h).o t y = 0
  ikc : Is4 L.kc (fun b t h c => (S b h).k (0 + t.val) c)
  igc : Is4 L.gc (fun b t h c => (S b h).g (0 + t.val) c)
  ivc : Is4 L.vc (fun b t h y => (S b h).v (0 + t.val) y)
  iq : Is4 L.q (fun b t h c => (S b h).q (256 + t.val) c)
  ik : Is4 L.k (fun b t h c => (S b h).k (256 + t.val) c)
  ig : Is4 L.g (fun b t h c => (S b h).g (256 + t.val) c)
  iv : Is4 L.v (fun b t h y => (S b h).v (256 + t.val) y)
  io : Is4 L.o (fun b t h y => (S b h).o (256 + t.val) y)

abbrev ec : Fin 256 ≃ Fin 256 := Equiv.refl _
abbrev em : Fin 2048 ≃ Fin 2048 := Equiv.refl _

namespace LReads
variable {L : Lv} {S : Fin 2 → Fin 4 → Seq (Fin 128) (Fin 256)}

theorem ibcc (R : LReads L S) : Is4 L.bcc (fun b t h c => (S b h).bc 0 ec t c) :=
  (is_loc R.igc).to fun b t h c => by
    unfold Seq.bc
    simp only [ite_mul, one_mul, zero_mul]
    rfl

theorem bc_last (S : Seq (Fin 128) (Fin 256)) (c : Fin 128) : S.bc 0 ec (255 : Fin 256) c = S.bl 0 ec c := by
  unfold Seq.bc Seq.bl
  refine Finset.sum_congr rfl fun j _ => ?_
  rw [if_pos (by have := j.isLt; change j.val ≤ 255; omega), one_mul]

theorem idec (R : LReads L S) : Is4 L.dec (fun b t h c => Real.exp ((S b h).bl 0 ec c - (S b h).bc 0 ec t c)) :=
  is4_exp (is4_sub (fun b t h c => by
    refine Eq.trans ?_ ((R.ibcc b (255 : Fin 256) h c).trans (congrArg _ (bc_last _ c)))
    pointwise) R.ibcc)

theorem ikd (R : LReads L S) : Is4 L.kd (fun b t h c => (S b h).ckd 0 ec t c) := is4_mul R.ikc R.idec

theorem ist (R : LReads L S) : Is4 L.st (fun b h c y => (S b h).ST 256 y c) := fun b h c y => by
  pointwise [Lv.st]
  exact (sum_coe' (fun t => R.ikd b t h c) (fun t => R.ivc b t h y)).trans (congrArg _ ((S b h).st_first ec y c))

theorem ibm (R : LReads L S) : Is4 L.bm (fun b t h c => (S b h).bc 256 em t c) :=
  (is_lo R.ig).to fun b t h c => by
    unfold Seq.bc
    simp only [ite_mul, one_mul, zero_mul]
    rfl

theorem ieb (R : LReads L S) : Is4 L.eb (fun b t h c => Real.exp ((S b h).bc 256 em t c)) := is4_exp R.ibm
theorem ineb (R : LReads L S) : Is4 L.neb (fun b t h c => Real.exp (- (S b h).bc 256 em t c)) := is4_exp (is4_neg R.ibm)
theorem iqs (R : LReads L S) : Is4 L.qs (fun b t h c => (S b h).cqs 256 em t c) := is4_mul R.iq R.ieb
theorem iks (R : LReads L S) : Is4 L.ks (fun b t h c => (S b h).cks 256 em t c) := is4_mul R.ik R.ineb

theorem iatt (R : LReads L S) : Is4 L.att (fun b h t u => (S b h).catt 256 em t u) :=
  (is_keep (X := fun b h t u => ∑ c, (S b h).cqs 256 em t c * (S b h).cks 256 em u c) fun b h t u => by
    pointwise
    exact sum_coe' (fun c => R.iqs b t h c) (fun c => R.iks b u h c)).to fun b h t u => rfl

theorem iot (R : LReads L S) : Is4 L.ot (fun b h y t => (S b h).o (256 + t.val) y) := fun b h y t => by
  pointwise [Lv.ot]
  exact R.io b t h y

theorem idatt (R : LReads L S) : Is4 L.datt (fun b h t u => (S b h).cdatt 256 em t u) :=
  (is_keep (X := fun b h t u => ∑ y, (S b h).o (256 + t.val) y * (S b h).v (256 + u.val) y) fun b h t u => by
    pointwise
    exact sum_coe' (fun y => R.iot b h y t) (fun y => R.iv b u h y)).to fun b h t u => rfl

theorem dst_end (R : LReads L S) (b h y c) : (S b h).DST (256 + 2048) y c = 0 := by
  have := (S b h).DST_last y c
  rw [R.hN] at this
  exact this

theorem idv (R : LReads L S) : Is4 L.dv (fun b t h y => (S b h).DV (256 + t.val) y) := fun b t h y => by
  pointwise [Lv.dv]
  refine (sum_coe' (fun u => R.iot b h y u) (fun u => R.iatt b h u t)).trans (congrArg _ ?_)
  refine Eq.trans ?_ ((S b h).chunk_dv 256 em (R.hN b h).ge t y)
  rw [Finset.sum_eq_zero (s := Finset.univ) (f := fun c => (S b h).ckd 256 em t c * (S b h).DST (256 + 2048) y c) (fun c _ => by rw [R.dst_end, mul_zero]), add_zero]
  exact Finset.sum_congr rfl fun u _ => mul_comm _ _

theorem idqs (R : LReads L S) : Is4 L.dqs (fun b t h c => (S b h).cdqs 256 em ((S b h).ST 256) t c) :=
  is4_add (fun b t h c => by
    pointwise [Lv.dqst]
    exact sum_coe' (fun y => R.iot b h y t) (fun y => R.ist b h c y)) fun b t h c => by
    pointwise [Lv.dqat]
    exact sum_coe' (fun u => R.idatt b h t u) (fun u => R.iks b u h c)

theorem idks (R : LReads L S) : Is4 L.dks (fun b t h c => (S b h).cdks 256 em t c) := fun b t h c => by
  pointwise [Lv.dks]
  exact sum_coe' (fun u => R.idatt b h u t) (fun u => R.iqs b u h c)

theorem dkd_end (R : LReads L S) (b h t c) : (S b h).cdkd 256 em ((S b h).DST (256 + 2048)) t c = 0 := by
  unfold Seq.cdkd
  exact Finset.sum_eq_zero fun y _ => by rw [R.dst_end, mul_zero]

theorem idst (R : LReads L S) : Is4 L.dst (fun b h c y => (S b h).DST 256 y c) := fun b h c y => by
  pointwise [Lv.dst]
  refine (sum_coe' (fun t => R.iot b h y t) (fun t => R.iqs b t h c)).trans (congrArg _ ?_)
  rw [← (S b h).chunk_dst 256 em (R.hN b h).ge y c, R.dst_end, zero_mul, add_zero]
  rfl

theorem idk (R : LReads L S) : Is4 L.dk (fun b t h c => (S b h).DK (256 + t.val) c) :=
  (is4_mul R.idks R.ineb).to fun b t h c => by
    have := (S b h).chunk_dk 256 em (R.hN b h).ge t c
    rw [R.dkd_end, zero_mul, add_zero] at this
    exact this

theorem idq (R : LReads L S) : Is4 L.dq (fun b t h c => (S b h).DQ (256 + t.val) c * Q) :=
  is4_mul ((is4_mul R.idqs R.ieb).to fun b t h c => (S b h).chunk_dq 256 em t c) fun b t h c => by
    pointwise
    exact Q_coe

theorem idb (R : LReads L S) : Is4 L.db (fun b t h c => (S b h).cdbs 256 em ((S b h).ST 256) ((S b h).DST (256 + 2048)) t c) :=
  (is4_add (is4_neg (is4_mul (is4_mul R.ik R.idks) R.ineb)) (is4_mul (is4_mul R.iq R.idqs) R.ieb)).to fun b t h c => by
    unfold Seq.cdbs
    rw [R.dkd_end]
    unfold Seq.cqs Seq.cks
    change -((S b h).k (256 + t.val) c * _ * _) + (S b h).q (256 + t.val) c * _ * _ = _ * ((S b h).q (256 + t.val) c * _) - _ * ((S b h).k (256 + t.val) c * _) - _
    ring

theorem idg (R : LReads L S) : Is4 L.dg (fun b t h c => (S b h).DG (256 + t.val) c) :=
  (is_hi R.idb).to fun b t h c => by
    refine Eq.trans ?_ ((S b h).chunk_dg 256 em (R.hN b h).ge t c)
    rw [Finset.sum_eq_zero (s := Finset.univ) (f := fun y => (S b h).ST 256 y c * (S b h).DST (256 + 2048) y c) (fun y _ => by rw [R.dst_end, mul_zero]),
      Finset.sum_eq_zero (s := Finset.univ) (f := fun x => (S b h).cdkd 256 em ((S b h).DST (256 + 2048)) x c * (S b h).ckd 256 em x c) (fun y _ => by rw [R.dkd_end, zero_mul]),
      mul_zero, add_zero, add_zero]
    simp only [ite_mul, one_mul, zero_mul]
    rfl

/-! ## The context -/

theorem hs (R : LReads L S) (b h) : 0 + 256 ≤ (S b h).N := by rw [R.hN]; omega

theorem idvc (R : LReads L S) : Is4 L.dvc (fun b t h y => (S b h).DV (0 + t.val) y) := fun b t h y => by
  pointwise [Lv.dvc]
  refine (sum_coe' (fun c => R.idst b h c y) (fun c => R.ikd b t h c)).trans (congrArg _ ?_)
  refine Eq.trans ?_ (((S b h).chunk_dv 0 ec (R.hs b h) t y).trans (congrArg (fun n => (S b h).DV n y) (Nat.zero_add _)))
  rw [Finset.sum_eq_zero (s := Finset.univ) (f := fun u : Fin 256 => (S b h).catt 0 ec u t * (S b h).o (0 + (ec u).val) y) (fun u _ => by
    rw [R.ho b h _ y (by have := (ec u).isLt; omega), mul_zero]), zero_add]
  exact Finset.sum_congr rfl fun u _ => mul_comm _ _

theorem idkd (R : LReads L S) : Is4 L.dkd (fun b t h c => (S b h).cdkd 0 ec ((S b h).DST (0 + 256)) t c) := fun b t h c => by
  pointwise [Lv.dkd]
  refine (sum_coe' (fun y => R.idst b h c y) (fun y => R.ivc b t h y)).trans (congrArg _ ?_)
  exact Finset.sum_congr rfl fun u _ => mul_comm _ _

theorem cdatt_c (R : LReads L S) (b h t u) : (S b h).cdatt 0 ec t u = 0 := by
  unfold Seq.cdatt
  split
  · exact Finset.sum_eq_zero fun y _ => by rw [R.ho b h _ y (by have := (ec t).isLt; omega), zero_mul]
  · rfl

theorem cdks_c (R : LReads L S) (b h t c) : (S b h).cdks 0 ec t c = 0 := by
  unfold Seq.cdks
  exact Finset.sum_eq_zero fun y _ => by rw [R.cdatt_c, zero_mul]

theorem st_c (b h y c) : (S b h).ST 0 y c = 0 := by simp [Seq.ST]

theorem cdqs_c (R : LReads L S) (b h t c) : (S b h).cdqs 0 ec ((S b h).ST 0) t c = 0 := by
  unfold Seq.cdqs
  rw [Finset.sum_eq_zero fun y _ => by rw [st_c, mul_zero], Finset.sum_eq_zero fun y _ => by rw [R.cdatt_c, zero_mul], add_zero]

theorem idkc (R : LReads L S) : Is4 L.dkc (fun b t h c => (S b h).DK (0 + t.val) c) :=
  (is4_mul R.idkd R.idec).to fun b t h c => by
    have := (S b h).chunk_dk 0 ec (R.hs b h) t c
    rw [R.cdks_c, zero_mul, zero_add] at this
    exact this

theorem idbe (R : LReads L S) : Is4 L.dbe (fun b t h c => (S b h).cdkd 0 ec ((S b h).DST (0 + 256)) t c * (S b h).ckd 0 ec t c) :=
  (is4_mul (is4_mul R.ikc R.idkd) R.idec).to fun b t h c => by
    unfold Seq.ckd
    change (S b h).k (0 + t.val) c * _ * _ = _ * ((S b h).k (0 + t.val) c * _)
    ring

theorem idbl (R : LReads L S) : Is4 L.dbl (fun b t h c => if t = (255 : Fin 256) then ∑ x, (S b h).cdkd 0 ec ((S b h).DST (0 + 256)) x c * (S b h).ckd 0 ec x c else 0) := fun b t h c => by
  have hr : shapeCast S2x1x4x128 (Host.reduceAdd L.dbe z0 reducesTo_S2x256x4x128_S2x4x128_d1 h_S_) shapeCasts_S2x4x128_S2x1x4x128 (ix4 b (0 : Fin 1) h c)
      = ((∑ x, (S b h).cdkd 0 ec ((S b h).DST (0 + 256)) x c * (S b h).ckd 0 ec x c : ℝ) : EReal) := by
    pointwise
    rw [show z0 (Shape.Idx.first h_S_) = 0 from zero_bits, zero_add, coe_sum]
    exact Finset.sum_congr rfl fun x _ => R.idbe b x h c
  unfold Lv.dbl
  generalize shapeCast S2x1x4x128 (Host.reduceAdd L.dbe z0 reducesTo_S2x256x4x128_S2x4x128_d1 h_S_) shapeCasts_S2x4x128_S2x1x4x128 = y at hr ⊢
  pointwise
  by_cases ht : t = (255 : Fin 256)
  · subst ht
    exact hr
  · have h1 : t.val ≠ 255 := fun e => ht (Fin.ext e)
    have := t.isLt
    rw [dif_neg (by omega), if_neg ht]
    exact zero_bits

theorem idgc (R : LReads L S) : Is4 L.dgc (fun b t h c => (S b h).DG (0 + t.val) c) :=
  (is_hic (is4_add (is4_neg R.idbe) R.idbl)).to fun b t h c => by
    refine Eq.trans ?_ ((S b h).chunk_dg 0 ec (R.hs b h) t c)
    rw [Finset.sum_eq_zero (s := Finset.univ) (f := fun y => (S b h).ST 0 y c * (S b h).DST (0 + 256) y c) (fun y _ => by rw [st_c, zero_mul]), mul_zero, zero_add]
    have hd : ∀ j, (S b h).cdbs 0 ec ((S b h).ST 0) ((S b h).DST (0 + 256)) j c = - ((S b h).cdkd 0 ec ((S b h).DST (0 + 256)) j c * (S b h).ckd 0 ec j c) := fun j => by
      unfold Seq.cdbs
      rw [R.cdqs_c, R.cdks_c]
      ring
    simp only [hd]
    generalize (∑ x, (S b h).cdkd 0 ec ((S b h).DST (0 + 256)) x c * (S b h).ckd 0 ec x c) = T
    have h1 : ∀ u : Fin 256, (if t ≤ u then -((S b h).cdkd 0 ec ((S b h).DST (0 + 256)) u c * (S b h).ckd 0 ec u c) + (if u = 255 then T else 0) else 0)
        = (if ec t ≤ ec u then 1 else 0) * (-((S b h).cdkd 0 ec ((S b h).DST (0 + 256)) u c * (S b h).ckd 0 ec u c)) + (if u = 255 then T else 0) := fun u => by
      by_cases hu : t ≤ u
      · rw [if_pos hu, if_pos (show ec t ≤ ec u from hu), one_mul]
      · rw [if_neg hu, if_neg (show ¬ ec t ≤ ec u from hu), zero_mul, zero_add, if_neg]
        rintro rfl
        exact hu (by have := t.isLt; change t.val ≤ 255; omega)
    rw [Finset.sum_congr rfl fun u _ => h1 u, Finset.sum_add_distrib, Finset.sum_ite_eq' Finset.univ (255 : Fin 256), if_pos (Finset.mem_univ _)]
    exact congrArg _ (zero_add _).symm

end LReads

end Cert.ReferenceIdeal.Hand

end
-- ==== Proof.RefRows.lean ====
/- The rows of the tokens as the reference slices them out of the arguments in either direction, and how it lays the two parts of a
   result back into one array. -/
module

public import proofs.«01_k».proof.Proof.RefVal
public import Idealize.ShloMosaic.Lib.KernelVsHost

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Gla
open Cert.KernelIdeal.Body (Q Q_coe coe_sum hd ln hdv lnv col colv hd_col ln_col hdv_col lnv_col col_eq colv_eq)

set_option maxHeartbeats 2000000

theorem at2 {n k : ℕ} (x : (⟨2, ![n, k]⟩ : Shape).Idx → EReal) {R R' : Fin n} {C C' : Fin k} (hR : R.val = R'.val) (hC : C.val = C'.val) :
    x (ix2 R C) = x (ix2 R' C') := by rw [Fin.ext hR, Fin.ext hC]

theorem at3 {n k l : ℕ} (x : (⟨3, ![n, k, l]⟩ : Shape).Idx → EReal) {B B' : Fin n} {R R' : Fin k} {C C' : Fin l} (hB : B.val = B'.val) (hR : R.val = R'.val) (hC : C.val = C'.val) :
    x (ix3 B R C) = x (ix3 B' R' C') := by rw [Fin.ext hB, Fin.ext hR, Fin.ext hC]

/-! ## Parts of an argument -/

def ck (A : FVec Ideal S4608x512 .f32) : FVec Ideal S2x256x512 .f32 :=
  shapeCast S2x256x512 (extractStridedSlice S512x512 ![4096, 0] A slices_S4608x512_S512x512_4096_0) shapeCasts_S512x512_S2x256x512
def cv (A : FVec Ideal S4608x1024 .f32) : FVec Ideal S2x256x1024 .f32 :=
  shapeCast S2x256x1024 (extractStridedSlice S512x1024 ![4096, 0] A slices_S4608x1024_S512x1024_4096_0) shapeCasts_S512x1024_S2x256x1024
def mk (A : FVec Ideal S4608x512 .f32) : FVec Ideal S2x2048x512 .f32 :=
  shapeCast S2x2048x512 (extractStridedSlice S4096x512 ![0, 0] A slices_S4608x512_S4096x512_0_0) shapeCasts_S4096x512_S2x2048x512
def mv (A : FVec Ideal S4608x1024 .f32) : FVec Ideal S2x2048x1024 .f32 :=
  shapeCast S2x2048x1024 (extractStridedSlice S4096x1024 ![0, 0] A slices_S4608x1024_S4096x1024_0_0) shapeCasts_S4096x1024_S2x2048x1024

theorem ck_apply (A : FVec Ideal S4608x512 .f32) (b : Fin 2) (t : Fin 256) (C : Fin 512) :
    ck A (ix3 b t C) = A (ix2 (⟨4096 + 256 * b.val + t.val, by omega⟩ : Fin 4608) C) := by
  pointwise [ck]
  exact at2 A (by dsimp; omega) (by dsimp)
theorem cv_apply (A : FVec Ideal S4608x1024 .f32) (b : Fin 2) (t : Fin 256) (C : Fin 1024) :
    cv A (ix3 b t C) = A (ix2 (⟨4096 + 256 * b.val + t.val, by omega⟩ : Fin 4608) C) := by
  pointwise [cv]
  exact at2 A (by dsimp; omega) (by dsimp)
theorem mk_apply (A : FVec Ideal S4608x512 .f32) (b : Fin 2) (t : Fin 2048) (C : Fin 512) :
    mk A (ix3 b t C) = A (ix2 (⟨2048 * b.val + t.val, by omega⟩ : Fin 4608) C) := by
  pointwise [mk]
  exact at2 A (by dsimp; omega) (by dsimp)
theorem mv_apply (A : FVec Ideal S4608x1024 .f32) (b : Fin 2) (t : Fin 2048) (C : Fin 1024) :
    mv A (ix3 b t C) = A (ix2 (⟨2048 * b.val + t.val, by omega⟩ : Fin 4608) C) := by
  pointwise [mv]
  exact at2 A (by dsimp; omega) (by dsimp)

def q0 (x0 : FVec Ideal S4608x3200 .f32) : FVec Ideal S4608x512 .f32 := extractStridedSlice S4608x512 ![0, 0] x0 slices_S4608x3200_S4608x512_0_0
def k0 (x0 : FVec Ideal S4608x3200 .f32) : FVec Ideal S4608x512 .f32 := extractStridedSlice S4608x512 ![0, 512] x0 slices_S4608x3200_S4608x512_0_512
def v0 (x0 : FVec Ideal S4608x3200 .f32) : FVec Ideal S4608x1024 .f32 := extractStridedSlice S4608x1024 ![0, 1024] x0 slices_S4608x3200_S4608x1024_0_1024
def g0 (x1 : FVec Ideal S4608x1024 .f32) : FVec Ideal S4608x512 .f32 := extractStridedSlice S4608x512 ![0, 0] x1 slices_S4608x1024_S4608x512_0_0
def g1 (x1 : FVec Ideal S4608x1024 .f32) : FVec Ideal S4608x512 .f32 := extractStridedSlice S4608x512 ![0, 512] x1 slices_S4608x1024_S4608x512_0_512

theorem q0_apply (x0 : FVec Ideal S4608x3200 .f32) (R : Fin 4608) (C : Fin 512) : q0 x0 (ix2 R C) = x0 (ix2 R (⟨C.val, by omega⟩ : Fin 3200)) := by
  pointwise [q0]
theorem k0_apply (x0 : FVec Ideal S4608x3200 .f32) (R : Fin 4608) (C : Fin 512) : k0 x0 (ix2 R C) = x0 (ix2 R (⟨512 + C.val, by omega⟩ : Fin 3200)) := by
  pointwise [k0]
theorem v0_apply (x0 : FVec Ideal S4608x3200 .f32) (R : Fin 4608) (C : Fin 1024) : v0 x0 (ix2 R C) = x0 (ix2 R (⟨1024 + C.val, by omega⟩ : Fin 3200)) := by
  pointwise [v0]
theorem g0_apply (x1 : FVec Ideal S4608x1024 .f32) (R : Fin 4608) (C : Fin 512) : g0 x1 (ix2 R C) = x1 (ix2 R (⟨C.val, by omega⟩ : Fin 1024)) := by
  pointwise [g0]
theorem g1_apply (x1 : FVec Ideal S4608x1024 .f32) (R : Fin 4608) (C : Fin 512) : g1 x1 (ix2 R C) = x1 (ix2 R (⟨512 + C.val, by omega⟩ : Fin 1024)) := by
  pointwise [g1]

/-! ## The heads side by side -/

theorem ck4 (y : FVec Ideal S2x256x512 .f32) (b : Fin 2) (t : Fin 256) (h : Fin 4) (c : Fin 128) :
    shapeCast S2x256x4x128 y shapeCasts_S2x256x512_S2x256x4x128 (ix4 b t h c) = y (ix3 b t (col h c)) := by
  pointwise
  exact congrArg y (congrArg (ix3 b t) (Fin.ext (by unfold col; dsimp only; omega)))
theorem cv4 (y : FVec Ideal S2x256x1024 .f32) (b : Fin 2) (t : Fin 256) (h : Fin 4) (c : Fin 256) :
    shapeCast S2x256x4x256 y shapeCasts_S2x256x1024_S2x256x4x256 (ix4 b t h c) = y (ix3 b t (colv h c)) := by
  pointwise
  exact congrArg y (congrArg (ix3 b t) (Fin.ext (by unfold colv; dsimp only; omega)))
theorem mk4 (y : FVec Ideal S2x2048x512 .f32) (b : Fin 2) (t : Fin 2048) (h : Fin 4) (c : Fin 128) :
    shapeCast S2x2048x4x128 y shapeCasts_S2x2048x512_S2x2048x4x128 (ix4 b t h c) = y (ix3 b t (col h c)) := by
  pointwise
  exact congrArg y (congrArg (ix3 b t) (Fin.ext (by unfold col; dsimp only; omega)))
theorem mv4 (y : FVec Ideal S2x2048x1024 .f32) (b : Fin 2) (t : Fin 2048) (h : Fin 4) (c : Fin 256) :
    shapeCast S2x2048x4x256 y shapeCasts_S2x2048x1024_S2x2048x4x256 (ix4 b t h c) = y (ix3 b t (colv h c)) := by
  pointwise
  exact congrArg y (congrArg (ix3 b t) (Fin.ext (by unfold colv; dsimp only; omega)))
theorem o4 (y : FVec Ideal S4096x1024 .f32) (b : Fin 2) (t : Fin 2048) (h : Fin 4) (c : Fin 256) :
    shapeCast S2x2048x4x256 y shapeCasts_S4096x1024_S2x2048x4x256 (ix4 b t h c) = y (ix2 (⟨2048 * b.val + t.val, by omega⟩ : Fin 4096) (colv h c)) := by
  pointwise
  exact at2 y (by dsimp; omega) (by unfold colv; dsimp; omega)

theorem ck3 (y : FVec Ideal S2x256x4x128 .f32) (b : Fin 2) (t : Fin 256) (C : Fin 512) :
    shapeCast S2x256x512 y shapeCasts_S2x256x4x128_S2x256x512 (ix3 b t C) = y (ix4 b t (hd C) (ln C)) := by
  pointwise
  exact congrArg y (congrArg₂ (ix4 b t) (Fin.ext rfl) (Fin.ext rfl))
theorem cv3 (y : FVec Ideal S2x256x4x256 .f32) (b : Fin 2) (t : Fin 256) (C : Fin 1024) :
    shapeCast S2x256x1024 y shapeCasts_S2x256x4x256_S2x256x1024 (ix3 b t C) = y (ix4 b t (hdv C) (lnv C)) := by
  pointwise
  exact congrArg y (congrArg₂ (ix4 b t) (Fin.ext rfl) (Fin.ext rfl))
theorem mk3 (y : FVec Ideal S2x2048x4x128 .f32) (b : Fin 2) (t : Fin 2048) (C : Fin 512) :
    shapeCast S2x2048x512 y shapeCasts_S2x2048x4x128_S2x2048x512 (ix3 b t C) = y (ix4 b t (hd C) (ln C)) := by
  pointwise
  exact congrArg y (congrArg₂ (ix4 b t) (Fin.ext rfl) (Fin.ext rfl))
theorem mv3 (y : FVec Ideal S2x2048x4x256 .f32) (b : Fin 2) (t : Fin 2048) (C : Fin 1024) :
    shapeCast S2x2048x1024 y shapeCasts_S2x2048x4x256_S2x2048x1024 (ix3 b t C) = y (ix4 b t (hdv C) (lnv C)) := by
  pointwise
  exact congrArg y (congrArg₂ (ix4 b t) (Fin.ext rfl) (Fin.ext rfl))

/-! ## The rows of a direction -/

/-- The reverse of an array's second axis, four axes. -/
theorem rev4 {B n C D : ℕ} (x : (⟨4, ![B, n, C, D]⟩ : Shape).Idx → EReal) (b : Fin B) (t : Fin n) (c : Fin C) (d : Fin D) :
    Host.reverse [1] x (ix4 b t c d) = x (ix4 b t.rev c d) := by
  unfold Host.reverse
  refine congrArg x (funext fun a => ?_)
  match a with
  | 0 => rfl
  | 1 => rfl
  | 2 => rfl
  | 3 => rfl

variable (x0 : FVec Ideal S4608x3200 .f32) (x1 : FVec Ideal S4608x1024 .f32) (x2 : FVec Ideal S4096x1024 .f32)

def lv0 : Lv where
  kc := shapeCast S2x256x4x128 (ck (k0 x0)) shapeCasts_S2x256x512_S2x256x4x128
  gc := shapeCast S2x256x4x128 (ck (g0 x1)) shapeCasts_S2x256x512_S2x256x4x128
  vc := shapeCast S2x256x4x256 (cv (v0 x0)) shapeCasts_S2x256x1024_S2x256x4x256
  q := mulf (shapeCast S2x2048x4x128 (mk (q0 x0)) shapeCasts_S2x2048x512_S2x2048x4x128) (broadcastInDim S2x2048x4x128 ![] bcast_S_S2x2048x4x128 scale)
  k := shapeCast S2x2048x4x128 (mk (k0 x0)) shapeCasts_S2x2048x512_S2x2048x4x128
  g := shapeCast S2x2048x4x128 (mk (g0 x1)) shapeCasts_S2x2048x512_S2x2048x4x128
  v := shapeCast S2x2048x4x256 (mv (v0 x0)) shapeCasts_S2x2048x1024_S2x2048x4x256
  o := shapeCast S2x2048x4x256 x2 shapeCasts_S4096x1024_S2x2048x4x256

def lv1 : Lv where
  kc := shapeCast S2x256x4x128 (Host.reverse [1] (ck (k0 x0))) shapeCasts_S2x256x512_S2x256x4x128
  gc := shapeCast S2x256x4x128 (Host.reverse [1] (ck (g1 x1))) shapeCasts_S2x256x512_S2x256x4x128
  vc := shapeCast S2x256x4x256 (Host.reverse [1] (cv (v0 x0))) shapeCasts_S2x256x1024_S2x256x4x256
  q := mulf (shapeCast S2x2048x4x128 (Host.reverse [1] (mk (q0 x0))) shapeCasts_S2x2048x512_S2x2048x4x128) (broadcastInDim S2x2048x4x128 ![] bcast_S_S2x2048x4x128 scale)
  k := shapeCast S2x2048x4x128 (Host.reverse [1] (mk (k0 x0))) shapeCasts_S2x2048x512_S2x2048x4x128
  g := shapeCast S2x2048x4x128 (Host.reverse [1] (mk (g1 x1))) shapeCasts_S2x2048x512_S2x2048x4x128
  v := shapeCast S2x2048x4x256 (Host.reverse [1] (mv (v0 x0))) shapeCasts_S2x2048x1024_S2x2048x4x256
  o := Host.reverse [1] (shapeCast S2x2048x4x256 x2 shapeCasts_S4096x1024_S2x2048x4x256)

section
variable {x0 x1 x2} {A0 : Fin 4608 → Fin 3200 → ℝ} {A1 : Fin 4608 → Fin 1024 → ℝ} {A2 : Fin 4096 → Fin 1024 → ℝ}
  (h0 : ∀ R C, C.val < 2048 → x0 (ix2 R C) = ((A0 R C : ℝ) : EReal)) (h1 : ∀ R C, x1 (ix2 R C) = ((A1 R C : ℝ) : EReal)) (h2 : ∀ R C, x2 (ix2 R C) = ((A2 R C : ℝ) : EReal))

theorem val_at {n k : ℕ} {x : (⟨2, ![n, k]⟩ : Shape).Idx → EReal} {A : Fin n → Fin k → ℝ} (h : ∀ R C, x (ix2 R C) = ((A R C : ℝ) : EReal)) {R R' : Fin n} {C C' : Fin k}
    (hR : R.val = R'.val) (hC : C.val = C'.val) : x (ix2 R C) = ((A R' C' : ℝ) : EReal) := by
  rw [Fin.ext hR, Fin.ext hC]; exact h R' C'

theorem val_at0 {n k : ℕ} {x : (⟨2, ![n, k]⟩ : Shape).Idx → EReal} {A : Fin n → Fin k → ℝ} (h : ∀ R C, C.val < 2048 → x (ix2 R C) = ((A R C : ℝ) : EReal)) {R R' : Fin n} {C C' : Fin k}
    (hR : R.val = R'.val) (hC : C.val = C'.val) (hb : C'.val < 2048) : x (ix2 R C) = ((A R' C' : ℝ) : EReal) := by
  rw [Fin.ext hR, Fin.ext hC]; exact h R' C' hb

theorem rowc (d : Bool) (b : Fin 2) (t : Fin 256) : (row d b (0 + t.val)).val = 4096 + 256 * b.val + tk d 256 t.val := by
  rw [Nat.zero_add]; exact row_ctx d b t.isLt

theorem sc_apply (b : Fin 2) (t : Fin 2048) (h : Fin 4) (c : Fin 128) : broadcastInDim S2x2048x4x128 ![] bcast_S_S2x2048x4x128 scale (ix4 b t h c) = ((Q : ℝ) : EReal) := by
  pointwise
  exact Q_coe

include h0 h1 h2

theorem reads0 : LReads (lv0 x0 x1 x2) (fun b h => seq A0 A1 A2 false b h) where
  hN _ _ := rfl
  ho b h t y ht := if_pos ht
  ikc b t h c := (ck4 _ b t h c).trans ((ck_apply _ b t _).trans ((k0_apply _ _ _).trans (val_at0 h0 (rowc false b t).symm rfl (by dsimp only; omega))))
  igc b t h c := (ck4 _ b t h c).trans ((ck_apply _ b t _).trans ((g0_apply _ _ _).trans (val_at h1 (rowc false b t).symm (by unfold col dn; dsimp; omega))))
  ivc b t h c := (cv4 _ b t h c).trans ((cv_apply _ b t _).trans ((v0_apply _ _ _).trans (val_at0 h0 (rowc false b t).symm rfl (by dsimp only; omega))))
  iq b t h c := by
    refine (congrArg₂ (@HMul.hMul EReal EReal EReal _) ((mk4 _ b t h c).trans ((mk_apply _ b t _).trans ((q0_apply _ _ _).trans (val_at0 h0 (row_main false b t.isLt).symm rfl (by dsimp only; omega))))) (sc_apply b t h c)).trans ?_
    rw [← EReal.coe_mul]
    rfl
  ik b t h c := (mk4 _ b t h c).trans ((mk_apply _ b t _).trans ((k0_apply _ _ _).trans (val_at0 h0 (row_main false b t.isLt).symm rfl (by dsimp only; omega))))
  ig b t h c := (mk4 _ b t h c).trans ((mk_apply _ b t _).trans ((g0_apply _ _ _).trans (val_at h1 (row_main false b t.isLt).symm (by unfold col dn; dsimp; omega))))
  iv b t h c := (mv4 _ b t h c).trans ((mv_apply _ b t _).trans ((v0_apply _ _ _).trans (val_at0 h0 (row_main false b t.isLt).symm rfl (by dsimp only; omega))))
  io b t h c := by
    refine (o4 _ b t h c).trans ((val_at h2 (rowo_main false b t.isLt).symm rfl).trans ?_)
    exact congrArg _ (if_neg (by omega)).symm

omit h0 h1 h2 in
theorem rowc1 (b : Fin 2) (t : Fin 256) : 4096 + 256 * b.val + t.rev.val = (row true b (0 + t.val)).val := by
  rw [rowc, Fin.val_rev]; unfold tk; rw [if_pos rfl]; omega
omit h0 h1 h2 in
theorem rowm1 (b : Fin 2) (t : Fin 2048) : 2048 * b.val + t.rev.val = (row true b (256 + t.val)).val := by
  rw [row_main true b t.isLt, Fin.val_rev]; unfold tk; rw [if_pos rfl]; omega
omit h0 h1 h2 in
theorem rowom1 (b : Fin 2) (t : Fin 2048) : 2048 * b.val + t.rev.val = (rowo true b (256 + t.val)).val := by
  rw [rowo_main true b t.isLt, Fin.val_rev]; unfold tk; rw [if_pos rfl]; omega

theorem reads1 : LReads (lv1 x0 x1 x2) (fun b h => seq A0 A1 A2 true b h) where
  hN _ _ := rfl
  ho b h t y ht := if_pos ht
  ikc b t h c := (ck4 _ b t h c).trans ((rev3 _ b t _).trans ((ck_apply _ b _ _).trans ((k0_apply _ _ _).trans (val_at0 h0 (rowc1 b t) rfl (by dsimp only; omega)))))
  igc b t h c := (ck4 _ b t h c).trans ((rev3 _ b t _).trans ((ck_apply _ b _ _).trans ((g1_apply _ _ _).trans (val_at h1 (rowc1 b t) (by unfold col dn; dsimp)))))
  ivc b t h c := (cv4 _ b t h c).trans ((rev3 _ b t _).trans ((cv_apply _ b _ _).trans ((v0_apply _ _ _).trans (val_at0 h0 (rowc1 b t) rfl (by dsimp only; omega)))))
  iq b t h c := by
    refine (congrArg₂ (@HMul.hMul EReal EReal EReal _) ((mk4 _ b t h c).trans ((rev3 _ b t _).trans ((mk_apply _ b _ _).trans ((q0_apply _ _ _).trans (val_at0 h0 (rowm1 b t) rfl (by dsimp only; omega)))))) (sc_apply b t h c)).trans ?_
    rw [← EReal.coe_mul]
    rfl
  ik b t h c := (mk4 _ b t h c).trans ((rev3 _ b t _).trans ((mk_apply _ b _ _).trans ((k0_apply _ _ _).trans (val_at0 h0 (rowm1 b t) rfl (by dsimp only; omega)))))
  ig b t h c := (mk4 _ b t h c).trans ((rev3 _ b t _).trans ((mk_apply _ b _ _).trans ((g1_apply _ _ _).trans (val_at h1 (rowm1 b t) (by unfold col dn; dsimp)))))
  iv b t h c := (mv4 _ b t h c).trans ((rev3 _ b t _).trans ((mv_apply _ b _ _).trans ((v0_apply _ _ _).trans (val_at0 h0 (rowm1 b t) rfl (by dsimp only; omega)))))
  io b t h c := by
    refine (rev4 _ b t h c).trans ((o4 _ b _ h c).trans ((val_at h2 (rowom1 b t) rfl).trans ?_))
    exact congrArg _ (if_neg (by omega)).symm
end

/-! ## The two parts of a result in one array -/

def putk (m : FVec Ideal S2x2048x512 .f32) (c : FVec Ideal S2x256x512 .f32) : FVec Ideal S4608x512 .f32 :=
  addf (pad S4608x512 ![0, 0] ![512, 0] ![0, 0] (shapeCast S4096x512 m shapeCasts_S2x2048x512_S4096x512) z0 pads_S4096x512_S4608x512_05120_000 h_S_)
    (pad S4608x512 ![4096, 0] ![0, 0] ![0, 0] (shapeCast S512x512 c shapeCasts_S2x256x512_S512x512) z0 pads_S512x512_S4608x512_409600_000 h_S_)
def putq (m : FVec Ideal S2x2048x512 .f32) : FVec Ideal S4608x512 .f32 :=
  pad S4608x512 ![0, 0] ![512, 0] ![0, 0] (shapeCast S4096x512 m shapeCasts_S2x2048x512_S4096x512) z0 pads_S4096x512_S4608x512_05120_000 h_S_
def putv (m : FVec Ideal S2x2048x1024 .f32) (c : FVec Ideal S2x256x1024 .f32) : FVec Ideal S4608x1024 .f32 :=
  addf (pad S4608x1024 ![0, 0] ![512, 0] ![0, 0] (shapeCast S4096x1024 m shapeCasts_S2x2048x1024_S4096x1024) z0 pads_S4096x1024_S4608x1024_05120_000 h_S_)
    (pad S4608x1024 ![4096, 0] ![0, 0] ![0, 0] (shapeCast S512x1024 c shapeCasts_S2x256x1024_S512x1024) z0 pads_S512x1024_S4608x1024_409600_000 h_S_)

theorem z0_first : z0 (Shape.Idx.first h_S_) = (0 : EReal) := zero_bits

theorem flatkm (m : FVec Ideal S2x2048x512 .f32) (b : Fin 2) (t : Fin 2048) (R : Fin 4096) (hR : R.val = 2048 * b.val + t.val) (C : Fin 512) :
    shapeCast S4096x512 m shapeCasts_S2x2048x512_S4096x512 (ix2 R C) = m (ix3 b t C) := by
  pointwise
  exact at3 m (by dsimp; omega) (by dsimp; omega) rfl
theorem flatkc (m : FVec Ideal S2x256x512 .f32) (b : Fin 2) (t : Fin 256) (R : Fin 512) (hR : R.val = 256 * b.val + t.val) (C : Fin 512) :
    shapeCast S512x512 m shapeCasts_S2x256x512_S512x512 (ix2 R C) = m (ix3 b t C) := by
  pointwise
  exact at3 m (by dsimp; omega) (by dsimp; omega) rfl

theorem lok_main (m : FVec Ideal S2x2048x512 .f32) (b : Fin 2) (t : Fin 2048) (R : Fin 4608) (hR : R.val = 2048 * b.val + t.val) (C : Fin 512) :
    pad S4608x512 ![0, 0] ![512, 0] ![0, 0] (shapeCast S4096x512 m shapeCasts_S2x2048x512_S4096x512) z0 pads_S4096x512_S4608x512_05120_000 h_S_ (ix2 R C) = m (ix3 b t C) := by
  have hf := flatkm m b t (⟨R.val, by omega⟩ : Fin 4096) hR C
  generalize shapeCast S4096x512 m shapeCasts_S2x2048x512_S4096x512 = y at hf ⊢
  pointwise
  rw [dif_pos (by omega)]
  exact hf
theorem lok_ctx (m : FVec Ideal S2x2048x512 .f32) (R : Fin 4608) (hR : 4096 ≤ R.val) (C : Fin 512) :
    pad S4608x512 ![0, 0] ![512, 0] ![0, 0] (shapeCast S4096x512 m shapeCasts_S2x2048x512_S4096x512) z0 pads_S4096x512_S4608x512_05120_000 h_S_ (ix2 R C) = (0 : EReal) := by
  generalize shapeCast S4096x512 m shapeCasts_S2x2048x512_S4096x512 = y
  pointwise
  rw [dif_neg (by omega)]
  exact z0_first
theorem hik_main (m : FVec Ideal S2x256x512 .f32) (R : Fin 4608) (hR : R.val < 4096) (C : Fin 512) :
    pad S4608x512 ![4096, 0] ![0, 0] ![0, 0] (shapeCast S512x512 m shapeCasts_S2x256x512_S512x512) z0 pads_S512x512_S4608x512_409600_000 h_S_ (ix2 R C) = (0 : EReal) := by
  generalize shapeCast S512x512 m shapeCasts_S2x256x512_S512x512 = y
  refine (pad_apply_of_not_inside ![4096, 0] ![0, 0] ![0, 0] y z0 _ h_S_ (ix2 R C) (0 : Fin 2) fun h => ?_).trans z0_first
  have : 4096 ≤ R.val := h.1
  omega
theorem hik_ctx (m : FVec Ideal S2x256x512 .f32) (b : Fin 2) (t : Fin 256) (R : Fin 4608) (hR : R.val = 4096 + 256 * b.val + t.val) (C : Fin 512) :
    pad S4608x512 ![4096, 0] ![0, 0] ![0, 0] (shapeCast S512x512 m shapeCasts_S2x256x512_S512x512) z0 pads_S512x512_S4608x512_409600_000 h_S_ (ix2 R C) = m (ix3 b t C) := by
  have hf := flatkc m b t (⟨R.val - 4096, by omega⟩ : Fin 512) (by dsimp; omega) C
  generalize shapeCast S512x512 m shapeCasts_S2x256x512_S512x512 = y at hf ⊢
  refine (pad_apply_of_inside ![4096, 0] ![0, 0] ![0, 0] y z0 _ h_S_ (ix2 R C) (ix2 (⟨R.val - 4096, by omega⟩ : Fin 512) C) fun a => ?_).trans hf
  match a with
  | 0 => change R.val = 4096 + (R.val - 4096) * (0 + 1); omega
  | 1 => change C.val = 0 + C.val * (0 + 1); omega

theorem putk_main (m : FVec Ideal S2x2048x512 .f32) (c : FVec Ideal S2x256x512 .f32) (b : Fin 2) (t : Fin 2048) (R : Fin 4608) (hR : R.val = 2048 * b.val + t.val) (C : Fin 512) :
    putk m c (ix2 R C) = m (ix3 b t C) :=
  (congrArg₂ (@HAdd.hAdd EReal EReal EReal _) (lok_main m b t R hR C) (hik_main c R (by omega) C)).trans (add_zero _)
theorem putk_ctx (m : FVec Ideal S2x2048x512 .f32) (c : FVec Ideal S2x256x512 .f32) (b : Fin 2) (t : Fin 256) (R : Fin 4608) (hR : R.val = 4096 + 256 * b.val + t.val) (C : Fin 512) :
    putk m c (ix2 R C) = c (ix3 b t C) :=
  (congrArg₂ (@HAdd.hAdd EReal EReal EReal _) (lok_ctx m R (by omega) C) (hik_ctx c b t R hR C)).trans (zero_add _)

theorem flatvm (m : FVec Ideal S2x2048x1024 .f32) (b : Fin 2) (t : Fin 2048) (R : Fin 4096) (hR : R.val = 2048 * b.val + t.val) (C : Fin 1024) :
    shapeCast S4096x1024 m shapeCasts_S2x2048x1024_S4096x1024 (ix2 R C) = m (ix3 b t C) := by
  pointwise
  exact at3 m (by dsimp; omega) (by dsimp; omega) rfl
theorem flatvc (m : FVec Ideal S2x256x1024 .f32) (b : Fin 2) (t : Fin 256) (R : Fin 512) (hR : R.val = 256 * b.val + t.val) (C : Fin 1024) :
    shapeCast S512x1024 m shapeCasts_S2x256x1024_S512x1024 (ix2 R C) = m (ix3 b t C) := by
  pointwise
  exact at3 m (by dsimp; omega) (by dsimp; omega) rfl

theorem lov_main (m : FVec Ideal S2x2048x1024 .f32) (b : Fin 2) (t : Fin 2048) (R : Fin 4608) (hR : R.val = 2048 * b.val + t.val) (C : Fin 1024) :
    pad S4608x1024 ![0, 0] ![512, 0] ![0, 0] (shapeCast S4096x1024 m shapeCasts_S2x2048x1024_S4096x1024) z0 pads_S4096x1024_S4608x1024_05120_000 h_S_ (ix2 R C) = m (ix3 b t C) := by
  have hf := flatvm m b t (⟨R.val, by omega⟩ : Fin 4096) hR C
  generalize shapeCast S4096x1024 m shapeCasts_S2x2048x1024_S4096x1024 = y at hf ⊢
  pointwise
  rw [dif_pos (by omega)]
  exact hf
theorem lov_ctx (m : FVec Ideal S2x2048x1024 .f32) (R : Fin 4608) (hR : 4096 ≤ R.val) (C : Fin 1024) :
    pad S4608x1024 ![0, 0] ![512, 0] ![0, 0] (shapeCast S4096x1024 m shapeCasts_S2x2048x1024_S4096x1024) z0 pads_S4096x1024_S4608x1024_05120_000 h_S_ (ix2 R C) = (0 : EReal) := by
  generalize shapeCast S4096x1024 m shapeCasts_S2x2048x1024_S4096x1024 = y
  pointwise
  rw [dif_neg (by omega)]
  exact z0_first
theorem hiv_main (m : FVec Ideal S2x256x1024 .f32) (R : Fin 4608) (hR : R.val < 4096) (C : Fin 1024) :
    pad S4608x1024 ![4096, 0] ![0, 0] ![0, 0] (shapeCast S512x1024 m shapeCasts_S2x256x1024_S512x1024) z0 pads_S512x1024_S4608x1024_409600_000 h_S_ (ix2 R C) = (0 : EReal) := by
  generalize shapeCast S512x1024 m shapeCasts_S2x256x1024_S512x1024 = y
  refine (pad_apply_of_not_inside ![4096, 0] ![0, 0] ![0, 0] y z0 _ h_S_ (ix2 R C) (0 : Fin 2) fun h => ?_).trans z0_first
  have : 4096 ≤ R.val := h.1
  omega
theorem hiv_ctx (m : FVec Ideal S2x256x1024 .f32) (b : Fin 2) (t : Fin 256) (R : Fin 4608) (hR : R.val = 4096 + 256 * b.val + t.val) (C : Fin 1024) :
    pad S4608x1024 ![4096, 0] ![0, 0] ![0, 0] (shapeCast S512x1024 m shapeCasts_S2x256x1024_S512x1024) z0 pads_S512x1024_S4608x1024_409600_000 h_S_ (ix2 R C) = m (ix3 b t C) := by
  have hf := flatvc m b t (⟨R.val - 4096, by omega⟩ : Fin 512) (by dsimp; omega) C
  generalize shapeCast S512x1024 m shapeCasts_S2x256x1024_S512x1024 = y at hf ⊢
  refine (pad_apply_of_inside ![4096, 0] ![0, 0] ![0, 0] y z0 _ h_S_ (ix2 R C) (ix2 (⟨R.val - 4096, by omega⟩ : Fin 512) C) fun a => ?_).trans hf
  match a with
  | 0 => change R.val = 4096 + (R.val - 4096) * (0 + 1); omega
  | 1 => change C.val = 0 + C.val * (0 + 1); omega

theorem putv_main (m : FVec Ideal S2x2048x1024 .f32) (c : FVec Ideal S2x256x1024 .f32) (b : Fin 2) (t : Fin 2048) (R : Fin 4608) (hR : R.val = 2048 * b.val + t.val) (C : Fin 1024) :
    putv m c (ix2 R C) = m (ix3 b t C) :=
  (congrArg₂ (@HAdd.hAdd EReal EReal EReal _) (lov_main m b t R hR C) (hiv_main c R (by omega) C)).trans (add_zero _)
theorem putv_ctx (m : FVec Ideal S2x2048x1024 .f32) (c : FVec Ideal S2x256x1024 .f32) (b : Fin 2) (t : Fin 256) (R : Fin 4608) (hR : R.val = 4096 + 256 * b.val + t.val) (C : Fin 1024) :
    putv m c (ix2 R C) = c (ix3 b t C) :=
  (congrArg₂ (@HAdd.hAdd EReal EReal EReal _) (lov_ctx m R (by omega) C) (hiv_ctx c b t R hR C)).trans (zero_add _)

end Cert.ReferenceIdeal.Hand

end
-- ==== Proof.RefLink.lean ====
/- The reference's results are the composition of array operations of one direction. -/
module

public import proofs.«01_k».proof.Proof.Gen.ReferenceIdeal.Read
public import proofs.«01_k».proof.Proof.RefRows

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.Gla
open Cert.KernelIdeal.Body (Q hd ln hdv lnv)

set_option maxHeartbeats 2000000

variable (x0 : FVec Ideal S4608x3200 .f32) (x1 : FVec Ideal S4608x1024 .f32) (x2 : FVec Ideal S4096x1024 .f32)

theorem v88_eq : val_main_v88 (F := Ideal) x0 x1 x2 = putq (shapeCast S2x2048x512 (lv0 x0 x1 x2).dq shapeCasts_S2x2048x4x128_S2x2048x512)  := rfl
theorem v212_eq : val_main_v212 (F := Ideal) x0 x1 x2 = putq (Host.reverse [1] (shapeCast S2x2048x512 (lv1 x0 x1 x2).dq shapeCasts_S2x2048x4x128_S2x2048x512))  := rfl
theorem v113_eq : val_main_v113 (F := Ideal) x0 x1 x2 = putk (shapeCast S2x2048x512 (lv0 x0 x1 x2).dk shapeCasts_S2x2048x4x128_S2x2048x512) (shapeCast S2x256x512 (lv0 x0 x1 x2).dkc shapeCasts_S2x256x4x128_S2x256x512) := rfl
theorem v240_eq : val_main_v240 (F := Ideal) x0 x1 x2 = putk (Host.reverse [1] (shapeCast S2x2048x512 (lv1 x0 x1 x2).dk shapeCasts_S2x2048x4x128_S2x2048x512)) (Host.reverse [1] (shapeCast S2x256x512 (lv1 x0 x1 x2).dkc shapeCasts_S2x256x4x128_S2x256x512)) := rfl
theorem v109_eq : val_main_v109 (F := Ideal) x0 x1 x2 = putv (shapeCast S2x2048x1024 (lv0 x0 x1 x2).dv shapeCasts_S2x2048x4x256_S2x2048x1024) (shapeCast S2x256x1024 (lv0 x0 x1 x2).dvc shapeCasts_S2x256x4x256_S2x256x1024) := rfl
theorem v235_eq : val_main_v235 (F := Ideal) x0 x1 x2 = putv (Host.reverse [1] (shapeCast S2x2048x1024 (lv1 x0 x1 x2).dv shapeCasts_S2x2048x4x256_S2x2048x1024)) (Host.reverse [1] (shapeCast S2x256x1024 (lv1 x0 x1 x2).dvc shapeCasts_S2x256x4x256_S2x256x1024)) := rfl
theorem v105_eq : val_main_v105 (F := Ideal) x0 x1 x2 = putk (shapeCast S2x2048x512 (lv0 x0 x1 x2).dg shapeCasts_S2x2048x4x128_S2x2048x512) (shapeCast S2x256x512 (lv0 x0 x1 x2).dgc shapeCasts_S2x256x4x128_S2x256x512) := rfl
theorem v230_eq : val_main_v230 (F := Ideal) x0 x1 x2 = putk (Host.reverse [1] (shapeCast S2x2048x512 (lv1 x0 x1 x2).dg shapeCasts_S2x2048x4x128_S2x2048x512)) (Host.reverse [1] (shapeCast S2x256x512 (lv1 x0 x1 x2).dgc shapeCasts_S2x256x4x128_S2x256x512)) := rfl

section
variable {x0 x1 x2} {A0 : Fin 4608 → Fin 3200 → ℝ} {A1 : Fin 4608 → Fin 1024 → ℝ} {A2 : Fin 4096 → Fin 1024 → ℝ}
  (h0 : ∀ R C, C.val < 2048 → x0 (ix2 R C) = ((A0 R C : ℝ) : EReal)) (h1 : ∀ R C, x1 (ix2 R C) = ((A1 R C : ℝ) : EReal)) (h2 : ∀ R C, x2 (ix2 R C) = ((A2 R C : ℝ) : EReal))
include h0 h1 h2

theorem refdq0 (b : Fin 2) (t : ℕ) (ht : t < 2304) (C : Fin 512) :
    val_main_v88 (F := Ideal) x0 x1 x2 (ix2 (row false b t) C) = (((seq A0 A1 A2 false b (hd C)).DQ t (ln C) * Q : ℝ) : EReal) := by
  rw [v88_eq]
  by_cases h : t < 256
  · refine (lok_ctx _ (row false b t) (by rw [row_ctx false b h]; omega) C).trans ?_
    rw [Seq.DQ_zero _ (fun y => if_pos h), zero_mul]
    rfl
  · obtain ⟨s, rfl⟩ : ∃ s, t = 256 + s := ⟨t - 256, by omega⟩
    have hs : s < 2048 := by omega
    exact (lok_main _ b (⟨s, hs⟩ : Fin 2048) (row false b (256 + s)) (by rw [row_main false b hs]; rfl) C).trans ((mk3 _ b _ C).trans ((reads0 h0 h1 h2).idq b ⟨s, hs⟩ (hd C) (ln C)))

theorem refdq1 (b : Fin 2) (t : ℕ) (ht : t < 2304) (C : Fin 512) :
    val_main_v212 (F := Ideal) x0 x1 x2 (ix2 (row true b t) C) = (((seq A0 A1 A2 true b (hd C)).DQ t (ln C) * Q : ℝ) : EReal) := by
  rw [v212_eq]
  by_cases h : t < 256
  · refine (lok_ctx _ (row true b t) (by rw [row_ctx true b h]; omega) C).trans ?_
    rw [Seq.DQ_zero _ (fun y => if_pos h), zero_mul]
    rfl
  · obtain ⟨s, rfl⟩ : ∃ s, t = 256 + s := ⟨t - 256, by omega⟩
    have hs : s < 2048 := by omega
    exact (lok_main _ b (Fin.rev ⟨s, hs⟩ : Fin 2048) (row true b (256 + s)) (by rw [row_main true b hs, Fin.val_rev]; unfold tk; rw [if_pos rfl]; dsimp only; omega) C).trans (((rev3 _ b _ C).trans (mk3 _ b _ C)).trans ((congrArg (fun u => (lv1 x0 x1 x2).dq (ix4 b u (hd C) (ln C))) (Fin.rev_rev (⟨s, hs⟩ : Fin 2048))).trans ((reads1 h0 h1 h2).idq b ⟨s, hs⟩ (hd C) (ln C))))

theorem refdk0 (b : Fin 2) (t : ℕ) (ht : t < 2304) (C : Fin 512) :
    val_main_v113 (F := Ideal) x0 x1 x2 (ix2 (row false b t) C) = (((seq A0 A1 A2 false b (hd C)).DK t (ln C) : ℝ) : EReal) := by
  rw [v113_eq]
  by_cases h : t < 256
  · refine (putk_ctx _ _ b (⟨t, h⟩ : Fin 256) (row false b t) (by rw [row_ctx false b h]; rfl) C).trans ((ck3 _ b _ C).trans (((reads0 h0 h1 h2).idkc b ⟨t, h⟩ (hd C) (ln C)).trans ?_))
    dsimp only
    rw [Nat.zero_add]
  · obtain ⟨s, rfl⟩ : ∃ s, t = 256 + s := ⟨t - 256, by omega⟩
    have hs : s < 2048 := by omega
    exact (putk_main _ _ b (⟨s, hs⟩ : Fin 2048) (row false b (256 + s)) (by rw [row_main false b hs]; rfl) C).trans ((mk3 _ b _ C).trans ((reads0 h0 h1 h2).idk b ⟨s, hs⟩ (hd C) (ln C)))

theorem refdk1 (b : Fin 2) (t : ℕ) (ht : t < 2304) (C : Fin 512) :
    val_main_v240 (F := Ideal) x0 x1 x2 (ix2 (row true b t) C) = (((seq A0 A1 A2 true b (hd C)).DK t (ln C) : ℝ) : EReal) := by
  rw [v240_eq]
  by_cases h : t < 256
  · refine (putk_ctx _ _ b (Fin.rev ⟨t, h⟩ : Fin 256) (row true b t) (by rw [row_ctx true b h, Fin.val_rev]; unfold tk; rw [if_pos rfl]; dsimp only; omega) C).trans (((rev3 _ b _ C).trans (ck3 _ b _ C)).trans (((congrArg (fun u => (lv1 x0 x1 x2).dkc (ix4 b u (hd C) (ln C))) (Fin.rev_rev (⟨t, h⟩ : Fin 256))).trans ((reads1 h0 h1 h2).idkc b ⟨t, h⟩ (hd C) (ln C))).trans ?_))
    dsimp only
    rw [Nat.zero_add]
  · obtain ⟨s, rfl⟩ : ∃ s, t = 256 + s := ⟨t - 256, by omega⟩
    have hs : s < 2048 := by omega
    exact (putk_main _ _ b (Fin.rev ⟨s, hs⟩ : Fin 2048) (row true b (256 + s)) (by rw [row_main true b hs, Fin.val_rev]; unfold tk; rw [if_pos rfl]; dsimp only; omega) C).trans (((rev3 _ b _ C).trans (mk3 _ b _ C)).trans ((congrArg (fun u => (lv1 x0 x1 x2).dk (ix4 b u (hd C) (ln C))) (Fin.rev_rev (⟨s, hs⟩ : Fin 2048))).trans ((reads1 h0 h1 h2).idk b ⟨s, hs⟩ (hd C) (ln C))))

theorem refdv0 (b : Fin 2) (t : ℕ) (ht : t < 2304) (C : Fin 1024) :
    val_main_v109 (F := Ideal) x0 x1 x2 (ix2 (row false b t) C) = (((seq A0 A1 A2 false b (hdv C)).DV t (lnv C) : ℝ) : EReal) := by
  rw [v109_eq]
  by_cases h : t < 256
  · refine (putv_ctx _ _ b (⟨t, h⟩ : Fin 256) (row false b t) (by rw [row_ctx false b h]; rfl) C).trans ((cv3 _ b _ C).trans (((reads0 h0 h1 h2).idvc b ⟨t, h⟩ (hdv C) (lnv C)).trans ?_))
    dsimp only
    rw [Nat.zero_add]
  · obtain ⟨s, rfl⟩ : ∃ s, t = 256 + s := ⟨t - 256, by omega⟩
    have hs : s < 2048 := by omega
    exact (putv_main _ _ b (⟨s, hs⟩ : Fin 2048) (row false b (256 + s)) (by rw [row_main false b hs]; rfl) C).trans ((mv3 _ b _ C).trans ((reads0 h0 h1 h2).idv b ⟨s, hs⟩ (hdv C) (lnv C)))

theorem refdv1 (b : Fin 2) (t : ℕ) (ht : t < 2304) (C : Fin 1024) :
    val_main_v235 (F := Ideal) x0 x1 x2 (ix2 (row true b t) C) = (((seq A0 A1 A2 true b (hdv C)).DV t (lnv C) : ℝ) : EReal) := by
  rw [v235_eq]
  by_cases h : t < 256
  · refine (putv_ctx _ _ b (Fin.rev ⟨t, h⟩ : Fin 256) (row true b t) (by rw [row_ctx true b h, Fin.val_rev]; unfold tk; rw [if_pos rfl]; dsimp only; omega) C).trans (((rev3 _ b _ C).trans (cv3 _ b _ C)).trans (((congrArg (fun u => (lv1 x0 x1 x2).dvc (ix4 b u (hdv C) (lnv C))) (Fin.rev_rev (⟨t, h⟩ : Fin 256))).trans ((reads1 h0 h1 h2).idvc b ⟨t, h⟩ (hdv C) (lnv C))).trans ?_))
    dsimp only
    rw [Nat.zero_add]
  · obtain ⟨s, rfl⟩ : ∃ s, t = 256 + s := ⟨t - 256, by omega⟩
    have hs : s < 2048 := by omega
    exact (putv_main _ _ b (Fin.rev ⟨s, hs⟩ : Fin 2048) (row true b (256 + s)) (by rw [row_main true b hs, Fin.val_rev]; unfold tk; rw [if_pos rfl]; dsimp only; omega) C).trans (((rev3 _ b _ C).trans (mv3 _ b _ C)).trans ((congrArg (fun u => (lv1 x0 x1 x2).dv (ix4 b u (hdv C) (lnv C))) (Fin.rev_rev (⟨s, hs⟩ : Fin 2048))).trans ((reads1 h0 h1 h2).idv b ⟨s, hs⟩ (hdv C) (lnv C))))

theorem refdg0 (b : Fin 2) (t : ℕ) (ht : t < 2304) (C : Fin 512) :
    val_main_v105 (F := Ideal) x0 x1 x2 (ix2 (row false b t) C) = (((seq A0 A1 A2 false b (hd C)).DG t (ln C) : ℝ) : EReal) := by
  rw [v105_eq]
  by_cases h : t < 256
  · refine (putk_ctx _ _ b (⟨t, h⟩ : Fin 256) (row false b t) (by rw [row_ctx false b h]; rfl) C).trans ((ck3 _ b _ C).trans (((reads0 h0 h1 h2).idgc b ⟨t, h⟩ (hd C) (ln C)).trans ?_))
    dsimp only
    rw [Nat.zero_add]
  · obtain ⟨s, rfl⟩ : ∃ s, t = 256 + s := ⟨t - 256, by omega⟩
    have hs : s < 2048 := by omega
    exact (putk_main _ _ b (⟨s, hs⟩ : Fin 2048) (row false b (256 + s)) (by rw [row_main false b hs]; rfl) C).trans ((mk3 _ b _ C).trans ((reads0 h0 h1 h2).idg b ⟨s, hs⟩ (hd C) (ln C)))

theorem refdg1 (b : Fin 2) (t : ℕ) (ht : t < 2304) (C : Fin 512) :
    val_main_v230 (F := Ideal) x0 x1 x2 (ix2 (row true b t) C) = (((seq A0 A1 A2 true b (hd C)).DG t (ln C) : ℝ) : EReal) := by
  rw [v230_eq]
  by_cases h : t < 256
  · refine (putk_ctx _ _ b (Fin.rev ⟨t, h⟩ : Fin 256) (row true b t) (by rw [row_ctx true b h, Fin.val_rev]; unfold tk; rw [if_pos rfl]; dsimp only; omega) C).trans (((rev3 _ b _ C).trans (ck3 _ b _ C)).trans (((congrArg (fun u => (lv1 x0 x1 x2).dgc (ix4 b u (hd C) (ln C))) (Fin.rev_rev (⟨t, h⟩ : Fin 256))).trans ((reads1 h0 h1 h2).idgc b ⟨t, h⟩ (hd C) (ln C))).trans ?_))
    dsimp only
    rw [Nat.zero_add]
  · obtain ⟨s, rfl⟩ : ∃ s, t = 256 + s := ⟨t - 256, by omega⟩
    have hs : s < 2048 := by omega
    exact (putk_main _ _ b (Fin.rev ⟨s, hs⟩ : Fin 2048) (row true b (256 + s)) (by rw [row_main true b hs, Fin.val_rev]; unfold tk; rw [if_pos rfl]; dsimp only; omega) C).trans (((rev3 _ b _ C).trans (mk3 _ b _ C)).trans ((congrArg (fun u => (lv1 x0 x1 x2).dg (ix4 b u (hd C) (ln C))) (Fin.rev_rev (⟨s, hs⟩ : Fin 2048))).trans ((reads1 h0 h1 h2).idg b ⟨s, hs⟩ (hd C) (ln C))))

end

end Cert.ReferenceIdeal.Hand

end
-- ==== Proof.Finite.lean ====
/- The precondition read back: the entries of the argument arrays that it names are real numbers. -/
module

public import proofs.«01_k».proof.Pre_finite
public import Idealize.ShloMosaic.Lib.Affine
public import Idealize.ShloMosaic.Lib.ReduceAll
public import Idealize.ShloMosaic.Lib.Decide
public import Idealize.ShloMosaic.Lib.Exec
public import proofs.«01_k».proof.Proof.Data

@[expose] public section

set_option maxRecDepth 16384

noncomputable section

namespace Cert.Pre_finite.Hand

open Cert.Pre_finite
open Idealize.ShloMosaic Idealize.ShloMosaic.Tactic

/-- The side conditions of the precondition's operations. -/
theorem facts : Cert.Pre_finite.Facts where
  slices_S4608x3200_S4608x2048_0_0 := by decide
  bcast_S_S4608x2048 := by decide
  reducesTo_S4608x2048_S_d0_1 := by decide
  h_S_ := by decide
  bcast_S_S4608x1024 := by decide
  reducesTo_S4608x1024_S_d0_1 := by decide
  bcast_S_S4096x1024 := by decide
  reducesTo_S4096x1024_S_d0_1 := by decide

instance : Subsingleton S_.Idx := ⟨fun a b => funext fun i => i.elim0⟩

/-- A number that leaves 0 when taken from itself is real. -/
theorem real_of (x : EReal) (h : Ideal.cmp .oeq (x - x) (Ideal.ofBits .f32 0x00000000#32) = 1#1) : x = ((x.toReal : ℝ) : EReal) := by
  have z : Ideal.ofBits .f32 0x00000000#32 = (0 : EReal) := by simp [Ideal.ofBits, Ideal.ieee]
  have e : x - x = 0 := by
    rw [z] at h
    by_contra hne
    have : Ideal.cmp .oeq (x - x) 0 = 0#1 := by unfold Ideal.cmp; simp [hne]
    rw [this] at h
    exact absurd h (by decide)
  refine (EReal.coe_toReal ?_ ?_).symm
  · rintro rfl; exact absurd e (by simp)
  · rintro rfl; exact absurd e (by simp)

section
variable [Facts]
open Facts
variable {a0 : FVec Ideal S4608x3200 .f32} {a1 : FVec Ideal S4608x1024 .f32} {a2 : FVec Ideal S4096x1024 .f32} {a3 : FVec Ideal S8x128 .f32}

theorem parts (h : fn (F := Ideal) a0 a1 a2 a3 = fun _ => 1#1) :
    (∀ i : S4608x2048.Idx, Ideal.cmp .oeq (extractStridedSlice S4608x2048 ![0, 0] a0 slices_S4608x3200_S4608x2048_0_0 i - extractStridedSlice S4608x2048 ![0, 0] a0 slices_S4608x3200_S4608x2048_0_0 i : EReal) (Ideal.ofBits .f32 0x00000000#32) = 1#1)
    ∧ (∀ i : S4608x1024.Idx, Ideal.cmp .oeq (a1 i - a1 i : EReal) (Ideal.ofBits .f32 0x00000000#32) = 1#1)
    ∧ (∀ i : S4096x1024.Idx, Ideal.cmp .oeq (a2 i - a2 i : EReal) (Ideal.ofBits .f32 0x00000000#32) = 1#1) := by
  have h' := congrFun h (fun i => i.elim0)
  obtain ⟨h01, h2⟩ := IntOp.andi_eq_one.1 h'
  obtain ⟨h0, h1⟩ := IntOp.andi_eq_one.1 h01
  exact ⟨fun i => Host.reduce_andi_all _ _ _ _ _ h0 i, fun i => Host.reduce_andi_all _ _ _ _ _ h1 i, fun i => Host.reduce_andi_all _ _ _ _ _ h2 i⟩

theorem real0 (h : fn (F := Ideal) a0 a1 a2 a3 = fun _ => 1#1) (R : Fin 4608) (C : Fin 3200) (hC : C.val < 2048) :
    (a0 (ix2 R C) : EReal) = (((a0 (ix2 R C) : EReal).toReal : ℝ) : EReal) := by
  have e : extractStridedSlice S4608x2048 ![0, 0] a0 slices_S4608x3200_S4608x2048_0_0 (ix2 R (⟨C.val, hC⟩ : Fin 2048)) = a0 (ix2 R C) := by
    pointwise
  have k := (parts h).1 (ix2 R (⟨C.val, hC⟩ : Fin 2048))
  rw [e] at k
  exact real_of _ k

theorem real1 (h : fn (F := Ideal) a0 a1 a2 a3 = fun _ => 1#1) (R : Fin 4608) (C : Fin 1024) :
    (a1 (ix2 R C) : EReal) = (((a1 (ix2 R C) : EReal).toReal : ℝ) : EReal) := real_of _ ((parts h).2.1 _)

theorem real2 (h : fn (F := Ideal) a0 a1 a2 a3 = fun _ => 1#1) (R : Fin 4096) (C : Fin 1024) :
    (a2 (ix2 R C) : EReal) = (((a2 (ix2 R C) : EReal).toReal : ℝ) : EReal) := real_of _ ((parts h).2.2 _)

end

end Cert.Pre_finite.Hand

end
-- ==== Proof.Same.lean ====
/- The kernel's arrays are the reference's. -/
module

public import proofs.«01_k».proof.Defs
public import proofs.«01_k».proof.Proof.Arrays
public import proofs.«01_k».proof.Proof.RefLink
public import proofs.«01_k».proof.Proof.Finite
public import proofs.«01_k».proof.Proof.Gen.ReferenceIdeal.Run
public import Idealize.ShloMosaic.Lib.Quiescent
public import Idealize.ShloMosaic.Lib.Claim

@[expose] public section

set_option maxRecDepth 16384

noncomputable section

namespace Cert.Same

open Idealize.ShloMosaic Idealize.ShloMosaic.TcCoe Idealize.SL.Sem
open Cert.Gla Cert.KernelIdeal.Hand Cert.KernelIdeal.HandValue
open Cert.ReferenceIdeal.Read Cert.ReferenceIdeal.Hand

set_option maxHeartbeats 2000000

theorem ix2_surj {n k : ℕ} (i : (⟨2, ![n, k]⟩ : Shape).Idx) : ∃ (R : Fin n) (C : Fin k), i = ix2 R C :=
  ⟨i 0, i 1, funext fun a => match a with | 0 => rfl | 1 => rfl⟩

/-- Two arrays with a row for each token agree when they do at each token. -/
theorem rows_ext {k : ℕ} (d : Bool) {x y : (⟨2, ![4608, k]⟩ : Shape).Idx → EReal}
    (h : ∀ (b : Fin 2) (t : ℕ) (ht : t < 2304) (C : Fin k), x (ix2 (row d b t) C) = y (ix2 (row d b t) C)) : x = y := by
  funext i
  obtain ⟨R, C, rfl⟩ := ix2_surj i
  obtain ⟨b, t, ht, rfl⟩ := row_surj d R
  exact h b t ht C

section
variable (m : (ℓ : Loc Cert.KernelIdeal.nD Cert.KernelIdeal.τ Cert.KernelIdeal.sig) → Buf (Elt Ideal) ℓ) (c : Dev Cert.KernelIdeal.nD)

/-- The argument arrays. -/
def a0 : FVec Ideal Cert.ReferenceIdeal.S4608x3200 .f32 := m ((c : Thread Cert.KernelIdeal.nD Cert.KernelIdeal.τ).loc Cert.KernelIdeal.main_arg0)
def a1 : FVec Ideal Cert.ReferenceIdeal.S4608x1024 .f32 := m ((c : Thread Cert.KernelIdeal.nD Cert.KernelIdeal.τ).loc Cert.KernelIdeal.main_arg1)
def a2 : FVec Ideal Cert.ReferenceIdeal.S4096x1024 .f32 := m ((c : Thread Cert.KernelIdeal.nD Cert.KernelIdeal.τ).loc Cert.KernelIdeal.main_arg2)
def a3 : FVec Ideal Cert.ReferenceIdeal.S8x128 .f32 := m ((c : Thread Cert.KernelIdeal.nD Cert.KernelIdeal.τ).loc Cert.KernelIdeal.main_arg3)

/-- Their entries, as real numbers. -/
def A0 (R : Fin 4608) (C : Fin 3200) : ℝ := (a0 m c (ix2 R C) : EReal).toReal
def A1 (R : Fin 4608) (C : Fin 1024) : ℝ := (a1 m c (ix2 R C) : EReal).toReal
def A2 (R : Fin 4096) (C : Fin 1024) : ℝ := (a2 m c (ix2 R C) : EReal).toReal

variable [Cert.Pre_finite.Facts] (h : Cert.Pre_finite.fn (F := Ideal) (a0 m c) (a1 m c) (a2 m c) (a3 m c) = fun _ => 1#1)
include h

theorem e0 (R : Fin 4608) (C : Fin 3200) (hC : C.val < 2048) : (a0 m c (ix2 R C) : EReal) = ((A0 m c R C : ℝ) : EReal) := Cert.Pre_finite.Hand.real0 h R C hC
theorem e1 (R : Fin 4608) (C : Fin 1024) : (a1 m c (ix2 R C) : EReal) = ((A1 m c R C : ℝ) : EReal) := Cert.Pre_finite.Hand.real1 h R C
theorem e2 (R : Fin 4096) (C : Fin 1024) : (a2 m c (ix2 R C) : EReal) = ((A2 m c R C : ℝ) : EReal) := Cert.Pre_finite.Hand.real2 h R C

theorem same12 : ((dats m 0 c).arrAt 12 Cert.KernelIdeal.cfg0.N : Cert.KernelIdeal.S4608x512.Idx → EReal) = val_main_v88 (F := Ideal) (a0 m c) (a1 m c) (a2 m c) :=
  rows_ext false fun b t ht C =>
    (arr12 m c (A0 := A0 m c) (A1 := A1 m c) (A2 := A2 m c) (e0 m c h) (fun R C _ => e1 m c h R C) (fun R C _ => e2 m c h R C) b t ht C).trans
      (refdq0 (A0 := A0 m c) (A1 := A1 m c) (A2 := A2 m c) (e0 m c h) (e1 m c h) (e2 m c h) b t ht C).symm

theorem same13 : ((dats m 0 c).arrAt 13 Cert.KernelIdeal.cfg0.N : Cert.KernelIdeal.S4608x512.Idx → EReal) = val_main_v113 (F := Ideal) (a0 m c) (a1 m c) (a2 m c) :=
  rows_ext false fun b t ht C =>
    (arr13 m c (A0 := A0 m c) (A1 := A1 m c) (A2 := A2 m c) (e0 m c h) (fun R C _ => e1 m c h R C) (fun R C _ => e2 m c h R C) b t ht C).trans
      (refdk0 (A0 := A0 m c) (A1 := A1 m c) (A2 := A2 m c) (e0 m c h) (e1 m c h) (e2 m c h) b t ht C).symm

theorem same14 : ((dats m 0 c).arrAt 14 Cert.KernelIdeal.cfg0.N : Cert.KernelIdeal.S4608x1024.Idx → EReal) = val_main_v109 (F := Ideal) (a0 m c) (a1 m c) (a2 m c) :=
  rows_ext false fun b t ht C =>
    (arr14 m c (A0 := A0 m c) (A1 := A1 m c) (A2 := A2 m c) (e0 m c h) (fun R C _ => e1 m c h R C) (fun R C _ => e2 m c h R C) b t ht C).trans
      (refdv0 (A0 := A0 m c) (A1 := A1 m c) (A2 := A2 m c) (e0 m c h) (e1 m c h) (e2 m c h) b t ht C).symm

theorem same15 : ((dats m 0 c).arrAt 15 Cert.KernelIdeal.cfg0.N : Cert.KernelIdeal.S4608x512.Idx → EReal) = val_main_v105 (F := Ideal) (a0 m c) (a1 m c) (a2 m c) :=
  rows_ext false fun b t ht C =>
    (arr15 m c (A0 := A0 m c) (A1 := A1 m c) (A2 := A2 m c) (e0 m c h) (fun R C _ => e1 m c h R C) (fun R C _ => e2 m c h R C) b t ht C).trans
      (refdg0 (A0 := A0 m c) (A1 := A1 m c) (A2 := A2 m c) (e0 m c h) (e1 m c h) (e2 m c h) b t ht C).symm

theorem same16 : ((dats m 0 c).arrAt 16 Cert.KernelIdeal.cfg0.N : Cert.KernelIdeal.S4608x512.Idx → EReal) = val_main_v212 (F := Ideal) (a0 m c) (a1 m c) (a2 m c) :=
  rows_ext true fun b t ht C =>
    (arr16 m c (A0 := A0 m c) (A1 := A1 m c) (A2 := A2 m c) (e0 m c h) (fun R C _ => e1 m c h R C) (fun R C _ => e2 m c h R C) b t ht C).trans
      (refdq1 (A0 := A0 m c) (A1 := A1 m c) (A2 := A2 m c) (e0 m c h) (e1 m c h) (e2 m c h) b t ht C).symm

theorem same17 : ((dats m 0 c).arrAt 17 Cert.KernelIdeal.cfg0.N : Cert.KernelIdeal.S4608x512.Idx → EReal) = val_main_v240 (F := Ideal) (a0 m c) (a1 m c) (a2 m c) :=
  rows_ext true fun b t ht C =>
    (arr17 m c (A0 := A0 m c) (A1 := A1 m c) (A2 := A2 m c) (e0 m c h) (fun R C _ => e1 m c h R C) (fun R C _ => e2 m c h R C) b t ht C).trans
      (refdk1 (A0 := A0 m c) (A1 := A1 m c) (A2 := A2 m c) (e0 m c h) (e1 m c h) (e2 m c h) b t ht C).symm

theorem same18 : ((dats m 0 c).arrAt 18 Cert.KernelIdeal.cfg0.N : Cert.KernelIdeal.S4608x1024.Idx → EReal) = val_main_v235 (F := Ideal) (a0 m c) (a1 m c) (a2 m c) :=
  rows_ext true fun b t ht C =>
    (arr18 m c (A0 := A0 m c) (A1 := A1 m c) (A2 := A2 m c) (e0 m c h) (fun R C _ => e1 m c h R C) (fun R C _ => e2 m c h R C) b t ht C).trans
      (refdv1 (A0 := A0 m c) (A1 := A1 m c) (A2 := A2 m c) (e0 m c h) (e1 m c h) (e2 m c h) b t ht C).symm

theorem same19 : ((dats m 0 c).arrAt 19 Cert.KernelIdeal.cfg0.N : Cert.KernelIdeal.S4608x512.Idx → EReal) = val_main_v230 (F := Ideal) (a0 m c) (a1 m c) (a2 m c) :=
  rows_ext true fun b t ht C =>
    (arr19 m c (A0 := A0 m c) (A1 := A1 m c) (A2 := A2 m c) (e0 m c h) (fun R C _ => e1 m c h R C) (fun R C _ => e2 m c h R C) b t ht C).trans
      (refdg1 (A0 := A0 m c) (A1 := A1 m c) (A2 := A2 m c) (e0 m c h) (e1 m c h) (e2 m c h) b t ht C).symm

end

/-! ## The claims -/

/-- The reference runs, its arguments end unchanged and every counter is zero. -/
theorem refFrame : Cert.quiescent_ReferenceIdeal := fun m g _ =>
  (θ_run _ _ _).mono (fun r h => ⟨fun c => (h c).2.2.2.2.2.2.2.2, sem_eq_zero_of_no_sems (by decide) _⟩) (Cert.ReferenceIdeal.Value.run m g)

theorem algebraic [hp : Cert.Pre_finite.Facts] : Cert.algebraic_KernelIdeal_ReferenceIdeal_pre_finite := by
  intro m g m' g' hpre hargs
  have hp : ∀ c, Cert.Pre_finite.fn (F := Ideal) (a0 m c) (a1 m c) (a2 m c) (a3 m c) = fun _ => 1#1 := hpre
  refine ⟨fun c => (dats m 0 c).arrAt 12 Cert.KernelIdeal.cfg0.N, fun c => (dats m 0 c).arrAt 16 Cert.KernelIdeal.cfg0.N, fun c => (dats m 0 c).arrAt 13 Cert.KernelIdeal.cfg0.N, fun c => (dats m 0 c).arrAt 17 Cert.KernelIdeal.cfg0.N, fun c => (dats m 0 c).arrAt 14 Cert.KernelIdeal.cfg0.N, fun c => (dats m 0 c).arrAt 18 Cert.KernelIdeal.cfg0.N, fun c => (dats m 0 c).arrAt 15 Cert.KernelIdeal.cfg0.N, fun c => (dats m 0 c).arrAt 19 Cert.KernelIdeal.cfg0.N, ?_, ?_⟩
  · refine (θ_run _ _ _).mono (fun r h c => ?_) (run_blocks m g)
    obtain ⟨k12, k13, k14, k15, k16, k17, k18, k19, k⟩ := h c
    exact ⟨k12, k16, k13, k17, k14, k18, k15, k19, k⟩
  · refine (θ_run _ _ _).mono (fun r h c => ?_) (Cert.ReferenceIdeal.Value.run m' g')
    obtain ⟨k12, k16, k13, k17, k14, k18, k15, k19, k⟩ := h c
    obtain ⟨b0, b1, b2, b3⟩ := hargs c
    have j12 := k12.trans (val_main_v88_eq (F := Ideal) (StableHlo.launchContents m' c))
    rw [StableHlo.launchContents_devRef, StableHlo.launchContents_devRef, StableHlo.launchContents_devRef, b0, b1, b2] at j12
    have j16 := k16.trans (val_main_v212_eq (F := Ideal) (StableHlo.launchContents m' c))
    rw [StableHlo.launchContents_devRef, StableHlo.launchContents_devRef, StableHlo.launchContents_devRef, b0, b1, b2] at j16
    have j13 := k13.trans (val_main_v113_eq (F := Ideal) (StableHlo.launchContents m' c))
    rw [StableHlo.launchContents_devRef, StableHlo.launchContents_devRef, StableHlo.launchContents_devRef, b0, b1, b2] at j13
    have j17 := k17.trans (val_main_v240_eq (F := Ideal) (StableHlo.launchContents m' c))
    rw [StableHlo.launchContents_devRef, StableHlo.launchContents_devRef, StableHlo.launchContents_devRef, b0, b1, b2] at j17
    have j14 := k14.trans (val_main_v109_eq (F := Ideal) (StableHlo.launchContents m' c))
    rw [StableHlo.launchContents_devRef, StableHlo.launchContents_devRef, StableHlo.launchContents_devRef, b0, b1, b2] at j14
    have j18 := k18.trans (val_main_v235_eq (F := Ideal) (StableHlo.launchContents m' c))
    rw [StableHlo.launchContents_devRef, StableHlo.launchContents_devRef, StableHlo.launchContents_devRef, b0, b1, b2] at j18
    have j15 := k15.trans (val_main_v105_eq (F := Ideal) (StableHlo.launchContents m' c))
    rw [StableHlo.launchContents_devRef, StableHlo.launchContents_devRef, StableHlo.launchContents_devRef, b0, b1, b2] at j15
    have j19 := k19.trans (val_main_v230_eq (F := Ideal) (StableHlo.launchContents m' c))
    rw [StableHlo.launchContents_devRef, StableHlo.launchContents_devRef, StableHlo.launchContents_devRef, b0, b1, b2] at j19
    exact ⟨j12.trans (same12 m c (hp c)).symm, j16.trans (same16 m c (hp c)).symm, j13.trans (same13 m c (hp c)).symm, j17.trans (same17 m c (hp c)).symm, j14.trans (same14 m c (hp c)).symm, j18.trans (same18 m c (hp c)).symm, j15.trans (same15 m c (hp c)).symm, j19.trans (same19 m c (hp c)).symm, k⟩

end Cert.Same

end
-- ==== Proof.DwPay.lean ====
/- What one grid point of the weight-gradient products computes at real inputs, and the entry of the packed array it stands for. -/
module

public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Kernel2Ideal.Dw

open Idealize.ShloMosaic
open Cert.Kernel2Ideal Cert.Kernel2Ideal.Gen

/-- An index of rank 3 is its three coordinates. -/
theorem eq_ix3 {n m k : ℕ} {i : (⟨3, ![n, m, k]⟩ : Shape).Idx} {a : Fin n} {b : Fin m} {c : Fin k}
    (h0 : (i 0).val = a.val) (h1 : (i 1).val = b.val) (h2 : (i 2).val = c.val) : i = ix3 a b c := by
  funext x
  match x with
  | 0 => exact Fin.ext h0
  | 1 => exact Fin.ext h1
  | 2 => exact Fin.ext h2

theorem eq_ix2 {n m : ℕ} {i : (⟨2, ![n, m]⟩ : Shape).Idx} {a : Fin n} {b : Fin m}
    (h0 : (i 0).val = a.val) (h1 : (i 1).val = b.val) : i = ix2 a b := by
  funext x
  match x with
  | 0 => exact Fin.ext h0
  | 1 => exact Fin.ext h1

/-- The product of one tile of columns with the other operand, contracted over the tokens. -/
theorem pay640 (x0 : Vec Ideal S1x4096x640 .bf16) (x1 : Vec Ideal S4096x1024 .bf16) (r : Fin 640) (j : Fin 1024) :
    k0_pay1 (F := Ideal) x0 x1 (ix3 0 r j) = ∑ u : Fin 4096, (x0 (ix3 0 u r) : EReal) * (x1 (ix2 u j) : EReal) := by
  pointwise [k0_pay1]

theorem pay256 (x0 : Vec Ideal S1x4096x256 .bf16) (x1 : Vec Ideal S4096x1024 .bf16) (r : Fin 256) (j : Fin 1024) :
    k2_pay1 (F := Ideal) x0 x1 (ix3 0 r j) = ∑ u : Fin 4096, (x0 (ix3 0 u r) : EReal) * (x1 (ix2 u j) : EReal) := by
  pointwise [k2_pay1]

/-- The entry of the packed array at an index of one weight's rows: row `s` of the first axis holds rows `s * rows …` of the
    weight's gradient from row `off` on, and row `n` of that gradient is column `n % cd` of part `n / cd` of the left operand. -/
def slab {p cd : ℕ} [NeZero p] [NeZero cd] (off rows : ℕ) (a : (⟨3, ![p, 4096, cd]⟩ : Shape).Idx → EReal)
    (b : (⟨2, ![4096, 1024]⟩ : Shape).Idx → EReal) (i : (⟨3, ![4, 5120, 1024]⟩ : Shape).Idx) : EReal :=
  ∑ u : Fin 4096, a (ix3 (Fin.ofNat p (((i 0).val * rows + ((i 1).val - off)) / cd)) u (Fin.ofNat cd ((i 0).val * rows + ((i 1).val - off)))) * b (ix2 u (i 2))

/-- A tile's product is the slab's entry. -/
theorem slab_tile {p cd T : ℕ} [NeZero p] [NeZero cd] (off rows t : ℕ) (a : (⟨3, ![p, 4096, cd]⟩ : Shape).Idx → EReal)
    (b : (⟨2, ![4096, 1024]⟩ : Shape).Idx → EReal) (x0 : (⟨3, ![1, 4096, T]⟩ : Shape).Idx → EReal) (x1 : (⟨2, ![4096, 1024]⟩ : Shape).Idx → EReal)
    (i : (⟨3, ![4, 5120, 1024]⟩ : Shape).Idx) (r : Fin T) (j : Fin 1024)
    (hx0 : ∀ u, x0 (ix3 0 u r) = a (ix3 (Fin.ofNat p ((t * T + r.val) / cd)) u (Fin.ofNat cd (t * T + r.val))))
    (hx1 : ∀ u, x1 (ix2 u j) = b (ix2 u j)) (hi : (i 0).val * rows + ((i 1).val - off) = t * T + r.val) (hj : (i 2).val = j.val) :
    ∑ u : Fin 4096, x0 (ix3 0 u r) * x1 (ix2 u j) = slab off rows a b i := by
  unfold slab
  rw [hi]
  have hj' : (i 2 : Fin 1024) = j := Fin.ext hj
  refine Finset.sum_congr rfl fun u _ => ?_
  rw [hx0, hx1]
  exact congrArg (fun x => _ * b (ix2 u x)) hj'.symm

/-- An index of a tile is its row and its column. -/
theorem tile_surj {T : ℕ} (y : (⟨3, ![1, T, 1024]⟩ : Shape).Idx) : ∃ (r : Fin T) (j : Fin 1024), y = ix3 (0 : Fin 1) r j :=
  ⟨y 1, y 2, eq_ix3 (Nat.lt_one_iff.mp (y 0).isLt) rfl rfl⟩

/-- THE ARRAY ONE PRODUCT LEAVES. The grid's `N` points write tiles of `T` rows: point `t` the rows from `off + t % m * T` of row
    `t / m` of the first axis, reading columns `t % k * T …` of part `t / k`. The array then holds the product's entries on the
    weight's `m * T` rows, and elsewhere what it held. -/
theorem region {N T m k p cd off rows : ℕ} [NeZero p] [NeZero cd] (hT : 0 < T) (hN : N = 4 * m) (hp : N = p * k) (hcd : cd = T * k) (hr : rows = m * T)
    (a : (⟨3, ![p, 4096, cd]⟩ : Shape).Idx → EReal) (b : (⟨2, ![4096, 1024]⟩ : Shape).Idx → EReal) (A arr : (⟨3, ![4, 5120, 1024]⟩ : Shape).Idx → EReal)
    (emb : Fin N → (⟨3, ![1, T, 1024]⟩ : Shape).Idx → (⟨3, ![4, 5120, 1024]⟩ : Shape).Idx)
    (h0 : ∀ t r j, (emb t (ix3 (0 : Fin 1) r j) 0).val = t.val / m) (h1 : ∀ t r j, (emb t (ix3 (0 : Fin 1) r j) 1).val = off + t.val % m * T + r.val)
    (h2 : ∀ t r j, (emb t (ix3 (0 : Fin 1) r j) 2).val = j.val)
    (x0 : Fin N → (⟨3, ![1, 4096, T]⟩ : Shape).Idx → EReal) (x1 : Fin N → (⟨2, ![4096, 1024]⟩ : Shape).Idx → EReal)
    (hx0 : ∀ t u r (q : Fin p) (x : Fin cd), t.val / k = q.val → t.val % k * T + r.val = x.val → x0 t (ix3 (0 : Fin 1) u r) = a (ix3 q u x))
    (hx1 : ∀ t u j, x1 t (ix2 u j) = b (ix2 u j))
    (harr : ∀ G : (⟨3, ![4, 5120, 1024]⟩ : Shape).Idx → EReal,
      (∀ t r j, ∑ u : Fin 4096, x0 t (ix3 (0 : Fin 1) u r) * x1 t (ix2 u j) = G (emb t (ix3 (0 : Fin 1) r j))) →
        ∀ i, arr i = if ∃ t r j, emb t (ix3 (0 : Fin 1) r j) = i then G i else A i)
    (i : (⟨3, ![4, 5120, 1024]⟩ : Shape).Idx) :
    arr i = if off ≤ (i 1).val ∧ (i 1).val < off + rows then slab off rows a b i else A i := by
  subst hr
  have hdiv : ∀ (t : ℕ) (r : Fin T), (t * T + r.val) / T = t := fun t r => by
    rw [Nat.mul_comm, Nat.mul_add_div hT, Nat.div_eq_of_lt r.isLt, Nat.add_zero]
  have hmod : ∀ (t : ℕ) (r : Fin T), (t * T + r.val) % T = r.val := fun t r => by
    rw [Nat.mul_comm, Nat.mul_add_mod, Nat.mod_eq_of_lt r.isLt]
  refine (harr (slab off (m * T) a b) (fun t r j => ?_) i).trans (if_congr ⟨?_, ?_⟩ rfl rfl)
  · refine slab_tile off (m * T) t.val a b (x0 t) (x1 t) _ r j (fun u => hx0 t u r _ _ ?_ ?_) (fun u => hx1 t u j) ?_ (h2 t r j)
    · have ht : t.val / k < p := Nat.div_lt_of_lt_mul (by rw [Nat.mul_comm, ← hp]; exact t.isLt)
      change _ = (t.val * T + r.val) / cd % p
      rw [hcd, ← Nat.div_div_eq_div_mul, hdiv, Nat.mod_eq_of_lt ht]
    · change _ = (t.val * T + r.val) % cd
      rw [hcd, Nat.mod_mul, hdiv, hmod, Nat.mul_comm T, Nat.add_comm]
    · rw [h0, h1, Nat.add_assoc, Nat.add_sub_cancel_left, ← Nat.add_assoc, ← Nat.mul_assoc, ← Nat.add_mul, Nat.mul_comm (t.val / m), Nat.div_add_mod]
  · rintro ⟨t, r, j, rfl⟩
    have hm : t.val % m < m := Nat.mod_lt _ (by have := t.isLt; omega)
    have h := Nat.mul_le_mul_right T hm
    rw [Nat.succ_mul] at h
    have hr := r.isLt
    rw [h1]
    omega
  · rintro ⟨hl, hu⟩
    have hq : ((i 1).val - off) / T < m := Nat.div_lt_of_lt_mul (by rw [Nat.mul_comm]; omega)
    have hi : (i 0).val < 4 := (i 0).isLt
    have h3 : (i 0).val * m ≤ 3 * m := Nat.mul_le_mul_right m (by omega)
    have hm : 0 < m := Nat.lt_of_le_of_lt (Nat.zero_le _) hq
    obtain ⟨z, hz⟩ : ∃ z : Fin 1024, z.val = (i 2).val := ⟨i 2, rfl⟩
    refine ⟨⟨(i 0).val * m + ((i 1).val - off) / T, by omega⟩, ⟨((i 1).val - off) % T, Nat.mod_lt _ hT⟩, z, ?_⟩
    refine (eq_ix3 (a := i 0) (b := i 1) (c := i 2) ((h0 _ _ _).trans ?_) ((h1 _ _ _).trans ?_) ((h2 _ _ _).trans hz)).trans (eq_ix3 rfl rfl rfl).symm
    · change ((i 0).val * m + ((i 1).val - off) / T) / m = (i 0).val
      rw [Nat.mul_comm, Nat.mul_add_div hm, Nat.div_eq_of_lt hq, Nat.add_zero]
    · change off + ((i 0).val * m + ((i 1).val - off) / T) % m * T + ((i 1).val - off) % T = (i 1).val
      rw [Nat.mul_comm (i 0).val, Nat.mul_add_mod, Nat.mod_eq_of_lt hq, Nat.add_assoc, Nat.mul_comm _ T, Nat.div_add_mod]
      omega

/-- The same of the blocks a grid cuts: `w0`, `w1`, `w2` are the three windows' block numbers, `ea`, `eb`, `emb` the places of
    their blocks' entries. -/
theorem region_win {N T m k p cd O rows : ℕ} [NeZero p] [NeZero cd] (hT : 0 < T) (hN : N = 4 * m) (hp : N = p * k) (hcd : cd = T * k) (hr : rows = m * T)
    (a : (⟨3, ![p, 4096, cd]⟩ : Shape).Idx → EReal) (b : (⟨2, ![4096, 1024]⟩ : Shape).Idx → EReal) (A arr : (⟨3, ![4, 5120, 1024]⟩ : Shape).Idx → EReal)
    (w0 w2 : Fin N → Fin 3 → ℕ) (w1 : Fin N → Fin 2 → ℕ)
    (hw : ∀ t, w0 t = ![t.val / k, 0, t.val % k] ∧ w1 t = ![0, 0] ∧ w2 t = ![t.val / m, O + t.val % m, 0])
    (ea : Fin N → (⟨3, ![1, 4096, T]⟩ : Shape).Idx → (⟨3, ![p, 4096, cd]⟩ : Shape).Idx)
    (hea : ∀ t y d, (ea t y d).val = w0 t d * (![1, 4096, T] : Fin 3 → ℕ) d + 1 * (y d).val)
    (eb : Fin N → (⟨2, ![4096, 1024]⟩ : Shape).Idx → (⟨2, ![4096, 1024]⟩ : Shape).Idx)
    (heb : ∀ t y d, (eb t y d).val = w1 t d * (![4096, 1024] : Fin 2 → ℕ) d + 1 * (y d).val)
    (emb : Fin N → (⟨3, ![1, T, 1024]⟩ : Shape).Idx → (⟨3, ![4, 5120, 1024]⟩ : Shape).Idx)
    (hemb : ∀ t y d, (emb t y d).val = w2 t d * (![1, T, 1024] : Fin 3 → ℕ) d + 1 * (y d).val)
    (harr : ∀ G : (⟨3, ![4, 5120, 1024]⟩ : Shape).Idx → EReal,
      (∀ t r j, ∑ u : Fin 4096, a (ea t (ix3 (0 : Fin 1) u r)) * b (eb t (ix2 u j)) = G (emb t (ix3 (0 : Fin 1) r j))) →
        ∀ i, arr i = if ∃ t r j, emb t (ix3 (0 : Fin 1) r j) = i then G i else A i)
    (i : (⟨3, ![4, 5120, 1024]⟩ : Shape).Idx) :
    arr i = if O * T ≤ (i 1).val ∧ (i 1).val < O * T + rows then slab (O * T) rows a b i else A i := by
  refine region hT hN hp hcd hr a b A arr emb ?_ ?_ ?_ (fun t y => a (ea t y)) (fun t y => b (eb t y)) ?_ ?_ harr i
  · intro t r j
    rw [hemb, (hw t).2.2]
    change t.val / m * 1 + 1 * 0 = t.val / m
    omega
  · intro t r j
    rw [hemb, (hw t).2.2]
    change (O + t.val % m) * T + 1 * r.val = _
    rw [Nat.add_mul, Nat.one_mul]
  · intro t r j
    rw [hemb, (hw t).2.2]
    change 0 * 1024 + 1 * j.val = j.val
    rw [Nat.zero_mul, Nat.zero_add, Nat.one_mul]
  · intro t u r q x hq hx
    refine congrArg a (eq_ix3 ?_ ?_ ?_) <;> rw [hea, (hw t).1]
    · change t.val / k * 1 + 1 * 0 = q.val
      omega
    · change 0 * 4096 + 1 * u.val = u.val
      rw [Nat.zero_mul, Nat.zero_add, Nat.one_mul]
    · change t.val % k * T + 1 * r.val = x.val
      rw [Nat.one_mul, hx]
  · intro t u j
    refine congrArg b (eq_ix2 ?_ ?_) <;> rw [heb, (hw t).2.1]
    · change 0 * 4096 + 1 * u.val = u.val
      rw [Nat.zero_mul, Nat.zero_add, Nat.one_mul]
    · change 0 * 1024 + 1 * j.val = j.val
      rw [Nat.zero_mul, Nat.zero_add, Nat.one_mul]

end Cert.Kernel2Ideal.Dw

end
-- ==== Proof.DwRun.lean ====
/- The run of the weight-gradient products with the packed array read at its end. -/
module

public import proofs.«01_k».proof.Proof.Gen.Kernel2Ideal.Frame
public import proofs.«01_k».proof.Proof.DwPay

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this statement
set_option backward.isDefEq.respectTransparency.types false in
/-- THE RUN: from any memory with zero counters every fair execution ends, nothing faulting, with the packed array at the last
    boundary's contents, the fourteen operands as launched and every counter at zero. -/
theorem run : θ_run defs (onTc (τ := τ) (main (F := Ideal))) ⟨m, fun _ => 0, ρ⟩ (fun r => (∀ c : Dev nD,
      r.2.mem ((c.tc : Thread nD τ).loc main_v10) = W14 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨h c _ (mem_uc main_v10 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩), funext fun g => hz g (.inr (no_unscoped g.2))⟩)

end Cert.Kernel2Ideal.Dw

end
-- ==== Proof.DwReg.lean ====
/- What each region of the weight-gradient products leaves in the packed array: its own rows hold the product, the others what they held. -/
module

public import proofs.«01_k».proof.Proof.DwPay
public import proofs.«01_k».proof.Proof.Gen.Kernel2Ideal.Frame
public import Idealize.ShloMosaic.Lib.Pipeline.Value

@[expose] public section

set_option maxRecDepth 16384

noncomputable section

namespace Cert.Kernel2Ideal.Dw

open Idealize.ShloMosaic Idealize.ShloMosaic.TcCoe Idealize.SL.Sem
open Cert.Kernel2Ideal Cert.Kernel2Ideal.Gen

variable (V : (c : Dev nD) → (b : Ref sig .tc) → Buf (Elt Ideal) ((c : Thread nD τ).loc b)) (c : Dev nD)

/-! ## Whole-block loads and stores -/

theorem zero2 : (![0, 0] : Fin 2 → ℕ) = fun _ => 0 := by decide
theorem zero3 : (![0, 0, 0] : Fin 3 → ℕ) = fun _ => 0 := by decide

/-! ## The first product: rows 3200 to 3840 -/

theorem i0 : ∀ t : Fin cfg0.N, win0_0.index t = ![t.val / 4, 0, t.val % 4] ∧ win0_1.index t = ![0, 0] ∧ win0_2.index t = ![t.val / 1, 5 + t.val % 1, 0] :=
  (by decide +kernel : ∀ t : Fin grid0.N, win0_0.index t = ![t.val / 4, 0, t.val % 4] ∧ win0_1.index t = ![0, 0] ∧ win0_2.index t = ![t.val / 1, 5 + t.val % 1, 0])

theorem o0 (t : Fin cfg0.N) : (dat0 V c).flushed 2 t = k0_pay1 (F := Ideal) (iblk0 V c 0 t) (iblk0 V c 1 t) := by
  show (cfg0.win 2).cut (grid0.coords t) ((dat0 V c).after 2 t) = _
  rw [after0_2]
  change out0_2 (iblk0 V c 0 t) (iblk0 V c 1 t) = _
  unfold out0_2
  rw [View.canon_unit_zero zero3, View.ld_unit_zero zero3, View.ld_unit_zero zero2]

theorem w0 (G : S4x5120x1024.Idx → EReal)
    (hG : ∀ (t : Fin cfg0.N) (r : Fin 640) (j : Fin 1024), ∑ u : Fin 4096, (show EReal from V c main_v0 (((cfg0.win 0).blk t).view.emb (ix3 (0 : Fin 1) u r))) * (show EReal from V c main_arg1 (((cfg0.win 1).blk t).view.emb (ix2 u j))) =
      G (((cfg0.win 2).blk t).view.emb (ix3 (0 : Fin 1) r j)))
    (i : S4x5120x1024.Idx) :
    (dat0 V c).arrAt 2 cfg0.N i = if ∃ (t : Fin cfg0.N) (r : Fin 640) (j : Fin 1024), ((cfg0.win 2).blk t).view.emb (ix3 (0 : Fin 1) r j) = i then G i else V c main_v1 i := by
  refine ((dat0 V c).arrAt_eq_piecewise 2 G (fun t _ => funext fun y => ?_) i).trans (if_congr ⟨?_, ?_⟩ rfl (congrFun (A_eq0 V c 2) i))
  · obtain ⟨r, j, rfl⟩ := tile_surj y
    rw [o0, pay640]
    exact hG t r j
  · rintro ⟨t, -, hm⟩
    obtain ⟨y, hy⟩ := View.exists_emb_of_mem_set _ hm
    obtain ⟨r, j, rfl⟩ := tile_surj y
    exact ⟨t, r, j, hy⟩
  · rintro ⟨t, r, j, rfl⟩
    exact ⟨t, flush0_2 t, View.emb_mem_set _ _⟩

theorem arr0 (i : S4x5120x1024.Idx) :
    (dat0 V c).arrAt 2 cfg0.N i = if 3200 ≤ (i 1).val ∧ (i 1).val < 3840 then slab (p := 1) (cd := 2560) 3200 640 (V c main_v0) (V c main_arg1) i else V c main_v1 i :=
  region_win (N := cfg0.N) (T := 640) (m := 1) (k := 4) (p := 1) (cd := 2560) (O := 5) (rows := 640) (by decide) rfl rfl rfl rfl
    (V c main_v0) (V c main_arg1) (V c main_v1) ((dat0 V c).arrAt 2 cfg0.N) win0_0.index win0_2.index win0_1.index i0
    (fun t => ((cfg0.win 0).blk t).view.emb) (fun _ _ _ => rfl) (fun t => ((cfg0.win 1).blk t).view.emb) (fun _ _ _ => rfl)
    (fun t => ((cfg0.win 2).blk t).view.emb) (fun _ _ _ => rfl) (w0 V c) i

/-! ## The second product: rows 1280 to 2560 -/

theorem i1 : ∀ t : Fin cfg1.N, win1_0.index t = ![t.val / 4, 0, t.val % 4] ∧ win1_1.index t = ![0, 0] ∧ win1_2.index t = ![t.val / 2, 2 + t.val % 2, 0] :=
  (by decide +kernel : ∀ t : Fin grid1.N, win1_0.index t = ![t.val / 4, 0, t.val % 4] ∧ win1_1.index t = ![0, 0] ∧ win1_2.index t = ![t.val / 2, 2 + t.val % 2, 0])

theorem o1 (t : Fin cfg1.N) : (dat1 V c).flushed 2 t = k0_pay1 (F := Ideal) (iblk1 V c 0 t) (iblk1 V c 1 t) := by
  show (cfg1.win 2).cut (grid1.coords t) ((dat1 V c).after 2 t) = _
  rw [after1_2]
  change outsAt1 V c t = _
  unfold outsAt1 out1_A_2
  rw [View.read_writes_eq_canon _ _ _ (cover1_A_2 _ _ _ _ _ _ _ _ _ _)]
  unfold kernelRun1_A
  dsimp only
  sl_unfold_words
  simp only [View.readAt_eq_ld, (hs1_0 t).read_unread, (hs1_1 t).read_unread]
  rw [View.canon_unit_zero zero3, View.ld_unit_zero zero3, View.ld_unit_zero zero2]
  rfl

theorem w1 (G : S4x5120x1024.Idx → EReal)
    (hG : ∀ (t : Fin cfg1.N) (r : Fin 640) (j : Fin 1024), ∑ u : Fin 4096, (show EReal from V c main_arg2 (((cfg1.win 0).blk t).view.emb (ix3 (0 : Fin 1) u r))) * (show EReal from V c main_arg3 (((cfg1.win 1).blk t).view.emb (ix2 u j))) =
      G (((cfg1.win 2).blk t).view.emb (ix3 (0 : Fin 1) r j)))
    (i : S4x5120x1024.Idx) :
    (dat1 V c).arrAt 2 cfg1.N i = if ∃ (t : Fin cfg1.N) (r : Fin 640) (j : Fin 1024), ((cfg1.win 2).blk t).view.emb (ix3 (0 : Fin 1) r j) = i then G i else V c main_v2 i := by
  refine ((dat1 V c).arrAt_eq_piecewise 2 G (fun t _ => funext fun y => ?_) i).trans (if_congr ⟨?_, ?_⟩ rfl (congrFun (A_eq1 V c 2) i))
  · obtain ⟨r, j, rfl⟩ := tile_surj y
    rw [o1, pay640]
    exact hG t r j
  · rintro ⟨t, -, hm⟩
    obtain ⟨y, hy⟩ := View.exists_emb_of_mem_set _ hm
    obtain ⟨r, j, rfl⟩ := tile_surj y
    exact ⟨t, r, j, hy⟩
  · rintro ⟨t, r, j, rfl⟩
    exact ⟨t, flush1_2 t, View.emb_mem_set _ _⟩

theorem arr1 (i : S4x5120x1024.Idx) :
    (dat1 V c).arrAt 2 cfg1.N i = if 1280 ≤ (i 1).val ∧ (i 1).val < 2560 then slab (p := 2) (cd := 2560) 1280 1280 (V c main_arg2) (V c main_arg3) i else V c main_v2 i :=
  region_win (N := cfg1.N) (T := 640) (m := 2) (k := 4) (p := 2) (cd := 2560) (O := 2) (rows := 1280) (by decide) rfl rfl rfl rfl
    (V c main_arg2) (V c main_arg3) (V c main_v2) ((dat1 V c).arrAt 2 cfg1.N) win1_0.index win1_2.index win1_1.index i1
    (fun t => ((cfg1.win 0).blk t).view.emb) (fun _ _ _ => rfl) (fun t => ((cfg1.win 1).blk t).view.emb) (fun _ _ _ => rfl)
    (fun t => ((cfg1.win 2).blk t).view.emb) (fun _ _ _ => rfl) (w1 V c) i

/-! ## The third product: rows 4864 to 5120 -/

theorem i2 : ∀ t : Fin cfg2.N, win2_0.index t = ![t.val / 4, 0, t.val % 4] ∧ win2_1.index t = ![0, 0] ∧ win2_2.index t = ![t.val / 1, 19 + t.val % 1, 0] :=
  (by decide +kernel : ∀ t : Fin grid2.N, win2_0.index t = ![t.val / 4, 0, t.val % 4] ∧ win2_1.index t = ![0, 0] ∧ win2_2.index t = ![t.val / 1, 19 + t.val % 1, 0])

theorem o2 (t : Fin cfg2.N) : (dat2 V c).flushed 2 t = k2_pay1 (F := Ideal) (iblk2 V c 0 t) (iblk2 V c 1 t) := by
  show (cfg2.win 2).cut (grid2.coords t) ((dat2 V c).after 2 t) = _
  rw [after2_2]
  change outsAt2 V c t = _
  unfold outsAt2 out2_A_2
  rw [View.read_writes_eq_canon _ _ _ (cover2_A_2 _ _ _ _ _ _ _ _ _ _)]
  unfold kernelRun2_A
  dsimp only
  sl_unfold_words
  simp only [View.readAt_eq_ld, (hs2_0 t).read_unread, (hs2_1 t).read_unread]
  rw [View.canon_unit_zero zero3, View.ld_unit_zero zero3, View.ld_unit_zero zero2]

theorem w2 (G : S4x5120x1024.Idx → EReal)
    (hG : ∀ (t : Fin cfg2.N) (r : Fin 256) (j : Fin 1024), ∑ u : Fin 4096, (show EReal from V c main_v3 (((cfg2.win 0).blk t).view.emb (ix3 (0 : Fin 1) u r))) * (show EReal from V c main_arg5 (((cfg2.win 1).blk t).view.emb (ix2 u j))) =
      G (((cfg2.win 2).blk t).view.emb (ix3 (0 : Fin 1) r j)))
    (i : S4x5120x1024.Idx) :
    (dat2 V c).arrAt 2 cfg2.N i = if ∃ (t : Fin cfg2.N) (r : Fin 256) (j : Fin 1024), ((cfg2.win 2).blk t).view.emb (ix3 (0 : Fin 1) r j) = i then G i else V c main_v4 i := by
  refine ((dat2 V c).arrAt_eq_piecewise 2 G (fun t _ => funext fun y => ?_) i).trans (if_congr ⟨?_, ?_⟩ rfl (congrFun (A_eq2 V c 2) i))
  · obtain ⟨r, j, rfl⟩ := tile_surj y
    rw [o2, pay256]
    exact hG t r j
  · rintro ⟨t, -, hm⟩
    obtain ⟨y, hy⟩ := View.exists_emb_of_mem_set _ hm
    obtain ⟨r, j, rfl⟩ := tile_surj y
    exact ⟨t, r, j, hy⟩
  · rintro ⟨t, r, j, rfl⟩
    exact ⟨t, flush2_2 t, View.emb_mem_set _ _⟩

theorem arr2 (i : S4x5120x1024.Idx) :
    (dat2 V c).arrAt 2 cfg2.N i = if 4864 ≤ (i 1).val ∧ (i 1).val < 5120 then slab (p := 1) (cd := 1024) 4864 256 (V c main_v3) (V c main_arg5) i else V c main_v4 i :=
  region_win (N := cfg2.N) (T := 256) (m := 1) (k := 4) (p := 1) (cd := 1024) (O := 19) (rows := 256) (by decide) rfl rfl rfl rfl
    (V c main_v3) (V c main_arg5) (V c main_v4) ((dat2 V c).arrAt 2 cfg2.N) win2_0.index win2_2.index win2_1.index i2
    (fun t => ((cfg2.win 0).blk t).view.emb) (fun _ _ _ => rfl) (fun t => ((cfg2.win 1).blk t).view.emb) (fun _ _ _ => rfl)
    (fun t => ((cfg2.win 2).blk t).view.emb) (fun _ _ _ => rfl) (w2 V c) i

/-! ## The fourth product: rows 3840 to 4608 -/

theorem i3 : ∀ t : Fin cfg3.N, win3_0.index t = ![t.val / 4, 0, t.val % 4] ∧ win3_1.index t = ![0, 0] ∧ win3_2.index t = ![t.val / 3, 15 + t.val % 3, 0] :=
  (by decide +kernel : ∀ t : Fin grid3.N, win3_0.index t = ![t.val / 4, 0, t.val % 4] ∧ win3_1.index t = ![0, 0] ∧ win3_2.index t = ![t.val / 3, 15 + t.val % 3, 0])

theorem o3 (t : Fin cfg3.N) : (dat3 V c).flushed 2 t = k2_pay1 (F := Ideal) (iblk3 V c 0 t) (iblk3 V c 1 t) := by
  show (cfg3.win 2).cut (grid3.coords t) ((dat3 V c).after 2 t) = _
  rw [after3_2]
  change outsAt3 V c t = _
  unfold outsAt3 out3_A_2
  rw [View.read_writes_eq_canon _ _ _ (cover3_A_2 _ _ _ _ _ _ _ _ _ _)]
  unfold kernelRun3_A
  dsimp only
  sl_unfold_words
  simp only [View.readAt_eq_ld, (hs3_0 t).read_unread, (hs3_1 t).read_unread]
  rw [View.canon_unit_zero zero3, View.ld_unit_zero zero3, View.ld_unit_zero zero2]
  rfl

theorem w3 (G : S4x5120x1024.Idx → EReal)
    (hG : ∀ (t : Fin cfg3.N) (r : Fin 256) (j : Fin 1024), ∑ u : Fin 4096, (show EReal from V c main_arg6 (((cfg3.win 0).blk t).view.emb (ix3 (0 : Fin 1) u r))) * (show EReal from V c main_arg7 (((cfg3.win 1).blk t).view.emb (ix2 u j))) =
      G (((cfg3.win 2).blk t).view.emb (ix3 (0 : Fin 1) r j)))
    (i : S4x5120x1024.Idx) :
    (dat3 V c).arrAt 2 cfg3.N i = if ∃ (t : Fin cfg3.N) (r : Fin 256) (j : Fin 1024), ((cfg3.win 2).blk t).view.emb (ix3 (0 : Fin 1) r j) = i then G i else V c main_v5 i := by
  refine ((dat3 V c).arrAt_eq_piecewise 2 G (fun t _ => funext fun y => ?_) i).trans (if_congr ⟨?_, ?_⟩ rfl (congrFun (A_eq3 V c 2) i))
  · obtain ⟨r, j, rfl⟩ := tile_surj y
    rw [o3, pay256]
    exact hG t r j
  · rintro ⟨t, -, hm⟩
    obtain ⟨y, hy⟩ := View.exists_emb_of_mem_set _ hm
    obtain ⟨r, j, rfl⟩ := tile_surj y
    exact ⟨t, r, j, hy⟩
  · rintro ⟨t, r, j, rfl⟩
    exact ⟨t, flush3_2 t, View.emb_mem_set _ _⟩

theorem arr3 (i : S4x5120x1024.Idx) :
    (dat3 V c).arrAt 2 cfg3.N i = if 3840 ≤ (i 1).val ∧ (i 1).val < 4608 then slab (p := 3) (cd := 1024) 3840 768 (V c main_arg6) (V c main_arg7) i else V c main_v5 i :=
  region_win (N := cfg3.N) (T := 256) (m := 3) (k := 4) (p := 3) (cd := 1024) (O := 15) (rows := 768) (by decide) rfl rfl rfl rfl
    (V c main_arg6) (V c main_arg7) (V c main_v5) ((dat3 V c).arrAt 2 cfg3.N) win3_0.index win3_2.index win3_1.index i3
    (fun t => ((cfg3.win 0).blk t).view.emb) (fun _ _ _ => rfl) (fun t => ((cfg3.win 1).blk t).view.emb) (fun _ _ _ => rfl)
    (fun t => ((cfg3.win 2).blk t).view.emb) (fun _ _ _ => rfl) (w3 V c) i

/-! ## The fifth product: rows 2560 to 3200 -/

theorem i4 : ∀ t : Fin cfg4.N, win4_0.index t = ![t.val / 4, 0, t.val % 4] ∧ win4_1.index t = ![0, 0] ∧ win4_2.index t = ![t.val / 1, 4 + t.val % 1, 0] :=
  (by decide +kernel : ∀ t : Fin grid4.N, win4_0.index t = ![t.val / 4, 0, t.val % 4] ∧ win4_1.index t = ![0, 0] ∧ win4_2.index t = ![t.val / 1, 4 + t.val % 1, 0])

theorem o4 (t : Fin cfg4.N) : (dat4 V c).flushed 2 t = k0_pay1 (F := Ideal) (iblk4 V c 0 t) (iblk4 V c 1 t) := by
  show (cfg4.win 2).cut (grid4.coords t) ((dat4 V c).after 2 t) = _
  rw [after4_2]
  change outsAt4 V c t = _
  unfold outsAt4 out4_A_2
  rw [View.read_writes_eq_canon _ _ _ (cover4_A_2 _ _ _ _ _ _ _ _ _ _)]
  unfold kernelRun4_A
  dsimp only
  sl_unfold_words
  simp only [View.readAt_eq_ld, (hs4_0 t).read_unread, (hs4_1 t).read_unread]
  rw [View.canon_unit_zero zero3, View.ld_unit_zero zero3, View.ld_unit_zero zero2]
  rfl

theorem w4 (G : S4x5120x1024.Idx → EReal)
    (hG : ∀ (t : Fin cfg4.N) (r : Fin 640) (j : Fin 1024), ∑ u : Fin 4096, (show EReal from V c main_v6 (((cfg4.win 0).blk t).view.emb (ix3 (0 : Fin 1) u r))) * (show EReal from V c main_arg9 (((cfg4.win 1).blk t).view.emb (ix2 u j))) =
      G (((cfg4.win 2).blk t).view.emb (ix3 (0 : Fin 1) r j)))
    (i : S4x5120x1024.Idx) :
    (dat4 V c).arrAt 2 cfg4.N i = if ∃ (t : Fin cfg4.N) (r : Fin 640) (j : Fin 1024), ((cfg4.win 2).blk t).view.emb (ix3 (0 : Fin 1) r j) = i then G i else V c main_v7 i := by
  refine ((dat4 V c).arrAt_eq_piecewise 2 G (fun t _ => funext fun y => ?_) i).trans (if_congr ⟨?_, ?_⟩ rfl (congrFun (A_eq4 V c 2) i))
  · obtain ⟨r, j, rfl⟩ := tile_surj y
    rw [o4, pay640]
    exact hG t r j
  · rintro ⟨t, -, hm⟩
    obtain ⟨y, hy⟩ := View.exists_emb_of_mem_set _ hm
    obtain ⟨r, j, rfl⟩ := tile_surj y
    exact ⟨t, r, j, hy⟩
  · rintro ⟨t, r, j, rfl⟩
    exact ⟨t, flush4_2 t, View.emb_mem_set _ _⟩

theorem arr4 (i : S4x5120x1024.Idx) :
    (dat4 V c).arrAt 2 cfg4.N i = if 2560 ≤ (i 1).val ∧ (i 1).val < 3200 then slab (p := 1) (cd := 2560) 2560 640 (V c main_v6) (V c main_arg9) i else V c main_v7 i :=
  region_win (N := cfg4.N) (T := 640) (m := 1) (k := 4) (p := 1) (cd := 2560) (O := 4) (rows := 640) (by decide) rfl rfl rfl rfl
    (V c main_v6) (V c main_arg9) (V c main_v7) ((dat4 V c).arrAt 2 cfg4.N) win4_0.index win4_2.index win4_1.index i4
    (fun t => ((cfg4.win 0).blk t).view.emb) (fun _ _ _ => rfl) (fun t => ((cfg4.win 1).blk t).view.emb) (fun _ _ _ => rfl)
    (fun t => ((cfg4.win 2).blk t).view.emb) (fun _ _ _ => rfl) (w4 V c) i

/-! ## The sixth product: rows 0 to 1280 -/

theorem i5 : ∀ t : Fin cfg5.N, win5_0.index t = ![t.val / 4, 0, t.val % 4] ∧ win5_1.index t = ![0, 0] ∧ win5_2.index t = ![t.val / 2, 0 + t.val % 2, 0] :=
  (by decide +kernel : ∀ t : Fin grid5.N, win5_0.index t = ![t.val / 4, 0, t.val % 4] ∧ win5_1.index t = ![0, 0] ∧ win5_2.index t = ![t.val / 2, 0 + t.val % 2, 0])

theorem o5 (t : Fin cfg5.N) : (dat5 V c).flushed 2 t = k0_pay1 (F := Ideal) (iblk5 V c 0 t) (iblk5 V c 1 t) := by
  show (cfg5.win 2).cut (grid5.coords t) ((dat5 V c).after 2 t) = _
  rw [after5_2]
  change outsAt5 V c t = _
  unfold outsAt5 out5_A_2
  rw [View.read_writes_eq_canon _ _ _ (cover5_A_2 _ _ _ _ _ _ _ _ _ _)]
  unfold kernelRun5_A
  dsimp only
  sl_unfold_words
  simp only [View.readAt_eq_ld, (hs5_0 t).read_unread, (hs5_1 t).read_unread]
  rw [View.canon_unit_zero zero3, View.ld_unit_zero zero3, View.ld_unit_zero zero2]
  rfl

theorem w5 (G : S4x5120x1024.Idx → EReal)
    (hG : ∀ (t : Fin cfg5.N) (r : Fin 640) (j : Fin 1024), ∑ u : Fin 4096, (show EReal from V c main_arg10 (((cfg5.win 0).blk t).view.emb (ix3 (0 : Fin 1) u r))) * (show EReal from V c main_arg11 (((cfg5.win 1).blk t).view.emb (ix2 u j))) =
      G (((cfg5.win 2).blk t).view.emb (ix3 (0 : Fin 1) r j)))
    (i : S4x5120x1024.Idx) :
    (dat5 V c).arrAt 2 cfg5.N i = if ∃ (t : Fin cfg5.N) (r : Fin 640) (j : Fin 1024), ((cfg5.win 2).blk t).view.emb (ix3 (0 : Fin 1) r j) = i then G i else V c main_v8 i := by
  refine ((dat5 V c).arrAt_eq_piecewise 2 G (fun t _ => funext fun y => ?_) i).trans (if_congr ⟨?_, ?_⟩ rfl (congrFun (A_eq5 V c 2) i))
  · obtain ⟨r, j, rfl⟩ := tile_surj y
    rw [o5, pay640]
    exact hG t r j
  · rintro ⟨t, -, hm⟩
    obtain ⟨y, hy⟩ := View.exists_emb_of_mem_set _ hm
    obtain ⟨r, j, rfl⟩ := tile_surj y
    exact ⟨t, r, j, hy⟩
  · rintro ⟨t, r, j, rfl⟩
    exact ⟨t, flush5_2 t, View.emb_mem_set _ _⟩

theorem arr5 (i : S4x5120x1024.Idx) :
    (dat5 V c).arrAt 2 cfg5.N i = if 0 ≤ (i 1).val ∧ (i 1).val < 1280 then slab (p := 2) (cd := 2560) 0 1280 (V c main_arg10) (V c main_arg11) i else V c main_v8 i :=
  region_win (N := cfg5.N) (T := 640) (m := 2) (k := 4) (p := 2) (cd := 2560) (O := 0) (rows := 1280) (by decide) rfl rfl rfl rfl
    (V c main_arg10) (V c main_arg11) (V c main_v8) ((dat5 V c).arrAt 2 cfg5.N) win5_0.index win5_2.index win5_1.index i5
    (fun t => ((cfg5.win 0).blk t).view.emb) (fun _ _ _ => rfl) (fun t => ((cfg5.win 1).blk t).view.emb) (fun _ _ _ => rfl)
    (fun t => ((cfg5.win 2).blk t).view.emb) (fun _ _ _ => rfl) (w5 V c) i

/-! ## The seventh product: rows 4608 to 4864 -/

theorem i6 : ∀ t : Fin cfg6.N, win6_0.index t = ![t.val / 4, 0, t.val % 4] ∧ win6_1.index t = ![0, 0] ∧ win6_2.index t = ![t.val / 1, 18 + t.val % 1, 0] :=
  (by decide +kernel : ∀ t : Fin grid6.N, win6_0.index t = ![t.val / 4, 0, t.val % 4] ∧ win6_1.index t = ![0, 0] ∧ win6_2.index t = ![t.val / 1, 18 + t.val % 1, 0])

theorem o6 (t : Fin cfg6.N) : (dat6 V c).flushed 2 t = k2_pay1 (F := Ideal) (iblk6 V c 0 t) (iblk6 V c 1 t) := by
  show (cfg6.win 2).cut (grid6.coords t) ((dat6 V c).after 2 t) = _
  rw [after6_2]
  change outsAt6 V c t = _
  unfold outsAt6 out6_A_2
  rw [View.read_writes_eq_canon _ _ _ (cover6_A_2 _ _ _ _ _ _ _ _ _ _)]
  unfold kernelRun6_A
  dsimp only
  sl_unfold_words
  simp only [View.readAt_eq_ld, (hs6_0 t).read_unread, (hs6_1 t).read_unread]
  rw [View.canon_unit_zero zero3, View.ld_unit_zero zero3, View.ld_unit_zero zero2]
  rfl

theorem w6 (G : S4x5120x1024.Idx → EReal)
    (hG : ∀ (t : Fin cfg6.N) (r : Fin 256) (j : Fin 1024), ∑ u : Fin 4096, (show EReal from V c main_v9 (((cfg6.win 0).blk t).view.emb (ix3 (0 : Fin 1) u r))) * (show EReal from V c main_arg13 (((cfg6.win 1).blk t).view.emb (ix2 u j))) =
      G (((cfg6.win 2).blk t).view.emb (ix3 (0 : Fin 1) r j)))
    (i : S4x5120x1024.Idx) :
    (dat6 V c).arrAt 2 cfg6.N i = if ∃ (t : Fin cfg6.N) (r : Fin 256) (j : Fin 1024), ((cfg6.win 2).blk t).view.emb (ix3 (0 : Fin 1) r j) = i then G i else V c main_v10 i := by
  refine ((dat6 V c).arrAt_eq_piecewise 2 G (fun t _ => funext fun y => ?_) i).trans (if_congr ⟨?_, ?_⟩ rfl (congrFun (A_eq6 V c 2) i))
  · obtain ⟨r, j, rfl⟩ := tile_surj y
    rw [o6, pay256]
    exact hG t r j
  · rintro ⟨t, -, hm⟩
    obtain ⟨y, hy⟩ := View.exists_emb_of_mem_set _ hm
    obtain ⟨r, j, rfl⟩ := tile_surj y
    exact ⟨t, r, j, hy⟩
  · rintro ⟨t, r, j, rfl⟩
    exact ⟨t, flush6_2 t, View.emb_mem_set _ _⟩

theorem arr6 (i : S4x5120x1024.Idx) :
    (dat6 V c).arrAt 2 cfg6.N i = if 4608 ≤ (i 1).val ∧ (i 1).val < 4864 then slab (p := 1) (cd := 1024) 4608 256 (V c main_v9) (V c main_arg13) i else V c main_v10 i :=
  region_win (N := cfg6.N) (T := 256) (m := 1) (k := 4) (p := 1) (cd := 1024) (O := 18) (rows := 256) (by decide) rfl rfl rfl rfl
    (V c main_v9) (V c main_arg13) (V c main_v10) ((dat6 V c).arrAt 2 cfg6.N) win6_0.index win6_2.index win6_1.index i6
    (fun t => ((cfg6.win 0).blk t).view.emb) (fun _ _ _ => rfl) (fun t => ((cfg6.win 1).blk t).view.emb) (fun _ _ _ => rfl)
    (fun t => ((cfg6.win 2).blk t).view.emb) (fun _ _ _ => rfl) (w6 V c) i

end Cert.Kernel2Ideal.Dw

end
-- ==== Proof.DwOut.lean ====
/- The packed gradient the weight-gradient products leave, as one function of the fourteen operands. -/
module

public import proofs.«01_k».proof.Proof.DwReg
public import Idealize.ShloMosaic.Lib.IdealHost

@[expose] public section

set_option maxRecDepth 16384

noncomputable section

namespace Cert.Kernel2Ideal.Dw

open Idealize.ShloMosaic Idealize.ShloMosaic.TcCoe Idealize.SL.Sem
open Cert.Kernel2Ideal Cert.Kernel2Ideal.Gen

/-- A matrix as an array of one part. -/
def lead {cd : ℕ} (x : (⟨2, ![4096, cd]⟩ : Shape).Idx → EReal) : (⟨3, ![1, 4096, cd]⟩ : Shape).Idx → EReal := fun i => x (ix2 (i 1) (i 2))

/-- THE PACKED GRADIENT: each weight's rows hold its own product. -/
def packed (x0 : S4096x2560.Idx → EReal) (x1 : S4096x1024.Idx → EReal) (x2 : S2x4096x2560.Idx → EReal) (x3 : S4096x1024.Idx → EReal)
    (x4 x5 : S4096x1024.Idx → EReal) (x6 : S3x4096x1024.Idx → EReal) (x7 : S4096x1024.Idx → EReal) (x8 : S4096x2560.Idx → EReal) (x9 : S4096x1024.Idx → EReal)
    (x10 : S2x4096x2560.Idx → EReal) (x11 x12 x13 : S4096x1024.Idx → EReal) (i : S4x5120x1024.Idx) : EReal :=
  if (i 1).val < 1280 then slab (p := 2) (cd := 2560) 0 1280 x10 x11 i
  else if (i 1).val < 2560 then slab (p := 2) (cd := 2560) 1280 1280 x2 x3 i
  else if (i 1).val < 3200 then slab (p := 1) (cd := 2560) 2560 640 (lead x8) x9 i
  else if (i 1).val < 3840 then slab (p := 1) (cd := 2560) 3200 640 (lead x0) x1 i
  else if (i 1).val < 4608 then slab (p := 3) (cd := 1024) 3840 768 x6 x7 i
  else if (i 1).val < 4864 then slab (p := 1) (cd := 1024) 4608 256 (lead x12) x13 i
  else slab (p := 1) (cd := 1024) 4864 256 (lead x4) x5 i

variable (m : (b : Loc nD τ sig) → Buf (Elt Ideal) b) (ρ : Dev nD → PrngReg) (c : Dev nD)

/-! ## What the host code hands each region -/

/-- The broadcast that adds the leading axis. -/
theorem bcast_lead {cd : ℕ} (hc : cd ≠ 1) (h) (x : (⟨2, ![4096, cd]⟩ : Shape).Idx → EReal) :
    broadcastInDim (s := ⟨2, ![4096, cd]⟩) ⟨3, ![1, 4096, cd]⟩ ![1, 2] h x = lead x := by
  funext i
  exact congrArg x (eq_ix2 rfl (congrArg Fin.val (dif_neg hc)))

theorem lead0 : V1 m ρ c main_v0 = lead (m ((c : Thread nD τ).loc main_arg0)) := by
  change StableHlo.after hostOps0 (W0 m ρ c) (Proc.devRef .tc main_v0) = _
  rw [StableHlo.after_cons, StableHlo.after_nil, StableHlo.unary_result]
  exact (bcast_lead (by decide) _ _).trans (congrArg lead (W0_args m ρ c main_arg0 (by decide)))

theorem lead2 : V5 m ρ c main_v3 = lead (m ((c : Thread nD τ).loc main_arg4)) := by
  change StableHlo.after hostOps2 (W4 m ρ c) (Proc.devRef .tc main_v3) = _
  rw [StableHlo.after_cons, StableHlo.after_cons, StableHlo.after_nil, StableHlo.unary_result_ne _ _ _ _ _ _ (by decide), StableHlo.unary_result]
  exact (bcast_lead (by decide) _ _).trans (congrArg lead (W4_args m ρ c main_arg4 (by decide)))

theorem lead4 : V9 m ρ c main_v6 = lead (m ((c : Thread nD τ).loc main_arg8)) := by
  change StableHlo.after hostOps4 (W8 m ρ c) (Proc.devRef .tc main_v6) = _
  rw [StableHlo.after_cons, StableHlo.after_cons, StableHlo.after_nil, StableHlo.unary_result_ne _ _ _ _ _ _ (by decide), StableHlo.unary_result]
  exact (bcast_lead (by decide) _ _).trans (congrArg lead (W8_args m ρ c main_arg8 (by decide)))

theorem lead6 : V13 m ρ c main_v9 = lead (m ((c : Thread nD τ).loc main_arg12)) := by
  change StableHlo.after hostOps6 (W12 m ρ c) (Proc.devRef .tc main_v9) = _
  rw [StableHlo.after_cons, StableHlo.after_cons, StableHlo.after_nil, StableHlo.unary_result_ne _ _ _ _ _ _ (by decide), StableHlo.unary_result]
  exact (bcast_lead (by decide) _ _).trans (congrArg lead (W12_args m ρ c main_arg12 (by decide)))

theorem keep1 : V3 m ρ c main_v2 = W2 m ρ c (Proc.devRef .tc main_v1) := by
  change StableHlo.after hostOps1 (W2 m ρ c) (Proc.devRef .tc main_v2) = _
  rw [StableHlo.after_cons, StableHlo.after_nil, StableHlo.unary_result]
  rfl

theorem keep2 : V5 m ρ c main_v4 = W4 m ρ c (Proc.devRef .tc main_v2) := by
  change StableHlo.after hostOps2 (W4 m ρ c) (Proc.devRef .tc main_v4) = _
  rw [StableHlo.after_cons, StableHlo.after_cons, StableHlo.after_nil, StableHlo.unary_result, StableHlo.unary_result_ne _ _ _ _ _ _ (by decide)]
  rfl

theorem keep3 : V7 m ρ c main_v5 = W6 m ρ c (Proc.devRef .tc main_v4) := by
  change StableHlo.after hostOps3 (W6 m ρ c) (Proc.devRef .tc main_v5) = _
  rw [StableHlo.after_cons, StableHlo.after_nil, StableHlo.unary_result]
  rfl

theorem keep4 : V9 m ρ c main_v7 = W8 m ρ c (Proc.devRef .tc main_v5) := by
  change StableHlo.after hostOps4 (W8 m ρ c) (Proc.devRef .tc main_v7) = _
  rw [StableHlo.after_cons, StableHlo.after_cons, StableHlo.after_nil, StableHlo.unary_result, StableHlo.unary_result_ne _ _ _ _ _ _ (by decide)]
  rfl

theorem keep5 : V11 m ρ c main_v8 = W10 m ρ c (Proc.devRef .tc main_v7) := by
  change StableHlo.after hostOps5 (W10 m ρ c) (Proc.devRef .tc main_v8) = _
  rw [StableHlo.after_cons, StableHlo.after_nil, StableHlo.unary_result]
  rfl

theorem keep6 : V13 m ρ c main_v10 = W12 m ρ c (Proc.devRef .tc main_v8) := by
  change StableHlo.after hostOps6 (W12 m ρ c) (Proc.devRef .tc main_v10) = _
  rw [StableHlo.after_cons, StableHlo.after_cons, StableHlo.after_nil, StableHlo.unary_result, StableHlo.unary_result_ne _ _ _ _ _ _ (by decide)]
  rfl

/-! ## After each region -/

theorem step0 (i : S4x5120x1024.Idx) : W2 m ρ c (Proc.devRef .tc main_v1) i =
    if 3200 ≤ (i 1).val ∧ (i 1).val < 3840 then slab (p := 1) (cd := 2560) 3200 640 (lead (m ((c : Thread nD τ).loc main_arg0))) (m ((c : Thread nD τ).loc main_arg1)) i else m ((c : Thread nD τ).loc main_v1) i := by
  rw [W2_arr m ρ c 2, arr0]
  rw [lead0 m ρ c, show V1 m ρ c main_arg1 = m ((c : Thread nD τ).loc main_arg1) from W1_args m ρ c main_arg1 (by decide), show V1 m ρ c main_v1 = m ((c : Thread nD τ).loc main_v1) from W1_of m ρ c main_v1 (by decide)]

theorem step1 (i : S4x5120x1024.Idx) : W4 m ρ c (Proc.devRef .tc main_v2) i =
    if 1280 ≤ (i 1).val ∧ (i 1).val < 2560 then slab (p := 2) (cd := 2560) 1280 1280 (m ((c : Thread nD τ).loc main_arg2)) (m ((c : Thread nD τ).loc main_arg3)) i else W2 m ρ c (Proc.devRef .tc main_v1) i := by
  rw [W4_arr m ρ c 2, arr1]
  rw [show V3 m ρ c main_arg2 = m ((c : Thread nD τ).loc main_arg2) from W3_args m ρ c main_arg2 (by decide), show V3 m ρ c main_arg3 = m ((c : Thread nD τ).loc main_arg3) from W3_args m ρ c main_arg3 (by decide), keep1 m ρ c]

theorem step2 (i : S4x5120x1024.Idx) : W6 m ρ c (Proc.devRef .tc main_v4) i =
    if 4864 ≤ (i 1).val ∧ (i 1).val < 5120 then slab (p := 1) (cd := 1024) 4864 256 (lead (m ((c : Thread nD τ).loc main_arg4))) (m ((c : Thread nD τ).loc main_arg5)) i else W4 m ρ c (Proc.devRef .tc main_v2) i := by
  rw [W6_arr m ρ c 2, arr2]
  rw [lead2 m ρ c, show V5 m ρ c main_arg5 = m ((c : Thread nD τ).loc main_arg5) from W5_args m ρ c main_arg5 (by decide), keep2 m ρ c]

theorem step3 (i : S4x5120x1024.Idx) : W8 m ρ c (Proc.devRef .tc main_v5) i =
    if 3840 ≤ (i 1).val ∧ (i 1).val < 4608 then slab (p := 3) (cd := 1024) 3840 768 (m ((c : Thread nD τ).loc main_arg6)) (m ((c : Thread nD τ).loc main_arg7)) i else W6 m ρ c (Proc.devRef .tc main_v4) i := by
  rw [W8_arr m ρ c 2, arr3]
  rw [show V7 m ρ c main_arg6 = m ((c : Thread nD τ).loc main_arg6) from W7_args m ρ c main_arg6 (by decide), show V7 m ρ c main_arg7 = m ((c : Thread nD τ).loc main_arg7) from W7_args m ρ c main_arg7 (by decide), keep3 m ρ c]

theorem step4 (i : S4x5120x1024.Idx) : W10 m ρ c (Proc.devRef .tc main_v7) i =
    if 2560 ≤ (i 1).val ∧ (i 1).val < 3200 then slab (p := 1) (cd := 2560) 2560 640 (lead (m ((c : Thread nD τ).loc main_arg8))) (m ((c : Thread nD τ).loc main_arg9)) i else W8 m ρ c (Proc.devRef .tc main_v5) i := by
  rw [W10_arr m ρ c 2, arr4]
  rw [lead4 m ρ c, show V9 m ρ c main_arg9 = m ((c : Thread nD τ).loc main_arg9) from W9_args m ρ c main_arg9 (by decide), keep4 m ρ c]

theorem step5 (i : S4x5120x1024.Idx) : W12 m ρ c (Proc.devRef .tc main_v8) i =
    if 0 ≤ (i 1).val ∧ (i 1).val < 1280 then slab (p := 2) (cd := 2560) 0 1280 (m ((c : Thread nD τ).loc main_arg10)) (m ((c : Thread nD τ).loc main_arg11)) i else W10 m ρ c (Proc.devRef .tc main_v7) i := by
  rw [W12_arr m ρ c 2, arr5]
  rw [show V11 m ρ c main_arg10 = m ((c : Thread nD τ).loc main_arg10) from W11_args m ρ c main_arg10 (by decide), show V11 m ρ c main_arg11 = m ((c : Thread nD τ).loc main_arg11) from W11_args m ρ c main_arg11 (by decide), keep5 m ρ c]

theorem step6 (i : S4x5120x1024.Idx) : W14 m ρ c (Proc.devRef .tc main_v10) i =
    if 4608 ≤ (i 1).val ∧ (i 1).val < 4864 then slab (p := 1) (cd := 1024) 4608 256 (lead (m ((c : Thread nD τ).loc main_arg12))) (m ((c : Thread nD τ).loc main_arg13)) i else W12 m ρ c (Proc.devRef .tc main_v8) i := by
  rw [W14_arr m ρ c 2, arr6]
  rw [lead6 m ρ c, show V13 m ρ c main_arg13 = m ((c : Thread nD τ).loc main_arg13) from W13_args m ρ c main_arg13 (by decide), keep6 m ρ c]

/-- The seven row ranges tile the rows. -/
theorem tiles {α : Type} (x : ℕ) (h : x < 5120) (r0 r1 r2 r3 r4 r5 r6 z : α) :
    (if 4608 ≤ x ∧ x < 4864 then r6 else if 0 ≤ x ∧ x < 1280 then r5 else if 2560 ≤ x ∧ x < 3200 then r4 else if 3840 ≤ x ∧ x < 4608 then r3
      else if 4864 ≤ x ∧ x < 5120 then r2 else if 1280 ≤ x ∧ x < 2560 then r1 else if 3200 ≤ x ∧ x < 3840 then r0 else z) =
    if x < 1280 then r5 else if x < 2560 then r1 else if x < 3200 then r4 else if x < 3840 then r0 else if x < 4608 then r3 else if x < 4864 then r6 else r2 := by
  split_ifs <;> first | rfl | omega

/-- The packed array at the end of the run. -/
theorem out_eq : W14 m ρ c (Proc.devRef .tc main_v10) = packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  have h : (i 1).val < 5120 := (i 1).isLt
  rw [step6, step5, step4, step3, step2, step1, step0]
  exact tiles (i 1).val h _ _ _ _ _ _ _ _

end Cert.Kernel2Ideal.Dw

end
-- ==== Proof.DwRef.lean ====
/- The reference's packed gradient, read entry by entry: each weight's rows hold its own product. -/
module

public import proofs.«01_k».proof.Proof.DwOut
public import proofs.«01_k».proof.Proof.Gen.Reference2Ideal.Read
public import Idealize.ShloMosaic.Lib.Pointwise

@[expose] public section

set_option maxRecDepth 16384

noncomputable section

namespace Cert.Kernel2Ideal.Dw

open Idealize.ShloMosaic Idealize.ShloMosaic.TcCoe Idealize.SL.Sem
open Cert.Reference2Ideal Cert.Reference2Ideal.Gen Cert.Reference2Ideal.Read

/-! ## The parts laid side by side -/

theorem cat4 (x : S2x4096x2560.Idx → EReal) (z : S4096x5120.Idx) :
    val_main_v4 (F := Ideal) x z = x (ix3 (Fin.ofNat 2 ((z 1).val / 2560)) (z 0) (Fin.ofNat 2560 (z 1).val)) := by
  have hz : (z 1).val < 5120 := (z 1).isLt
  have hz0 : (z 0).val < 4096 := (z 0).isLt
  unfold val_main_v4
  pointwise
  rcases Nat.lt_or_ge (z 1).val 2560 with h | h
  · rw [dif_pos h, val_main_v1_apply, val_main_v0_apply]
    refine congrArg x (eq_ix3 ?_ ?_ ?_)
    · change 0 = (z 1).val / 2560 % 2
      omega
    · change ((z 0).val * 2560 + ((z 1).val)) / 2560 % 4096 = (z 0).val
      omega
    · change ((z 0).val * 2560 + ((z 1).val)) % 2560 = (z 1).val % 2560
      omega
  · rw [dif_neg (Nat.not_lt.mpr h), val_main_v3_apply, val_main_v2_apply]
    refine congrArg x (eq_ix3 ?_ ?_ ?_)
    · change 1 + 0 = (z 1).val / 2560 % 2
      omega
    · change ((z 0).val * 2560 + ((z 1).val - 2560)) / 2560 % 4096 = (z 0).val
      omega
    · change ((z 0).val * 2560 + ((z 1).val - 2560)) % 2560 = (z 1).val % 2560
      omega

theorem cat46 (x : S3x4096x1024.Idx → EReal) (z : S4096x3072.Idx) :
    val_main_v46 (F := Ideal) x z = x (ix3 (Fin.ofNat 3 ((z 1).val / 1024)) (z 0) (Fin.ofNat 1024 (z 1).val)) := by
  have hz : (z 1).val < 3072 := (z 1).isLt
  have hz0 : (z 0).val < 4096 := (z 0).isLt
  unfold val_main_v46
  pointwise
  rcases Nat.lt_or_ge (z 1).val 1024 with h | h
  · rw [dif_pos h, val_main_v41_apply, val_main_v40_apply]
    refine congrArg x (eq_ix3 ?_ ?_ ?_)
    · change 0 = (z 1).val / 1024 % 3
      omega
    · change ((z 0).val * 1024 + ((z 1).val)) / 1024 % 4096 = (z 0).val
      omega
    · change ((z 0).val * 1024 + ((z 1).val)) % 1024 = (z 1).val % 1024
      omega
  rw [dif_neg (Nat.not_lt.mpr h)]
  rcases Nat.lt_or_ge (z 1).val 2048 with h' | h'
  · rw [dif_pos (show (z 1).val - 1024 < 1024 by omega), val_main_v43_apply, val_main_v42_apply]
    refine congrArg x (eq_ix3 ?_ ?_ ?_)
    · change 1 + 0 = (z 1).val / 1024 % 3
      omega
    · change ((z 0).val * 1024 + ((z 1).val - 1024)) / 1024 % 4096 = (z 0).val
      omega
    · change ((z 0).val * 1024 + ((z 1).val - 1024)) % 1024 = (z 1).val % 1024
      omega
  · rw [dif_neg (show ¬ (z 1).val - 1024 < 1024 by omega), val_main_v45_apply, val_main_v44_apply]
    refine congrArg x (eq_ix3 ?_ ?_ ?_)
    · change 2 + 0 = (z 1).val / 1024 % 3
      omega
    · change ((z 0).val * 1024 + ((z 1).val - 1024 - 1024)) / 1024 % 4096 = (z 0).val
      omega
    · change ((z 0).val * 1024 + ((z 1).val - 1024 - 1024)) % 1024 = (z 1).val % 1024
      omega

/-! ## The products -/

theorem up12 (off : ℕ) (x : S2x4096x2560.Idx → EReal) (y : S4096x1024.Idx → EReal) (i' : S4x1280x1024.Idx) (i : S4x5120x1024.Idx)
    (h0 : (i' 0).val = (i 0).val) (h1 : (i' 1).val = (i 1).val - off) (h2 : (i' 2).val = (i 2).val) :
    val_main_v12 (F := Ideal) x y i' = slab (p := 2) (cd := 2560) off 1280 x y i := by
  have l2 : (i' 2).val < 1024 := (i' 2).isLt
  rw [val_main_v12_apply, val_main_v11_apply, val_main_v10_apply, val_main_v9_apply]
  unfold slab
  refine Finset.sum_congr rfl fun u _ => ?_
  have hw : (lidx_main_v9 (idx_main_v10 (idx_main_v11 (idx_main_v12 i'))) u 1).val = (i 0).val * 1280 + ((i 1).val - off) := by
    change (((i' 0).val * 1280 + (i' 1).val) * 1024 + (i' 2).val) / 1024 = _
    omega
  rw [val_main_v6_apply, val_main_v5_apply, cat4, hw]
  refine congrArg₂ (fun a b : EReal => a * b) rfl (congrArg y (eq_ix2 rfl ?_))
  change (((i' 0).val * 1280 + (i' 1).val) * 1024 + (i' 2).val) % 1024 = (i 2).val
  omega

theorem up54 (off : ℕ) (x : S3x4096x1024.Idx → EReal) (y : S4096x1024.Idx → EReal) (i' : S4x768x1024.Idx) (i : S4x5120x1024.Idx)
    (h0 : (i' 0).val = (i 0).val) (h1 : (i' 1).val = (i 1).val - off) (h2 : (i' 2).val = (i 2).val) :
    val_main_v54 (F := Ideal) x y i' = slab (p := 3) (cd := 1024) off 768 x y i := by
  have l2 : (i' 2).val < 1024 := (i' 2).isLt
  rw [val_main_v54_apply, val_main_v53_apply, val_main_v52_apply, val_main_v51_apply]
  unfold slab
  refine Finset.sum_congr rfl fun u _ => ?_
  have hw : (lidx_main_v51 (idx_main_v52 (idx_main_v53 (idx_main_v54 i'))) u 1).val = (i 0).val * 768 + ((i 1).val - off) := by
    change (((i' 0).val * 768 + (i' 1).val) * 1024 + (i' 2).val) / 1024 = _
    omega
  rw [val_main_v48_apply, val_main_v47_apply, cat46, hw]
  refine congrArg₂ (fun a b : EReal => a * b) rfl (congrArg y (eq_ix2 rfl ?_))
  change (((i' 0).val * 768 + (i' 1).val) * 1024 + (i' 2).val) % 1024 = (i 2).val
  omega

theorem down32 (off : ℕ) (x : S4096x2560.Idx → EReal) (y : S4096x1024.Idx → EReal) (i' : S4x640x1024.Idx) (i : S4x5120x1024.Idx)
    (h0 : (i' 0).val = (i 0).val) (h1 : (i' 1).val = (i 1).val - off) (h2 : (i' 2).val = (i 2).val) :
    val_main_v32 (F := Ideal) x y i' = slab (p := 1) (cd := 2560) off 640 (lead x) y i := by
  have l0 : (i' 0).val < 4 := (i' 0).isLt
  have l1 : (i' 1).val < 640 := (i' 1).isLt
  have l2 : (i' 2).val < 1024 := (i' 2).isLt
  rw [val_main_v32_apply, val_main_v31_apply, val_main_v30_apply]
  unfold slab
  refine Finset.sum_congr rfl fun u _ => ?_
  rw [val_main_v27_apply, val_main_v26_apply]
  refine (congrArg₂ (fun a b : EReal => b * a) (congrArg y (eq_ix2 (b := i 2) rfl ?_)) (congrArg x (eq_ix2 (b := Fin.ofNat 2560 ((i 0).val * 640 + ((i 1).val - off))) rfl ?_)) : _ = _) |> (mul_comm _ _).trans
  · change (((i' 0).val * 640 + (i' 1).val) * 1024 + (i' 2).val) % 1024 = (i 2).val
    omega
  · change (((i' 0).val * 640 + (i' 1).val) * 1024 + (i' 2).val) / 1024 = ((i 0).val * 640 + ((i 1).val - off)) % 2560
    omega

theorem down61 (off : ℕ) (x : S4096x1024.Idx → EReal) (y : S4096x1024.Idx → EReal) (i' : S4x256x1024.Idx) (i : S4x5120x1024.Idx)
    (h0 : (i' 0).val = (i 0).val) (h1 : (i' 1).val = (i 1).val - off) (h2 : (i' 2).val = (i 2).val) :
    val_main_v61 (F := Ideal) x y i' = slab (p := 1) (cd := 1024) off 256 (lead x) y i := by
  have l0 : (i' 0).val < 4 := (i' 0).isLt
  have l1 : (i' 1).val < 256 := (i' 1).isLt
  have l2 : (i' 2).val < 1024 := (i' 2).isLt
  rw [val_main_v61_apply, val_main_v60_apply, val_main_v59_apply]
  unfold slab
  refine Finset.sum_congr rfl fun u _ => ?_
  rw [val_main_v56_apply, val_main_v55_apply]
  refine (congrArg₂ (fun a b : EReal => b * a) (congrArg y (eq_ix2 (b := i 2) rfl ?_)) (congrArg x (eq_ix2 (b := Fin.ofNat 1024 ((i 0).val * 256 + ((i 1).val - off))) rfl ?_)) : _ = _) |> (mul_comm _ _).trans
  · change (((i' 0).val * 256 + (i' 1).val) * 1024 + (i' 2).val) % 1024 = (i 2).val
    omega
  · change (((i' 0).val * 256 + (i' 1).val) * 1024 + (i' 2).val) / 1024 = ((i 0).val * 256 + ((i 1).val - off)) % 1024
    omega

/-- THE REFERENCE'S PACKED GRADIENT is the kernel's. -/
theorem ref_eq (x0 : S4096x2560.Idx → EReal) (x1 : S4096x1024.Idx → EReal) (x2 : S2x4096x2560.Idx → EReal) (x3 : S4096x1024.Idx → EReal)
    (x4 x5 : S4096x1024.Idx → EReal) (x6 : S3x4096x1024.Idx → EReal) (x7 : S4096x1024.Idx → EReal) (x8 : S4096x2560.Idx → EReal) (x9 : S4096x1024.Idx → EReal)
    (x10 : S2x4096x2560.Idx → EReal) (x11 x12 x13 : S4096x1024.Idx → EReal) :
    val_main_v69 (F := Ideal) x0 x1 x2 x3 x4 x5 x6 x7 x8 x9 x10 x11 x12 x13 = packed x0 x1 x2 x3 x4 x5 x6 x7 x8 x9 x10 x11 x12 x13 := by
  funext i
  unfold val_main_v69
  pointwise
  unfold packed
  by_cases c0 : (i 1).val < 1280
  · rw [dif_pos (show (i 1).val < 1280 by omega), if_pos c0]
    exact up12 0 x10 x11 _ i rfl (show (i 1).val = (i 1).val - 0 by omega) rfl
  rw [dif_neg (show ¬ (i 1).val < 1280 by omega), if_neg c0]
  by_cases c1 : (i 1).val < 2560
  · rw [dif_pos (show (i 1).val - 1280 < 1280 by omega), if_pos c1]
    exact up12 1280 x2 x3 _ i rfl (show (i 1).val - 1280 = (i 1).val - 1280 by omega) rfl
  rw [dif_neg (show ¬ (i 1).val - 1280 < 1280 by omega), if_neg c1]
  by_cases c2 : (i 1).val < 3200
  · rw [dif_pos (show (i 1).val - 1280 - 1280 < 640 by omega), if_pos c2]
    exact down32 2560 x8 x9 _ i rfl (show (i 1).val - 1280 - 1280 = (i 1).val - 2560 by omega) rfl
  rw [dif_neg (show ¬ (i 1).val - 1280 - 1280 < 640 by omega), if_neg c2]
  by_cases c3 : (i 1).val < 3840
  · rw [dif_pos (show (i 1).val - 1280 - 1280 - 640 < 640 by omega), if_pos c3]
    exact down32 3200 x0 x1 _ i rfl (show (i 1).val - 1280 - 1280 - 640 = (i 1).val - 3200 by omega) rfl
  rw [dif_neg (show ¬ (i 1).val - 1280 - 1280 - 640 < 640 by omega), if_neg c3]
  by_cases c4 : (i 1).val < 4608
  · rw [dif_pos (show (i 1).val - 1280 - 1280 - 640 - 640 < 768 by omega), if_pos c4]
    exact up54 3840 x6 x7 _ i rfl (show (i 1).val - 1280 - 1280 - 640 - 640 = (i 1).val - 3840 by omega) rfl
  rw [dif_neg (show ¬ (i 1).val - 1280 - 1280 - 640 - 640 < 768 by omega), if_neg c4]
  by_cases c5 : (i 1).val < 4864
  · rw [dif_pos (show (i 1).val - 1280 - 1280 - 640 - 640 - 768 < 256 by omega), if_pos c5]
    exact down61 4608 x12 x13 _ i rfl (show (i 1).val - 1280 - 1280 - 640 - 640 - 768 = (i 1).val - 4608 by omega) rfl
  rw [dif_neg (show ¬ (i 1).val - 1280 - 1280 - 640 - 640 - 768 < 256 by omega), if_neg c5]
  exact down61 4864 x4 x5 _ i rfl (show (i 1).val - 1280 - 1280 - 640 - 640 - 768 - 256 = (i 1).val - 4864 by omega) rfl

end Cert.Kernel2Ideal.Dw

end
-- ==== Proof.DwSame.lean ====
/- The weight-gradient products of the kernel are the reference's. -/
module

public import proofs.«01_k».proof.Defs
public import proofs.«01_k».proof.Proof.DwRun
public import proofs.«01_k».proof.Proof.DwRef
public import proofs.«01_k».proof.Proof.Gen.Reference2Ideal.Run
public import Idealize.ShloMosaic.Lib.Quiescent
public import Idealize.ShloMosaic.Lib.Claim

@[expose] public section

set_option maxRecDepth 16384

noncomputable section

namespace Cert.Kernel2Ideal.Dw

open Idealize.ShloMosaic Idealize.ShloMosaic.TcCoe Idealize.SL.Sem

/-- The reference runs, its operands end unchanged and every counter is zero. -/
theorem refFrame : Cert.quiescent_Reference2Ideal := fun m g _ =>
  (θ_run _ _ _).mono (fun r h => ⟨fun c => (h c).2, sem_eq_zero_of_no_sems (by decide) _⟩) (Cert.Reference2Ideal.Value.run m g)

theorem algebraic : Cert.algebraic_Kernel2Ideal_Reference2Ideal := by
  intro m g m' g' _ hargs
  refine ⟨fun c => Gen.W14 m g c (Proc.devRef .tc main_v10), ?_, ?_⟩
  · exact (θ_run _ _ _).mono (fun r h c => h.1 c) (run m g)
  · refine (θ_run _ _ _).mono (fun r h c => ?_) (Cert.Reference2Ideal.Value.run m' g')
    obtain ⟨k, ks⟩ := h c
    obtain ⟨b0, b1, b2, b3, b4, b5, b6, b7, b8, b9, b10, b11, b12, b13⟩ := hargs c
    have j := k.trans (Cert.Reference2Ideal.Read.val_main_v69_eq (F := Ideal) m' c)
    rw [b0, b1, b2, b3, b4, b5, b6, b7, b8, b9, b10, b11, b12, b13, ref_eq] at j
    exact ⟨j.trans (out_eq m g c).symm, ks⟩

end Cert.Kernel2Ideal.Dw

end
-- ==== Proof.Gin.lean ====
/- The weight-gradient product of the attention's input projection is the reference's. -/
module

public import proofs.«01_k».proof.Defs
public import proofs.«01_k».proof.Proof.Gen.Kernel3Ideal.Value
public import proofs.«01_k».proof.Proof.Gen.Reference3Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Kernel3Ideal.Gin

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

theorem zero2 : (![0, 0] : Fin 2 → ℕ) = fun _ => 0 := by decide

theorem idx0 : ∀ t : Fin cfg0.N, win0_0.index t = ![0, t.val] :=
  (by decide +kernel : ∀ t : Fin grid0.N, win0_0.index t = ![0, t.val])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- What the launch leaves in the result: the reference's product of the arguments. -/
theorem out_eq : (dats m 0 c).arrAt 2 cfg0.N = Cert.Reference3Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  rw [Cert.Reference3Ideal.Read.val_main_v6_apply, Cert.Reference3Ideal.Read.val_main_v5_apply, Cert.Reference3Ideal.Read.val_main_v4_apply]
  simp only [Cert.Reference3Ideal.Read.val_main_v1_apply, Cert.Reference3Ideal.Read.val_main_v0_apply]
  pointwise [k0_pay1]
  blk_point [iblk, V, idx0, idx1, idx2]

/-- The reference runs, its operands end unchanged and every counter is zero. -/
theorem refFrame : Cert.quiescent_Reference3Ideal := fun m g _ =>
  (θ_run _ _ _).mono (fun r h => ⟨fun c => (h c).2, sem_eq_zero_of_no_sems (by decide) _⟩) (Cert.Reference3Ideal.Value.run m g)

theorem algebraic : Cert.algebraic_Kernel3Ideal_Reference3Ideal := by
  intro m g m' g' _ hargs
  refine ⟨fun c => (dats m 0 c).arrAt 2 cfg0.N, Value.run_blocks m g, ?_⟩
  refine (θ_run _ _ _).mono (fun r h c => ?_) (Cert.Reference3Ideal.Value.run m' g')
  obtain ⟨k, ks⟩ := h c
  obtain ⟨b0, b1⟩ := hargs c
  have j := k.trans (Cert.Reference3Ideal.Read.val_main_v6_eq (F := Ideal) _ _)
  rw [b0, b1] at j
  exact ⟨j.trans (out_eq m c).symm, ks⟩

end Cert.Kernel3Ideal.Gin

end
-- ==== Proof.Down1.lean ====
/- The second feed-forward's down projection, run backward, is the reference's. -/
module

public import proofs.«01_k».proof.Defs
public import proofs.«01_k».proof.Proof.Gen.Kernel4Ideal.Value
public import proofs.«01_k».proof.Proof.Gen.Reference4Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Kernel4Ideal.Down

open Idealize.ShloMosaic Idealize.ShloMosaic.TcCoe Idealize.SL.Sem
open Cert.Kernel4Ideal Cert.Kernel4Ideal.Gen Cert.Reference4Ideal.Read

variable (m : (ℓ : Loc nD τ sig) → Buf (Elt Ideal) ℓ) (c : Dev nD)

theorem zero2 : (![0, 0] : Fin 2 → ℕ) = fun _ => 0 := by decide
theorem zero3 : (![0, 0, 0] : Fin 3 → ℕ) = fun _ => 0 := by decide

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![t.val % 4, 5, 0] :=
  (by decide +kernel : ∀ t : Fin grid0.N, win0_1.index t = ![t.val % 4, 5, 0])
theorem idx2 : ∀ t : Fin cfg0.N, win0_2.index t = ![t.val / 4, t.val % 4] :=
  (by decide +kernel : ∀ t : Fin grid0.N, win0_2.index t = ![t.val / 4, t.val % 4])

/-- The weights a point loads: its block's rows, none cut off. -/
theorem weights (t : Fin cfg0.N) (j : S1x640x1024.Idx) :
    X0_1 m c t j = m ((c : Thread nD τ).loc main_arg1) (ix3 (⟨t.val % 4, Nat.mod_lt _ (by decide)⟩ : Fin 4) ⟨3200 + (j 1).val, by have h : (j 1).val < 640 := (j 1).isLt; show _ < 4864; omega⟩ (j 2)) := by
  unfold X0_1 Pipeline.Window.fill
  rw [dif_pos (moved0_1 t j)]
  unfold iblk
  rw [View.read_apply]
  refine congrArg (m ((c : Thread nD τ).loc main_arg1)) ?_
  have h0 : (j 0).val < 1 := (j 0).isLt
  funext a
  apply Fin.ext
  match a with
  | 0 =>
    change win0_1.index t 0 * 1 + 1 * (j 0).val = t.val % 4
    rw [idx1]
    change t.val % 4 * 1 + 1 * (j 0).val = t.val % 4
    omega
  | 1 =>
    change win0_1.index t 1 * 640 + 1 * (j 1).val = 3200 + (j 1).val
    rw [idx1]
    change 5 * 640 + 1 * (j 1).val = 3200 + (j 1).val
    omega
  | 2 =>
    change win0_1.index t 2 * 1024 + 1 * (j 2).val = (j 2).val
    rw [idx1]
    change 0 * 1024 + 1 * (j 2).val = (j 2).val
    omega

/-- What a point leaves in its block: the product of what it loaded. -/
theorem point (t : Fin cfg0.N) : outsAt0 m c t = k0_pay1 (F := Ideal) (iblk m c 0 t) (X0_1 m c t) := by
  unfold outsAt0 out0_A_2
  rw [View.read_writes_eq_canon _ _ _ (cover0_A_2 _ _ _ _ _ _ _ _ _ _)]
  unfold kernelRun0_A
  dsimp only
  sl_unfold_words
  simp only [View.readAt_eq_ld, (hs0_0 t).read_unread, (hs0_1 t).read_unread]
  rw [View.canon_unit_zero zero2, View.ld_unit_zero zero2, View.ld_unit_zero zero3]

/-- What the launch leaves in the result: the reference's product of the arguments. -/
theorem out_eq : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, point, val_main_v7_apply, val_main_v6_apply]
  simp only [val_main_v3_apply, val_main_v2_apply, val_main_v1_apply, val_main_v0_apply]
  pointwise [k0_pay1]
  simp only [weights]
  blk_point [iblk, V, idx0, idx2]

/-- The reference runs, its operands end unchanged and every counter is zero. -/
theorem refFrame : Cert.quiescent_Reference4Ideal := fun m g _ =>
  (θ_run _ _ _).mono (fun r h => ⟨fun c => (h c).2, sem_eq_zero_of_no_sems (by decide) _⟩) (Cert.Reference4Ideal.Value.run m g)

theorem algebraic : Cert.algebraic_Kernel4Ideal_Reference4Ideal := by
  intro m g m' g' _ hargs
  refine ⟨fun c => (dats m 0 c).arrAt 2 cfg0.N, Value.run_blocks m g, ?_⟩
  refine (θ_run _ _ _).mono (fun r h c => ?_) (Cert.Reference4Ideal.Value.run m' g')
  obtain ⟨k, ks⟩ := h c
  obtain ⟨b0, b1⟩ := hargs c
  have j := k.trans (Cert.Reference4Ideal.Read.val_main_v7_eq (F := Ideal) _ _)
  rw [b0, b1] at j
  exact ⟨j.trans (out_eq m c).symm, ks⟩

end Cert.Kernel4Ideal.Down

end
-- ==== Proof.Down0.lean ====
/- The first feed-forward's down projection, run backward, is the reference's. -/
module

public import proofs.«01_k».proof.Defs
public import proofs.«01_k».proof.Proof.Gen.Kernel5Ideal.Value
public import proofs.«01_k».proof.Proof.Gen.Reference5Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Kernel5Ideal.Down

open Idealize.ShloMosaic Idealize.ShloMosaic.TcCoe Idealize.SL.Sem
open Cert.Kernel5Ideal Cert.Kernel5Ideal.Gen Cert.Reference5Ideal.Read

variable (m : (ℓ : Loc nD τ sig) → Buf (Elt Ideal) ℓ) (c : Dev nD)

theorem zero2 : (![0, 0] : Fin 2 → ℕ) = fun _ => 0 := by decide
theorem zero3 : (![0, 0, 0] : Fin 3 → ℕ) = fun _ => 0 := by decide

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![t.val % 4, 4, 0] :=
  (by decide +kernel : ∀ t : Fin grid0.N, win0_1.index t = ![t.val % 4, 4, 0])
theorem idx2 : ∀ t : Fin cfg0.N, win0_2.index t = ![t.val / 4, t.val % 4] :=
  (by decide +kernel : ∀ t : Fin grid0.N, win0_2.index t = ![t.val / 4, t.val % 4])

/-- The weights a point loads: its block's rows, none cut off. -/
theorem weights (t : Fin cfg0.N) (j : S1x640x1024.Idx) :
    X0_1 m c t j = m ((c : Thread nD τ).loc main_arg1) (ix3 (⟨t.val % 4, Nat.mod_lt _ (by decide)⟩ : Fin 4) ⟨2560 + (j 1).val, by have h : (j 1).val < 640 := (j 1).isLt; show _ < 4864; omega⟩ (j 2)) := by
  unfold X0_1 Pipeline.Window.fill
  rw [dif_pos (moved0_1 t j)]
  unfold iblk
  rw [View.read_apply]
  refine congrArg (m ((c : Thread nD τ).loc main_arg1)) ?_
  have h0 : (j 0).val < 1 := (j 0).isLt
  funext a
  apply Fin.ext
  match a with
  | 0 =>
    change win0_1.index t 0 * 1 + 1 * (j 0).val = t.val % 4
    rw [idx1]
    change t.val % 4 * 1 + 1 * (j 0).val = t.val % 4
    omega
  | 1 =>
    change win0_1.index t 1 * 640 + 1 * (j 1).val = 2560 + (j 1).val
    rw [idx1]
    change 4 * 640 + 1 * (j 1).val = 2560 + (j 1).val
    omega
  | 2 =>
    change win0_1.index t 2 * 1024 + 1 * (j 2).val = (j 2).val
    rw [idx1]
    change 0 * 1024 + 1 * (j 2).val = (j 2).val
    omega

/-- What a point leaves in its block: the product of what it loaded. -/
theorem point (t : Fin cfg0.N) : outsAt0 m c t = k0_pay1 (F := Ideal) (iblk m c 0 t) (X0_1 m c t) := by
  unfold outsAt0 out0_A_2
  rw [View.read_writes_eq_canon _ _ _ (cover0_A_2 _ _ _ _ _ _ _ _ _ _)]
  unfold kernelRun0_A
  dsimp only
  sl_unfold_words
  simp only [View.readAt_eq_ld, (hs0_0 t).read_unread, (hs0_1 t).read_unread]
  rw [View.canon_unit_zero zero2, View.ld_unit_zero zero2, View.ld_unit_zero zero3]

/-- What the launch leaves in the result: the reference's product of the arguments. -/
theorem out_eq : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, point, val_main_v7_apply, val_main_v6_apply]
  simp only [val_main_v3_apply, val_main_v2_apply, val_main_v1_apply, val_main_v0_apply]
  pointwise [k0_pay1]
  simp only [weights]
  blk_point [iblk, V, idx0, idx2]

/-- The reference runs, its operands end unchanged and every counter is zero. -/
theorem refFrame : Cert.quiescent_Reference5Ideal := fun m g _ =>
  (θ_run _ _ _).mono (fun r h => ⟨fun c => (h c).2, sem_eq_zero_of_no_sems (by decide) _⟩) (Cert.Reference5Ideal.Value.run m g)

theorem algebraic : Cert.algebraic_Kernel5Ideal_Reference5Ideal := by
  intro m g m' g' _ hargs
  refine ⟨fun c => (dats m 0 c).arrAt 2 cfg0.N, Value.run_blocks m g, ?_⟩
  refine (θ_run _ _ _).mono (fun r h c => ?_) (Cert.Reference5Ideal.Value.run m' g')
  obtain ⟨k, ks⟩ := h c
  obtain ⟨b0, b1⟩ := hargs c
  have j := k.trans (Cert.Reference5Ideal.Read.val_main_v7_eq (F := Ideal) _ _)
  rw [b0, b1] at j
  exact ⟨j.trans (out_eq m c).symm, ks⟩

end Cert.Kernel5Ideal.Down

end
-- ==== Proof.ScOut.lean ====
/- The short convolution's output projection, run backward, is the reference's. -/
module

public import proofs.«01_k».proof.Defs
public import proofs.«01_k».proof.Proof.Gen.Kernel6Ideal.Value
public import proofs.«01_k».proof.Proof.Gen.Reference6Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Kernel6Ideal.ScOut

open Idealize.ShloMosaic Idealize.ShloMosaic.TcCoe Idealize.SL.Sem
open Cert.Kernel6Ideal Cert.Kernel6Ideal.Gen Cert.Reference6Ideal.Read

variable (m : (ℓ : Loc nD τ sig) → Buf (Elt Ideal) ℓ) (c : Dev nD)

theorem zero2 : (![0, 0] : Fin 2 → ℕ) = fun _ => 0 := by decide

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 18, 0] :=
  (by decide +kernel : ∀ t : Fin grid0.N, win0_1.index t = ![0, 18, 0])
theorem idx2 : ∀ t : Fin cfg0.N, win0_2.index t = ![t.val, 0] :=
  (by decide +kernel : ∀ t : Fin grid0.N, win0_2.index t = ![t.val, 0])

/-- What the launch leaves in the result: the reference's product of the arguments. -/
theorem out_eq : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, val_main_v7_apply, val_main_v6_apply]
  simp only [val_main_v3_apply, val_main_v2_apply, val_main_v1_apply, val_main_v0_apply]
  canon_tiles x h using cover0_2 ..
  all_goals
    rw [View.ld_unit_zero zero2]
    pointwise [k0_pay1, k0_pay2, k0_pay3, k0_pay4]
    blk_point [iblk, V, idx0, idx1, idx2]

/-- The reference runs, its operands end unchanged and every counter is zero. -/
theorem refFrame : Cert.quiescent_Reference6Ideal := fun m g _ =>
  (θ_run _ _ _).mono (fun r h => ⟨fun c => (h c).2, sem_eq_zero_of_no_sems (by decide) _⟩) (Cert.Reference6Ideal.Value.run m g)

theorem algebraic : Cert.algebraic_Kernel6Ideal_Reference6Ideal := by
  intro m g m' g' _ hargs
  refine ⟨fun c => (dats m 0 c).arrAt 2 cfg0.N, Value.run_blocks m g, ?_⟩
  refine (θ_run _ _ _).mono (fun r h c => ?_) (Cert.Reference6Ideal.Value.run m' g')
  obtain ⟨k, ks⟩ := h c
  obtain ⟨b0, b1⟩ := hargs c
  have j := k.trans (Cert.Reference6Ideal.Read.val_main_v7_eq (F := Ideal) _ _)
  rw [b0, b1] at j
  exact ⟨j.trans (out_eq m c).symm, ks⟩

end Cert.Kernel6Ideal.ScOut

end
-- ==== Proof.Up.lean ====
/- A tile of a feed-forward's up projection with its convolution and gate is the reference's, whatever the blocks. -/
module

public import proofs.«01_k».proof.Proof.Gen.Kernel7Ideal.Value
public import proofs.«01_k».proof.Proof.Gen.Reference7Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Up

open Idealize.ShloMosaic Idealize.ShloMosaic.TcCoe Idealize.SL.Sem
open Cert.Kernel7Ideal Cert.Kernel7Ideal.Gen Cert.Reference7Ideal.Read

theorem zero2 : (![0, 0] : Fin 2 → ℕ) = fun _ => 0 := by decide
theorem zero3 : (![0, 0, 0] : Fin 3 → ℕ) = fun _ => 0 := by decide

/-- The blocks that grid point `t` works on, as parts of the tokens, of the weights (the first 1280 rows of every
    shard), of the convolution's weights and of its bias. -/
structure Tile (t : ℕ) (x0 : Vec Ideal S2048x1024 .bf16) (x1 x2 : Vec Ideal S1x256x1024 .bf16) (x3 x4 : Vec Ideal S3x256 .f32) (x5 x6 : Vec Ideal S1x256 .f32)
    (B0 : (⟨S4096x1024, .bf16⟩ : BufTy).Contents (Elt Ideal)) (B1 : (⟨S4x4864x1024, .bf16⟩ : BufTy).Contents (Elt Ideal)) (B2 : (⟨S3x5120, .f32⟩ : BufTy).Contents (Elt Ideal)) (B3 : (⟨S5120, .f32⟩ : BufTy).Contents (Elt Ideal)) : Prop where
  x0 : ∀ (r : Fin 2048) (k : Fin 1024) (i : Fin 4096), i.val = t / 10 * 2048 + r.val → x0 (ix2 r k) = B0 (ix2 i k)
  x1 : ∀ (l : Fin 256) (k : Fin 1024) (s : Fin 4) (q : Fin 4864), s.val = t % 10 / 5 → q.val = t % 5 * 256 + l.val → x1 (ix3 0 l k) = B1 (ix3 s q k)
  x2 : ∀ (l : Fin 256) (k : Fin 1024) (s : Fin 4) (q : Fin 4864), s.val = t % 10 / 5 + 2 → q.val = t % 5 * 256 + l.val → x2 (ix3 0 l k) = B1 (ix3 s q k)
  x3 : ∀ (a : Fin 3) (l : Fin 256) (j : Fin 5120), j.val = t % 10 * 256 + l.val → x3 (ix2 a l) = B2 (ix2 a j)
  x4 : ∀ (a : Fin 3) (l : Fin 256) (j : Fin 5120), j.val = t % 10 * 256 + l.val + 2560 → x4 (ix2 a l) = B2 (ix2 a j)
  x5 : ∀ (l : Fin 256) (j : Fin 5120), j.val = t % 10 * 256 + l.val → x5 (ix2 0 l) = B3 (ix1 j)
  x6 : ∀ (l : Fin 256) (j : Fin 5120), j.val = t % 10 * 256 + l.val + 2560 → x6 (ix2 0 l) = B3 (ix1 j)

variable {t : ℕ} {x0 : Vec Ideal S2048x1024 .bf16} {x1 x2 : Vec Ideal S1x256x1024 .bf16} {x3 x4 : Vec Ideal S3x256 .f32} {x5 x6 : Vec Ideal S1x256 .f32}
  {B0 : (⟨S4096x1024, .bf16⟩ : BufTy).Contents (Elt Ideal)} {B1 : (⟨S4x4864x1024, .bf16⟩ : BufTy).Contents (Elt Ideal)} {B2 : (⟨S3x5120, .f32⟩ : BufTy).Contents (Elt Ideal)} {B3 : (⟨S5120, .f32⟩ : BufTy).Contents (Elt Ideal)}

/-- A tile of either half's product. -/
theorem prod1 (H : Tile t x0 x1 x2 x3 x4 x5 x6 B0 B1 B2 B3) (r : Fin 2048) (l : Fin 256) (i : Fin 4096) (j : Fin 5120) (h0 : i.val = t / 10 * 2048 + r.val) (h1 : j.val = t % 10 * 256 + l.val) :
    k0_pay2 (F := Ideal) x0 x1 (ix2 r l) = val_main_v5 (F := Ideal) B0 B1 (ix2 i j) := by
  rw [val_main_v5_apply]
  simp only [val_main_v4_apply, val_main_v3_apply, val_main_v2_apply, val_main_v1_apply, val_main_v0_apply]
  pointwise [k0_pay2]
  refine Finset.sum_congr rfl fun k _ => congrArg₂ (· * ·) ((H.x0 r k i h0).trans (congrArg B0 ?_)) ((H.x1 l k ⟨j.val / 1280, by omega⟩ ⟨j.val % 1280, by omega⟩ (by show j.val / 1280 = _; omega) (by show j.val % 1280 = _; omega)).trans (congrArg B1 ?_))
  · idx_ext
  · idx_ext

theorem prod2 (H : Tile t x0 x1 x2 x3 x4 x5 x6 B0 B1 B2 B3) (r : Fin 2048) (l : Fin 256) (i : Fin 4096) (j : Fin 5120) (h0 : i.val = t / 10 * 2048 + r.val) (h1 : j.val = t % 10 * 256 + l.val + 2560) :
    k0_pay3 (F := Ideal) x0 x2 (ix2 r l) = val_main_v5 (F := Ideal) B0 B1 (ix2 i j) := by
  rw [val_main_v5_apply]
  simp only [val_main_v4_apply, val_main_v3_apply, val_main_v2_apply, val_main_v1_apply, val_main_v0_apply]
  pointwise [k0_pay3]
  refine Finset.sum_congr rfl fun k _ => congrArg₂ (· * ·) ((H.x0 r k i h0).trans (congrArg B0 ?_)) ((H.x2 l k ⟨j.val / 1280, by omega⟩ ⟨j.val % 1280, by omega⟩ (by show j.val / 1280 = _; omega) (by show j.val % 1280 = _; omega)).trans (congrArg B1 ?_))
  · idx_ext
  · idx_ext

/-- The reference's convolution down the grid's columns, with its bias. -/
theorem conv_ref (x0 : (⟨S4096x1024, .bf16⟩ : BufTy).Contents (Elt Ideal)) (x1 : (⟨S4x4864x1024, .bf16⟩ : BufTy).Contents (Elt Ideal)) (x2 : (⟨S3x5120, .f32⟩ : BufTy).Contents (Elt Ideal)) (x3 : (⟨S5120, .f32⟩ : BufTy).Contents (Elt Ideal)) (i : Fin 4096) (j : Fin 5120) :
    val_main_v31 (F := Ideal) x0 x1 x2 x3 (ix2 i j)
      = (if h : i.val % 2048 < 64 then 0 else val_main_v5 (F := Ideal) x0 x1 (ix2 ⟨i.val - 64, by omega⟩ j)) * x2 (ix2 0 j)
        + val_main_v5 (F := Ideal) x0 x1 (ix2 i j) * x2 (ix2 1 j)
        + (if h : i.val % 2048 < 1984 then val_main_v5 (F := Ideal) x0 x1 (ix2 ⟨64 + i.val, by omega⟩ j) else 0) * x2 (ix2 2 j)
        + x3 (ix1 j) := by
  rw [val_main_v31_apply, val_main_v28_apply, val_main_v27_apply, val_main_v20_apply, val_main_v26_apply, val_main_v13_apply, val_main_v19_apply, val_main_v8_apply, val_main_v14_apply, val_main_v21_apply]
  unfold val_main_v7
  have hz : val_main_call0_v0 (F := Ideal) (Shape.Idx.first Reference7Ideal.Gen.h_S_) = 0 := by
    rw [val_main_call0_v0_apply, val_main_c_apply]
    show (((0#32 : BitVec 32).toInt : ℝ) : EReal) = 0
    simp
  have hv := val_main_v6_apply (F := Ideal) x0 x1
  generalize val_main_v6 (F := Ideal) x0 x1 = P at hv
  simp only [val_main_v30_apply, val_main_v29_apply, val_main_v12_apply, val_main_v11_apply, val_main_v10_apply, val_main_v9_apply, val_main_v18_apply, val_main_v17_apply, val_main_v16_apply, val_main_v15_apply, val_main_v25_apply, val_main_v24_apply, val_main_v23_apply, val_main_v22_apply]
  pointwise []
  simp only [hv, hz]
  refine congrArg₂ (· + ·) (congrArg₂ (· + ·) (congrArg₂ (· + ·) (congrArg₂ (· * ·) ?_ (congrArg x2 ?_)) (congrArg₂ (· * ·) ?_ (congrArg x2 ?_))) (congrArg₂ (· * ·) ?_ (congrArg x2 ?_))) (congrArg x3 ?_)
  · by_cases h : i.val % 2048 < 64
    · rw [dif_pos h, dif_neg (by omega)]
    · rw [dif_neg h, dif_pos (by omega)]
      exact congrArg _ (by idx_ext)
  · idx_ext
  · rw [dif_pos (by omega)]
    exact congrArg _ (by idx_ext)
  · idx_ext
  · by_cases h : i.val % 2048 < 1984
    · rw [dif_pos h, dif_pos (by omega)]
      exact congrArg _ (by idx_ext)
    · rw [dif_neg h, dif_neg (by omega)]
  · idx_ext
  · idx_ext

/-- The kernel's convolution, before its bias. -/
theorem conv_ker (x0 : Vec Ideal S2048x1024 .bf16) (x1 : Vec Ideal S1x256x1024 .bf16) (w0 w1 w2 : Vec Ideal S1x256 .f32) (r : Fin 2048) (l : Fin 256) :
    k0_pay6 (F := Ideal) x0 x1 w0 w1 w2 (ix2 r l) = (if h : r.val < 64 then 0 else k0_pay2 (F := Ideal) x0 x1 (ix2 ⟨r.val - 64, by omega⟩ l)) * w0 (ix2 0 l) + k0_pay2 (F := Ideal) x0 x1 (ix2 r l) * w1 (ix2 0 l) +
      (if h : r.val < 1984 then k0_pay2 (F := Ideal) x0 x1 (ix2 ⟨64 + r.val, by omega⟩ l) else 0) * w2 (ix2 0 l) := by
  unfold k0_pay6
  generalize k0_pay2 (F := Ideal) x0 x1 = P
  pointwise []

/-- One entry of a tile's gated product. -/
theorem gate_ker (p q : FVec Ideal S2048x256 .f32) (w0 w1 w2 b b' : Vec Ideal S1x256 .f32) (r : Fin 2048) (l : Fin 256) (g : EReal)
    (hg : (if h : r.val < 64 then 0 else p (ix2 ⟨r.val - 64, by omega⟩ l)) * w0 (ix2 0 l) + p (ix2 r l) * w1 (ix2 0 l) + (if h : r.val < 1984 then p (ix2 ⟨64 + r.val, by omega⟩ l) else 0) * w2 (ix2 0 l) + b' (ix2 0 l) = g) :
    k0_pay1 (F := Ideal) p q b w0 w1 w2 b' (ix2 r l) = (q (ix2 r l) + b (ix2 0 l)) * (g * Ideal.div 1 (1 + Ideal.exp (0 - g))) := by
  subst hg
  pointwise [k0_pay1]

/-- One entry of the reference's gated product. -/
theorem gate_ref (x0 : (⟨S4096x1024, .bf16⟩ : BufTy).Contents (Elt Ideal)) (x1 : (⟨S4x4864x1024, .bf16⟩ : BufTy).Contents (Elt Ideal)) (x2 : (⟨S3x5120, .f32⟩ : BufTy).Contents (Elt Ideal)) (x3 : (⟨S5120, .f32⟩ : BufTy).Contents (Elt Ideal)) (i : Fin 4096) (j : Fin 2560) (g : EReal)
    (hg : val_main_v31 (F := Ideal) x0 x1 x2 x3 (ix2 i ⟨j.val + 2560, by omega⟩) = g) :
    val_main_v42 (F := Ideal) x0 x1 x2 x3 (ix2 i j) = val_main_v31 (F := Ideal) x0 x1 x2 x3 (ix2 i ⟨j.val, by omega⟩) * (g * Ideal.div 1 (1 + Ideal.exp (0 - g))) := by
  have h33 : val_main_v33 (F := Ideal) x0 x1 x2 x3 (ix2 i j) = g := by
    rw [val_main_v33_apply, ← hg]
    exact congrArg _ (by idx_ext)
  have h32 : val_main_v32 (F := Ideal) x0 x1 x2 x3 (ix2 i j) = val_main_v31 (F := Ideal) x0 x1 x2 x3 (ix2 i ⟨j.val, by omega⟩) := by
    rw [val_main_v32_apply]
    exact congrArg _ (by idx_ext)
  rw [val_main_v42_apply, val_main_v41_apply, h32, val_main_v40_apply, h33]
  simp only [val_main_call1_v5_apply, val_main_call1_v4_apply, val_main_call1_v3_apply, val_main_call1_v2_apply, val_main_call1_v1_apply, val_main_call1_v0_apply, val_main_call1_cst_apply, val_main_call1_cst_0_apply, h33]
  pointwise []
  rw [zero_sub]

/-- The first half's convolution. -/
theorem half1 (H : Tile t x0 x1 x2 x3 x4 x5 x6 B0 B1 B2 B3) (r : Fin 2048) (l : Fin 256) (i : Fin 4096) (j : Fin 5120) (h0 : i.val = t / 10 * 2048 + r.val) (h1 : j.val = t % 10 * 256 + l.val) :
    (if h : r.val < 64 then 0 else k0_pay2 (F := Ideal) x0 x1 (ix2 ⟨r.val - 64, by omega⟩ l)) * View.ld x3 r0_4 (ix2 0 l) + k0_pay2 (F := Ideal) x0 x1 (ix2 r l) * View.ld x3 r0_5 (ix2 0 l)
      + (if h : r.val < 1984 then k0_pay2 (F := Ideal) x0 x1 (ix2 ⟨64 + r.val, by omega⟩ l) else 0) * View.ld x3 r0_6 (ix2 0 l) + View.ld x5 r0_7 (ix2 0 l)
      = val_main_v31 (F := Ideal) B0 B1 B2 B3 (ix2 i j) := by
  have hw (a : Fin 3) (k : S3x256.Idx) (e : k = ix2 a l) : x3 k = B2 (ix2 a j) := e ▸ H.x3 a l j h1
  rw [conv_ref]
  refine congrArg₂ (· + ·) (congrArg₂ (· + ·) (congrArg₂ (· + ·) (congrArg₂ (· * ·) ?_ (hw 0 _ ?_)) (congrArg₂ (· * ·) ?_ (hw 1 _ ?_))) (congrArg₂ (· * ·) ?_ (hw 2 _ ?_))) ?_
  · by_cases h : r.val < 64
    · rw [dif_pos h, dif_pos (by omega)]
    · rw [dif_neg h, dif_neg (by omega)]
      exact prod1 H _ l _ j (by show i.val - 64 = _ + (r.val - 64); omega) h1
  · idx_ext
  · exact prod1 H r l i j h0 h1
  · idx_ext
  · by_cases h : r.val < 1984
    · rw [dif_pos h, dif_pos (by omega)]
      exact prod1 H _ l _ j (by show 64 + i.val = _ + (64 + r.val); omega) h1
    · rw [dif_neg h, dif_neg (by omega)]
  · idx_ext
  · rw [View.ld_unit_zero zero2]
    exact H.x5 l j h1

/-- The second half's convolution. -/
theorem half2 (H : Tile t x0 x1 x2 x3 x4 x5 x6 B0 B1 B2 B3) (r : Fin 2048) (l : Fin 256) (i : Fin 4096) (j : Fin 5120) (h0 : i.val = t / 10 * 2048 + r.val) (h1 : j.val = t % 10 * 256 + l.val + 2560) :
    (if h : r.val < 64 then 0 else k0_pay3 (F := Ideal) x0 x2 (ix2 ⟨r.val - 64, by omega⟩ l)) * View.ld x4 r0_4 (ix2 0 l) + k0_pay3 (F := Ideal) x0 x2 (ix2 r l) * View.ld x4 r0_5 (ix2 0 l)
      + (if h : r.val < 1984 then k0_pay3 (F := Ideal) x0 x2 (ix2 ⟨64 + r.val, by omega⟩ l) else 0) * View.ld x4 r0_6 (ix2 0 l) + View.ld x6 r0_7 (ix2 0 l)
      = val_main_v31 (F := Ideal) B0 B1 B2 B3 (ix2 i j) := by
  have hw (a : Fin 3) (k : S3x256.Idx) (e : k = ix2 a l) : x4 k = B2 (ix2 a j) := e ▸ H.x4 a l j h1
  rw [conv_ref]
  refine congrArg₂ (· + ·) (congrArg₂ (· + ·) (congrArg₂ (· + ·) (congrArg₂ (· * ·) ?_ (hw 0 _ ?_)) (congrArg₂ (· * ·) ?_ (hw 1 _ ?_))) (congrArg₂ (· * ·) ?_ (hw 2 _ ?_))) ?_
  · by_cases h : r.val < 64
    · rw [dif_pos h, dif_pos (by omega)]
    · rw [dif_neg h, dif_neg (by omega)]
      exact prod2 H _ l _ j (by show i.val - 64 = _ + (r.val - 64); omega) h1
  · idx_ext
  · exact prod2 H r l i j h0 h1
  · idx_ext
  · by_cases h : r.val < 1984
    · rw [dif_pos h, dif_pos (by omega)]
      exact prod2 H _ l _ j (by show 64 + i.val = _ + (64 + r.val); omega) h1
    · rw [dif_neg h, dif_neg (by omega)]
  · idx_ext
  · rw [View.ld_unit_zero zero2]
    exact H.x6 l j h1

/-- A tile of the gated product. -/
theorem gate (H : Tile t x0 x1 x2 x3 x4 x5 x6 B0 B1 B2 B3) (r : Fin 2048) (l : Fin 256) (i : Fin 4096) (j : Fin 2560) (h0 : i.val = t / 10 * 2048 + r.val) (h1 : j.val = t % 10 * 256 + l.val) :
    k0_pay1 (F := Ideal) (k0_pay3 x0 x2) (k0_pay6 x0 x1 (View.ld x3 r0_4) (View.ld x3 r0_5) (View.ld x3 r0_6)) (View.ld x5 r0_7) (View.ld x4 r0_4) (View.ld x4 r0_5) (View.ld x4 r0_6) (View.ld x6 r0_7) (ix2 r l) = val_main_v42 (F := Ideal) B0 B1 B2 B3 (ix2 i j) := by
  rw [gate_ref _ _ _ _ _ _ _ rfl, gate_ker _ _ _ _ _ _ _ r l _ (half2 H r l i ⟨j.val + 2560, by omega⟩ h0 (by show j.val + 2560 = _; omega)), conv_ker, half1 H r l i ⟨j.val, by omega⟩ h0 h1]

/-- The reference's stored activations: the product's halves. -/
theorem stored (h : Fin 2) (i : Fin 4096) (j : Fin 2560) :
    val_main_v39 (F := Ideal) B0 B1 (ix3 h i j) = val_main_v5 (F := Ideal) B0 B1 (ix2 i ⟨j.val + 2560 * h.val, by omega⟩) := by
  rw [val_main_v39_apply]
  unfold val_main_v38
  pointwise []
  by_cases e : h.val < 1
  · rw [dif_pos e, val_main_v36_apply, val_main_v34_apply]
    exact congrArg _ (by idx_ext)
  · rw [dif_neg e, val_main_v37_apply, val_main_v35_apply]
    exact congrArg _ (by idx_ext)

end Cert.Up
-- ==== Proof.Up0.lean ====
/- The first feed-forward's up projection with its convolution and gate is the reference's. -/
module

public import proofs.«01_k».proof.Defs
public import proofs.«01_k».proof.Proof.Up
public import proofs.«01_k».proof.Proof.Gen.Kernel7Ideal.Value
public import proofs.«01_k».proof.Proof.Gen.Reference7Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Kernel7Ideal.Up

open Idealize.ShloMosaic Idealize.ShloMosaic.TcCoe Idealize.SL.Sem
open Cert.Kernel7Ideal Cert.Kernel7Ideal.Gen Cert.Reference7Ideal.Read

variable (m : (ℓ : Loc nD τ sig) → Buf (Elt Ideal) ℓ) (c : Dev nD)

theorem idx0 : ∀ t : Fin cfg0.N, win0_0.index t = ![t.val / 10, 0] :=
  (by decide +kernel : ∀ t : Fin grid0.N, win0_0.index t = ![t.val / 10, 0])
theorem idx1 : ∀ t : Fin cfg0.N, win0_1.index t = ![t.val % 10 / 5, t.val % 5, 0] :=
  (by decide +kernel : ∀ t : Fin grid0.N, win0_1.index t = ![t.val % 10 / 5, t.val % 5, 0])
theorem idx2 : ∀ t : Fin cfg0.N, win0_2.index t = ![t.val % 10 / 5 + 2, t.val % 5, 0] :=
  (by decide +kernel : ∀ t : Fin grid0.N, win0_2.index t = ![t.val % 10 / 5 + 2, t.val % 5, 0])
theorem idx3 : ∀ t : Fin cfg0.N, win0_3.index t = ![0, t.val % 10] :=
  (by decide +kernel : ∀ t : Fin grid0.N, win0_3.index t = ![0, t.val % 10])
theorem idx4 : ∀ t : Fin cfg0.N, win0_4.index t = ![0, t.val % 10 + 10] :=
  (by decide +kernel : ∀ t : Fin grid0.N, win0_4.index t = ![0, t.val % 10 + 10])
theorem idx5 : ∀ t : Fin cfg0.N, win0_5.index t = ![0, t.val % 10] :=
  (by decide +kernel : ∀ t : Fin grid0.N, win0_5.index t = ![0, t.val % 10])
theorem idx6 : ∀ t : Fin cfg0.N, win0_6.index t = ![0, t.val % 10 + 10] :=
  (by decide +kernel : ∀ t : Fin grid0.N, win0_6.index t = ![0, t.val % 10 + 10])
theorem idx7 : ∀ t : Fin cfg0.N, win0_7.index t = ![0, t.val / 10, t.val % 10] :=
  (by decide +kernel : ∀ t : Fin grid0.N, win0_7.index t = ![0, t.val / 10, t.val % 10])
theorem idx8 : ∀ t : Fin cfg0.N, win0_8.index t = ![t.val / 10, t.val % 10] :=
  (by decide +kernel : ∀ t : Fin grid0.N, win0_8.index t = ![t.val / 10, t.val % 10])

abbrev A0 := m ((c : Thread nD τ).loc main_arg0)
abbrev A1 := m ((c : Thread nD τ).loc main_arg1)
abbrev A2 := m ((c : Thread nD τ).loc main_arg2)
abbrev A3 := m ((c : Thread nD τ).loc main_arg3)

/-- The bias as the calls get it. -/
theorem bias (j : Fin 5120) : V m c main_v0 (ix2 0 j) = A3 m c (ix1 j) := by
  entry_read
  pointwise []

/-- The launch's blocks at a point. -/
theorem tile (t : Fin cfg0.N) : Cert.Up.Tile t.val (iblk m c 0 t) (iblk m c 1 t) (iblk m c 2 t) (iblk m c 3 t) (iblk m c 4 t) (iblk m c 5 t) (iblk m c 6 t) (A0 m c) (A1 m c) (A2 m c) (A3 m c) where
  x0 := by
    intro r k i h
    blk_point [iblk, V, idx0]
    all_goals omega
  x1 := by
    intro l k s q hs hq
    blk_point [iblk, V, idx1]
    all_goals omega
  x2 := by
    intro l k s q hs hq
    blk_point [iblk, V, idx2]
    all_goals omega
  x3 := by
    intro a l j h
    blk_point [iblk, V, idx3]
    all_goals omega
  x4 := by
    intro a l j h
    blk_point [iblk, V, idx4]
    all_goals omega
  x5 := by
    intro l j h
    unfold iblk
    rw [View.read_apply]
    rw [← bias]
    refine congrArg (V m c main_v0) ?_
    funext a
    apply Fin.ext
    match a with
    | 0 =>
      change win0_5.index t 0 * 1 + 1 * 0 = 0
      rw [idx5]
      change 0 * 1 + 1 * 0 = 0
      rfl
    | 1 =>
      change win0_5.index t 1 * 256 + 1 * l.val = j.val
      rw [idx5]
      change (t.val % 10) * 256 + 1 * l.val = j.val
      omega
  x6 := by
    intro l j h
    unfold iblk
    rw [View.read_apply]
    rw [← bias]
    refine congrArg (V m c main_v0) ?_
    funext a
    apply Fin.ext
    match a with
    | 0 =>
      change win0_6.index t 0 * 1 + 1 * 0 = 0
      rw [idx6]
      change 0 * 1 + 1 * 0 = 0
      rfl
    | 1 =>
      change win0_6.index t 1 * 256 + 1 * l.val = j.val
      rw [idx6]
      change (t.val % 10 + 10) * 256 + 1 * l.val = j.val
      omega

theorem at7 (t : Fin cfg0.N) (y : S2x2048x256.Idx) : ((View.whole main_v1_0).slice (win0_7.rect t)).emb y = ix3 (y 0) (⟨t.val / 10 * 2048 + (y 1).val, by have := t.isLt; have h : (y 1).val < 2048 := (y 1).isLt; have : cfg0.N = 20 := N_0; omega⟩ : Fin 4096) (⟨t.val % 10 * 256 + (y 2).val, by have h : (y 2).val < 256 := (y 2).isLt; omega⟩ : Fin 2560) := by
  funext a
  apply Fin.ext
  match a with
  | 0 =>
    change win0_7.index t 0 * 2 + 1 * (y 0).val = (y 0).val
    rw [idx7]
    change 0 * 2 + 1 * (y 0).val = (y 0).val
    omega
  | 1 =>
    change win0_7.index t 1 * 2048 + 1 * (y 1).val = t.val / 10 * 2048 + (y 1).val
    rw [idx7]
    change t.val / 10 * 2048 + 1 * (y 1).val = t.val / 10 * 2048 + (y 1).val
    omega
  | 2 =>
    change win0_7.index t 2 * 256 + 1 * (y 2).val = t.val % 10 * 256 + (y 2).val
    rw [idx7]
    change t.val % 10 * 256 + 1 * (y 2).val = t.val % 10 * 256 + (y 2).val
    omega

theorem at8 (t : Fin cfg0.N) (r : Fin 2048) (l : Fin 256) : ((View.whole main_v1_1).slice (win0_8.rect t)).emb (ix2 r l) = ix2 (⟨t.val / 10 * 2048 + r.val, by have := t.isLt; have : cfg0.N = 20 := N_0; omega⟩ : Fin 4096) (⟨t.val % 10 * 256 + l.val, by omega⟩ : Fin 2560) := by
  funext a
  apply Fin.ext
  match a with
  | 0 =>
    change win0_8.index t 0 * 2048 + 1 * r.val = t.val / 10 * 2048 + r.val
    rw [idx8]
    change t.val / 10 * 2048 + 1 * r.val = t.val / 10 * 2048 + r.val
    omega
  | 1 =>
    change win0_8.index t 1 * 256 + 1 * l.val = t.val % 10 * 256 + l.val
    rw [idx8]
    change t.val % 10 * 256 + 1 * l.val = t.val % 10 * 256 + l.val
    omega

/-- The stored activations. -/
theorem out_u : (dats m 0 c).arrAt 7 cfg0.N = val_main_v39 (F := Ideal) (A0 m c) (A1 m c) := by
  refine (dats m 0 c).arrAt_eq_of_covers 7 _ (by decide +kernel) fun t hf y => ?_
  blk_simp
  rw [after0_7, at7 t y]
  refine Eq.trans ?_ (Cert.Up.stored (y 0) _ _).symm
  have ht : t.val < 20 := t.isLt
  canon_tiles x h using cover0_7 ..
  all_goals (rw [View.ld_unit_zero Cert.Up.zero2, View.ld_unit_zero Cert.Up.zero3])
  all_goals pointwise [k0_pay5, k0_pay4]
  · exact Cert.Up.prod2 (tile m c t) (x 1) (x 2) _ _ (by show _ + (y 1).val = _; omega) (by show _ + (y 2).val + 2560 * (y 0).val = _; omega)
  · exact Cert.Up.prod1 (tile m c t) (x 1) (x 2) _ _ (by show _ + (y 1).val = _; omega) (by show _ + (y 2).val + 2560 * (y 0).val = _; omega)

/-- The gated product. -/
theorem out_z : (dats m 0 c).arrAt 8 cfg0.N = val_main_v42 (F := Ideal) (A0 m c) (A1 m c) (A2 m c) (A3 m c) := by
  refine (dats m 0 c).arrAt_eq_of_covers 8 _ (by decide +kernel) fun t hf y => ?_
  blk_simp
  rw [after0_8]
  unfold out0_8
  rw [View.canon_unit_zero Cert.Up.zero2, View.ld_unit_zero Cert.Up.zero2, View.ld_unit_zero Cert.Up.zero3, View.ld_unit_zero Cert.Up.zero3]
  obtain ⟨r, l, hy⟩ : ∃ (r : Fin 2048) (l : Fin 256), y = ix2 r l := ⟨y 0, y 1, (ix2_eta y).symm⟩
  rw [hy, at8]
  exact Cert.Up.gate (tile m c t) r l _ _ rfl rfl

/-- The reference runs, its operands end unchanged and every counter is zero. -/
theorem refFrame : Cert.quiescent_Reference7Ideal := fun m g _ =>
  (θ_run _ _ _).mono (fun r h => ⟨fun c => (h c).2.2, sem_eq_zero_of_no_sems (by decide) _⟩) (Cert.Reference7Ideal.Value.run m g)

theorem algebraic : Cert.algebraic_Kernel7Ideal_Reference7Ideal := by
  intro m g m' g' _ hargs
  refine ⟨fun c => (dats m 0 c).arrAt 7 cfg0.N, fun c => (dats m 0 c).arrAt 8 cfg0.N, Value.run_blocks m g, ?_⟩
  refine (θ_run _ _ _).mono (fun r h c => ?_) (Cert.Reference7Ideal.Value.run m' g')
  obtain ⟨k, k', ks⟩ := h c
  obtain ⟨b0, b1, b2, b3⟩ := hargs c
  have j := k.trans (val_main_v39_eq (F := Ideal) _ _)
  have j' := k'.trans (val_main_v42_eq (F := Ideal) _ _)
  rw [b0, b1] at j
  rw [b0, b1, b2, b3] at j'
  exact ⟨j.trans (out_u m c).symm, j'.trans (out_z m c).symm, ks⟩

end Cert.Kernel7Ideal.Up
-- ==== Proof.Up1.lean ====
/- The second feed-forward's up projection with its convolution and gate is the reference's. -/
module

public import proofs.«01_k».proof.Defs
public import proofs.«01_k».proof.Proof.Up
public import proofs.«01_k».proof.Proof.Gen.Kernel8Ideal.Value
public import proofs.«01_k».proof.Proof.Gen.Reference8Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Kernel8Ideal.Up

open Idealize.ShloMosaic Idealize.ShloMosaic.TcCoe Idealize.SL.Sem
open Cert.Kernel8Ideal Cert.Kernel8Ideal.Gen Cert.Reference8Ideal.Read

variable (m : (ℓ : Loc nD τ sig) → Buf (Elt Ideal) ℓ) (c : Dev nD)

theorem idx0 : ∀ t : Fin cfg0.N, win0_0.index t = ![t.val / 10, 0] :=
  (by decide +kernel : ∀ t : Fin grid0.N, win0_0.index t = ![t.val / 10, 0])
theorem idx1 : ∀ t : Fin cfg0.N, win0_1.index t = ![t.val % 10 / 5, t.val % 5 + 5, 0] :=
  (by decide +kernel : ∀ t : Fin grid0.N, win0_1.index t = ![t.val % 10 / 5, t.val % 5 + 5, 0])
theorem idx2 : ∀ t : Fin cfg0.N, win0_2.index t = ![t.val % 10 / 5 + 2, t.val % 5 + 5, 0] :=
  (by decide +kernel : ∀ t : Fin grid0.N, win0_2.index t = ![t.val % 10 / 5 + 2, t.val % 5 + 5, 0])
theorem idx3 : ∀ t : Fin cfg0.N, win0_3.index t = ![0, t.val % 10] :=
  (by decide +kernel : ∀ t : Fin grid0.N, win0_3.index t = ![0, t.val % 10])
theorem idx4 : ∀ t : Fin cfg0.N, win0_4.index t = ![0, t.val % 10 + 10] :=
  (by decide +kernel : ∀ t : Fin grid0.N, win0_4.index t = ![0, t.val % 10 + 10])
theorem idx5 : ∀ t : Fin cfg0.N, win0_5.index t = ![0, t.val % 10] :=
  (by decide +kernel : ∀ t : Fin grid0.N, win0_5.index t = ![0, t.val % 10])
theorem idx6 : ∀ t : Fin cfg0.N, win0_6.index t = ![0, t.val % 10 + 10] :=
  (by decide +kernel : ∀ t : Fin grid0.N, win0_6.index t = ![0, t.val % 10 + 10])
theorem idx7 : ∀ t : Fin cfg0.N, win0_7.index t = ![0, t.val / 10, t.val % 10] :=
  (by decide +kernel : ∀ t : Fin grid0.N, win0_7.index t = ![0, t.val / 10, t.val % 10])
theorem idx8 : ∀ t : Fin cfg0.N, win0_8.index t = ![t.val / 10, t.val % 10] :=
  (by decide +kernel : ∀ t : Fin grid0.N, win0_8.index t = ![t.val / 10, t.val % 10])

abbrev A0 := m ((c : Thread nD τ).loc main_arg0)
abbrev A1 := m ((c : Thread nD τ).loc main_arg1)
abbrev A2 := m ((c : Thread nD τ).loc main_arg2)
abbrev A3 := m ((c : Thread nD τ).loc main_arg3)

/-- The bias as the calls get it. -/
theorem bias (j : Fin 5120) : V m c main_v0 (ix2 0 j) = A3 m c (ix1 j) := by
  entry_read
  pointwise []

/-- The packed weights with this layer's rows moved to where the other feed-forward's lie. -/
def moved (x : (⟨S4x4864x1024, .bf16⟩ : BufTy).Contents (Elt Ideal)) : (⟨S4x4864x1024, .bf16⟩ : BufTy).Contents (Elt Ideal) :=
  fun i => x (ix3 (i 0) (⟨((i 1).val + 1280) % 4864, Nat.mod_lt _ (by decide)⟩ : Fin 4864) (i 2))

/-- The reference is the other layer's, of the moved weights. -/
theorem product (x0 : (⟨S4096x1024, .bf16⟩ : BufTy).Contents (Elt Ideal)) (x1 : (⟨S4x4864x1024, .bf16⟩ : BufTy).Contents (Elt Ideal)) :
    val_main_v5 (F := Ideal) x0 x1 = Cert.Reference7Ideal.Read.val_main_v5 (F := Ideal) x0 (moved x1) := by
  have e : val_main_v0 (F := Ideal) x1 = Cert.Reference7Ideal.Read.val_main_v0 (F := Ideal) (moved x1) := by
    funext i
    have h : (i 1).val < 1280 := (i 1).isLt
    rw [val_main_v0_apply, Cert.Reference7Ideal.Read.val_main_v0_apply]
    refine congrArg x1 ?_
    funext a
    apply Fin.ext
    match a with
    | 0 => rfl
    | 1 =>
      change 1280 + (i 1).val = ((i 1).val + 1280) % 4864
      omega
    | 2 => rfl
  unfold val_main_v5 val_main_v3 val_main_v2 val_main_v1
  rw [e]
  rfl

/-- The launch's blocks at a point. -/
theorem tile (t : Fin cfg0.N) : Cert.Up.Tile t.val (iblk m c 0 t) (iblk m c 1 t) (iblk m c 2 t) (iblk m c 3 t) (iblk m c 4 t) (iblk m c 5 t) (iblk m c 6 t) (A0 m c) (moved (A1 m c)) (A2 m c) (A3 m c) where
  x0 := by
    intro r k i h
    blk_point [iblk, V, idx0]
    all_goals omega
  x1 := by
    intro l k s q hs hq
    blk_point [iblk, V, idx1, moved]
    all_goals omega
  x2 := by
    intro l k s q hs hq
    blk_point [iblk, V, idx2, moved]
    all_goals omega
  x3 := by
    intro a l j h
    blk_point [iblk, V, idx3]
    all_goals omega
  x4 := by
    intro a l j h
    blk_point [iblk, V, idx4]
    all_goals omega
  x5 := by
    intro l j h
    unfold iblk
    rw [View.read_apply]
    rw [← bias]
    refine congrArg (V m c main_v0) ?_
    funext a
    apply Fin.ext
    match a with
    | 0 =>
      change win0_5.index t 0 * 1 + 1 * 0 = 0
      rw [idx5]
      change 0 * 1 + 1 * 0 = 0
      rfl
    | 1 =>
      change win0_5.index t 1 * 256 + 1 * l.val = j.val
      rw [idx5]
      change (t.val % 10) * 256 + 1 * l.val = j.val
      omega
  x6 := by
    intro l j h
    unfold iblk
    rw [View.read_apply]
    rw [← bias]
    refine congrArg (V m c main_v0) ?_
    funext a
    apply Fin.ext
    match a with
    | 0 =>
      change win0_6.index t 0 * 1 + 1 * 0 = 0
      rw [idx6]
      change 0 * 1 + 1 * 0 = 0
      rfl
    | 1 =>
      change win0_6.index t 1 * 256 + 1 * l.val = j.val
      rw [idx6]
      change (t.val % 10 + 10) * 256 + 1 * l.val = j.val
      omega

theorem at7 (t : Fin cfg0.N) (y : S2x2048x256.Idx) : ((View.whole main_v1_0).slice (win0_7.rect t)).emb y = ix3 (y 0) (⟨t.val / 10 * 2048 + (y 1).val, by have := t.isLt; have h : (y 1).val < 2048 := (y 1).isLt; have : cfg0.N = 20 := N_0; omega⟩ : Fin 4096) (⟨t.val % 10 * 256 + (y 2).val, by have h : (y 2).val < 256 := (y 2).isLt; omega⟩ : Fin 2560) := by
  funext a
  apply Fin.ext
  match a with
  | 0 =>
    change win0_7.index t 0 * 2 + 1 * (y 0).val = (y 0).val
    rw [idx7]
    change 0 * 2 + 1 * (y 0).val = (y 0).val
    omega
  | 1 =>
    change win0_7.index t 1 * 2048 + 1 * (y 1).val = t.val / 10 * 2048 + (y 1).val
    rw [idx7]
    change t.val / 10 * 2048 + 1 * (y 1).val = t.val / 10 * 2048 + (y 1).val
    omega
  | 2 =>
    change win0_7.index t 2 * 256 + 1 * (y 2).val = t.val % 10 * 256 + (y 2).val
    rw [idx7]
    change t.val % 10 * 256 + 1 * (y 2).val = t.val % 10 * 256 + (y 2).val
    omega

theorem at8 (t : Fin cfg0.N) (r : Fin 2048) (l : Fin 256) : ((View.whole main_v1_1).slice (win0_8.rect t)).emb (ix2 r l) = ix2 (⟨t.val / 10 * 2048 + r.val, by have := t.isLt; have : cfg0.N = 20 := N_0; omega⟩ : Fin 4096) (⟨t.val % 10 * 256 + l.val, by omega⟩ : Fin 2560) := by
  funext a
  apply Fin.ext
  match a with
  | 0 =>
    change win0_8.index t 0 * 2048 + 1 * r.val = t.val / 10 * 2048 + r.val
    rw [idx8]
    change t.val / 10 * 2048 + 1 * r.val = t.val / 10 * 2048 + r.val
    omega
  | 1 =>
    change win0_8.index t 1 * 256 + 1 * l.val = t.val % 10 * 256 + l.val
    rw [idx8]
    change t.val % 10 * 256 + 1 * l.val = t.val % 10 * 256 + l.val
    omega

theorem stored_eq (x0 : (⟨S4096x1024, .bf16⟩ : BufTy).Contents (Elt Ideal)) (x1 : (⟨S4x4864x1024, .bf16⟩ : BufTy).Contents (Elt Ideal)) :
    val_main_v39 (F := Ideal) x0 x1 = Cert.Reference7Ideal.Read.val_main_v39 (F := Ideal) x0 (moved x1) := by
  unfold val_main_v39 val_main_v38 val_main_v37 val_main_v36 val_main_v35 val_main_v34
  rw [product]
  rfl

theorem gated_eq (x0 : (⟨S4096x1024, .bf16⟩ : BufTy).Contents (Elt Ideal)) (x1 : (⟨S4x4864x1024, .bf16⟩ : BufTy).Contents (Elt Ideal)) (x2 : (⟨S3x5120, .f32⟩ : BufTy).Contents (Elt Ideal)) (x3 : (⟨S5120, .f32⟩ : BufTy).Contents (Elt Ideal)) :
    val_main_v42 (F := Ideal) x0 x1 x2 x3 = Cert.Reference7Ideal.Read.val_main_v42 (F := Ideal) x0 (moved x1) x2 x3 := by
  unfold val_main_v42 val_main_v41 val_main_v40 val_main_call1_v5 val_main_call1_v3 val_main_call1_v1 val_main_call1_v0 val_main_v33 val_main_v32 val_main_v31 val_main_v28 val_main_v27 val_main_v26 val_main_v21 val_main_v20 val_main_v19 val_main_v14 val_main_v13 val_main_v8 val_main_v7 val_main_v6
  rw [product]
  rfl

/-- The stored activations. -/
theorem out_u : (dats m 0 c).arrAt 7 cfg0.N = val_main_v39 (F := Ideal) (A0 m c) (A1 m c) := by
  rw [stored_eq]
  refine (dats m 0 c).arrAt_eq_of_covers 7 _ (by decide +kernel) fun t hf y => ?_
  blk_simp
  rw [after0_7, at7 t y]
  refine Eq.trans ?_ (Cert.Up.stored (y 0) _ _).symm
  have ht : t.val < 20 := t.isLt
  canon_tiles x h using cover0_7 ..
  all_goals (rw [View.ld_unit_zero Cert.Up.zero2, View.ld_unit_zero Cert.Up.zero3])
  all_goals pointwise [k0_pay5, k0_pay4]
  · exact Cert.Up.prod2 (tile m c t) (x 1) (x 2) _ _ (by show _ + (y 1).val = _; omega) (by show _ + (y 2).val + 2560 * (y 0).val = _; omega)
  · exact Cert.Up.prod1 (tile m c t) (x 1) (x 2) _ _ (by show _ + (y 1).val = _; omega) (by show _ + (y 2).val + 2560 * (y 0).val = _; omega)

/-- The gated product. -/
theorem out_z : (dats m 0 c).arrAt 8 cfg0.N = val_main_v42 (F := Ideal) (A0 m c) (A1 m c) (A2 m c) (A3 m c) := by
  rw [gated_eq]
  refine (dats m 0 c).arrAt_eq_of_covers 8 _ (by decide +kernel) fun t hf y => ?_
  blk_simp
  rw [after0_8]
  unfold out0_8
  rw [View.canon_unit_zero Cert.Up.zero2, View.ld_unit_zero Cert.Up.zero2, View.ld_unit_zero Cert.Up.zero3, View.ld_unit_zero Cert.Up.zero3]
  obtain ⟨r, l, hy⟩ : ∃ (r : Fin 2048) (l : Fin 256), y = ix2 r l := ⟨y 0, y 1, (ix2_eta y).symm⟩
  rw [hy, at8]
  exact Cert.Up.gate (tile m c t) r l _ _ rfl rfl

/-- The reference runs, its operands end unchanged and every counter is zero. -/
theorem refFrame : Cert.quiescent_Reference8Ideal := fun m g _ =>
  (θ_run _ _ _).mono (fun r h => ⟨fun c => (h c).2.2, sem_eq_zero_of_no_sems (by decide) _⟩) (Cert.Reference8Ideal.Value.run m g)

theorem algebraic : Cert.algebraic_Kernel8Ideal_Reference8Ideal := by
  intro m g m' g' _ hargs
  refine ⟨fun c => (dats m 0 c).arrAt 7 cfg0.N, fun c => (dats m 0 c).arrAt 8 cfg0.N, Value.run_blocks m g, ?_⟩
  refine (θ_run _ _ _).mono (fun r h c => ?_) (Cert.Reference8Ideal.Value.run m' g')
  obtain ⟨k, k', ks⟩ := h c
  obtain ⟨b0, b1, b2, b3⟩ := hargs c
  have j := k.trans (val_main_v39_eq (F := Ideal) _ _)
  have j' := k'.trans (val_main_v42_eq (F := Ideal) _ _)
  rw [b0, b1] at j
  rw [b0, b1, b2, b3] at j'
  exact ⟨j.trans (out_u m c).symm, j'.trans (out_z m c).symm, ks⟩

end Cert.Kernel8Ideal.Up
-- ==== Proof.InProj.lean ====
/- The product of the attention's input projection is the reference's. -/
module

public import proofs.«01_k».proof.Defs
public import proofs.«01_k».proof.Proof.Gen.Kernel9Ideal.Value
public import proofs.«01_k».proof.Proof.Gen.Reference9Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Kernel9Ideal.InProj

open Idealize.ShloMosaic Idealize.ShloMosaic.TcCoe Idealize.SL.Sem
open Cert.Kernel9Ideal Cert.Kernel9Ideal.Gen

variable (m : (ℓ : Loc nD τ sig) → Buf (Elt Ideal) ℓ) (c : Dev nD)

theorem zero2 : (![0, 0] : Fin 2 → ℕ) = fun _ => 0 := by decide

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx4 : ∀ t : Fin cfg0.N, win0_4.index t = ![t.val, 0] :=
  (by decide +kernel : ∀ t : Fin grid0.N, win0_4.index t = ![t.val, 0])

/-- What the launch leaves in the result: the reference's product of the arguments. -/
theorem out_eq : (dats m 0 c).arrAt 4 cfg0.N = Cert.Reference9Ideal.Read.val_main_v3 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  rw [View.canon_unit_zero zero2, View.ld_unit_zero zero2, View.ld_unit_zero zero2]
  rw [Cert.Reference9Ideal.Read.val_main_v3_apply]
  simp only [Cert.Reference9Ideal.Read.val_main_v2_apply, Cert.Reference9Ideal.Read.val_main_v1_apply, Cert.Reference9Ideal.Read.val_main_v0_apply]
  pointwise [k0_pay1]
  blk_point [iblk, V, idx0, idx1, idx4]

/-- The reference runs, its operands end unchanged and every counter is zero. -/
theorem refFrame : Cert.quiescent_Reference9Ideal := fun m g _ =>
  (θ_run _ _ _).mono (fun r h => ⟨fun c => (h c).2, sem_eq_zero_of_no_sems (by decide) _⟩) (Cert.Reference9Ideal.Value.run m g)

theorem algebraic : Cert.algebraic_Kernel9Ideal_Reference9Ideal := by
  intro m g m' g' _ hargs
  refine ⟨fun c => (dats m 0 c).arrAt 4 cfg0.N, (θ_run _ _ _).mono (fun r h c => ⟨(h c).1, (h c).2.2⟩) (Value.run_blocks m g), ?_⟩
  refine (θ_run _ _ _).mono (fun r h c => ?_) (Cert.Reference9Ideal.Value.run m' g')
  obtain ⟨k, ks⟩ := h c
  obtain ⟨b0, b1, _, _⟩ := hargs c
  have j := k.trans (Cert.Reference9Ideal.Read.val_main_v3_eq (F := Ideal) _ _)
  rw [b0, b1] at j
  exact ⟨j.trans (out_eq m c).symm, ks⟩

end Cert.Kernel9Ideal.InProj

end
-- ==== Proof.DownMod.lean ====
/- The first feed-forward's down projection with the residual sum that follows it is the reference's. -/
module

public import proofs.«01_k».proof.Defs
public import proofs.«01_k».proof.Proof.Gen.Kernel10Ideal.Value
public import proofs.«01_k».proof.Proof.Gen.Reference10Ideal.Read
public import Idealize.ShloMosaic.Lib.Pipeline.ValueKit.Point
public import Idealize.ShloMosaic.Lib.Pointwise
public import Idealize.ShloMosaic.Lib.IdealHost
public import Idealize.ShloMosaic.Lib.Quiescent
public import Idealize.ShloMosaic.Lib.Claim

@[expose] public section

set_option maxRecDepth 16384

noncomputable section

namespace Cert.Kernel10Ideal.DownMod

open Idealize.ShloMosaic Idealize.ShloMosaic.TcCoe Idealize.SL.Sem
open Cert.Kernel10Ideal Cert.Kernel10Ideal.Gen Cert.Reference10Ideal.Read

variable (m : (ℓ : Loc nD τ sig) → Buf (Elt Ideal) ℓ) (c : Dev nD)

theorem zero2 : (![0, 0] : Fin 2 → ℕ) = fun _ => 0 := by decide
theorem zero3 : (![0, 0, 0] : Fin 3 → ℕ) = fun _ => 0 := by decide

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, 4, 0] :=
  (by decide +kernel : ∀ t : Fin grid0.N, win0_1.index t = ![0, 4, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val / 4, 0, 0] :=
  (by decide +kernel : ∀ t : Fin grid0.N, win0_3.index t = ![t.val / 4, 0, 0])
theorem idx7 : ∀ t : Fin cfg0.N, win0_7.index t = ![t.val, 0] :=
  (by decide +kernel : ∀ t : Fin grid0.N, win0_7.index t = ![t.val, 0])

/-- The weights a point loads: its block's rows, none cut off. -/
theorem weights (t : Fin cfg0.N) (j : S4x640x1024.Idx) :
    X0_1 m c t j = m ((c : Thread nD τ).loc main_arg1) (ix3 (j 0) (⟨2560 + (j 1).val, by have h : (j 1).val < 640 := (j 1).isLt; show _ < 4864; omega⟩ : Fin 4864) (j 2)) := by
  unfold X0_1 Pipeline.Window.fill
  rw [dif_pos (moved0_1 t j)]
  unfold iblk
  rw [View.read_apply]
  refine congrArg (m ((c : Thread nD τ).loc main_arg1)) ?_
  funext a
  apply Fin.ext
  match a with
  | 0 =>
    change win0_1.index t 0 * 4 + 1 * (j 0).val = (j 0).val
    rw [idx1]
    change 0 * 4 + 1 * (j 0).val = (j 0).val
    omega
  | 1 =>
    change win0_1.index t 1 * 640 + 1 * (j 1).val = 2560 + (j 1).val
    rw [idx1]
    change 4 * 640 + 1 * (j 1).val = 2560 + (j 1).val
    omega
  | 2 =>
    change win0_1.index t 2 * 1024 + 1 * (j 2).val = (j 2).val
    rw [idx1]
    change 0 * 1024 + 1 * (j 2).val = (j 2).val
    omega

/-- The activations a point loads. -/
theorem acts (t : Fin cfg0.N) (r : Fin 512) (k : Fin 2560) (i : Fin 4096) (h : i.val = t.val * 512 + r.val) :
    iblk m c 0 t (ix3 0 r k) = m ((c : Thread nD τ).loc main_arg0) (ix2 i k) := by
  unfold iblk
  rw [View.read_apply]
  refine Eq.trans (b := V m c main_v0 (ix3 0 i k)) (congrArg (V m c main_v0) ?_) ?_
  · funext a
    apply Fin.ext
    match a with
    | 0 =>
      change win0_0.index t 0 * 1 + 1 * 0 = 0
      rw [idx0]
      rfl
    | 1 =>
      change win0_0.index t 1 * 512 + 1 * r.val = i.val
      rw [idx0]
      change t.val * 512 + 1 * r.val = i.val
      omega
    | 2 =>
      change win0_0.index t 2 * 2560 + 1 * k.val = k.val
      rw [idx0]
      change 0 * 2560 + 1 * k.val = k.val
      omega
  · entry_read
    pointwise []

/-- A sum over 2560 terms, by quarters. -/
theorem quarters (f : Fin 2560 → EReal) : ∑ k, f k = ∑ k : Fin 640, f ⟨k.val, by omega⟩ + ∑ k : Fin 640, f ⟨640 + k.val, by omega⟩ + ∑ k : Fin 640, f ⟨1280 + k.val, by omega⟩ + ∑ k : Fin 640, f ⟨1920 + k.val, by omega⟩ := by
  have e (n k : ℕ) (g : Fin (n + k) → EReal) : ∑ i, g i = ∑ i : Fin n, g ⟨i.val, by omega⟩ + ∑ i : Fin k, g ⟨n + i.val, by omega⟩ := Fin.sum_univ_add g
  rw [e 1920 640 f, e 1280 640, e 640 640]

/-- A term of the product, as loaded and in the reference. -/
theorem term (t : Fin cfg0.N) (r : Fin 512) (l : Fin 1024) (i : Fin 4096) (hi : i.val = t.val * 512 + r.val) (k : Fin 2560) (s : Fin 4) (q : Fin 640) (hk : k.val = 640 * s.val + q.val) :
    @HMul.hMul EReal EReal EReal _ (iblk m c 0 t (ix3 0 r k)) (X0_1 m c t (ix3 s q l)) = val_main_v3 (F := Ideal) (m ((c : Thread nD τ).loc main_arg0)) (lidx_main_v4 (ix2 i l) k) * val_main_v2 (F := Ideal) (m ((c : Thread nD τ).loc main_arg1)) (ridx_main_v4 (ix2 i l) k) := by
  rw [acts m c t r k i hi, weights, val_main_v3_apply, val_main_v2_apply, val_main_v1_apply, val_main_v0_apply]
  refine congrArg₂ (fun a b : EReal => a * b) (congrArg (m ((c : Thread nD τ).loc main_arg0)) ?_) (congrArg (m ((c : Thread nD τ).loc main_arg1)) ?_)
  · funext a
    match a with
    | 0 => rfl
    | 1 => rfl
  · funext a
    apply Fin.ext
    match a with
    | 0 =>
      change s.val = (k.val * 1024 + l.val) / 655360
      omega
    | 1 =>
      change 2560 + q.val = 2560 + (k.val * 1024 + l.val) / 1024 % 640
      omega
    | 2 =>
      change l.val = (k.val * 1024 + l.val) % 1024
      omega

/-- The point's product. -/
theorem prod (t : Fin cfg0.N) (r : Fin 512) (l : Fin 1024) (i : Fin 4096) (hi : i.val = t.val * 512 + r.val) :
    k0_pay3 (F := Ideal) (View.ld (iblk m c 0 t) (Rect.unit ![0, 0, 0] ![1, 512, 640] inb_S1x512x2560_S1x512x640_0_0_0))
      (View.ld (X0_1 m c t) (Rect.unit ![0, 0, 0] ![1, 640, 1024] inb_S4x640x1024_S1x640x1024_0_0_0))
      (View.ld (iblk m c 0 t) (Rect.unit ![0, 0, 640] ![1, 512, 640] inb_S1x512x2560_S1x512x640_0_0_640))
      (View.ld (X0_1 m c t) (Rect.unit ![1, 0, 0] ![1, 640, 1024] inb_S4x640x1024_S1x640x1024_1_0_0))
      (View.ld (iblk m c 0 t) (Rect.unit ![0, 0, 1280] ![1, 512, 640] inb_S1x512x2560_S1x512x640_0_0_1280))
      (View.ld (X0_1 m c t) (Rect.unit ![2, 0, 0] ![1, 640, 1024] inb_S4x640x1024_S1x640x1024_2_0_0))
      (View.ld (iblk m c 0 t) (Rect.unit ![0, 0, 1920] ![1, 512, 640] inb_S1x512x2560_S1x512x640_0_0_1920))
      (View.ld (X0_1 m c t) (Rect.unit ![3, 0, 0] ![1, 640, 1024] inb_S4x640x1024_S1x640x1024_3_0_0)) (ix2 r l) = val_main_v4 (F := Ideal) (m ((c : Thread nD τ).loc main_arg0)) (m ((c : Thread nD τ).loc main_arg1)) (ix2 i l) := by
  rw [val_main_v4_apply, quarters]
  pointwise [k0_pay3]
  refine congrArg₂ _ (congrArg₂ _ (congrArg₂ _ ?_ ?_) ?_) ?_ <;> refine Finset.sum_congr rfl fun k _ => ?_
  · exact term m c t r l i hi _ 0 k (by show k.val = 640 * 0 + k.val; omega)
  · exact term m c t r l i hi _ 1 k rfl
  · exact term m c t r l i hi _ 2 k rfl
  · exact term m c t r l i hi _ 3 k rfl

theorem row (t : Fin cfg0.N) (r : Fin 512) : t.val * 512 + r.val < 4096 := by
  have h : t.val < 8 := t.isLt
  omega

theorem at7 (t : Fin cfg0.N) (r : Fin 512) (l : Fin 1024) : ((View.whole main_v2_0).slice (win0_7.rect t)).emb (ix2 r l) = ix2 (⟨_, row t r⟩ : Fin 4096) l := by
  funext a
  apply Fin.ext
  match a with
  | 0 =>
    change win0_7.index t 0 * 512 + 1 * r.val = t.val * 512 + r.val
    rw [idx7]
    change t.val * 512 + 1 * r.val = t.val * 512 + r.val
    omega
  | 1 =>
    change win0_7.index t 1 * 1024 + 1 * l.val = l.val
    rw [idx7]
    change 0 * 1024 + 1 * l.val = l.val
    omega

theorem at8 (t : Fin cfg0.N) (r : Fin 512) (l : Fin 1024) : ((View.whole main_v2_1).slice (win0_8.rect t)).emb (ix2 r l) = ix2 (⟨_, row t r⟩ : Fin 4096) l := at7 t r l

/-- The product. -/
theorem out_y : (dats m 0 c).arrAt 7 cfg0.N = val_main_v4 (F := Ideal) (m ((c : Thread nD τ).loc main_arg0)) (m ((c : Thread nD τ).loc main_arg1)) := by
  refine (dats m 0 c).arrAt_eq_of_covers 7 _ (by decide +kernel) fun t hf y => ?_
  blk_simp
  rw [after0_7]
  unfold outsAt0 out0_A_7
  dsimp only
  rw [View.read_writes_eq_canon _ _ _ (cover0_A_7 _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread]
  rw [View.canon_unit_zero zero2]
  obtain ⟨r, l, hy⟩ : ∃ (r : Fin 512) (l : Fin 1024), y = ix2 r l := ⟨y 0, y 1, (ix2_eta y).symm⟩
  rw [hy, at7]
  exact prod m c t r l _ rfl

/-- The residual sum. -/
theorem out_h : (dats m 0 c).arrAt 8 cfg0.N = val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  unfold outsAt0 out0_A_8
  dsimp only
  rw [View.read_writes_eq_canon _ _ _ (cover0_A_8 _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero zero2, View.ld_unit_zero zero2, View.ld_unit_zero zero3]
  obtain ⟨r, l, hy⟩ : ∃ (r : Fin 512) (l : Fin 1024), y = ix2 r l := ⟨y 0, y 1, (ix2_eta y).symm⟩
  have ht : t.val < 8 := t.isLt
  rw [hy, at8, val_main_v10_apply, val_main_v9_apply, val_main_v8_apply, val_main_v7_apply, val_main_v6_apply, val_main_v5_apply]
  have e : idx_main_v6 (idx_main_v10 (ix2 (⟨_, row t r⟩ : Fin 4096) l)) = ix2 (⟨_, row t r⟩ : Fin 4096) l := by
    have q (n : ℕ) : (n / 2097152 * 2048 + n / 1024 % 2048) * 1024 + n % 1024 = n := by omega
    funext a
    apply Fin.ext
    match a with
    | 0 => exact (congrArg (· / 1024) (q _)).trans (by change ((t.val * 512 + r.val) * 1024 + l.val) / 1024 = t.val * 512 + r.val; omega)
    | 1 => exact (congrArg (· % 1024) (q _)).trans (by change ((t.val * 512 + r.val) * 1024 + l.val) % 1024 = l.val; omega)
  rw [e, show idx_main_v5 (idx_main_v10 (ix2 (⟨_, row t r⟩ : Fin 4096) l)) = _ from e, ← prod m c t r l _ rfl]
  pointwise [k0_pay1]
  blk_point [iblk, V, idx2, idx3]
  all_goals omega

/-- The reference runs, its operands end unchanged and every counter is zero. -/
theorem refFrame : Cert.quiescent_Reference10Ideal := fun m g _ =>
  (θ_run _ _ _).mono (fun r h => ⟨fun c => (h c).2.2, sem_eq_zero_of_no_sems (by decide) _⟩) (Cert.Reference10Ideal.Value.run m g)

theorem algebraic : Cert.algebraic_Kernel10Ideal_Reference10Ideal := by
  intro m g m' g' _ hargs
  refine ⟨fun c => (dats m 0 c).arrAt 7 cfg0.N, fun c => (dats m 0 c).arrAt 8 cfg0.N, (θ_run _ _ _).mono (fun r h c => ⟨(h c).1, (h c).2.1, (h c).2.2.2⟩) (Value.run_blocks m g), ?_⟩
  refine (θ_run _ _ _).mono (fun r h c => ?_) (Cert.Reference10Ideal.Value.run m' g')
  obtain ⟨k, k', ks⟩ := h c
  obtain ⟨b0, b1, b2, b3, _⟩ := hargs c
  have j := k.trans (val_main_v4_eq (F := Ideal) _ _)
  have j' := k'.trans (val_main_v10_eq (F := Ideal) _ _ _ _)
  rw [b0, b1] at j
  rw [b0, b1, b2, b3] at j'
  exact ⟨j.trans (out_y m c).symm, j'.trans (out_h m c).symm, ks⟩

end Cert.Kernel10Ideal.DownMod

end
-- ==== Proof.lean ====
module

public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameKernel
public import proofs.«01_k».proof.Proof.FrameKernelIdeal
public import proofs.«01_k».proof.Proof.Same
public import proofs.«01_k».proof.Proof.DwSame
public import proofs.«01_k».proof.Proof.Gin
public import proofs.«01_k».proof.Proof.Down1
public import proofs.«01_k».proof.Proof.Down0
public import proofs.«01_k».proof.Proof.ScOut
public import proofs.«01_k».proof.Proof.Up0
public import proofs.«01_k».proof.Proof.Up1
public import proofs.«01_k».proof.Proof.InProj
public import proofs.«01_k».proof.Proof.DownMod
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Hand.facts,
  fun m g _ => Cert.Kernel.Hand.frame m g,
  fun m g _ => Cert.KernelIdeal.Hand.frame m g,
  fun m g _ => Cert.KernelIdeal.Hand.frame m g,
  fun m g _ => Cert.Same.refFrame m g trivial,
  fun m g _ => Cert.Same.refFrame m g trivial,
  fun m g _ => Cert.Kernel2.Gen.frame m g,
  fun m g _ => Cert.Kernel2Ideal.Gen.frame m g,
  Cert.Kernel2Ideal.Dw.refFrame,
  fun m g _ => Cert.Kernel3.Gen.frame m g,
  fun m g _ => Cert.Kernel3Ideal.Gen.frame m g,
  Cert.Kernel3Ideal.Gin.refFrame,
  fun m g _ => Cert.Kernel4.Gen.frame m g,
  fun m g _ => Cert.Kernel4Ideal.Gen.frame m g,
  Cert.Kernel4Ideal.Down.refFrame,
  fun m g _ => Cert.Kernel5.Gen.frame m g,
  fun m g _ => Cert.Kernel5Ideal.Gen.frame m g,
  Cert.Kernel5Ideal.Down.refFrame,
  fun m g _ => Cert.Kernel6.Gen.frame m g,
  fun m g _ => Cert.Kernel6Ideal.Gen.frame m g,
  Cert.Kernel6Ideal.ScOut.refFrame,
  fun m g _ => Cert.Kernel7.Gen.frame m g,
  fun m g _ => Cert.Kernel7Ideal.Gen.frame m g,
  Cert.Kernel7Ideal.Up.refFrame,
  fun m g _ => Cert.Kernel8.Gen.frame m g,
  fun m g _ => Cert.Kernel8Ideal.Gen.frame m g,
  Cert.Kernel8Ideal.Up.refFrame,
  fun m g _ => Cert.Kernel9.Gen.frame m g,
  fun m g _ => Cert.Kernel9Ideal.Gen.frame m g,
  Cert.Kernel9Ideal.InProj.refFrame,
  fun m g _ => Cert.Kernel10.Gen.frame m g,
  fun m g _ => Cert.Kernel10Ideal.Gen.frame m g,
  Cert.Kernel10Ideal.DownMod.refFrame,
  trivial, Cert.Same.algebraic (hp := Cert.Pre_finite.Hand.facts),
  trivial, Cert.Kernel2Ideal.Dw.algebraic,
  trivial, Cert.Kernel3Ideal.Gin.algebraic,
  trivial, Cert.Kernel4Ideal.Down.algebraic,
  trivial, Cert.Kernel5Ideal.Down.algebraic,
  trivial, Cert.Kernel6Ideal.ScOut.algebraic,
  trivial, Cert.Kernel7Ideal.Up.algebraic,
  trivial, Cert.Kernel8Ideal.Up.algebraic,
  trivial, Cert.Kernel9Ideal.InProj.algebraic,
  trivial, Cert.Kernel10Ideal.DownMod.algebraic⟩

end Cert.Proof

end
